-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S1x16384x1024 : Shape := ⟨3, ![1, 16384, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S1x1024x512 : Shape := ⟨3, ![1, 1024, 512]⟩
abbrev S1x512x1024 : Shape := ⟨3, ![1, 512, 1024]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x2048_S1x1024x512_0_0_1536 : S1x1024x2048.Slices ![0, 0, 1536] S1x1024x512
  bcast_S_S1x1024x512 : S_.BroadcastsInDim S1x1024x512 (![] : Fin 0 → Fin S1x1024x512.rank)
  reducesTo_S1x1024x512_S_d0_1_2 : S1x1024x512.ReducesTo [0, 1, 2] S_
  bcast_S_S1x512 : S_.BroadcastsInDim S1x512 (![] : Fin 0 → Fin S1x512.rank)
  reducesTo_S1x512_S_d0_1 : S1x512.ReducesTo [0, 1] S_
  slices_S1x1024x1024_S1x512x1024_0_512_0 : S1x1024x1024.Slices ![0, 512, 0] S1x512x1024
  bcast_S_S1x512x1024 : S_.BroadcastsInDim S1x512x1024 (![] : Fin 0 → Fin S1x512x1024.rank)
  reducesTo_S1x512x1024_S_d0_1_2 : S1x512x1024.ReducesTo [0, 1, 2] S_

variable [Facts]

def fn_part1 {F : FTy → Type} [FloatOps F] (main_v14 : IVec S_ 1) (main_v16 : FVec F S1x512x1024 .f32) (main_cst_4 : FVec F S_ .f32) : IVec S_ 1 :=
  let main_v17 : FVec F S1x512x1024 .f32 := broadcastInDim S1x512x1024 ![] bcast_S_S1x512x1024 main_cst_4
  let main_v18 : IVec S1x512x1024 1 := cmpf .olt main_v16 main_v17
  let main_c_5 : IVec S_ 1 := constantI S_ 1 1#1
  let main_v19 : IVec S_ 1 := (fun x v => Host.reduce IntOp.andi x v reducesTo_S1x512x1024_S_d0_1_2 h_S_) main_v18 main_c_5
  let main_v20 : IVec S_ 1 := andi main_v14 main_v19
  main_v20

def fn {F : FTy → Type} [FloatOps F] (main_arg0 : FVec F S1x16384x1024 .f32) (main_arg1 : FVec F S1x1024 .f32) (main_arg2 : FVec F S1x1024x2048 .f32) (main_arg3 : FVec F S1x3x512 .f32) (main_arg4 : FVec F S1x4x128x128 .f32) (main_arg5 : FVec F S1x512 .f32) (main_arg6 : FVec F S1x1024x1024 .f32) (main_arg7 : FVec F S1x1024 .f32) (main_arg8 : FVec F S1x1024x4096 .f32) (main_arg9 : FVec F S1x4096x1024 .f32) (main_arg10 : FVec F S1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x512 .f32 := (extractStridedSlice S1x1024x512 ![0, 0, 1536] · slices_S1x1024x2048_S1x1024x512_0_0_1536) main_arg2
  let main_v5 : FVec F S1x1024x512 .f32 := Host.absf main_v4
  let main_cst_0 : FVec F S_ .f32 := constant S_ .f32 0x7F800000#32
  let main_v6 : FVec F S1x1024x512 .f32 := broadcastInDim S1x1024x512 ![] bcast_S_S1x1024x512 main_cst_0
  let main_v7 : IVec S1x1024x512 1 := cmpf .olt main_v5 main_v6
  let main_c_1 : IVec S_ 1 := constantI S_ 1 1#1
  let main_v8 : IVec S_ 1 := (fun x v => Host.reduce IntOp.andi x v reducesTo_S1x1024x512_S_d0_1_2 h_S_) main_v7 main_c_1
  let main_v9 : IVec S_ 1 := andi main_v3 main_v8
  let main_v10 : FVec F S1x512 .f32 := Host.absf main_arg5
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_c_3 : IVec S_ 1 := constantI S_ 1 1#1
  let main_v13 : IVec S_ 1 := (fun x v => Host.reduce IntOp.andi x v reducesTo_S1x512_S_d0_1 h_S_) main_v12 main_c_3
  let main_v14 : IVec S_ 1 := andi main_v9 main_v13
  let main_v15 : FVec F S1x512x1024 .f32 := (extractStridedSlice S1x512x1024 ![0, 512, 0] · slices_S1x1024x1024_S1x512x1024_0_512_0) main_arg6
  let main_v16 : FVec F S1x512x1024 .f32 := Host.absf main_v15
  let main_cst_4 : FVec F S_ .f32 := constant S_ .f32 0x7F800000#32
  fn_part1 (F := F) main_v14 main_v16 main_cst_4
-- ==== Kernel.lean ====
abbrev S1x16384x1024 : Shape := ⟨3, ![1, 16384, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S1x1536 : Shape := ⟨2, ![1, 1536]⟩
abbrev S8x512 : Shape := ⟨2, ![8, 512]⟩
abbrev S16x512 : Shape := ⟨2, ![16, 512]⟩
abbrev S2x768x1024 : Shape := ⟨3, ![2, 768, 1024]⟩
abbrev S256x1024 : Shape := ⟨2, ![256, 1024]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S1x768x1024 : Shape := ⟨3, ![1, 768, 1024]⟩
abbrev S768x1024 : Shape := ⟨2, ![768, 1024]⟩
abbrev S8x256x1024 : Shape := ⟨3, ![8, 256, 1024]⟩
abbrev S16 : Shape := ⟨1, ![16]⟩
abbrev S256 : Shape := ⟨1, ![256]⟩
abbrev S256x1 : Shape := ⟨2, ![256, 1]⟩
abbrev S256x512 : Shape := ⟨2, ![256, 512]⟩
abbrev S256x2048 : Shape := ⟨2, ![256, 2048]⟩
abbrev S1x128x128 : Shape := ⟨3, ![1, 128, 128]⟩
abbrev S128x128 : Shape := ⟨2, ![128, 128]⟩
abbrev S1x128 : Shape := ⟨2, ![1, 128]⟩
abbrev S128x1024 : Shape := ⟨2, ![128, 1024]⟩
abbrev S264x512 : Shape := ⟨2, ![264, 512]⟩
abbrev S272x512 : Shape := ⟨2, ![272, 512]⟩
abbrev S272x128 : Shape := ⟨2, ![272, 128]⟩
abbrev S256x128 : Shape := ⟨2, ![256, 128]⟩

abbrev nBuf : Space → Nat
  | .hbm => 28
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2048, .f32⟩
  | .hbm, ⟨3, _⟩ => ⟨S1x3x512, .f32⟩
  | .hbm, ⟨4, _⟩ => ⟨S1x4x128x128, .f32⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S1024, .f32⟩
  | .hbm, ⟨11, _⟩ => ⟨S16384x1024, .f32⟩
  | .hbm, ⟨12, _⟩ => ⟨S1024, .f32⟩
  | .hbm, ⟨13, _⟩ => ⟨S1024x2048, .f32⟩
  | .hbm, ⟨14, _⟩ => ⟨S3x512, .f32⟩
  | .hbm, ⟨15, _⟩ => ⟨S4x128x128, .f32⟩
  | .hbm, ⟨16, _⟩ => ⟨S512, .f32⟩
  | .hbm, ⟨17, _⟩ => ⟨S1024x1024, .f32⟩
  | .hbm, ⟨18, _⟩ => ⟨S1024, .f32⟩
  | .hbm, ⟨19, _⟩ => ⟨S1024x4096, .f32⟩
  | .hbm, ⟨20, _⟩ => ⟨S4096x1024, .f32⟩
  | .hbm, ⟨21, _⟩ => ⟨S1x1024, .f32⟩
  | .hbm, ⟨22, _⟩ => ⟨S1x1536, .f32⟩
  | .hbm, ⟨23, _⟩ => ⟨S1x512, .f32⟩
  | .hbm, ⟨24, _⟩ => ⟨S1x1024, .f32⟩
  | .hbm, ⟨25, _⟩ => ⟨S1x1024, .f32⟩
  | .hbm, ⟨26, _⟩ => ⟨S16384x1024, .f32⟩
  | .hbm, ⟨27, _⟩ => ⟨S1x16384x1024, .f32⟩
  | .local _ .vmem, ⟨0, _⟩ => ⟨S1x1024, .f32⟩
  | .local _ .vmem, ⟨1, _⟩ => ⟨S1x1536, .f32⟩
  | .local _ .vmem, ⟨2, _⟩ => ⟨S4x128x128, .f32⟩
  | .local _ .vmem, ⟨3, _⟩ => ⟨S1x512, .f32⟩
  | .local _ .vmem, ⟨4, _⟩ => ⟨S1x1024, .f32⟩
  | .local _ .vmem, ⟨5, _⟩ => ⟨S1x1024, .f32⟩
  | .local _ .vmem, ⟨6, _⟩ => ⟨S1024x2048, .bf16⟩
  | .local _ .vmem, ⟨7, _⟩ => ⟨S1024x1024, .bf16⟩
  | .local _ .vmem, ⟨8, _⟩ => ⟨S1024x4096, .bf16⟩
  | .local _ .vmem, ⟨9, _⟩ => ⟨S4096x1024, .bf16⟩
  | .local _ .vmem, ⟨10, _⟩ => ⟨S8x512, .f32⟩
  | .local _ .vmem, ⟨11, _⟩ => ⟨S16x512, .f32⟩
  | .local _ .vmem, ⟨12, _⟩ => ⟨S2x768x1024, .f32⟩
  | .local _ .vmem, ⟨13, _⟩ => ⟨S2x768x1024, .f32⟩
  | .local _ .vmem, ⟨14, _⟩ => ⟨S256x1024, .f32⟩
  | .local _ .vmem, ⟨15, _⟩ => ⟨S256x1024, .bf16⟩
  | .local _ .vmem, ⟨16, _⟩ => ⟨S2x256x1024, .f32⟩
  | .local _ .vmem, ⟨17, _⟩ => ⟨S8x256x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scoped0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (c1_i32 : BitVec 32) : Fin 2 → Nat :=
  let c256_i32 : BitVec 32 := 256#32
  let c21_i32 : BitVec 32 := 21#32
  let v5 : BitVec 32 := Scalar.minsi c1_i32 c21_i32
  let c1_i32_5 : BitVec 32 := 1#32
  let v6 : BitVec 32 := Scalar.subi v5 c1_i32_5
  let c768_i32 : BitVec 32 := 768#32
  let v7 : BitVec 32 := Scalar.muli v6 c768_i32
  let v8 : BitVec 32 := Scalar.addi c256_i32 v7
  let c0_i32_10 : BitVec 32 := 0#32
  ![v8.toNat, 0]
def k0_off2 (c1_i32_11 : BitVec 32) : Fin 2 → Nat :=
  let c256_i32_15 : BitVec 32 := 256#32
  let c21_i32_12 : BitVec 32 := 21#32
  let v14 : BitVec 32 := Scalar.minsi c1_i32_11 c21_i32_12
  let c1_i32_13 : BitVec 32 := 1#32
  let v15 : BitVec 32 := Scalar.subi v14 c1_i32_13
  let c768_i32_14 : BitVec 32 := 768#32
  let v16 : BitVec 32 := Scalar.muli v15 c768_i32_14
  let v17 : BitVec 32 := Scalar.addi c256_i32_15 v16
  let c0_i32_20 : BitVec 32 := 0#32
  ![v17.toNat, 0]
def k0_off2_at (r : Fin 3) : BitVec 32 :=
  if r.val < 1 then
    1#32
  else
    if r.val < 2 then
      2#32
    else
      23#32
@[reducible] def k0_t1_loop : Scf.Loop 32 :=
  let c1_i32_30 : BitVec 32 := 1#32
  let c21_i32_31 : BitVec 32 := 21#32
  let v32 : BitVec 32 := Scalar.addi c1_i32_30 c21_i32_31
  let c1_i32_32 : BitVec 32 := 1#32
  ⟨c1_i32_30, v32, c1_i32_32⟩
def k0_off3 (k0_t1 : Fin k0_t1_loop.trips) : Fin 1 → Nat :=
  let c1_i32_30 : BitVec 32 := 1#32
  let c1_i32_32 : BitVec 32 := 1#32
  let arg26 : BitVec 32 := Scf.iv c1_i32_30 c1_i32_32 k0_t1
  let c2_i32_91 : BitVec 32 := 2#32
  let c0_i32_92 : BitVec 32 := 0#32
  let v103 : BitVec 1 := Scalar.cmpi .eq c2_i32_91 c0_i32_92
  let c1_i32_93 : BitVec 32 := 1#32
  let v104 : BitVec 32 := Scalar.select v103 c1_i32_93 c2_i32_91
  let v105 : BitVec 32 := Scalar.remsi arg26 v104
  let c0_i32_95 : BitVec 32 := 0#32
  let v107 : BitVec 1 := Scalar.cmpi .slt v105 c0_i32_95
  let c0_i32_96 : BitVec 32 := 0#32
  let v108 : BitVec 1 := Scalar.cmpi .slt v104 c0_i32_96
  let v109 : BitVec 1 := Scalar.xori v107 v108
  let c0_i32_94 : BitVec 32 := 0#32
  let v106 : BitVec 1 := Scalar.cmpi .ne v105 c0_i32_94
  let v110 : BitVec 1 := Scalar.andi v109 v106
  let v111 : BitVec 32 := Scalar.addi v105 v104
  let v112 : BitVec 32 := Scalar.select v110 v111 v105
  ![v112.toNat]
def k0_off4 (k0_t1 : Fin k0_t1_loop.trips) : Fin 3 → Nat :=
  let c1_i32_30 : BitVec 32 := 1#32
  let c1_i32_32 : BitVec 32 := 1#32
  let arg26 : BitVec 32 := Scf.iv c1_i32_30 c1_i32_32 k0_t1
  let c2_i32_85 : BitVec 32 := 2#32
  let c0_i32_86 : BitVec 32 := 0#32
  let v93 : BitVec 1 := Scalar.cmpi .eq c2_i32_85 c0_i32_86
  let c1_i32_87 : BitVec 32 := 1#32
  let v94 : BitVec 32 := Scalar.select v93 c1_i32_87 c2_i32_85
  let v95 : BitVec 32 := Scalar.remsi arg26 v94
  let c0_i32_89 : BitVec 32 := 0#32
  let v97 : BitVec 1 := Scalar.cmpi .slt v95 c0_i32_89
  let c0_i32_90 : BitVec 32 := 0#32
  let v98 : BitVec 1 := Scalar.cmpi .slt v94 c0_i32_90
  let v99 : BitVec 1 := Scalar.xori v97 v98
  let c0_i32_88 : BitVec 32 := 0#32
  let v96 : BitVec 1 := Scalar.cmpi .ne v95 c0_i32_88
  let v100 : BitVec 1 := Scalar.andi v99 v96
  let v101 : BitVec 32 := Scalar.addi v95 v94
  let v102 : BitVec 32 := Scalar.select v100 v101 v95
  let c0_i32_97 : BitVec 32 := 0#32
  let c0_i32_98 : BitVec 32 := 0#32
  ![v102.toNat, 0, 0]
def k0_off5 (k0_t1 : Fin k0_t1_loop.trips) : Fin 2 → Nat :=
  let c256_i32_84 : BitVec 32 := 256#32
  let c1_i32_30 : BitVec 32 := 1#32
  let c1_i32_32 : BitVec 32 := 1#32
  let arg26 : BitVec 32 := Scf.iv c1_i32_30 c1_i32_32 k0_t1
  let c21_i32_81 : BitVec 32 := 21#32
  let v89 : BitVec 32 := Scalar.minsi arg26 c21_i32_81
  let c1_i32_82 : BitVec 32 := 1#32
  let v90 : BitVec 32 := Scalar.subi v89 c1_i32_82
  let c768_i32_83 : BitVec 32 := 768#32
  let v91 : BitVec 32 := Scalar.muli v90 c768_i32_83
  let v92 : BitVec 32 := Scalar.addi c256_i32_84 v91
  let c0_i32_99 : BitVec 32 := 0#32
  ![v92.toNat, 0]
def k0_off6 (k0_t1 : Fin k0_t1_loop.trips) (c1_i32_100 : BitVec 32) : Fin 1 → Nat :=
  let c1_i32_30 : BitVec 32 := 1#32
  let c1_i32_32 : BitVec 32 := 1#32
  let arg26 : BitVec 32 := Scf.iv c1_i32_30 c1_i32_32 k0_t1
  let v118 : BitVec 32 := Scalar.addi arg26 c1_i32_100
  let c2_i32_111 : BitVec 32 := 2#32
  let c0_i32_112 : BitVec 32 := 0#32
  let v133 : BitVec 1 := Scalar.cmpi .eq c2_i32_111 c0_i32_112
  let c1_i32_113 : BitVec 32 := 1#32
  let v134 : BitVec 32 := Scalar.select v133 c1_i32_113 c2_i32_111
  let v135 : BitVec 32 := Scalar.remsi v118 v134
  let c0_i32_115 : BitVec 32 := 0#32
  let v137 : BitVec 1 := Scalar.cmpi .slt v135 c0_i32_115
  let c0_i32_116 : BitVec 32 := 0#32
  let v138 : BitVec 1 := Scalar.cmpi .slt v134 c0_i32_116
  let v139 : BitVec 1 := Scalar.xori v137 v138
  let c0_i32_114 : BitVec 32 := 0#32
  let v136 : BitVec 1 := Scalar.cmpi .ne v135 c0_i32_114
  let v140 : BitVec 1 := Scalar.andi v139 v136
  let v141 : BitVec 32 := Scalar.addi v135 v134
  let v142 : BitVec 32 := Scalar.select v140 v141 v135
  ![v142.toNat]
def k0_off7 (k0_t1 : Fin k0_t1_loop.trips) : Fin 3 → Nat :=
  let c1_i32_30 : BitVec 32 := 1#32
  let c1_i32_32 : BitVec 32 := 1#32
  let arg26 : BitVec 32 := Scf.iv c1_i32_30 c1_i32_32 k0_t1
  let c1_i32_100 : BitVec 32 := 1#32
  let v118 : BitVec 32 := Scalar.addi arg26 c1_i32_100
  let c2_i32_105 : BitVec 32 := 2#32
  let c0_i32_106 : BitVec 32 := 0#32
  let v123 : BitVec 1 := Scalar.cmpi .eq c2_i32_105 c0_i32_106
  let c1_i32_107 : BitVec 32 := 1#32
  let v124 : BitVec 32 := Scalar.select v123 c1_i32_107 c2_i32_105
  let v125 : BitVec 32 := Scalar.remsi v118 v124
  let c0_i32_109 : BitVec 32 := 0#32
  let v127 : BitVec 1 := Scalar.cmpi .slt v125 c0_i32_109
  let c0_i32_110 : BitVec 32 := 0#32
  let v128 : BitVec 1 := Scalar.cmpi .slt v124 c0_i32_110
  let v129 : BitVec 1 := Scalar.xori v127 v128
  let c0_i32_108 : BitVec 32 := 0#32
  let v126 : BitVec 1 := Scalar.cmpi .ne v125 c0_i32_108
  let v130 : BitVec 1 := Scalar.andi v129 v126
  let v131 : BitVec 32 := Scalar.addi v125 v124
  let v132 : BitVec 32 := Scalar.select v130 v131 v125
  let c0_i32_117 : BitVec 32 := 0#32
  let c0_i32_118 : BitVec 32 := 0#32
  ![v132.toNat, 0, 0]
def k0_off8 (k0_t1 : Fin k0_t1_loop.trips) : Fin 2 → Nat :=
  let c256_i32_104 : BitVec 32 := 256#32
  let c1_i32_30 : BitVec 32 := 1#32
  let c1_i32_32 : BitVec 32 := 1#32
  let arg26 : BitVec 32 := Scf.iv c1_i32_30 c1_i32_32 k0_t1
  let c1_i32_100 : BitVec 32 := 1#32
  let v118 : BitVec 32 := Scalar.addi arg26 c1_i32_100
  let c21_i32_101 : BitVec 32 := 21#32
  let v119 : BitVec 32 := Scalar.minsi v118 c21_i32_101
  let c1_i32_102 : BitVec 32 := 1#32
  let v120 : BitVec 32 := Scalar.subi v119 c1_i32_102
  let c768_i32_103 : BitVec 32 := 768#32
  let v121 : BitVec 32 := Scalar.muli v120 c768_i32_103
  let v122 : BitVec 32 := Scalar.addi c256_i32_104 v121
  let c0_i32_119 : BitVec 32 := 0#32
  ![v122.toNat, 0]
def k0_off9 (k0_t1 : Fin k0_t1_loop.trips) (c1_i32_120 : BitVec 32) : Fin 3 → Nat :=
  let c1_i32_30 : BitVec 32 := 1#32
  let c1_i32_32 : BitVec 32 := 1#32
  let arg26 : BitVec 32 := Scf.iv c1_i32_30 c1_i32_32 k0_t1
  let v148 : BitVec 32 := Scalar.addi arg26 c1_i32_120
  let c2_i32_125 : BitVec 32 := 2#32
  let c0_i32_126 : BitVec 32 := 0#32
  let v153 : BitVec 1 := Scalar.cmpi .eq c2_i32_125 c0_i32_126
  let c1_i32_127 : BitVec 32 := 1#32
  let v154 : BitVec 32 := Scalar.select v153 c1_i32_127 c2_i32_125
  let v155 : BitVec 32 := Scalar.remsi v148 v154
  let c0_i32_129 : BitVec 32 := 0#32
  let v157 : BitVec 1 := Scalar.cmpi .slt v155 c0_i32_129
  let c0_i32_130 : BitVec 32 := 0#32
  let v158 : BitVec 1 := Scalar.cmpi .slt v154 c0_i32_130
  let v159 : BitVec 1 := Scalar.xori v157 v158
  let c0_i32_128 : BitVec 32 := 0#32
  let v156 : BitVec 1 := Scalar.cmpi .ne v155 c0_i32_128
  let v160 : BitVec 1 := Scalar.andi v159 v156
  let v161 : BitVec 32 := Scalar.addi v155 v154
  let v162 : BitVec 32 := Scalar.select v160 v161 v155
  let c0_i32_137 : BitVec 32 := 0#32
  let c0_i32_138 : BitVec 32 := 0#32
  ![v162.toNat, 0, 0]
def k0_off10 (k0_t1 : Fin k0_t1_loop.trips) (c1_i32_120 : BitVec 32) : Fin 2 → Nat :=
  let c256_i32_124 : BitVec 32 := 256#32
  let c1_i32_30 : BitVec 32 := 1#32
  let c1_i32_32 : BitVec 32 := 1#32
  let arg26 : BitVec 32 := Scf.iv c1_i32_30 c1_i32_32 k0_t1
  let v148 : BitVec 32 := Scalar.addi arg26 c1_i32_120
  let c21_i32_121 : BitVec 32 := 21#32
  let v149 : BitVec 32 := Scalar.minsi v148 c21_i32_121
  let c1_i32_122 : BitVec 32 := 1#32
  let v150 : BitVec 32 := Scalar.subi v149 c1_i32_122
  let c768_i32_123 : BitVec 32 := 768#32
  let v151 : BitVec 32 := Scalar.muli v150 c768_i32_123
  let v152 : BitVec 32 := Scalar.addi c256_i32_124 v151
  let c0_i32_139 : BitVec 32 := 0#32
  ![v152.toNat, 0]
def k0_cond1 (k0_t1 : Fin k0_t1_loop.trips) : BitVec 1 :=
  let c1_i32_30 : BitVec 32 := 1#32
  let c1_i32_32 : BitVec 32 := 1#32
  let arg26 : BitVec 32 := Scf.iv c1_i32_30 c1_i32_32 k0_t1
  let c2_i32_160 : BitVec 32 := 2#32
  let v208 : BitVec 1 := Scalar.cmpi .sgt arg26 c2_i32_160
  let v209 : BitVec 32 := Scalar.extui v208
  let c0_i32_161 : BitVec 32 := 0#32
  let v210 : BitVec 1 := Scalar.cmpi .ne v209 c0_i32_161
  v210

def k0_off11 (k0_t1 : Fin k0_t1_loop.trips) : Fin 1 → Nat :=
  let c1_i32_30 : BitVec 32 := 1#32
  let c1_i32_32 : BitVec 32 := 1#32
  let arg26 : BitVec 32 := Scf.iv c1_i32_30 c1_i32_32 k0_t1
  let c2_i32_444 : BitVec 32 := 2#32
  let v836 : BitVec 32 := Scalar.subi arg26 c2_i32_444
  let c2_i32_455 : BitVec 32 := 2#32
  let c0_i32_456 : BitVec 32 := 0#32
  let v851 : BitVec 1 := Scalar.cmpi .eq c2_i32_455 c0_i32_456
  let c1_i32_457 : BitVec 32 := 1#32
  let v852 : BitVec 32 := Scalar.select v851 c1_i32_457 c2_i32_455
  let v853 : BitVec 32 := Scalar.remsi v836 v852
  let c0_i32_459 : BitVec 32 := 0#32
  let v855 : BitVec 1 := Scalar.cmpi .slt v853 c0_i32_459
  let c0_i32_460 : BitVec 32 := 0#32
  let v856 : BitVec 1 := Scalar.cmpi .slt v852 c0_i32_460
  let v857 : BitVec 1 := Scalar.xori v855 v856
  let c0_i32_458 : BitVec 32 := 0#32
  let v854 : BitVec 1 := Scalar.cmpi .ne v853 c0_i32_458
  let v858 : BitVec 1 := Scalar.andi v857 v854
  let v859 : BitVec 32 := Scalar.addi v853 v852
  let v860 : BitVec 32 := Scalar.select v858 v859 v853
  ![v860.toNat]
def k0_off12 (k0_t1 : Fin k0_t1_loop.trips) : Fin 2 → Nat :=
  let c256_i32_453 : BitVec 32 := 256#32
  let c1_i32_30 : BitVec 32 := 1#32
  let c1_i32_32 : BitVec 32 := 1#32
  let arg26 : BitVec 32 := Scf.iv c1_i32_30 c1_i32_32 k0_t1
  let c2_i32_444 : BitVec 32 := 2#32
  let v836 : BitVec 32 := Scalar.subi arg26 c2_i32_444
  let c1_i32_451 : BitVec 32 := 1#32
  let v847 : BitVec 32 := Scalar.subi v836 c1_i32_451
  let c768_i32_452 : BitVec 32 := 768#32
  let v848 : BitVec 32 := Scalar.muli v847 c768_i32_452
  let v849 : BitVec 32 := Scalar.addi c256_i32_453 v848
  let c256_i32_454 : BitVec 32 := 256#32
  let v850 : BitVec 32 := Scalar.subi v849 c256_i32_454
  let c0_i32_461 : BitVec 32 := 0#32
  ![v850.toNat, 0]
def k0_off13 (k0_t1 : Fin k0_t1_loop.trips) : Fin 3 → Nat :=
  let c1_i32_30 : BitVec 32 := 1#32
  let c1_i32_32 : BitVec 32 := 1#32
  let arg26 : BitVec 32 := Scf.iv c1_i32_30 c1_i32_32 k0_t1
  let c2_i32_444 : BitVec 32 := 2#32
  let v836 : BitVec 32 := Scalar.subi arg26 c2_i32_444
  let c2_i32_445 : BitVec 32 := 2#32
  let c0_i32_446 : BitVec 32 := 0#32
  let v837 : BitVec 1 := Scalar.cmpi .eq c2_i32_445 c0_i32_446
  let c1_i32_447 : BitVec 32 := 1#32
  let v838 : BitVec 32 := Scalar.select v837 c1_i32_447 c2_i32_445
  let v839 : BitVec 32 := Scalar.remsi v836 v838
  let c0_i32_449 : BitVec 32 := 0#32
  let v841 : BitVec 1 := Scalar.cmpi .slt v839 c0_i32_449
  let c0_i32_450 : BitVec 32 := 0#32
  let v842 : BitVec 1 := Scalar.cmpi .slt v838 c0_i32_450
  let v843 : BitVec 1 := Scalar.xori v841 v842
  let c0_i32_448 : BitVec 32 := 0#32
  let v840 : BitVec 1 := Scalar.cmpi .ne v839 c0_i32_448
  let v844 : BitVec 1 := Scalar.andi v843 v840
  let v845 : BitVec 32 := Scalar.addi v839 v838
  let v846 : BitVec 32 := Scalar.select v844 v845 v839
  let c0_i32_462 : BitVec 32 := 0#32
  let c0_i32_463 : BitVec 32 := 0#32
  ![v846.toNat, 0, 0]
def k0_off14 (k0_t1 : Fin k0_t1_loop.trips) : Fin 3 → Nat :=
  let c1_i32_30 : BitVec 32 := 1#32
  let c1_i32_32 : BitVec 32 := 1#32
  let arg26 : BitVec 32 := Scf.iv c1_i32_30 c1_i32_32 k0_t1
  let c2_i32_169 : BitVec 32 := 2#32
  let c0_i32_170 : BitVec 32 := 0#32
  let v226 : BitVec 1 := Scalar.cmpi .eq c2_i32_169 c0_i32_170
  let c1_i32_171 : BitVec 32 := 1#32
  let v227 : BitVec 32 := Scalar.select v226 c1_i32_171 c2_i32_169
  let v228 : BitVec 32 := Scalar.remsi arg26 v227
  let c0_i32_173 : BitVec 32 := 0#32
  let v230 : BitVec 1 := Scalar.cmpi .slt v228 c0_i32_173
  let c0_i32_174 : BitVec 32 := 0#32
  let v231 : BitVec 1 := Scalar.cmpi .slt v227 c0_i32_174
  let v232 : BitVec 1 := Scalar.xori v230 v231
  let c0_i32_172 : BitVec 32 := 0#32
  let v229 : BitVec 1 := Scalar.cmpi .ne v228 c0_i32_172
  let v233 : BitVec 1 := Scalar.andi v232 v229
  let v234 : BitVec 32 := Scalar.addi v228 v227
  let v235 : BitVec 32 := Scalar.select v233 v234 v228
  let v236 : Index := Scalar.indexCast v235
  let c0_175 : Index := 0#32
  let c0_176 : Index := 0#32
  ![v236.toNat, 0, 0]
def k0_off15 (k0_t1 : Fin k0_t1_loop.trips) : Fin 3 → Nat :=
  let c1_i32_30 : BitVec 32 := 1#32
  let c1_i32_32 : BitVec 32 := 1#32
  let arg26 : BitVec 32 := Scf.iv c1_i32_30 c1_i32_32 k0_t1
  let c2_i32_177 : BitVec 32 := 2#32
  let c0_i32_178 : BitVec 32 := 0#32
  let v240 : BitVec 1 := Scalar.cmpi .eq c2_i32_177 c0_i32_178
  let c1_i32_179 : BitVec 32 := 1#32
  let v241 : BitVec 32 := Scalar.select v240 c1_i32_179 c2_i32_177
  let v242 : BitVec 32 := Scalar.remsi arg26 v241
  let c0_i32_181 : BitVec 32 := 0#32
  let v244 : BitVec 1 := Scalar.cmpi .slt v242 c0_i32_181
  let c0_i32_182 : BitVec 32 := 0#32
  let v245 : BitVec 1 := Scalar.cmpi .slt v241 c0_i32_182
  let v246 : BitVec 1 := Scalar.xori v244 v245
  let c0_i32_180 : BitVec 32 := 0#32
  let v243 : BitVec 1 := Scalar.cmpi .ne v242 c0_i32_180
  let v247 : BitVec 1 := Scalar.andi v246 v243
  let v248 : BitVec 32 := Scalar.addi v242 v241
  let v249 : BitVec 32 := Scalar.select v247 v248 v242
  let v260 : Index := Scalar.indexCast v249
  let c256 : Index := 256#32
  let c0_195 : Index := 0#32
  ![v260.toNat, 256, 0]
def k0_off16 (k0_t1 : Fin k0_t1_loop.trips) : Fin 3 → Nat :=
  let c1_i32_30 : BitVec 32 := 1#32
  let c1_i32_32 : BitVec 32 := 1#32
  let arg26 : BitVec 32 := Scf.iv c1_i32_30 c1_i32_32 k0_t1
  let c2_i32_177 : BitVec 32 := 2#32
  let c0_i32_178 : BitVec 32 := 0#32
  let v240 : BitVec 1 := Scalar.cmpi .eq c2_i32_177 c0_i32_178
  let c1_i32_179 : BitVec 32 := 1#32
  let v241 : BitVec 32 := Scalar.select v240 c1_i32_179 c2_i32_177
  let v242 : BitVec 32 := Scalar.remsi arg26 v241
  let c0_i32_181 : BitVec 32 := 0#32
  let v244 : BitVec 1 := Scalar.cmpi .slt v242 c0_i32_181
  let c0_i32_182 : BitVec 32 := 0#32
  let v245 : BitVec 1 := Scalar.cmpi .slt v241 c0_i32_182
  let v246 : BitVec 1 := Scalar.xori v244 v245
  let c0_i32_180 : BitVec 32 := 0#32
  let v243 : BitVec 1 := Scalar.cmpi .ne v242 c0_i32_180
  let v247 : BitVec 1 := Scalar.andi v246 v243
  let v248 : BitVec 32 := Scalar.addi v242 v241
  let v249 : BitVec 32 := Scalar.select v247 v248 v242
  let v263 : Index := Scalar.indexCast v249
  let c512 : Index := 512#32
  let c0_196 : Index := 0#32
  ![v263.toNat, 512, 0]
def k0_off17 (k0_t1 : Fin k0_t1_loop.trips) : Fin 3 → Nat :=
  let c1_i32_30 : BitVec 32 := 1#32
  let c1_i32_32 : BitVec 32 := 1#32
  let arg26 : BitVec 32 := Scf.iv c1_i32_30 c1_i32_32 k0_t1
  let c1_i32_192 : BitVec 32 := 1#32
  let v256 : BitVec 32 := Scalar.addi arg26 c1_i32_192
  let c2_i32_216 : BitVec 32 := 2#32
  let c0_i32_217 : BitVec 32 := 0#32
  let v302 : BitVec 1 := Scalar.cmpi .eq c2_i32_216 c0_i32_217
  let c1_i32_218 : BitVec 32 := 1#32
  let v303 : BitVec 32 := Scalar.select v302 c1_i32_218 c2_i32_216
  let v304 : BitVec 32 := Scalar.remsi v256 v303
  let c0_i32_220 : BitVec 32 := 0#32
  let v306 : BitVec 1 := Scalar.cmpi .slt v304 c0_i32_220
  let c0_i32_221 : BitVec 32 := 0#32
  let v307 : BitVec 1 := Scalar.cmpi .slt v303 c0_i32_221
  let v308 : BitVec 1 := Scalar.xori v306 v307
  let c0_i32_219 : BitVec 32 := 0#32
  let v305 : BitVec 1 := Scalar.cmpi .ne v304 c0_i32_219
  let v309 : BitVec 1 := Scalar.andi v308 v305
  let v310 : BitVec 32 := Scalar.addi v304 v303
  let v311 : BitVec 32 := Scalar.select v309 v310 v304
  let v312 : Index := Scalar.indexCast v311
  let c0_222 : Index := 0#32
  let c0_223 : Index := 0#32
  ![v312.toNat, 0, 0]
def k0_off18 (k0_t1 : Fin k0_t1_loop.trips) : Fin 2 → Nat :=
  let c256_i32_433 : BitVec 32 := 256#32
  let c1_i32_30 : BitVec 32 := 1#32
  let c1_i32_32 : BitVec 32 := 1#32
  let arg26 : BitVec 32 := Scf.iv c1_i32_30 c1_i32_32 k0_t1
  let c1_i32_431 : BitVec 32 := 1#32
  let v817 : BitVec 32 := Scalar.subi arg26 c1_i32_431
  let c768_i32_432 : BitVec 32 := 768#32
  let v818 : BitVec 32 := Scalar.muli v817 c768_i32_432
  let v819 : BitVec 32 := Scalar.addi c256_i32_433 v818
  let c256_i32_434 : BitVec 32 := 256#32
  let v820 : BitVec 32 := Scalar.subi v819 c256_i32_434
  let c0_i32_441 : BitVec 32 := 0#32
  ![v820.toNat, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x16384x1024 : Shape := ⟨3, ![1, 16384, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x2048 : Shape := ⟨2, ![1024, 2048]⟩
abbrev S1x16384x2048 : Shape := ⟨3, ![1, 16384, 2048]⟩
abbrev S1x16384x512 : Shape := ⟨3, ![1, 16384, 512]⟩
abbrev S3x512 : Shape := ⟨2, ![3, 512]⟩
abbrev S1x16386x512 : Shape := ⟨3, ![1, 16386, 512]⟩
abbrev S512 : Shape := ⟨1, ![512]⟩
abbrev S1x1x512 : Shape := ⟨3, ![1, 1, 512]⟩
abbrev S4x128x128 : Shape := ⟨3, ![4, 128, 128]⟩
abbrev S16384 : Shape := ⟨1, ![16384]⟩
abbrev S1x16384x128 : Shape := ⟨3, ![1, 16384, 128]⟩
abbrev S1x16386x128 : Shape := ⟨3, ![1, 16386, 128]⟩
abbrev S1x16388x128 : Shape := ⟨3, ![1, 16388, 128]⟩
abbrev S1x16392x128 : Shape := ⟨3, ![1, 16392, 128]⟩
abbrev S1x16400x128 : Shape := ⟨3, ![1, 16400, 128]⟩
abbrev S1x16384x1x128 : Shape := ⟨4, ![1, 16384, 1, 128]⟩
abbrev S1x16384x4x128 : Shape := ⟨4, ![1, 16384, 4, 128]⟩
abbrev S4x128x1x16384 : Shape := ⟨4, ![4, 128, 1, 16384]⟩
abbrev S1024x1024 : Shape := ⟨2, ![1024, 1024]⟩
abbrev S1024x4096 : Shape := ⟨2, ![1024, 4096]⟩
abbrev S1x16384x4096 : Shape := ⟨3, ![1, 16384, 4096]⟩
abbrev S4096x1024 : Shape := ⟨2, ![4096, 1024]⟩

abbrev nBuf : Space → Nat
  | .hbm => 191
  | .vmem => 0
  | .smem => 0
  | _ => 0

abbrev hbmTy0_0 (i : Nat) : BufTy := match i % 128 with
  | 0 => ⟨S1x16384x1024, .f32⟩
  | 1 => ⟨S1x1024, .f32⟩
  | 2 => ⟨S1x1024x2048, .f32⟩
  | 3 => ⟨S1x3x512, .f32⟩
  | 4 => ⟨S1x4x128x128, .f32⟩
  | 5 => ⟨S1x512, .f32⟩
  | 6 => ⟨S1x1024x1024, .f32⟩
  | 7 => ⟨S1x1024, .f32⟩
  | 8 => ⟨S1x1024x4096, .f32⟩
  | 9 => ⟨S1x4096x1024, .f32⟩
  | 10 => ⟨S1024, .f32⟩
  | 11 => ⟨S1024, .f32⟩
  | 12 => ⟨S1x16384x1024, .f32⟩
  | 13 => ⟨S_, .f32⟩
  | 14 => ⟨S1x16384, .f32⟩
  | 15 => ⟨S1x16384x1, .f32⟩
  | 16 => ⟨S_, .f32⟩
  | 17 => ⟨S1x16384x1, .f32⟩
  | 18 => ⟨S1x16384x1, .f32⟩
  | 19 => ⟨S_, .f32⟩
  | 20 => ⟨S1x16384x1, .f32⟩
  | 21 => ⟨S1x16384x1, .f32⟩
  | 22 => ⟨S1x16384x1, .f32⟩
  | 23 => ⟨S1x16384x1024, .f32⟩
  | 24 => ⟨S1x16384x1024, .f32⟩
  | 25 => ⟨S1x1x1024, .f32⟩
  | 26 => ⟨S1x16384x1024, .f32⟩
  | 27 => ⟨S1x16384x1024, .f32⟩
  | 28 => ⟨S1024x2048, .f32⟩
  | 29 => ⟨S1x16384x2048, .f32⟩
  | 30 => ⟨S1x16384x512, .f32⟩
  | 31 => ⟨S1x16384x512, .f32⟩
  | 32 => ⟨S1x16384x512, .f32⟩
  | 33 => ⟨S1x16384x512, .f32⟩
  | 34 => ⟨S3x512, .f32⟩
  | 35 => ⟨S1x16384x512, .f32⟩
  | 36 => ⟨S_, .i32⟩
  | 37 => ⟨S_, .f32⟩
  | 38 => ⟨S1x16386x512, .f32⟩
  | 39 => ⟨S1x512, .f32⟩
  | 40 => ⟨S512, .f32⟩
  | 41 => ⟨S1x16384x512, .f32⟩
  | 42 => ⟨S1x1x512, .f32⟩
  | 43 => ⟨S1x16384x512, .f32⟩
  | 44 => ⟨S1x16384x512, .f32⟩
  | 45 => ⟨S1x512, .f32⟩
  | 46 => ⟨S512, .f32⟩
  | 47 => ⟨S1x16384x512, .f32⟩
  | 48 => ⟨S1x1x512, .f32⟩
  | 49 => ⟨S1x16384x512, .f32⟩
  | 50 => ⟨S1x16384x512, .f32⟩
  | 51 => ⟨S1x16384x512, .f32⟩
  | 52 => ⟨S1x512, .f32⟩
  | 53 => ⟨S512, .f32⟩
  | 54 => ⟨S1x16384x512, .f32⟩
  | 55 => ⟨S1x1x512, .f32⟩
  | 56 => ⟨S1x16384x512, .f32⟩
  | 57 => ⟨S1x16384x512, .f32⟩
  | 58 => ⟨S1x16384x512, .f32⟩
  | 59 => ⟨S1x16384x512, .f32⟩
  | 60 => ⟨S4x128x128, .f32⟩
  | 61 => ⟨S512, .f32⟩
  | 62 => ⟨S_, .f32⟩
  | 63 => ⟨S_, .f32⟩
  | 64 => ⟨S1x16384x512, .f32⟩
  | 65 => ⟨S16384, .f32⟩
  | 66 => ⟨S1x16384x128, .f32⟩
  | 67 => ⟨S_, .i32⟩
  | 68 => ⟨S_, .f32⟩
  | 69 => ⟨S1x16386x128, .f32⟩
  | 70 => ⟨S1x16384x128, .f32⟩
  | 71 => ⟨S_, .f32⟩
  | 72 => ⟨S16384, .f32⟩
  | 73 => ⟨S16384, .f32⟩
  | 74 => ⟨S_, .f32⟩
  | 75 => ⟨S16384, .f32⟩
  | 76 => ⟨S16384, .f32⟩
  | 77 => ⟨S1x16384x1, .f32⟩
  | 78 => ⟨S1x16384x128, .f32⟩
  | 79 => ⟨S1x16384x128, .f32⟩
  | 80 => ⟨S1x16384x128, .f32⟩
  | 81 => ⟨S1x16384x128, .f32⟩
  | 82 => ⟨S1x16384x128, .f32⟩
  | 83 => ⟨S1x16384x128, .f32⟩
  | 84 => ⟨S_, .i32⟩
  | 85 => ⟨S_, .f32⟩
  | 86 => ⟨S1x16388x128, .f32⟩
  | 87 => ⟨S1x16384x128, .f32⟩
  | 88 => ⟨S_, .f32⟩
  | 89 => ⟨S16384, .f32⟩
  | 90 => ⟨S16384, .f32⟩
  | 91 => ⟨S_, .f32⟩
  | 92 => ⟨S16384, .f32⟩
  | 93 => ⟨S16384, .f32⟩
  | 94 => ⟨S1x16384x1, .f32⟩
  | 95 => ⟨S1x16384x128, .f32⟩
  | 96 => ⟨S1x16384x128, .f32⟩
  | 97 => ⟨S1x16384x128, .f32⟩
  | 98 => ⟨S1x16384x128, .f32⟩
  | 99 => ⟨S1x16384x128, .f32⟩
  | 100 => ⟨S1x16384x128, .f32⟩
  | 101 => ⟨S_, .i32⟩
  | 102 => ⟨S_, .f32⟩
  | 103 => ⟨S1x16392x128, .f32⟩
  | 104 => ⟨S1x16384x128, .f32⟩
  | 105 => ⟨S_, .f32⟩
  | 106 => ⟨S16384, .f32⟩
  | 107 => ⟨S16384, .f32⟩
  | 108 => ⟨S_, .f32⟩
  | 109 => ⟨S16384, .f32⟩
  | 110 => ⟨S16384, .f32⟩
  | 111 => ⟨S1x16384x1, .f32⟩
  | 112 => ⟨S1x16384x128, .f32⟩
  | 113 => ⟨S1x16384x128, .f32⟩
  | 114 => ⟨S1x16384x128, .f32⟩
  | 115 => ⟨S1x16384x128, .f32⟩
  | 116 => ⟨S1x16384x128, .f32⟩
  | 117 => ⟨S1x16384x128, .f32⟩
  | 118 => ⟨S_, .i32⟩
  | 119 => ⟨S_, .f32⟩
  | 120 => ⟨S1x16400x128, .f32⟩
  | 121 => ⟨S1x16384x128, .f32⟩
  | 122 => ⟨S_, .f32⟩
  | 123 => ⟨S16384, .f32⟩
  | 124 => ⟨S16384, .f32⟩
  | 125 => ⟨S_, .f32⟩
  | 126 => ⟨S16384, .f32⟩
  | 127 => ⟨S16384, .f32⟩
  | _ => ⟨S1x16384x1024, .f32⟩

abbrev hbmTy0_1 (i : Nat) : BufTy := match i % 128 with
  | 0 => ⟨S1x16384x1, .f32⟩
  | 1 => ⟨S1x16384x128, .f32⟩
  | 2 => ⟨S1x16384x128, .f32⟩
  | 3 => ⟨S1x16384x128, .f32⟩
  | 4 => ⟨S1x16384x128, .f32⟩
  | 5 => ⟨S1x16384x128, .f32⟩
  | 6 => ⟨S1x16384x1x128, .f32⟩
  | 7 => ⟨S1x16384x1x128, .f32⟩
  | 8 => ⟨S1x16384x1x128, .f32⟩
  | 9 => ⟨S1x16384x1x128, .f32⟩
  | 10 => ⟨S1x16384x4x128, .f32⟩
  | 11 => ⟨S4x128x1x16384, .f32⟩
  | 12 => ⟨S1x16384x4x128, .f32⟩
  | 13 => ⟨S1x16384x512, .f32⟩
  | 14 => ⟨S1x1x512, .f32⟩
  | 15 => ⟨S1x16384x512, .f32⟩
  | 16 => ⟨S1x16384x512, .f32⟩
  | 17 => ⟨S1x16384x1024, .f32⟩
  | 18 => ⟨S1024x1024, .f32⟩
  | 19 => ⟨S1x16384x1024, .f32⟩
  | 20 => ⟨S1x16384x1024, .f32⟩
  | 21 => ⟨S1024, .f32⟩
  | 22 => ⟨S1x16384x1024, .f32⟩
  | 23 => ⟨S_, .f32⟩
  | 24 => ⟨S1x16384, .f32⟩
  | 25 => ⟨S1x16384x1, .f32⟩
  | 26 => ⟨S_, .f32⟩
  | 27 => ⟨S1x16384x1, .f32⟩
  | 28 => ⟨S1x16384x1, .f32⟩
  | 29 => ⟨S_, .f32⟩
  | 30 => ⟨S1x16384x1, .f32⟩
  | 31 => ⟨S1x16384x1, .f32⟩
  | 32 => ⟨S1x16384x1, .f32⟩
  | 33 => ⟨S1x16384x1024, .f32⟩
  | 34 => ⟨S1x16384x1024, .f32⟩
  | 35 => ⟨S1x1x1024, .f32⟩
  | 36 => ⟨S1x16384x1024, .f32⟩
  | 37 => ⟨S1x16384x1024, .f32⟩
  | 38 => ⟨S1024x4096, .f32⟩
  | 39 => ⟨S1x16384x4096, .f32⟩
  | 40 => ⟨S_, .f32⟩
  | 41 => ⟨S1x16384x4096, .f32⟩
  | 42 => ⟨S1x16384x4096, .f32⟩
  | 43 => ⟨S1x16384x4096, .f32⟩
  | 44 => ⟨S4096x1024, .f32⟩
  | 45 => ⟨S1x16384x1024, .f32⟩
  | 46 => ⟨S1x16384x1024, .f32⟩
  | 47 => ⟨S1x16384x1024, .f32⟩
  | 48 => ⟨S_, .f32⟩
  | 49 => ⟨S1x16384, .f32⟩
  | 50 => ⟨S1x16384x1, .f32⟩
  | 51 => ⟨S_, .f32⟩
  | 52 => ⟨S1x16384x1, .f32⟩
  | 53 => ⟨S1x16384x1, .f32⟩
  | 54 => ⟨S_, .f32⟩
  | 55 => ⟨S1x16384x1, .f32⟩
  | 56 => ⟨S1x16384x1, .f32⟩
  | 57 => ⟨S1x16384x1, .f32⟩
  | 58 => ⟨S1x16384x1024, .f32⟩
  | 59 => ⟨S1x16384x1024, .f32⟩
  | 60 => ⟨S1x1x1024, .f32⟩
  | 61 => ⟨S1x16384x1024, .f32⟩
  | 62 => ⟨S1x16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call1_call0_cst : Ref sig .tc := ⟨.hbm, 62, rfl⟩
abbrev main_call1_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_2 : Ref sig .tc := ⟨.hbm, 67, rfl⟩
abbrev main_call2_v0 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_v51 : Ref sig .tc := ⟨.hbm, 72, rfl⟩
abbrev main_v52 : Ref sig .tc := ⟨.hbm, 73, rfl⟩
abbrev main_cst_4 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_5 : Ref sig .tc := ⟨.hbm, 84, rfl⟩
abbrev main_call3_v0 : Ref sig .tc := ⟨.hbm, 85, rfl⟩
abbrev main_v62 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_8 : Ref sig .tc := ⟨.hbm, 101, rfl⟩
abbrev main_call4_v0 : Ref sig .tc := ⟨.hbm, 102, rfl⟩
abbrev main_v75 : Ref sig .tc := ⟨.hbm, 103, rfl⟩
abbrev main_v76 : Ref sig .tc := ⟨.hbm, 104, rfl⟩
abbrev main_cst_9 : Ref sig .tc := ⟨.hbm, 105, rfl⟩
abbrev main_v77 : Ref sig .tc := ⟨.hbm, 106, rfl⟩
abbrev main_v78 : Ref sig .tc := ⟨.hbm, 107, rfl⟩
abbrev main_cst_10 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_11 : Ref sig .tc := ⟨.hbm, 118, rfl⟩
abbrev main_call5_v0 : Ref sig .tc := ⟨.hbm, 119, rfl⟩
abbrev main_v88 : Ref sig .tc := ⟨.hbm, 120, rfl⟩
abbrev main_v89 : Ref sig .tc := ⟨.hbm, 121, rfl⟩
abbrev main_cst_12 : Ref sig .tc := ⟨.hbm, 122, rfl⟩
abbrev main_v90 : Ref sig .tc := ⟨.hbm, 123, rfl⟩
abbrev main_v91 : Ref sig .tc := ⟨.hbm, 124, rfl⟩
abbrev main_cst_13 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_14 : Ref sig .tc := ⟨.hbm, 151, rfl⟩
abbrev main_v117 : Ref sig .tc := ⟨.hbm, 152, rfl⟩
abbrev main_v118 : Ref sig .tc := ⟨.hbm, 153, rfl⟩
abbrev main_cst_15 : Ref sig .tc := ⟨.hbm, 154, rfl⟩
abbrev main_v119 : Ref sig .tc := ⟨.hbm, 155, rfl⟩
abbrev main_v120 : Ref sig .tc := ⟨.hbm, 156, rfl⟩
abbrev main_cst_16 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_call6_cst : Ref sig .tc := ⟨.hbm, 168, rfl⟩
abbrev main_call6_v0 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_17 : Ref sig .tc := ⟨.hbm, 176, rfl⟩
abbrev main_v137 : Ref sig .tc := ⟨.hbm, 177, rfl⟩
abbrev main_v138 : Ref sig .tc := ⟨.hbm, 178, rfl⟩
abbrev main_cst_18 : Ref sig .tc := ⟨.hbm, 179, rfl⟩
abbrev main_v139 : Ref sig .tc := ⟨.hbm, 180, rfl⟩
abbrev main_v140 : Ref sig .tc := ⟨.hbm, 181, rfl⟩
abbrev main_cst_19 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩

abbrev nD : Nat := 1
abbrev τ : Topo := Topo.v7x

variable {F : FTy → Type} [FloatOps F]
-- ==== Proof.Setup.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof: buffers and cells of the machine beside the pipeline library's own algebra. -/
local notation "𝕄" => MT nD τ sig Unit (Elt F) ℕ (Pipeline.UD sig nD τ) ℕ

/-! ## The operands of the kernel, each a whole buffer -/

abbrev hM0 : Memref sig .tc .hbm S16384x1024 .f32 := Memref.whole main_v0
abbrev wM1 : Memref sig .tc .vmem S1x1024 .f32 := Memref.whole cc0_stg0_0
abbrev hM2 : Memref sig .tc .hbm S1024x2048 .f32 := Memref.whole main_v2
abbrev wM3 : Memref sig .tc .vmem S1x1536 .f32 := Memref.whole cc0_stg1_0
abbrev wM4 : Memref sig .tc .vmem S4x128x128 .f32 := Memref.whole cc0_stg2_0
abbrev wM5 : Memref sig .tc .vmem S1x512 .f32 := Memref.whole cc0_stg3_0
abbrev hM6 : Memref sig .tc .hbm S1024x1024 .f32 := Memref.whole main_v6
abbrev wM7 : Memref sig .tc .vmem S1x1024 .f32 := Memref.whole cc0_stg4_0
abbrev hM8 : Memref sig .tc .hbm S1024x4096 .f32 := Memref.whole main_v8
abbrev hM9 : Memref sig .tc .hbm S4096x1024 .f32 := Memref.whole main_v9
abbrev wM10 : Memref sig .tc .vmem S1x1024 .f32 := Memref.whole cc0_stg5_0
abbrev hM11 : Memref sig .tc .hbm S16384x1024 .f32 := Memref.whole main_v15
abbrev sM12 : Memref sig .tc .vmem S1024x2048 .bf16 := Memref.whole cc0_scratch0
abbrev sM13 : Memref sig .tc .vmem S1024x1024 .bf16 := Memref.whole cc0_scratch1
abbrev sM14 : Memref sig .tc .vmem S1024x4096 .bf16 := Memref.whole cc0_scratch2
abbrev sM15 : Memref sig .tc .vmem S4096x1024 .bf16 := Memref.whole cc0_scratch3
abbrev sM16 : Memref sig .tc .vmem S8x512 .f32 := Memref.whole cc0_scratch4
abbrev sM17 : Memref sig .tc .vmem S16x512 .f32 := Memref.whole cc0_scratch5
abbrev sM18 : Memref sig .tc .vmem S2x768x1024 .f32 := Memref.whole cc0_scratch6
abbrev sM19 : Memref sig .tc .vmem S2x768x1024 .f32 := Memref.whole cc0_scratch7
abbrev sM20 : Memref sig .tc .vmem S256x1024 .f32 := Memref.whole cc0_scratch8
abbrev sM21 : Memref sig .tc .vmem S256x1024 .bf16 := Memref.whole cc0_scratch9
abbrev sM22 : Memref sig .tc .vmem S2x256x1024 .f32 := Memref.whole cc0_scratch10
abbrev sMst : Memref sig .tc .vmem S8x256x1024 .f32 := Memref.whole cc0_scoped0

/-- Contents of the buffer a memref lies on, on core `c`. -/
abbrev Bf (c : Dev nD) {sp : Space} {S : Shape} {e : EltTy} (M : Memref sig .tc sp S e) : Type := Buf (Elt F) (M.view.loc (c : Thread nD τ))
/-- The elements of memref `M`, held at share `q` with contents `f`. -/
abbrev pt (c : Dev nD) {sp : Space} {S : Shape} {e : EltTy} (M : Memref sig .tc sp S e) (q : PosShare TreeShare) (f : Bf (F := F) c M) : sProp 𝕄 :=
  M.view.loc (c : Thread nD τ) ↦[M.view.set]{q} f
/-- A DMA cell of the kernel at zero. -/
abbrev sv0 (c : Dev nD) (i : DmaSem sig) : sProp 𝕄 := semVal ((c : Thread nD τ), SemLoc.dma i) 0

/-! ## The windows of the rings the kernel transfers into and out of -/

abbrev x0c0 : Memref sig .tc .vmem S256x1024 .f32 := (sM18.slice (Rect.unit (s := S2x768x1024) ![0, 0, 0] S1x256x1024.size inb_S2x768x1024_S1x256x1024_0_0_0) (fun _ => rfl)).squeeze S256x1024 squeezes_S1x256x1024_S256x1024
abbrev x0c1 : Memref sig .tc .vmem S256x1024 .f32 := (sM18.slice (Rect.unit (s := S2x768x1024) ![0, 256, 0] S1x256x1024.size inb_S2x768x1024_S1x256x1024_0_256_0) (fun _ => rfl)).squeeze S256x1024 squeezes_S1x256x1024_S256x1024
abbrev x0c2 : Memref sig .tc .vmem S256x1024 .f32 := (sM18.slice (Rect.unit (s := S2x768x1024) ![0, 512, 0] S1x256x1024.size inb_S2x768x1024_S1x256x1024_0_512_0) (fun _ => rfl)).squeeze S256x1024 squeezes_S1x256x1024_S256x1024
abbrev x0 : Memref sig .tc .vmem S768x1024 .f32 := (sM18.slice (Rect.unit (s := S2x768x1024) ![0, 0, 0] S1x768x1024.size inb_S2x768x1024_S1x768x1024_0_0_0) (fun _ => rfl)).squeeze S768x1024 squeezes_S1x768x1024_S768x1024
abbrev x1 : Memref sig .tc .vmem S768x1024 .f32 := (sM18.slice (Rect.unit (s := S2x768x1024) ![1, 0, 0] S1x768x1024.size inb_S2x768x1024_S1x768x1024_1_0_0) (fun _ => rfl)).squeeze S768x1024 squeezes_S1x768x1024_S768x1024
abbrev o0c0 : Memref sig .tc .vmem S256x1024 .f32 := (sM19.slice (Rect.unit (s := S2x768x1024) ![0, 0, 0] S1x256x1024.size inb_S2x768x1024_S1x256x1024_0_0_0) (fun _ => rfl)).squeeze S256x1024 squeezes_S1x256x1024_S256x1024
abbrev o0c1 : Memref sig .tc .vmem S256x1024 .f32 := (sM19.slice (Rect.unit (s := S2x768x1024) ![0, 256, 0] S1x256x1024.size inb_S2x768x1024_S1x256x1024_0_256_0) (fun _ => rfl)).squeeze S256x1024 squeezes_S1x256x1024_S256x1024
abbrev o0c2 : Memref sig .tc .vmem S256x1024 .f32 := (sM19.slice (Rect.unit (s := S2x768x1024) ![0, 512, 0] S1x256x1024.size inb_S2x768x1024_S1x256x1024_0_512_0) (fun _ => rfl)).squeeze S256x1024 squeezes_S1x256x1024_S256x1024
abbrev o0 : Memref sig .tc .vmem S768x1024 .f32 := (sM19.slice (Rect.unit (s := S2x768x1024) ![0, 0, 0] S1x768x1024.size inb_S2x768x1024_S1x768x1024_0_0_0) (fun _ => rfl)).squeeze S768x1024 squeezes_S1x768x1024_S768x1024
abbrev o1c0 : Memref sig .tc .vmem S256x1024 .f32 := (sM19.slice (Rect.unit (s := S2x768x1024) ![1, 0, 0] S1x256x1024.size inb_S2x768x1024_S1x256x1024_1_0_0) (fun _ => rfl)).squeeze S256x1024 squeezes_S1x256x1024_S256x1024
abbrev o1c1 : Memref sig .tc .vmem S256x1024 .f32 := (sM19.slice (Rect.unit (s := S2x768x1024) ![1, 256, 0] S1x256x1024.size inb_S2x768x1024_S1x256x1024_1_256_0) (fun _ => rfl)).squeeze S256x1024 squeezes_S1x256x1024_S256x1024
abbrev o1c2 : Memref sig .tc .vmem S256x1024 .f32 := (sM19.slice (Rect.unit (s := S2x768x1024) ![1, 512, 0] S1x256x1024.size inb_S2x768x1024_S1x256x1024_1_512_0) (fun _ => rfl)).squeeze S256x1024 squeezes_S1x256x1024_S256x1024
abbrev o1 : Memref sig .tc .vmem S768x1024 .f32 := (sM19.slice (Rect.unit (s := S2x768x1024) ![1, 0, 0] S1x768x1024.size inb_S2x768x1024_S1x768x1024_1_0_0) (fun _ => rfl)).squeeze S768x1024 squeezes_S1x768x1024_S768x1024
abbrev f0 : Memref sig .tc .vmem S256x1024 .f32 := (sM22.slice (Rect.unit (s := S2x256x1024) ![0, 0, 0] S1x256x1024.size inb_S2x256x1024_S1x256x1024_0_0_0) (fun _ => rfl)).squeeze S256x1024 squeezes_S1x256x1024_S256x1024
abbrev f1 : Memref sig .tc .vmem S256x1024 .f32 := (sM22.slice (Rect.unit (s := S2x256x1024) ![1, 0, 0] S1x256x1024.size inb_S2x256x1024_S1x256x1024_1_0_0) (fun _ => rfl)).squeeze S256x1024 squeezes_S1x256x1024_S256x1024
abbrev st0 : Memref sig .tc .vmem S256x1024 .f32 := (sMst.slice (Rect.unit (s := S8x256x1024) ![0, 0, 0] S1x256x1024.size inb_S8x256x1024_S1x256x1024_0_0_0) (fun _ => rfl)).squeeze S256x1024 squeezes_S1x256x1024_S256x1024
abbrev st1 : Memref sig .tc .vmem S256x1024 .f32 := (sMst.slice (Rect.unit (s := S8x256x1024) ![1, 0, 0] S1x256x1024.size inb_S8x256x1024_S1x256x1024_1_0_0) (fun _ => rfl)).squeeze S256x1024 squeezes_S1x256x1024_S256x1024
abbrev st2 : Memref sig .tc .vmem S256x1024 .f32 := (sMst.slice (Rect.unit (s := S8x256x1024) ![2, 0, 0] S1x256x1024.size inb_S8x256x1024_S1x256x1024_2_0_0) (fun _ => rfl)).squeeze S256x1024 squeezes_S1x256x1024_S256x1024
abbrev st3 : Memref sig .tc .vmem S256x1024 .f32 := (sMst.slice (Rect.unit (s := S8x256x1024) ![3, 0, 0] S1x256x1024.size inb_S8x256x1024_S1x256x1024_3_0_0) (fun _ => rfl)).squeeze S256x1024 squeezes_S1x256x1024_S256x1024
abbrev st4 : Memref sig .tc .vmem S256x1024 .f32 := (sMst.slice (Rect.unit (s := S8x256x1024) ![4, 0, 0] S1x256x1024.size inb_S8x256x1024_S1x256x1024_4_0_0) (fun _ => rfl)).squeeze S256x1024 squeezes_S1x256x1024_S256x1024
abbrev st5 : Memref sig .tc .vmem S256x1024 .f32 := (sMst.slice (Rect.unit (s := S8x256x1024) ![5, 0, 0] S1x256x1024.size inb_S8x256x1024_S1x256x1024_5_0_0) (fun _ => rfl)).squeeze S256x1024 squeezes_S1x256x1024_S256x1024
abbrev st6 : Memref sig .tc .vmem S256x1024 .f32 := (sMst.slice (Rect.unit (s := S8x256x1024) ![6, 0, 0] S1x256x1024.size inb_S8x256x1024_S1x256x1024_6_0_0) (fun _ => rfl)).squeeze S256x1024 squeezes_S1x256x1024_S256x1024
abbrev st7 : Memref sig .tc .vmem S256x1024 .f32 := (sMst.slice (Rect.unit (s := S8x256x1024) ![7, 0, 0] S1x256x1024.size inb_S8x256x1024_S1x256x1024_7_0_0) (fun _ => rfl)).squeeze S256x1024 squeezes_S1x256x1024_S256x1024

end Cert.KernelIdeal.Hand

end
-- ==== Proof.Offs.lean ====
module

public import proofs.«01_k».proof.Proof.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem trips_eq : k0_t1_loop.trips = 21 := by decide
theorem off3_eq : ∀ k : Fin k0_t1_loop.trips, k0_off3 k = ![(k.val + 1) % 2] := by decide
theorem off4_eq : ∀ k : Fin k0_t1_loop.trips, k0_off4 k = ![(k.val + 1) % 2, 0, 0] := by decide
theorem off5_eq : ∀ k : Fin k0_t1_loop.trips, k0_off5 k = ![256 + 768 * k.val, 0] := by decide
theorem off6_eq1 : ∀ k : Fin k0_t1_loop.trips, k0_off6 k 1#32 = ![k.val % 2] := by decide
theorem off6_eq2 : ∀ k : Fin k0_t1_loop.trips, k0_off6 k 2#32 = ![(k.val + 1) % 2] := by decide
theorem off7_eq : ∀ k : Fin k0_t1_loop.trips, k0_off7 k = ![k.val % 2, 0, 0] := by decide
theorem off8_eq : ∀ k : Fin k0_t1_loop.trips, k0_off8 k = ![256 + 768 * min (k.val + 1) 20, 0] := by decide
theorem off9_eq1 : ∀ k : Fin k0_t1_loop.trips, k0_off9 k 1#32 = ![k.val % 2, 0, 0] := by decide
theorem off9_eq2 : ∀ k : Fin k0_t1_loop.trips, k0_off9 k 2#32 = ![(k.val + 1) % 2, 0, 0] := by decide
theorem off10_eq1 : ∀ k : Fin k0_t1_loop.trips, k0_off10 k 1#32 = ![256 + 768 * min (k.val + 1) 20, 0] := by decide
theorem off10_eq2 : ∀ k : Fin k0_t1_loop.trips, k0_off10 k 2#32 = ![256 + 768 * min (k.val + 2) 20, 0] := by decide
theorem off11_eq : ∀ k : Fin k0_t1_loop.trips, k0_off11 k = ![(k.val + 1) % 2] := by decide
theorem off12_eq : ∀ k : Fin k0_t1_loop.trips, 2 ≤ k.val → k0_off12 k = ![768 * (k.val - 2), 0] := by decide
theorem off13_eq : ∀ k : Fin k0_t1_loop.trips, k0_off13 k = ![(k.val + 1) % 2, 0, 0] := by decide
theorem off14_eq : ∀ k : Fin k0_t1_loop.trips, k0_off14 k = ![(k.val + 1) % 2, 0, 0] := by decide
theorem off15_eq : ∀ k : Fin k0_t1_loop.trips, k0_off15 k = ![(k.val + 1) % 2, 256, 0] := by decide
theorem off16_eq : ∀ k : Fin k0_t1_loop.trips, k0_off16 k = ![(k.val + 1) % 2, 512, 0] := by decide
theorem off17_eq : ∀ k : Fin k0_t1_loop.trips, k0_off17 k = ![k.val % 2, 0, 0] := by decide
theorem off18_eq : ∀ k : Fin k0_t1_loop.trips, k0_off18 k = ![768 * k.val, 0] := by decide
theorem cond1_iff : ∀ k : Fin k0_t1_loop.trips, k0_cond1 k = 1#1 ↔ 2 ≤ k.val := by decide

end Cert.KernelIdeal.Hand

end
-- ==== Proof.Canon.lean ====
module

public import proofs.«01_k».proof.Proof.Offs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The windows a trip moves, under one name each

The program computes a window's offsets from the trip's number; each equation below renames one such window — a slot of a
scratch buffer picked by the trip's parity, a band of rows of the input or of the result — by its closed form. -/

/-- Rows `256 + 768 r …` of the input, one loop tile high. -/
abbrev xr (r : ℕ) (h : ∀ a, (![256 + 768 * r, 0] : Fin 2 → ℕ) a + S768x1024.size a ≤ S16384x1024.size a) :
    Memref sig .tc .hbm S768x1024 .f32 :=
  hM0.slice (Rect.unit (s := S16384x1024) ![256 + 768 * r, 0] S768x1024.size h) (fun _ => rfl)
/-- Rows `256 + 768 r …` of the input, 256 rows high: the look-ahead band. -/
abbrev fr (r : ℕ) (h : ∀ a, (![256 + 768 * r, 0] : Fin 2 → ℕ) a + S256x1024.size a ≤ S16384x1024.size a) :
    Memref sig .tc .hbm S256x1024 .f32 :=
  hM0.slice (Rect.unit (s := S16384x1024) ![256 + 768 * r, 0] S256x1024.size h) (fun _ => rfl)
/-- Rows `768 r …` of the result. -/
abbrev orw (r : ℕ) (h : ∀ a, (![768 * r, 0] : Fin 2 → ℕ) a + S768x1024.size a ≤ S16384x1024.size a) :
    Memref sig .tc .hbm S768x1024 .f32 :=
  hM11.slice (Rect.unit (s := S16384x1024) ![768 * r, 0] S768x1024.size h) (fun _ => rfl)

theorem xr_inb (r : ℕ) (hr : r ≤ 20) : ∀ a, (![256 + 768 * r, 0] : Fin 2 → ℕ) a + S768x1024.size a ≤ S16384x1024.size a := by
  intro a; fin_cases a
  · show 256 + 768 * r + 768 ≤ 16384; omega
  · show 0 + 1024 ≤ 1024; omega
theorem fr_inb (r : ℕ) (hr : r ≤ 20) : ∀ a, (![256 + 768 * r, 0] : Fin 2 → ℕ) a + S256x1024.size a ≤ S16384x1024.size a := by
  intro a; fin_cases a
  · show 256 + 768 * r + 256 ≤ 16384; omega
  · show 0 + 1024 ≤ 1024; omega
theorem orw_inb (r : ℕ) (hr : r ≤ 20) : ∀ a, (![768 * r, 0] : Fin 2 → ℕ) a + S768x1024.size a ≤ S16384x1024.size a := by
  intro a; fin_cases a
  · show 768 * r + 768 ≤ 16384; omega
  · show 0 + 1024 ≤ 1024; omega

theorem trip_le (k : Fin k0_t1_loop.trips) : k.val ≤ 20 := by
  have h := k.isLt; have e := trips_eq; omega

/-- A load at the head of a program, through a rectangle whose offsets are respelt. -/
theorem load_op_at {s s' : Shape} {e : EltTy} (M : Memref sig .tc .vmem s e) {o o' : Fin s.rank → ℕ} (sz : Fin s.rank → ℕ)
    (h : ∀ a, o a + sz a ≤ s.size a) (h' : ∀ a, o' a + sz a ≤ s.size a) (e1 : o = o')
    (p : M.view.LoadsAt (Rect.unit o sz h).toLoadRect) (p' : M.view.LoadsAt (Rect.unit o' sz h').toLoadRect) {α : Type}
    (kk : (Shape.Idx ⟨s.rank, sz⟩ → Elt F e) → Prog (TpuEff nD τ sig (Elt F) Λ₀ .tc) α) :
    (Prog.op (TpuEff.load M (Rect.unit o sz h).toLoadRect p) kk : Prog (TpuEff nD τ sig (Elt F) Λ₀ .tc) α)
      = Prog.op (TpuEff.load M (Rect.unit o' sz h').toLoadRect p') kk := by subst e1; rfl
/-- A store through a rectangle whose offsets are respelt. -/
theorem store_at {s s' : Shape} {e : EltTy} (M : Memref sig .tc .vmem s e) {o o' : Fin s.rank → ℕ} (sz : Fin s.rank → ℕ)
    (h : ∀ a, o a + sz a ≤ s.size a) (h' : ∀ a, o' a + sz a ≤ s.size a) (e1 : o = o') (w : Shape.Idx ⟨s.rank, sz⟩ → Elt F e) (q) (q')
    (p : (M.access (Rect.unit o sz h)).Stores Finset.univ) (p' : (M.access (Rect.unit o' sz h')).Stores Finset.univ) :
    (Prog.lift (TpuEff.store M (Rect.unit o sz h) w Finset.univ p q) : Prog (TpuEff nD τ sig (Elt F) Λ₀ .tc) _)
      = Prog.lift (TpuEff.store M (Rect.unit o' sz h') w Finset.univ p' q') := by subst e1; rfl
@[sl_canon] theorem cs11a_0 (k : Fin k0_t1_loop.trips) (hp : k.val % 2 = 0) (hi) (hq) :
    (((cc0_scratch11.slice (Rect.unit (s := S2) (k0_off3 k) S1.size hi)).squeeze S_ hq).sem : DmaSem sig) = ⟨7, by decide⟩ := by
  rw [SemArray.slice_unit_congr cc0_scratch11 (show k0_off3 k = ![1] by rw [off3_eq]; congr 1 <;> omega) hi (by decide)]
  show ((cc0_scratch11.slice (Rect.unit (s := S2) ![1] S1.size (by decide))).squeeze S_ squeezes_S1_S_).sem = _
  decide +kernel
@[sl_canon] theorem cs12a_0 (k : Fin k0_t1_loop.trips) (hp : k.val % 2 = 0) (hi) (hq) :
    (((cc0_scratch12.slice (Rect.unit (s := S2) (k0_off3 k) S1.size hi)).squeeze S_ hq).sem : DmaSem sig) = ⟨9, by decide⟩ := by
  rw [SemArray.slice_unit_congr cc0_scratch12 (show k0_off3 k = ![1] by rw [off3_eq]; congr 1 <;> omega) hi (by decide)]
  show ((cc0_scratch12.slice (Rect.unit (s := S2) ![1] S1.size (by decide))).squeeze S_ squeezes_S1_S_).sem = _
  decide +kernel
@[sl_canon] theorem cs11b_0 (k : Fin k0_t1_loop.trips) (hp : k.val % 2 = 0) (hi) (hq) :
    (((cc0_scratch11.slice (Rect.unit (s := S2) (k0_off6 k 1#32) S1.size hi)).squeeze S_ hq).sem : DmaSem sig) = ⟨6, by decide⟩ := by
  rw [SemArray.slice_unit_congr cc0_scratch11 (show k0_off6 k 1#32 = ![0] by rw [off6_eq1]; congr 1 <;> omega) hi (by decide)]
  show ((cc0_scratch11.slice (Rect.unit (s := S2) ![0] S1.size (by decide))).squeeze S_ squeezes_S1_S_).sem = _
  decide +kernel
@[sl_canon] theorem cs13b_0 (k : Fin k0_t1_loop.trips) (hp : k.val % 2 = 0) (hi) (hq) :
    (((cc0_scratch13.slice (Rect.unit (s := S2) (k0_off6 k 1#32) S1.size hi)).squeeze S_ hq).sem : DmaSem sig) = ⟨10, by decide⟩ := by
  rw [SemArray.slice_unit_congr cc0_scratch13 (show k0_off6 k 1#32 = ![0] by rw [off6_eq1]; congr 1 <;> omega) hi (by decide)]
  show ((cc0_scratch13.slice (Rect.unit (s := S2) ![0] S1.size (by decide))).squeeze S_ squeezes_S1_S_).sem = _
  decide +kernel
@[sl_canon] theorem cs13c_0 (k : Fin k0_t1_loop.trips) (hp : k.val % 2 = 0) (hi) (hq) :
    (((cc0_scratch13.slice (Rect.unit (s := S2) (k0_off6 k 2#32) S1.size hi)).squeeze S_ hq).sem : DmaSem sig) = ⟨11, by decide⟩ := by
  rw [SemArray.slice_unit_congr cc0_scratch13 (show k0_off6 k 2#32 = ![1] by rw [off6_eq2]; congr 1 <;> omega) hi (by decide)]
  show ((cc0_scratch13.slice (Rect.unit (s := S2) ![1] S1.size (by decide))).squeeze S_ squeezes_S1_S_).sem = _
  decide +kernel
@[sl_canon] theorem cs12d_0 (k : Fin k0_t1_loop.trips) (hp : k.val % 2 = 0) (hi) (hq) :
    (((cc0_scratch12.slice (Rect.unit (s := S2) (k0_off11 k) S1.size hi)).squeeze S_ hq).sem : DmaSem sig) = ⟨9, by decide⟩ := by
  rw [SemArray.slice_unit_congr cc0_scratch12 (show k0_off11 k = ![1] by rw [off11_eq]; congr 1 <;> omega) hi (by decide)]
  show ((cc0_scratch12.slice (Rect.unit (s := S2) ![1] S1.size (by decide))).squeeze S_ squeezes_S1_S_).sem = _
  decide +kernel
@[sl_canon] theorem cx4_0 (k : Fin k0_t1_loop.trips) (hp : k.val % 2 = 0) (hi hs hq) :
    ((sM18.slice (Rect.unit (s := S2x768x1024) (k0_off4 k) S1x768x1024.size hi) hs).squeeze S768x1024 hq : Memref sig .tc .vmem S768x1024 .f32) = x1 := by
  rw [Memref.slice_unit_congr sM18 (show k0_off4 k = ![1,0,0] by rw [off4_eq]; congr 1 <;> omega) hi (by decide) hs (fun _ => rfl)]
@[sl_canon] theorem cx7_0 (k : Fin k0_t1_loop.trips) (hp : k.val % 2 = 0) (hi hs hq) :
    ((sM18.slice (Rect.unit (s := S2x768x1024) (k0_off7 k) S1x768x1024.size hi) hs).squeeze S768x1024 hq : Memref sig .tc .vmem S768x1024 .f32) = x0 := by
  rw [Memref.slice_unit_congr sM18 (show k0_off7 k = ![0,0,0] by rw [off7_eq]; congr 1 <;> omega) hi (by decide) hs (fun _ => rfl)]
@[sl_canon] theorem co4_0 (k : Fin k0_t1_loop.trips) (hp : k.val % 2 = 0) (hi hs hq) :
    ((sM19.slice (Rect.unit (s := S2x768x1024) (k0_off4 k) S1x768x1024.size hi) hs).squeeze S768x1024 hq : Memref sig .tc .vmem S768x1024 .f32) = o1 := by
  rw [Memref.slice_unit_congr sM19 (show k0_off4 k = ![1,0,0] by rw [off4_eq]; congr 1 <;> omega) hi (by decide) hs (fun _ => rfl)]
@[sl_canon] theorem co13_0 (k : Fin k0_t1_loop.trips) (hp : k.val % 2 = 0) (hi hs hq) :
    ((sM19.slice (Rect.unit (s := S2x768x1024) (k0_off13 k) S1x768x1024.size hi) hs).squeeze S768x1024 hq : Memref sig .tc .vmem S768x1024 .f32) = o1 := by
  rw [Memref.slice_unit_congr sM19 (show k0_off13 k = ![1,0,0] by rw [off13_eq]; congr 1 <;> omega) hi (by decide) hs (fun _ => rfl)]
@[sl_canon] theorem cf91_0 (k : Fin k0_t1_loop.trips) (hp : k.val % 2 = 0) (hi hs hq) :
    ((sM22.slice (Rect.unit (s := S2x256x1024) (k0_off9 k 1#32) S1x256x1024.size hi) hs).squeeze S256x1024 hq : Memref sig .tc .vmem S256x1024 .f32) = f0 := by
  rw [Memref.slice_unit_congr sM22 (show k0_off9 k 1#32 = ![0,0,0] by rw [off9_eq1]; congr 1 <;> omega) hi (by decide) hs (fun _ => rfl)]
@[sl_canon] theorem cf92_0 (k : Fin k0_t1_loop.trips) (hp : k.val % 2 = 0) (hi hs hq) :
    ((sM22.slice (Rect.unit (s := S2x256x1024) (k0_off9 k 2#32) S1x256x1024.size hi) hs).squeeze S256x1024 hq : Memref sig .tc .vmem S256x1024 .f32) = f1 := by
  rw [Memref.slice_unit_congr sM22 (show k0_off9 k 2#32 = ![1,0,0] by rw [off9_eq2]; congr 1 <;> omega) hi (by decide) hs (fun _ => rfl)]
@[sl_canon] theorem l14sM18op_0 (k : Fin k0_t1_loop.trips) (hp : k.val % 2 = 0) (hi) (p) {α : Type} (kk : (Shape.Idx S1x256x1024 → Elt F .f32) → Prog (TpuEff nD τ sig (Elt F) Λ₀ .tc) α) :
    (Prog.op (TpuEff.load sM18 (Rect.unit (s := S2x768x1024) (k0_off14 k) S1x256x1024.size hi).toLoadRect p) kk : Prog (TpuEff nD τ sig (Elt F) Λ₀ .tc) α)
      = Prog.op (TpuEff.load sM18 (Rect.unit (s := S2x768x1024) ![1,0,0] S1x256x1024.size (by decide)).toLoadRect (View.loadsAt_vmem h_S1x256x1024)) kk :=
  load_op_at (s' := S1x256x1024) sM18 _ hi _ (by rw [off14_eq]; congr 1 <;> omega) p _ kk
@[sl_canon] theorem l14sM19op_0 (k : Fin k0_t1_loop.trips) (hp : k.val % 2 = 0) (hi) (p) {α : Type} (kk : (Shape.Idx S1x256x1024 → Elt F .f32) → Prog (TpuEff nD τ sig (Elt F) Λ₀ .tc) α) :
    (Prog.op (TpuEff.load sM19 (Rect.unit (s := S2x768x1024) (k0_off14 k) S1x256x1024.size hi).toLoadRect p) kk : Prog (TpuEff nD τ sig (Elt F) Λ₀ .tc) α)
      = Prog.op (TpuEff.load sM19 (Rect.unit (s := S2x768x1024) ![1,0,0] S1x256x1024.size (by decide)).toLoadRect (View.loadsAt_vmem h_S1x256x1024)) kk :=
  load_op_at (s' := S1x256x1024) sM19 _ hi _ (by rw [off14_eq]; congr 1 <;> omega) p _ kk
@[sl_canon] theorem s14_0 (k : Fin k0_t1_loop.trips) (hp : k.val % 2 = 0) (hi) (w : Shape.Idx S1x256x1024 → Elt F .f32) (p) (q) :
    (Prog.lift (TpuEff.store sM19 (Rect.unit (s := S2x768x1024) (k0_off14 k) S1x256x1024.size hi) w Finset.univ p q) : Prog (TpuEff nD τ sig (Elt F) Λ₀ .tc) _)
      = Prog.lift (TpuEff.store sM19 (Rect.unit (s := S2x768x1024) ![1,0,0] S1x256x1024.size (by decide)) w Finset.univ (View.stores_vmem_bits_univ h_S1x256x1024 rfl) (.inl rfl)) :=
  store_at (s' := S1x256x1024) sM19 _ hi _ (by rw [off14_eq]; congr 1 <;> omega) w q _ p _
@[sl_canon] theorem l15sM18op_0 (k : Fin k0_t1_loop.trips) (hp : k.val % 2 = 0) (hi) (p) {α : Type} (kk : (Shape.Idx S1x256x1024 → Elt F .f32) → Prog (TpuEff nD τ sig (Elt F) Λ₀ .tc) α) :
    (Prog.op (TpuEff.load sM18 (Rect.unit (s := S2x768x1024) (k0_off15 k) S1x256x1024.size hi).toLoadRect p) kk : Prog (TpuEff nD τ sig (Elt F) Λ₀ .tc) α)
      = Prog.op (TpuEff.load sM18 (Rect.unit (s := S2x768x1024) ![1,256,0] S1x256x1024.size (by decide)).toLoadRect (View.loadsAt_vmem h_S1x256x1024)) kk :=
  load_op_at (s' := S1x256x1024) sM18 _ hi _ (by rw [off15_eq]; congr 1 <;> omega) p _ kk
@[sl_canon] theorem l15sM19op_0 (k : Fin k0_t1_loop.trips) (hp : k.val % 2 = 0) (hi) (p) {α : Type} (kk : (Shape.Idx S1x256x1024 → Elt F .f32) → Prog (TpuEff nD τ sig (Elt F) Λ₀ .tc) α) :
    (Prog.op (TpuEff.load sM19 (Rect.unit (s := S2x768x1024) (k0_off15 k) S1x256x1024.size hi).toLoadRect p) kk : Prog (TpuEff nD τ sig (Elt F) Λ₀ .tc) α)
      = Prog.op (TpuEff.load sM19 (Rect.unit (s := S2x768x1024) ![1,256,0] S1x256x1024.size (by decide)).toLoadRect (View.loadsAt_vmem h_S1x256x1024)) kk :=
  load_op_at (s' := S1x256x1024) sM19 _ hi _ (by rw [off15_eq]; congr 1 <;> omega) p _ kk
@[sl_canon] theorem s15_0 (k : Fin k0_t1_loop.trips) (hp : k.val % 2 = 0) (hi) (w : Shape.Idx S1x256x1024 → Elt F .f32) (p) (q) :
    (Prog.lift (TpuEff.store sM19 (Rect.unit (s := S2x768x1024) (k0_off15 k) S1x256x1024.size hi) w Finset.univ p q) : Prog (TpuEff nD τ sig (Elt F) Λ₀ .tc) _)
      = Prog.lift (TpuEff.store sM19 (Rect.unit (s := S2x768x1024) ![1,256,0] S1x256x1024.size (by decide)) w Finset.univ (View.stores_vmem_bits_univ h_S1x256x1024 rfl) (.inl rfl)) :=
  store_at (s' := S1x256x1024) sM19 _ hi _ (by rw [off15_eq]; congr 1 <;> omega) w q _ p _
@[sl_canon] theorem l16sM18op_0 (k : Fin k0_t1_loop.trips) (hp : k.val % 2 = 0) (hi) (p) {α : Type} (kk : (Shape.Idx S1x256x1024 → Elt F .f32) → Prog (TpuEff nD τ sig (Elt F) Λ₀ .tc) α) :
    (Prog.op (TpuEff.load sM18 (Rect.unit (s := S2x768x1024) (k0_off16 k) S1x256x1024.size hi).toLoadRect p) kk : Prog (TpuEff nD τ sig (Elt F) Λ₀ .tc) α)
      = Prog.op (TpuEff.load sM18 (Rect.unit (s := S2x768x1024) ![1,512,0] S1x256x1024.size (by decide)).toLoadRect (View.loadsAt_vmem h_S1x256x1024)) kk :=
  load_op_at (s' := S1x256x1024) sM18 _ hi _ (by rw [off16_eq]; congr 1 <;> omega) p _ kk
@[sl_canon] theorem l16sM19op_0 (k : Fin k0_t1_loop.trips) (hp : k.val % 2 = 0) (hi) (p) {α : Type} (kk : (Shape.Idx S1x256x1024 → Elt F .f32) → Prog (TpuEff nD τ sig (Elt F) Λ₀ .tc) α) :
    (Prog.op (TpuEff.load sM19 (Rect.unit (s := S2x768x1024) (k0_off16 k) S1x256x1024.size hi).toLoadRect p) kk : Prog (TpuEff nD τ sig (Elt F) Λ₀ .tc) α)
      = Prog.op (TpuEff.load sM19 (Rect.unit (s := S2x768x1024) ![1,512,0] S1x256x1024.size (by decide)).toLoadRect (View.loadsAt_vmem h_S1x256x1024)) kk :=
  load_op_at (s' := S1x256x1024) sM19 _ hi _ (by rw [off16_eq]; congr 1 <;> omega) p _ kk
@[sl_canon] theorem s16_0 (k : Fin k0_t1_loop.trips) (hp : k.val % 2 = 0) (hi) (w : Shape.Idx S1x256x1024 → Elt F .f32) (p) (q) :
    (Prog.lift (TpuEff.store sM19 (Rect.unit (s := S2x768x1024) (k0_off16 k) S1x256x1024.size hi) w Finset.univ p q) : Prog (TpuEff nD τ sig (Elt F) Λ₀ .tc) _)
      = Prog.lift (TpuEff.store sM19 (Rect.unit (s := S2x768x1024) ![1,512,0] S1x256x1024.size (by decide)) w Finset.univ (View.stores_vmem_bits_univ h_S1x256x1024 rfl) (.inl rfl)) :=
  store_at (s' := S1x256x1024) sM19 _ hi _ (by rw [off16_eq]; congr 1 <;> omega) w q _ p _
@[sl_canon] theorem l17op_0 (k : Fin k0_t1_loop.trips) (hp : k.val % 2 = 0) (hi) (p) {α : Type} (kk : (Shape.Idx S1x256x1024 → Elt F .f32) → Prog (TpuEff nD τ sig (Elt F) Λ₀ .tc) α) :
    (Prog.op (TpuEff.load sM22 (Rect.unit (s := S2x256x1024) (k0_off17 k) S1x256x1024.size hi).toLoadRect p) kk : Prog (TpuEff nD τ sig (Elt F) Λ₀ .tc) α)
      = Prog.op (TpuEff.load sM22 (Rect.unit (s := S2x256x1024) ![0,0,0] S1x256x1024.size (by decide)).toLoadRect (View.loadsAt_vmem h_S1x256x1024)) kk :=
  load_op_at (s' := S1x256x1024) sM22 _ hi _ (by rw [off17_eq]; congr 1 <;> omega) p _ kk
@[sl_canon] theorem cs11a_1 (k : Fin k0_t1_loop.trips) (hp : k.val % 2 = 1) (hi) (hq) :
    (((cc0_scratch11.slice (Rect.unit (s := S2) (k0_off3 k) S1.size hi)).squeeze S_ hq).sem : DmaSem sig) = ⟨6, by decide⟩ := by
  rw [SemArray.slice_unit_congr cc0_scratch11 (show k0_off3 k = ![0] by rw [off3_eq]; congr 1 <;> omega) hi (by decide)]
  show ((cc0_scratch11.slice (Rect.unit (s := S2) ![0] S1.size (by decide))).squeeze S_ squeezes_S1_S_).sem = _
  decide +kernel
@[sl_canon] theorem cs12a_1 (k : Fin k0_t1_loop.trips) (hp : k.val % 2 = 1) (hi) (hq) :
    (((cc0_scratch12.slice (Rect.unit (s := S2) (k0_off3 k) S1.size hi)).squeeze S_ hq).sem : DmaSem sig) = ⟨8, by decide⟩ := by
  rw [SemArray.slice_unit_congr cc0_scratch12 (show k0_off3 k = ![0] by rw [off3_eq]; congr 1 <;> omega) hi (by decide)]
  show ((cc0_scratch12.slice (Rect.unit (s := S2) ![0] S1.size (by decide))).squeeze S_ squeezes_S1_S_).sem = _
  decide +kernel
@[sl_canon] theorem cs11b_1 (k : Fin k0_t1_loop.trips) (hp : k.val % 2 = 1) (hi) (hq) :
    (((cc0_scratch11.slice (Rect.unit (s := S2) (k0_off6 k 1#32) S1.size hi)).squeeze S_ hq).sem : DmaSem sig) = ⟨7, by decide⟩ := by
  rw [SemArray.slice_unit_congr cc0_scratch11 (show k0_off6 k 1#32 = ![1] by rw [off6_eq1]; congr 1 <;> omega) hi (by decide)]
  show ((cc0_scratch11.slice (Rect.unit (s := S2) ![1] S1.size (by decide))).squeeze S_ squeezes_S1_S_).sem = _
  decide +kernel
@[sl_canon] theorem cs13b_1 (k : Fin k0_t1_loop.trips) (hp : k.val % 2 = 1) (hi) (hq) :
    (((cc0_scratch13.slice (Rect.unit (s := S2) (k0_off6 k 1#32) S1.size hi)).squeeze S_ hq).sem : DmaSem sig) = ⟨11, by decide⟩ := by
  rw [SemArray.slice_unit_congr cc0_scratch13 (show k0_off6 k 1#32 = ![1] by rw [off6_eq1]; congr 1 <;> omega) hi (by decide)]
  show ((cc0_scratch13.slice (Rect.unit (s := S2) ![1] S1.size (by decide))).squeeze S_ squeezes_S1_S_).sem = _
  decide +kernel
@[sl_canon] theorem cs13c_1 (k : Fin k0_t1_loop.trips) (hp : k.val % 2 = 1) (hi) (hq) :
    (((cc0_scratch13.slice (Rect.unit (s := S2) (k0_off6 k 2#32) S1.size hi)).squeeze S_ hq).sem : DmaSem sig) = ⟨10, by decide⟩ := by
  rw [SemArray.slice_unit_congr cc0_scratch13 (show k0_off6 k 2#32 = ![0] by rw [off6_eq2]; congr 1 <;> omega) hi (by decide)]
  show ((cc0_scratch13.slice (Rect.unit (s := S2) ![0] S1.size (by decide))).squeeze S_ squeezes_S1_S_).sem = _
  decide +kernel
@[sl_canon] theorem cs12d_1 (k : Fin k0_t1_loop.trips) (hp : k.val % 2 = 1) (hi) (hq) :
    (((cc0_scratch12.slice (Rect.unit (s := S2) (k0_off11 k) S1.size hi)).squeeze S_ hq).sem : DmaSem sig) = ⟨8, by decide⟩ := by
  rw [SemArray.slice_unit_congr cc0_scratch12 (show k0_off11 k = ![0] by rw [off11_eq]; congr 1 <;> omega) hi (by decide)]
  show ((cc0_scratch12.slice (Rect.unit (s := S2) ![0] S1.size (by decide))).squeeze S_ squeezes_S1_S_).sem = _
  decide +kernel
@[sl_canon] theorem cx4_1 (k : Fin k0_t1_loop.trips) (hp : k.val % 2 = 1) (hi hs hq) :
    ((sM18.slice (Rect.unit (s := S2x768x1024) (k0_off4 k) S1x768x1024.size hi) hs).squeeze S768x1024 hq : Memref sig .tc .vmem S768x1024 .f32) = x0 := by
  rw [Memref.slice_unit_congr sM18 (show k0_off4 k = ![0,0,0] by rw [off4_eq]; congr 1 <;> omega) hi (by decide) hs (fun _ => rfl)]
@[sl_canon] theorem cx7_1 (k : Fin k0_t1_loop.trips) (hp : k.val % 2 = 1) (hi hs hq) :
    ((sM18.slice (Rect.unit (s := S2x768x1024) (k0_off7 k) S1x768x1024.size hi) hs).squeeze S768x1024 hq : Memref sig .tc .vmem S768x1024 .f32) = x1 := by
  rw [Memref.slice_unit_congr sM18 (show k0_off7 k = ![1,0,0] by rw [off7_eq]; congr 1 <;> omega) hi (by decide) hs (fun _ => rfl)]
@[sl_canon] theorem co4_1 (k : Fin k0_t1_loop.trips) (hp : k.val % 2 = 1) (hi hs hq) :
    ((sM19.slice (Rect.unit (s := S2x768x1024) (k0_off4 k) S1x768x1024.size hi) hs).squeeze S768x1024 hq : Memref sig .tc .vmem S768x1024 .f32) = o0 := by
  rw [Memref.slice_unit_congr sM19 (show k0_off4 k = ![0,0,0] by rw [off4_eq]; congr 1 <;> omega) hi (by decide) hs (fun _ => rfl)]
@[sl_canon] theorem co13_1 (k : Fin k0_t1_loop.trips) (hp : k.val % 2 = 1) (hi hs hq) :
    ((sM19.slice (Rect.unit (s := S2x768x1024) (k0_off13 k) S1x768x1024.size hi) hs).squeeze S768x1024 hq : Memref sig .tc .vmem S768x1024 .f32) = o0 := by
  rw [Memref.slice_unit_congr sM19 (show k0_off13 k = ![0,0,0] by rw [off13_eq]; congr 1 <;> omega) hi (by decide) hs (fun _ => rfl)]
@[sl_canon] theorem cf91_1 (k : Fin k0_t1_loop.trips) (hp : k.val % 2 = 1) (hi hs hq) :
    ((sM22.slice (Rect.unit (s := S2x256x1024) (k0_off9 k 1#32) S1x256x1024.size hi) hs).squeeze S256x1024 hq : Memref sig .tc .vmem S256x1024 .f32) = f1 := by
  rw [Memref.slice_unit_congr sM22 (show k0_off9 k 1#32 = ![1,0,0] by rw [off9_eq1]; congr 1 <;> omega) hi (by decide) hs (fun _ => rfl)]
@[sl_canon] theorem cf92_1 (k : Fin k0_t1_loop.trips) (hp : k.val % 2 = 1) (hi hs hq) :
    ((sM22.slice (Rect.unit (s := S2x256x1024) (k0_off9 k 2#32) S1x256x1024.size hi) hs).squeeze S256x1024 hq : Memref sig .tc .vmem S256x1024 .f32) = f0 := by
  rw [Memref.slice_unit_congr sM22 (show k0_off9 k 2#32 = ![0,0,0] by rw [off9_eq2]; congr 1 <;> omega) hi (by decide) hs (fun _ => rfl)]
@[sl_canon] theorem l14sM18op_1 (k : Fin k0_t1_loop.trips) (hp : k.val % 2 = 1) (hi) (p) {α : Type} (kk : (Shape.Idx S1x256x1024 → Elt F .f32) → Prog (TpuEff nD τ sig (Elt F) Λ₀ .tc) α) :
    (Prog.op (TpuEff.load sM18 (Rect.unit (s := S2x768x1024) (k0_off14 k) S1x256x1024.size hi).toLoadRect p) kk : Prog (TpuEff nD τ sig (Elt F) Λ₀ .tc) α)
      = Prog.op (TpuEff.load sM18 (Rect.unit (s := S2x768x1024) ![0,0,0] S1x256x1024.size (by decide)).toLoadRect (View.loadsAt_vmem h_S1x256x1024)) kk :=
  load_op_at (s' := S1x256x1024) sM18 _ hi _ (by rw [off14_eq]; congr 1 <;> omega) p _ kk
@[sl_canon] theorem l14sM19op_1 (k : Fin k0_t1_loop.trips) (hp : k.val % 2 = 1) (hi) (p) {α : Type} (kk : (Shape.Idx S1x256x1024 → Elt F .f32) → Prog (TpuEff nD τ sig (Elt F) Λ₀ .tc) α) :
    (Prog.op (TpuEff.load sM19 (Rect.unit (s := S2x768x1024) (k0_off14 k) S1x256x1024.size hi).toLoadRect p) kk : Prog (TpuEff nD τ sig (Elt F) Λ₀ .tc) α)
      = Prog.op (TpuEff.load sM19 (Rect.unit (s := S2x768x1024) ![0,0,0] S1x256x1024.size (by decide)).toLoadRect (View.loadsAt_vmem h_S1x256x1024)) kk :=
  load_op_at (s' := S1x256x1024) sM19 _ hi _ (by rw [off14_eq]; congr 1 <;> omega) p _ kk
@[sl_canon] theorem s14_1 (k : Fin k0_t1_loop.trips) (hp : k.val % 2 = 1) (hi) (w : Shape.Idx S1x256x1024 → Elt F .f32) (p) (q) :
    (Prog.lift (TpuEff.store sM19 (Rect.unit (s := S2x768x1024) (k0_off14 k) S1x256x1024.size hi) w Finset.univ p q) : Prog (TpuEff nD τ sig (Elt F) Λ₀ .tc) _)
      = Prog.lift (TpuEff.store sM19 (Rect.unit (s := S2x768x1024) ![0,0,0] S1x256x1024.size (by decide)) w Finset.univ (View.stores_vmem_bits_univ h_S1x256x1024 rfl) (.inl rfl)) :=
  store_at (s' := S1x256x1024) sM19 _ hi _ (by rw [off14_eq]; congr 1 <;> omega) w q _ p _
@[sl_canon] theorem l15sM18op_1 (k : Fin k0_t1_loop.trips) (hp : k.val % 2 = 1) (hi) (p) {α : Type} (kk : (Shape.Idx S1x256x1024 → Elt F .f32) → Prog (TpuEff nD τ sig (Elt F) Λ₀ .tc) α) :
    (Prog.op (TpuEff.load sM18 (Rect.unit (s := S2x768x1024) (k0_off15 k) S1x256x1024.size hi).toLoadRect p) kk : Prog (TpuEff nD τ sig (Elt F) Λ₀ .tc) α)
      = Prog.op (TpuEff.load sM18 (Rect.unit (s := S2x768x1024) ![0,256,0] S1x256x1024.size (by decide)).toLoadRect (View.loadsAt_vmem h_S1x256x1024)) kk :=
  load_op_at (s' := S1x256x1024) sM18 _ hi _ (by rw [off15_eq]; congr 1 <;> omega) p _ kk
@[sl_canon] theorem l15sM19op_1 (k : Fin k0_t1_loop.trips) (hp : k.val % 2 = 1) (hi) (p) {α : Type} (kk : (Shape.Idx S1x256x1024 → Elt F .f32) → Prog (TpuEff nD τ sig (Elt F) Λ₀ .tc) α) :
    (Prog.op (TpuEff.load sM19 (Rect.unit (s := S2x768x1024) (k0_off15 k) S1x256x1024.size hi).toLoadRect p) kk : Prog (TpuEff nD τ sig (Elt F) Λ₀ .tc) α)
      = Prog.op (TpuEff.load sM19 (Rect.unit (s := S2x768x1024) ![0,256,0] S1x256x1024.size (by decide)).toLoadRect (View.loadsAt_vmem h_S1x256x1024)) kk :=
  load_op_at (s' := S1x256x1024) sM19 _ hi _ (by rw [off15_eq]; congr 1 <;> omega) p _ kk
@[sl_canon] theorem s15_1 (k : Fin k0_t1_loop.trips) (hp : k.val % 2 = 1) (hi) (w : Shape.Idx S1x256x1024 → Elt F .f32) (p) (q) :
    (Prog.lift (TpuEff.store sM19 (Rect.unit (s := S2x768x1024) (k0_off15 k) S1x256x1024.size hi) w Finset.univ p q) : Prog (TpuEff nD τ sig (Elt F) Λ₀ .tc) _)
      = Prog.lift (TpuEff.store sM19 (Rect.unit (s := S2x768x1024) ![0,256,0] S1x256x1024.size (by decide)) w Finset.univ (View.stores_vmem_bits_univ h_S1x256x1024 rfl) (.inl rfl)) :=
  store_at (s' := S1x256x1024) sM19 _ hi _ (by rw [off15_eq]; congr 1 <;> omega) w q _ p _
@[sl_canon] theorem l16sM18op_1 (k : Fin k0_t1_loop.trips) (hp : k.val % 2 = 1) (hi) (p) {α : Type} (kk : (Shape.Idx S1x256x1024 → Elt F .f32) → Prog (TpuEff nD τ sig (Elt F) Λ₀ .tc) α) :
    (Prog.op (TpuEff.load sM18 (Rect.unit (s := S2x768x1024) (k0_off16 k) S1x256x1024.size hi).toLoadRect p) kk : Prog (TpuEff nD τ sig (Elt F) Λ₀ .tc) α)
      = Prog.op (TpuEff.load sM18 (Rect.unit (s := S2x768x1024) ![0,512,0] S1x256x1024.size (by decide)).toLoadRect (View.loadsAt_vmem h_S1x256x1024)) kk :=
  load_op_at (s' := S1x256x1024) sM18 _ hi _ (by rw [off16_eq]; congr 1 <;> omega) p _ kk
@[sl_canon] theorem l16sM19op_1 (k : Fin k0_t1_loop.trips) (hp : k.val % 2 = 1) (hi) (p) {α : Type} (kk : (Shape.Idx S1x256x1024 → Elt F .f32) → Prog (TpuEff nD τ sig (Elt F) Λ₀ .tc) α) :
    (Prog.op (TpuEff.load sM19 (Rect.unit (s := S2x768x1024) (k0_off16 k) S1x256x1024.size hi).toLoadRect p) kk : Prog (TpuEff nD τ sig (Elt F) Λ₀ .tc) α)
      = Prog.op (TpuEff.load sM19 (Rect.unit (s := S2x768x1024) ![0,512,0] S1x256x1024.size (by decide)).toLoadRect (View.loadsAt_vmem h_S1x256x1024)) kk :=
  load_op_at (s' := S1x256x1024) sM19 _ hi _ (by rw [off16_eq]; congr 1 <;> omega) p _ kk
@[sl_canon] theorem s16_1 (k : Fin k0_t1_loop.trips) (hp : k.val % 2 = 1) (hi) (w : Shape.Idx S1x256x1024 → Elt F .f32) (p) (q) :
    (Prog.lift (TpuEff.store sM19 (Rect.unit (s := S2x768x1024) (k0_off16 k) S1x256x1024.size hi) w Finset.univ p q) : Prog (TpuEff nD τ sig (Elt F) Λ₀ .tc) _)
      = Prog.lift (TpuEff.store sM19 (Rect.unit (s := S2x768x1024) ![0,512,0] S1x256x1024.size (by decide)) w Finset.univ (View.stores_vmem_bits_univ h_S1x256x1024 rfl) (.inl rfl)) :=
  store_at (s' := S1x256x1024) sM19 _ hi _ (by rw [off16_eq]; congr 1 <;> omega) w q _ p _
@[sl_canon] theorem l17op_1 (k : Fin k0_t1_loop.trips) (hp : k.val % 2 = 1) (hi) (p) {α : Type} (kk : (Shape.Idx S1x256x1024 → Elt F .f32) → Prog (TpuEff nD τ sig (Elt F) Λ₀ .tc) α) :
    (Prog.op (TpuEff.load sM22 (Rect.unit (s := S2x256x1024) (k0_off17 k) S1x256x1024.size hi).toLoadRect p) kk : Prog (TpuEff nD τ sig (Elt F) Λ₀ .tc) α)
      = Prog.op (TpuEff.load sM22 (Rect.unit (s := S2x256x1024) ![1,0,0] S1x256x1024.size (by decide)).toLoadRect (View.loadsAt_vmem h_S1x256x1024)) kk :=
  load_op_at (s' := S1x256x1024) sM22 _ hi _ (by rw [off17_eq]; congr 1 <;> omega) p _ kk
@[sl_canon] theorem h5 (k : Fin k0_t1_loop.trips) (hi hs) :
    (hM0.slice (Rect.unit (s := S16384x1024) (k0_off5 k) S768x1024.size hi) hs : Memref sig .tc .hbm S768x1024 .f32) = xr (min k.val 20) (xr_inb _ (by omega)) :=
  Memref.slice_unit_congr _ (by rw [off5_eq k, Nat.min_eq_left (trip_le k)]) _ _ _ _
@[sl_canon] theorem h8 (k : Fin k0_t1_loop.trips) (hi hs) :
    (hM0.slice (Rect.unit (s := S16384x1024) (k0_off8 k) S768x1024.size hi) hs : Memref sig .tc .hbm S768x1024 .f32) = xr (min (k.val + 1) 20) (xr_inb _ (by omega)) :=
  Memref.slice_unit_congr _ (off8_eq k) _ _ _ _
@[sl_canon] theorem h101 (k : Fin k0_t1_loop.trips) (hi hs) :
    (hM0.slice (Rect.unit (s := S16384x1024) (k0_off10 k 1#32) S256x1024.size hi) hs : Memref sig .tc .hbm S256x1024 .f32) = fr (min (k.val + 1) 20) (fr_inb _ (by omega)) :=
  Memref.slice_unit_congr _ (off10_eq1 k) _ _ _ _
@[sl_canon] theorem h102 (k : Fin k0_t1_loop.trips) (hi hs) :
    (hM0.slice (Rect.unit (s := S16384x1024) (k0_off10 k 2#32) S256x1024.size hi) hs : Memref sig .tc .hbm S256x1024 .f32) = fr (min (k.val + 2) 20) (fr_inb _ (by omega)) :=
  Memref.slice_unit_congr _ (off10_eq2 k) _ _ _ _
@[sl_canon] theorem h12 (k : Fin k0_t1_loop.trips) (h2 : 2 ≤ k.val) (hi hs) :
    (hM11.slice (Rect.unit (s := S16384x1024) (k0_off12 k) S768x1024.size hi) hs : Memref sig .tc .hbm S768x1024 .f32) = orw (min (k.val - 2) 20) (orw_inb _ (by omega)) :=
  Memref.slice_unit_congr _ (by rw [off12_eq k h2, Nat.min_eq_left (le_trans (Nat.sub_le _ _) (trip_le k))]) _ _ _ _
@[sl_canon] theorem h18 (k : Fin k0_t1_loop.trips) (hi hs) :
    (hM11.slice (Rect.unit (s := S16384x1024) (k0_off18 k) S768x1024.size hi) hs : Memref sig .tc .hbm S768x1024 .f32) = orw (min k.val 20) (orw_inb _ (by omega)) :=
  Memref.slice_unit_congr _ (by rw [off18_eq k, Nat.min_eq_left (trip_le k)]) _ _ _ _

end Cert.KernelIdeal.Hand

end
-- ==== Proof.Spec.lean ====
module

public import proofs.«01_k».proof.Proof.Canon

public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the kernel computes, as functions of what it holds

A trip of the loop takes what it carries in scratch memory — the last rows of the two mixers' streams, the finished first
block of the tile, the normalized look-ahead block — the weights, and one tile of rows of the input; each intermediate value is named below. -/

/-- The weights the loop reads: the norm gains and taps in their windows, the four matrices in scratch memory. -/
structure Wt (c : Dev nD) where
  w1 : Bf (F := F) c wM1
  w3 : Bf (F := F) c wM3
  w7 : Bf (F := F) c wM7
  w10 : Bf (F := F) c wM10
  m12 : Bf (F := F) c sM12
  m13 : Bf (F := F) c sM13
  m14 : Bf (F := F) c sM14
  m15 : Bf (F := F) c sM15

/-- What a trip carries to the next. -/
structure St (c : Dev nD) where
  s16 : Bf (F := F) c sM16
  s17 : Bf (F := F) c sM17
  s20 : Bf (F := F) c sM20
  s21 : Bf (F := F) c sM21

/-- Rows `o … o + 255` of a tile, as one 256-row block with a unit axis in front. -/
def ldx (px : S768x1024.Idx → Elt F .f32) (o : ℕ) (ho : o ≤ 512) : S1x256x1024.Idx → Elt F .f32 :=
  fun j => px (ix2 ⟨o + (j 1).val, by have := (j 1).isLt; show _ < 768; have h : (j 1).val < 256 := this; omega⟩ ⟨(j 2).val, (j 2).isLt⟩)
/-- A 256-row block with a unit axis in front. -/
def ldf (pf : S256x1024.Idx → Elt F .f32) : S1x256x1024.Idx → Elt F .f32 := fun j => pf (ix2 ⟨(j 1).val, (j 1).isLt⟩ ⟨(j 2).val, (j 2).isLt⟩)
/-- Three 256-row blocks one under the other. -/
def stack3 (A B C : S1x256x1024.Idx → Elt F .f32) : S768x1024.Idx → Elt F .f32 := fun j =>
  if h : (j 0).val < 256 then A (ix3 0 ⟨(j 0).val, h⟩ ⟨(j 1).val, (j 1).isLt⟩)
  else if h' : (j 0).val < 512 then B (ix3 0 ⟨(j 0).val - 256, by omega⟩ ⟨(j 1).val, (j 1).isLt⟩)
  else C (ix3 0 ⟨(j 0).val - 512, by have : (j 0).val < 768 := (j 0).isLt; omega⟩ ⟨(j 1).val, (j 1).isLt⟩)

def d_arg26 {c : Dev nD} (W : Wt (F := F) c) (S : St (F := F) c) (k : Fin k0_t1_loop.trips) (xa xb xc : S1x256x1024.Idx → Elt F .f32) :=
  Scf.iv 1#32 1#32 k.val
def d_v250 {c : Dev nD} (W : Wt (F := F) c) (S : St (F := F) c) (k : Fin k0_t1_loop.trips) (xa xb xc : S1x256x1024.Idx → Elt F .f32) :=
  Scalar.subi (d_arg26 W S k xa xb xc) 1#32
def d_v251 {c : Dev nD} (W : Wt (F := F) c) (S : St (F := F) c) (k : Fin k0_t1_loop.trips) (xa xb xc : S1x256x1024.Idx → Elt F .f32) :=
  Scalar.muli (d_v250 W S k xa xb xc) 768#32
def d_v252 {c : Dev nD} (W : Wt (F := F) c) (S : St (F := F) c) (k : Fin k0_t1_loop.trips) (xa xb xc : S1x256x1024.Idx → Elt F .f32) :=
  Scalar.addi (256#32) (d_v251 W S k xa xb xc)
def d_v333 {c : Dev nD} (W : Wt (F := F) c) (S : St (F := F) c) (k : Fin k0_t1_loop.trips) (xa xb xc : S1x256x1024.Idx → Elt F .f32) :=
  Scalar.addi (d_v252 W S k xa xb xc) 0#32
def d_v425 {c : Dev nD} (W : Wt (F := F) c) (S : St (F := F) c) (k : Fin k0_t1_loop.trips) (xa xb xc : S1x256x1024.Idx → Elt F .f32) :=
  Scalar.addi (d_v252 W S k xa xb xc) 256#32
def d_v517 {c : Dev nD} (W : Wt (F := F) c) (S : St (F := F) c) (k : Fin k0_t1_loop.trips) (xa xb xc : S1x256x1024.Idx → Elt F .f32) :=
  Scalar.addi (d_v252 W S k xa xb xc) 512#32
def d_v259 {c : Dev nD} (W : Wt (F := F) c) (S : St (F := F) c) (k : Fin k0_t1_loop.trips) (xa xb xc : S1x256x1024.Idx → Elt F .f32) :=
  shapeCast S256x1024 xa shapeCasts_S1x256x1024_S256x1024
def d_v262 {c : Dev nD} (W : Wt (F := F) c) (S : St (F := F) c) (k : Fin k0_t1_loop.trips) (xa xb xc : S1x256x1024.Idx → Elt F .f32) :=
  shapeCast S256x1024 xb shapeCasts_S1x256x1024_S256x1024
def d_1 {c : Dev nD} (W : Wt (F := F) c) (S : St (F := F) c) (k : Fin k0_t1_loop.trips) (xa xb xc : S1x256x1024.Idx → Elt F .f32) :=
  (View.readAt (Elt F) sM16.view (Rect.unit (s := S8x512) ![0, 0] S8x512.size (by decide)).toLoadRect S.s16)
def d_2 {c : Dev nD} (W : Wt (F := F) c) (S : St (F := F) c) (k : Fin k0_t1_loop.trips) (xa xb xc : S1x256x1024.Idx → Elt F .f32) :=
  (View.readAt (Elt F) sM17.view (Rect.unit (s := S16x512) ![0, 0] S16x512.size (by decide)).toLoadRect S.s17)
def d_3 {c : Dev nD} (W : Wt (F := F) c) (S : St (F := F) c) (k : Fin k0_t1_loop.trips) (xa xb xc : S1x256x1024.Idx → Elt F .f32) :=
  (View.readAt (Elt F) sM21.view (Rect.unit (s := S256x1024) ![0, 0] S256x1024.size (by decide)).toLoadRect S.s21)
def d_4 {c : Dev nD} (W : Wt (F := F) c) (S : St (F := F) c) (k : Fin k0_t1_loop.trips) (xa xb xc : S1x256x1024.Idx → Elt F .f32) :=
  k0_pay5 xc
def d_5 {c : Dev nD} (W : Wt (F := F) c) (S : St (F := F) c) (k : Fin k0_t1_loop.trips) (xa xb xc : S1x256x1024.Idx → Elt F .f32) :=
  k0_pay6 (d_3 W S k xa xb xc) (View.readAt (Elt F) sM12.view (Rect.unit (s := S1024x2048) ![0, 0] S1024x2048.size (by decide)).toLoadRect W.m12)
def d_6 {c : Dev nD} (W : Wt (F := F) c) (S : St (F := F) c) (k : Fin k0_t1_loop.trips) (xa xb xc : S1x256x1024.Idx → Elt F .f32) :=
  k0_pay7 (d_v262 W S k xa xb xc) (View.readAt (Elt F) wM1.view (Rect.unit (s := S1x1024) ![0, 0] S1x1024.size (by decide)).toLoadRect W.w1) (View.readAt (Elt F) sM12.view (Rect.unit (s := S1024x2048) ![0, 0] S1024x2048.size (by decide)).toLoadRect W.m12)
def d_7 {c : Dev nD} (W : Wt (F := F) c) (S : St (F := F) c) (k : Fin k0_t1_loop.trips) (xa xb xc : S1x256x1024.Idx → Elt F .f32) :=
  k0_pay8 xc (View.readAt (Elt F) wM1.view (Rect.unit (s := S1x1024) ![0, 0] S1x1024.size (by decide)).toLoadRect W.w1) (View.readAt (Elt F) sM12.view (Rect.unit (s := S1024x2048) ![0, 0] S1024x2048.size (by decide)).toLoadRect W.m12)
def d_8 {c : Dev nD} (W : Wt (F := F) c) (S : St (F := F) c) (k : Fin k0_t1_loop.trips) (xa xb xc : S1x256x1024.Idx → Elt F .f32) :=
  k0_pay10 (d_5 W S k xa xb xc)
def d_9 {c : Dev nD} (W : Wt (F := F) c) (S : St (F := F) c) (k : Fin k0_t1_loop.trips) (xa xb xc : S1x256x1024.Idx → Elt F .f32) :=
  k0_pay11 (d_5 W S k xa xb xc)
def d_10 {c : Dev nD} (W : Wt (F := F) c) (S : St (F := F) c) (k : Fin k0_t1_loop.trips) (xa xb xc : S1x256x1024.Idx → Elt F .f32) :=
  k0_pay12 (d_5 W S k xa xb xc)
def d_11 {c : Dev nD} (W : Wt (F := F) c) (S : St (F := F) c) (k : Fin k0_t1_loop.trips) (xa xb xc : S1x256x1024.Idx → Elt F .f32) :=
  k0_pay13 (d_1 W S k xa xb xc) (d_5 W S k xa xb xc)
def d_12 {c : Dev nD} (W : Wt (F := F) c) (S : St (F := F) c) (k : Fin k0_t1_loop.trips) (xa xb xc : S1x256x1024.Idx → Elt F .f32) :=
  k0_pay14 (View.readAt (Elt F) wM3.view (Rect.unit (s := S1x1536) ![0, 0] S1x512.size (by decide)).toLoadRect W.w3)
def d_13 {c : Dev nD} (W : Wt (F := F) c) (S : St (F := F) c) (k : Fin k0_t1_loop.trips) (xa xb xc : S1x256x1024.Idx → Elt F .f32) :=
  k0_pay15 (View.readAt (Elt F) wM3.view (Rect.unit (s := S1x1536) ![0, 512] S1x512.size (by decide)).toLoadRect W.w3)
def d_14 {c : Dev nD} (W : Wt (F := F) c) (S : St (F := F) c) (k : Fin k0_t1_loop.trips) (xa xb xc : S1x256x1024.Idx → Elt F .f32) :=
  k0_pay16 (d_9 W S k xa xb xc) (d_10 W S k xa xb xc) (d_11 W S k xa xb xc) (d_12 W S k xa xb xc) (d_13 W S k xa xb xc) (View.readAt (Elt F) wM3.view (Rect.unit (s := S1x1536) ![0, 1024] S1x512.size (by decide)).toLoadRect W.w3)
def d_15 {c : Dev nD} (W : Wt (F := F) c) (S : St (F := F) c) (k : Fin k0_t1_loop.trips) (xa xb xc : S1x256x1024.Idx → Elt F .f32) :=
  k0_pay17 (d_2 W S k xa xb xc) (d_8 W S k xa xb xc)
def d_16 {c : Dev nD} (W : Wt (F := F) c) (S : St (F := F) c) (k : Fin k0_t1_loop.trips) (xa xb xc : S1x256x1024.Idx → Elt F .f32) :=
  k0_pay18 (F := F) (d_v333 W S k xa xb xc)
def d_17 {c : Dev nD} (W : Wt (F := F) c) (S : St (F := F) c) (k : Fin k0_t1_loop.trips) (xa xb xc : S1x256x1024.Idx → Elt F .f32) :=
  k0_pay19 (d_2 W S k xa xb xc) (d_v333 W S k xa xb xc) (d_8 W S k xa xb xc)
def d_18 {c : Dev nD} (W : Wt (F := F) c) (S : St (F := F) c) (k : Fin k0_t1_loop.trips) (xa xb xc : S1x256x1024.Idx → Elt F .f32) :=
  k0_pay20 (d_2 W S k xa xb xc) (d_v333 W S k xa xb xc) (d_8 W S k xa xb xc)
def d_19 {c : Dev nD} (W : Wt (F := F) c) (S : St (F := F) c) (k : Fin k0_t1_loop.trips) (xa xb xc : S1x256x1024.Idx → Elt F .f32) :=
  k0_pay21 (d_2 W S k xa xb xc) (d_8 W S k xa xb xc)
def d_20 {c : Dev nD} (W : Wt (F := F) c) (S : St (F := F) c) (k : Fin k0_t1_loop.trips) (xa xb xc : S1x256x1024.Idx → Elt F .f32) :=
  k0_pay22 (d_2 W S k xa xb xc) (d_8 W S k xa xb xc)
def d_21 {c : Dev nD} (W : Wt (F := F) c) (S : St (F := F) c) (k : Fin k0_t1_loop.trips) (xa xb xc : S1x256x1024.Idx → Elt F .f32) :=
  k0_pay23 (d_8 W S k xa xb xc)
def d_22 {c : Dev nD} (W : Wt (F := F) c) (S : St (F := F) c) (k : Fin k0_t1_loop.trips) (xa xb xc : S1x256x1024.Idx → Elt F .f32) :=
  k0_pay24 (d_v259 W S k xa xb xc) (d_8 W S k xa xb xc) (d_14 W S k xa xb xc) (d_15 W S k xa xb xc) (d_16 W S k xa xb xc) (d_17 W S k xa xb xc) (d_18 W S k xa xb xc) (d_19 W S k xa xb xc) (d_20 W S k xa xb xc) (View.readAt (Elt F) sM13.view (Rect.unit (s := S1024x1024) ![0, 0] S1024x1024.size (by decide)).toLoadRect W.m13)
def d_23 {c : Dev nD} (W : Wt (F := F) c) (S : St (F := F) c) (k : Fin k0_t1_loop.trips) (xa xb xc : S1x256x1024.Idx → Elt F .f32) :=
  k0_pay25 (d_6 W S k xa xb xc)
def d_24 {c : Dev nD} (W : Wt (F := F) c) (S : St (F := F) c) (k : Fin k0_t1_loop.trips) (xa xb xc : S1x256x1024.Idx → Elt F .f32) :=
  k0_pay26 (d_6 W S k xa xb xc)
def d_25 {c : Dev nD} (W : Wt (F := F) c) (S : St (F := F) c) (k : Fin k0_t1_loop.trips) (xa xb xc : S1x256x1024.Idx → Elt F .f32) :=
  k0_pay27 (d_6 W S k xa xb xc)
def d_26 {c : Dev nD} (W : Wt (F := F) c) (S : St (F := F) c) (k : Fin k0_t1_loop.trips) (xa xb xc : S1x256x1024.Idx → Elt F .f32) :=
  k0_pay28 (d_6 W S k xa xb xc) (d_10 W S k xa xb xc)
def d_27 {c : Dev nD} (W : Wt (F := F) c) (S : St (F := F) c) (k : Fin k0_t1_loop.trips) (xa xb xc : S1x256x1024.Idx → Elt F .f32) :=
  k0_pay29 (View.readAt (Elt F) wM3.view (Rect.unit (s := S1x1536) ![0, 0] S1x512.size (by decide)).toLoadRect W.w3)
def d_28 {c : Dev nD} (W : Wt (F := F) c) (S : St (F := F) c) (k : Fin k0_t1_loop.trips) (xa xb xc : S1x256x1024.Idx → Elt F .f32) :=
  k0_pay30 (View.readAt (Elt F) wM3.view (Rect.unit (s := S1x1536) ![0, 512] S1x512.size (by decide)).toLoadRect W.w3)
def d_29 {c : Dev nD} (W : Wt (F := F) c) (S : St (F := F) c) (k : Fin k0_t1_loop.trips) (xa xb xc : S1x256x1024.Idx → Elt F .f32) :=
  k0_pay31 (d_24 W S k xa xb xc) (d_25 W S k xa xb xc) (d_26 W S k xa xb xc) (d_27 W S k xa xb xc) (d_28 W S k xa xb xc) (View.readAt (Elt F) wM3.view (Rect.unit (s := S1x1536) ![0, 1024] S1x512.size (by decide)).toLoadRect W.w3)
def d_30 {c : Dev nD} (W : Wt (F := F) c) (S : St (F := F) c) (k : Fin k0_t1_loop.trips) (xa xb xc : S1x256x1024.Idx → Elt F .f32) :=
  k0_pay32 (d_21 W S k xa xb xc) (d_23 W S k xa xb xc)
def d_31 {c : Dev nD} (W : Wt (F := F) c) (S : St (F := F) c) (k : Fin k0_t1_loop.trips) (xa xb xc : S1x256x1024.Idx → Elt F .f32) :=
  k0_pay33 (F := F) (d_v425 W S k xa xb xc)
def d_32 {c : Dev nD} (W : Wt (F := F) c) (S : St (F := F) c) (k : Fin k0_t1_loop.trips) (xa xb xc : S1x256x1024.Idx → Elt F .f32) :=
  k0_pay34 (d_21 W S k xa xb xc) (d_v425 W S k xa xb xc) (d_23 W S k xa xb xc)
def d_33 {c : Dev nD} (W : Wt (F := F) c) (S : St (F := F) c) (k : Fin k0_t1_loop.trips) (xa xb xc : S1x256x1024.Idx → Elt F .f32) :=
  k0_pay35 (d_21 W S k xa xb xc) (d_v425 W S k xa xb xc) (d_23 W S k xa xb xc)
def d_34 {c : Dev nD} (W : Wt (F := F) c) (S : St (F := F) c) (k : Fin k0_t1_loop.trips) (xa xb xc : S1x256x1024.Idx → Elt F .f32) :=
  k0_pay36 (d_21 W S k xa xb xc) (d_23 W S k xa xb xc)
def d_35 {c : Dev nD} (W : Wt (F := F) c) (S : St (F := F) c) (k : Fin k0_t1_loop.trips) (xa xb xc : S1x256x1024.Idx → Elt F .f32) :=
  k0_pay37 (d_23 W S k xa xb xc)
def d_36 {c : Dev nD} (W : Wt (F := F) c) (S : St (F := F) c) (k : Fin k0_t1_loop.trips) (xa xb xc : S1x256x1024.Idx → Elt F .f32) :=
  k0_pay38 (d_v262 W S k xa xb xc) (d_23 W S k xa xb xc) (d_29 W S k xa xb xc) (d_30 W S k xa xb xc) (d_31 W S k xa xb xc) (d_32 W S k xa xb xc) (d_33 W S k xa xb xc) (d_34 W S k xa xb xc) (View.readAt (Elt F) sM13.view (Rect.unit (s := S1024x1024) ![0, 0] S1024x1024.size (by decide)).toLoadRect W.m13)
def d_37 {c : Dev nD} (W : Wt (F := F) c) (S : St (F := F) c) (k : Fin k0_t1_loop.trips) (xa xb xc : S1x256x1024.Idx → Elt F .f32) :=
  k0_pay39 (d_7 W S k xa xb xc)
def d_38 {c : Dev nD} (W : Wt (F := F) c) (S : St (F := F) c) (k : Fin k0_t1_loop.trips) (xa xb xc : S1x256x1024.Idx → Elt F .f32) :=
  k0_pay40 (d_7 W S k xa xb xc)
def d_39 {c : Dev nD} (W : Wt (F := F) c) (S : St (F := F) c) (k : Fin k0_t1_loop.trips) (xa xb xc : S1x256x1024.Idx → Elt F .f32) :=
  k0_pay41 (d_7 W S k xa xb xc)
def d_40 {c : Dev nD} (W : Wt (F := F) c) (S : St (F := F) c) (k : Fin k0_t1_loop.trips) (xa xb xc : S1x256x1024.Idx → Elt F .f32) :=
  k0_pay42 (d_7 W S k xa xb xc) (d_25 W S k xa xb xc)
def d_41 {c : Dev nD} (W : Wt (F := F) c) (S : St (F := F) c) (k : Fin k0_t1_loop.trips) (xa xb xc : S1x256x1024.Idx → Elt F .f32) :=
  k0_pay43 (View.readAt (Elt F) wM3.view (Rect.unit (s := S1x1536) ![0, 0] S1x512.size (by decide)).toLoadRect W.w3)
def d_42 {c : Dev nD} (W : Wt (F := F) c) (S : St (F := F) c) (k : Fin k0_t1_loop.trips) (xa xb xc : S1x256x1024.Idx → Elt F .f32) :=
  k0_pay44 (View.readAt (Elt F) wM3.view (Rect.unit (s := S1x1536) ![0, 512] S1x512.size (by decide)).toLoadRect W.w3)
def d_43 {c : Dev nD} (W : Wt (F := F) c) (S : St (F := F) c) (k : Fin k0_t1_loop.trips) (xa xb xc : S1x256x1024.Idx → Elt F .f32) :=
  k0_pay45 (d_38 W S k xa xb xc) (d_39 W S k xa xb xc) (d_40 W S k xa xb xc) (d_41 W S k xa xb xc) (d_42 W S k xa xb xc) (View.readAt (Elt F) wM3.view (Rect.unit (s := S1x1536) ![0, 1024] S1x512.size (by decide)).toLoadRect W.w3)
def d_44 {c : Dev nD} (W : Wt (F := F) c) (S : St (F := F) c) (k : Fin k0_t1_loop.trips) (xa xb xc : S1x256x1024.Idx → Elt F .f32) :=
  k0_pay46 (d_35 W S k xa xb xc) (d_37 W S k xa xb xc)
def d_45 {c : Dev nD} (W : Wt (F := F) c) (S : St (F := F) c) (k : Fin k0_t1_loop.trips) (xa xb xc : S1x256x1024.Idx → Elt F .f32) :=
  k0_pay47 (F := F) (d_v517 W S k xa xb xc)
def d_46 {c : Dev nD} (W : Wt (F := F) c) (S : St (F := F) c) (k : Fin k0_t1_loop.trips) (xa xb xc : S1x256x1024.Idx → Elt F .f32) :=
  k0_pay48 (d_35 W S k xa xb xc) (d_v517 W S k xa xb xc) (d_37 W S k xa xb xc)
def d_47 {c : Dev nD} (W : Wt (F := F) c) (S : St (F := F) c) (k : Fin k0_t1_loop.trips) (xa xb xc : S1x256x1024.Idx → Elt F .f32) :=
  k0_pay49 (d_35 W S k xa xb xc) (d_v517 W S k xa xb xc) (d_37 W S k xa xb xc)
def d_48 {c : Dev nD} (W : Wt (F := F) c) (S : St (F := F) c) (k : Fin k0_t1_loop.trips) (xa xb xc : S1x256x1024.Idx → Elt F .f32) :=
  k0_pay50 (d_35 W S k xa xb xc) (d_37 W S k xa xb xc)
def d_49 {c : Dev nD} (W : Wt (F := F) c) (S : St (F := F) c) (k : Fin k0_t1_loop.trips) (xa xb xc : S1x256x1024.Idx → Elt F .f32) :=
  k0_pay51 (d_4 W S k xa xb xc) (d_37 W S k xa xb xc) (d_43 W S k xa xb xc) (d_44 W S k xa xb xc) (d_45 W S k xa xb xc) (d_46 W S k xa xb xc) (d_47 W S k xa xb xc) (d_48 W S k xa xb xc) (4#32) (View.readAt (Elt F) sM13.view (Rect.unit (s := S1024x1024) ![0, 0] S1024x1024.size (by decide)).toLoadRect W.m13)
def d_50 {c : Dev nD} (W : Wt (F := F) c) (S : St (F := F) c) (k : Fin k0_t1_loop.trips) (xa xb xc : S1x256x1024.Idx → Elt F .f32) :=
  k0_pay54 (View.readAt (Elt F) wM7.view (Rect.unit (s := S1x1024) ![0, 0] S1x1024.size (by decide)).toLoadRect W.w7)
def d_51 {c : Dev nD} (W : Wt (F := F) c) (S : St (F := F) c) (k : Fin k0_t1_loop.trips) (xa xb xc : S1x256x1024.Idx → Elt F .f32) :=
  k0_pay55 (d_22 W S k xa xb xc)
def d_52 {c : Dev nD} (W : Wt (F := F) c) (S : St (F := F) c) (k : Fin k0_t1_loop.trips) (xa xb xc : S1x256x1024.Idx → Elt F .f32) :=
  k0_pay56 (d_22 W S k xa xb xc) (d_50 W S k xa xb xc) (d_51 W S k xa xb xc)
def d_53 {c : Dev nD} (W : Wt (F := F) c) (S : St (F := F) c) (k : Fin k0_t1_loop.trips) (xa xb xc : S1x256x1024.Idx → Elt F .f32) :=
  k0_pay57 (d_36 W S k xa xb xc) (View.readAt (Elt F) wM7.view (Rect.unit (s := S1x1024) ![0, 0] S1x1024.size (by decide)).toLoadRect W.w7)
def d_54 {c : Dev nD} (W : Wt (F := F) c) (S : St (F := F) c) (k : Fin k0_t1_loop.trips) (xa xb xc : S1x256x1024.Idx → Elt F .f32) :=
  k0_pay58 (d_49 W S k xa xb xc) (View.readAt (Elt F) wM7.view (Rect.unit (s := S1x1024) ![0, 0] S1x1024.size (by decide)).toLoadRect W.w7)
def d_55 {c : Dev nD} (W : Wt (F := F) c) (S : St (F := F) c) (k : Fin k0_t1_loop.trips) (xa xb xc : S1x256x1024.Idx → Elt F .f32) :=
  k0_pay59 (d_22 W S k xa xb xc) (d_50 W S k xa xb xc) (d_51 W S k xa xb xc) (View.readAt (Elt F) sM14.view (Rect.unit (s := S1024x4096) ![0, 0] S1024x1024.size (by decide)).toLoadRect W.m14)
def d_56 {c : Dev nD} (W : Wt (F := F) c) (S : St (F := F) c) (k : Fin k0_t1_loop.trips) (xa xb xc : S1x256x1024.Idx → Elt F .f32) :=
  k0_pay61 (d_22 W S k xa xb xc) (d_52 W S k xa xb xc) (d_55 W S k xa xb xc) k0_pay60 (View.readAt (Elt F) sM15.view (Rect.unit (s := S4096x1024) ![0, 0] S1024x1024.size (by decide)).toLoadRect W.m15) (View.readAt (Elt F) sM14.view (Rect.unit (s := S1024x4096) ![0, 1024] S1024x1024.size (by decide)).toLoadRect W.m14) (View.readAt (Elt F) sM15.view (Rect.unit (s := S4096x1024) ![1024, 0] S1024x1024.size (by decide)).toLoadRect W.m15) (View.readAt (Elt F) sM14.view (Rect.unit (s := S1024x4096) ![0, 2048] S1024x1024.size (by decide)).toLoadRect W.m14) (View.readAt (Elt F) sM15.view (Rect.unit (s := S4096x1024) ![2048, 0] S1024x1024.size (by decide)).toLoadRect W.m15) (View.readAt (Elt F) sM14.view (Rect.unit (s := S1024x4096) ![0, 3072] S1024x1024.size (by decide)).toLoadRect W.m14) (View.readAt (Elt F) sM15.view (Rect.unit (s := S4096x1024) ![3072, 0] S1024x1024.size (by decide)).toLoadRect W.m15)
def d_57 {c : Dev nD} (W : Wt (F := F) c) (S : St (F := F) c) (k : Fin k0_t1_loop.trips) (xa xb xc : S1x256x1024.Idx → Elt F .f32) :=
  (View.readAt (Elt F) sM14.view (Rect.unit (s := S1024x4096) ![0, 0] S1024x1024.size (by decide)).toLoadRect W.m14)
def d_58 {c : Dev nD} (W : Wt (F := F) c) (S : St (F := F) c) (k : Fin k0_t1_loop.trips) (xa xb xc : S1x256x1024.Idx → Elt F .f32) :=
  k0_pay62 (d_36 W S k xa xb xc) (d_53 W S k xa xb xc) (d_57 W S k xa xb xc) (View.readAt (Elt F) sM15.view (Rect.unit (s := S4096x1024) ![0, 0] S1024x1024.size (by decide)).toLoadRect W.m15) (View.readAt (Elt F) sM14.view (Rect.unit (s := S1024x4096) ![0, 1024] S1024x1024.size (by decide)).toLoadRect W.m14) (View.readAt (Elt F) sM15.view (Rect.unit (s := S4096x1024) ![1024, 0] S1024x1024.size (by decide)).toLoadRect W.m15) (View.readAt (Elt F) sM14.view (Rect.unit (s := S1024x4096) ![0, 2048] S1024x1024.size (by decide)).toLoadRect W.m14) (View.readAt (Elt F) sM15.view (Rect.unit (s := S4096x1024) ![2048, 0] S1024x1024.size (by decide)).toLoadRect W.m15)
def d_59 {c : Dev nD} (W : Wt (F := F) c) (S : St (F := F) c) (k : Fin k0_t1_loop.trips) (xa xb xc : S1x256x1024.Idx → Elt F .f32) :=
  k0_pay63 (d_53 W S k xa xb xc) (View.readAt (Elt F) sM14.view (Rect.unit (s := S1024x4096) ![0, 3072] S1024x1024.size (by decide)).toLoadRect W.m14) (View.readAt (Elt F) sM15.view (Rect.unit (s := S4096x1024) ![3072, 0] S1024x1024.size (by decide)).toLoadRect W.m15)
def d_60 {c : Dev nD} (W : Wt (F := F) c) (S : St (F := F) c) (k : Fin k0_t1_loop.trips) (xa xb xc : S1x256x1024.Idx → Elt F .f32) :=
  k0_pay64 (d_58 W S k xa xb xc) (d_59 W S k xa xb xc)
def d_61 {c : Dev nD} (W : Wt (F := F) c) (S : St (F := F) c) (k : Fin k0_t1_loop.trips) (xa xb xc : S1x256x1024.Idx → Elt F .f32) :=
  k0_pay65 (d_49 W S k xa xb xc) (d_54 W S k xa xb xc) (View.readAt (Elt F) sM14.view (Rect.unit (s := S1024x4096) ![0, 0] S1024x1024.size (by decide)).toLoadRect W.m14) (View.readAt (Elt F) sM15.view (Rect.unit (s := S4096x1024) ![0, 0] S1024x1024.size (by decide)).toLoadRect W.m15) (View.readAt (Elt F) sM14.view (Rect.unit (s := S1024x4096) ![0, 1024] S1024x1024.size (by decide)).toLoadRect W.m14) (View.readAt (Elt F) sM15.view (Rect.unit (s := S4096x1024) ![1024, 0] S1024x1024.size (by decide)).toLoadRect W.m15) (View.readAt (Elt F) sM14.view (Rect.unit (s := S1024x4096) ![0, 2048] S1024x1024.size (by decide)).toLoadRect W.m14) (View.readAt (Elt F) sM15.view (Rect.unit (s := S4096x1024) ![2048, 0] S1024x1024.size (by decide)).toLoadRect W.m15)
def d_62 {c : Dev nD} (W : Wt (F := F) c) (S : St (F := F) c) (k : Fin k0_t1_loop.trips) (xa xb xc : S1x256x1024.Idx → Elt F .f32) :=
  k0_pay66 (d_54 W S k xa xb xc) (View.readAt (Elt F) sM14.view (Rect.unit (s := S1024x4096) ![0, 3072] S1024x1024.size (by decide)).toLoadRect W.m14)
def d_63 {c : Dev nD} (W : Wt (F := F) c) (S : St (F := F) c) (k : Fin k0_t1_loop.trips) (xa xb xc : S1x256x1024.Idx → Elt F .f32) :=
  k0_pay67 (d_61 W S k xa xb xc) (d_62 W S k xa xb xc) (View.readAt (Elt F) sM15.view (Rect.unit (s := S4096x1024) ![3072, 0] S1024x1024.size (by decide)).toLoadRect W.m15)
def d_64 {c : Dev nD} (W : Wt (F := F) c) (S : St (F := F) c) (k : Fin k0_t1_loop.trips) (xa xb xc : S1x256x1024.Idx → Elt F .f32) :=
  (View.readAt (Elt F) sM20.view (Rect.unit (s := S256x1024) ![0, 0] S256x1024.size (by decide)).toLoadRect S.s20)

/-- What a trip leaves for the next: the tile `px` worked through, the look-ahead block `pf` normalized. -/
def stepS {c : Dev nD} (W : Wt (F := F) c) (S : St (F := F) c) (k : Fin k0_t1_loop.trips) (px : S768x1024.Idx → Elt F .f32) (pf : S256x1024.Idx → Elt F .f32) : St (F := F) c where
  s16 := k0_pay52 (d_39 W S k (ldx px 0 (by omega)) (ldx px 256 (by omega)) (ldx px 512 (by omega)))
  s17 := k0_pay53 (d_37 W S k (ldx px 0 (by omega)) (ldx px 256 (by omega)) (ldx px 512 (by omega)))
  s20 := k0_pay70 (d_63 W S k (ldx px 0 (by omega)) (ldx px 256 (by omega)) (ldx px 512 (by omega)))
  s21 := k0_pay9 (ldf pf) (View.readAt (Elt F) wM1.view (Rect.unit (s := S1x1024) ![0, 0] S1x1024.size (by decide)).toLoadRect W.w1)

/-- The tile of the result a trip writes. -/
def outB {c : Dev nD} (W : Wt (F := F) c) (S : St (F := F) c) (k : Fin k0_t1_loop.trips) (px : S768x1024.Idx → Elt F .f32) : S768x1024.Idx → Elt F .f32 :=
  stack3 (shapeCast S1x256x1024 (k0_pay1 (View.readAt (Elt F) sM20.view (Rect.unit (s := S256x1024) ![0, 0] S256x1024.size (by decide)).toLoadRect S.s20) (View.readAt (Elt F) wM10.view (Rect.unit (s := S1x1024) ![0, 0] S1x1024.size (by decide)).toLoadRect W.w10)) shapeCasts_S256x1024_S1x256x1024)
    (k0_pay68 (d_56 W S k (ldx px 0 (by omega)) (ldx px 256 (by omega)) (ldx px 512 (by omega))) (View.readAt (Elt F) wM10.view (Rect.unit (s := S1x1024) ![0, 0] S1x1024.size (by decide)).toLoadRect W.w10))
    (k0_pay69 (d_60 W S k (ldx px 0 (by omega)) (ldx px 256 (by omega)) (ldx px 512 (by omega))) (View.readAt (Elt F) wM10.view (Rect.unit (s := S1x1024) ![0, 0] S1x1024.size (by decide)).toLoadRect W.w10))

/-- A count of trips as a trip of the loop (the last one beyond the loop's end). -/
def kF (n : ℕ) : Fin k0_t1_loop.trips := ⟨min n 20, by have : k0_t1_loop.trips = 21 := trips_eq; omega⟩

/-- Tile `n` of the input. -/
def tileX {c : Dev nD} (x : Bf (F := F) c hM0) (n : ℕ) : S768x1024.Idx → Elt F .f32 := View.read (Elt F) (xr (min n 20) (xr_inb _ (Nat.min_le_right _ _))).view x

/-- The first 256 rows of tile `n` of the input. -/
def tileF {c : Dev nD} (x : Bf (F := F) c hM0) (n : ℕ) : S256x1024.Idx → Elt F .f32 := View.read (Elt F) (fr (min n 20) (fr_inb _ (Nat.min_le_right _ _))).view x
/-- What is carried into trip `n`, from what was carried into the loop. -/
def Sn {c : Dev nD} (W : Wt (F := F) c) (x : Bf (F := F) c hM0) (S0 : St (F := F) c) : ℕ → St (F := F) c
  | 0 => S0
  | n + 1 => stepS W (Sn W x S0 n) (kF n) (tileX x n) (tileF x (n + 1))
/-- The tile of the result trip `n` writes. -/
def outN {c : Dev nD} (W : Wt (F := F) c) (x : Bf (F := F) c hM0) (S0 : St (F := F) c) (n : ℕ) : S768x1024.Idx → Elt F .f32 := outB W (Sn W x S0 n) (kF n) (tileX x n)

end Cert.KernelIdeal.Hand

end
-- ==== Proof.Slots.lean ====
module

public import proofs.«01_k».proof.Proof.Spec
public import Idealize.ShloMosaic.Lib.ValueLayout
public import Idealize.ShloMosaic.Lib.VecWindow
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Loads and stores of the rings, in closed form -/

theorem rd16 (c : Dev nD) (g : Bf (F := F) c sM16) : View.read (Elt F) sM16.view g = g := rfl
theorem rd17 (c : Dev nD) (g : Bf (F := F) c sM17) : View.read (Elt F) sM17.view g = g := rfl
theorem rd20 (c : Dev nD) (g : Bf (F := F) c sM20) : View.read (Elt F) sM20.view g = g := rfl
theorem rd21 (c : Dev nD) (g : Bf (F := F) c sM21) : View.read (Elt F) sM21.view g = g := rfl
theorem w16 (c : Dev nD) (f : Bf (F := F) c sM16) (h) (w : S8x512.Idx → Elt F .f32) : sM16.view.writes (Elt F) f [⟨Rect.unit (s := S8x512) ![0, 0] S8x512.size h, w⟩] = w :=
  (rd16 c _).symm.trans (View.read_writes_full sM16.view f h w [])
theorem w17 (c : Dev nD) (f : Bf (F := F) c sM17) (h) (w : S16x512.Idx → Elt F .f32) : sM17.view.writes (Elt F) f [⟨Rect.unit (s := S16x512) ![0, 0] S16x512.size h, w⟩] = w :=
  (rd17 c _).symm.trans (View.read_writes_full sM17.view f h w [])
theorem w20 (c : Dev nD) (f : Bf (F := F) c sM20) (h) (w : S256x1024.Idx → Elt F .f32) : sM20.view.writes (Elt F) f [⟨Rect.unit (s := S256x1024) ![0, 0] S256x1024.size h, w⟩] = w :=
  (rd20 c _).symm.trans (View.read_writes_full sM20.view f h w [])
theorem w21 (c : Dev nD) (f : Bf (F := F) c sM21) (h) (w : S256x1024.Idx → Elt F .bf16) : sM21.view.writes (Elt F) f [⟨Rect.unit (s := S256x1024) ![0, 0] S256x1024.size h, w⟩] = w :=
  (rd21 c _).symm.trans (View.read_writes_full sM21.view f h w [])

theorem emb_x0 (i : Fin 768) (j : Fin 1024) : x0.view.emb (ix2 i j : S768x1024.Idx) = (ix3 0 i j : S2x768x1024.Idx) := by
  refine (congrArg (Rect.unit (s := S2x768x1024) ![0, 0, 0] S1x768x1024.size inb_S2x768x1024_S1x768x1024_0_0_0).emb (ValueIdx.reshapeEquiv_ix2_1ab (a := 768) (b := 1024) rfl i j)).trans ?_
  funext a; apply Fin.ext; fin_cases a
  · rfl
  · show 0 + 1 * i.val = i.val; omega
  · show 0 + 1 * j.val = j.val; omega

theorem emb_o0 (i : Fin 768) (j : Fin 1024) : o0.view.emb (ix2 i j : S768x1024.Idx) = (ix3 0 i j : S2x768x1024.Idx) := by
  refine (congrArg (Rect.unit (s := S2x768x1024) ![0, 0, 0] S1x768x1024.size inb_S2x768x1024_S1x768x1024_0_0_0).emb (ValueIdx.reshapeEquiv_ix2_1ab (a := 768) (b := 1024) rfl i j)).trans ?_
  funext a; apply Fin.ext; fin_cases a
  · rfl
  · show 0 + 1 * i.val = i.val; omega
  · show 0 + 1 * j.val = j.val; omega

theorem emb_f0 (i : Fin 256) (j : Fin 1024) : f0.view.emb (ix2 i j : S256x1024.Idx) = (ix3 0 i j : S2x256x1024.Idx) := by
  refine (congrArg (Rect.unit (s := S2x256x1024) ![0, 0, 0] S1x256x1024.size inb_S2x256x1024_S1x256x1024_0_0_0).emb (ValueIdx.reshapeEquiv_ix2_1ab (a := 256) (b := 1024) rfl i j)).trans ?_
  funext a; apply Fin.ext; fin_cases a
  · rfl
  · show 0 + 1 * i.val = i.val; omega
  · show 0 + 1 * j.val = j.val; omega

theorem ldx0_0 (c : Dev nD) (f : Bf (F := F) c x0) (px : S768x1024.Idx → Elt F .f32) (h) :
   View.readAt (Elt F) sM18.view (Rect.unit (s := S2x768x1024) ![0, 0, 0] S1x256x1024.size h).toLoadRect (x0.view.writes (Elt F) f [⟨Rect.whole S768x1024, px⟩]) = ldx px 0 (by omega) := by
  funext j
  obtain ⟨a, b, d, rfl⟩ : ∃ (a : Fin 1) (b : Fin 256) (d : Fin 1024), j = ix3 a b d := ⟨_, _, _, eq_ix3 j⟩
  have hr := congrFun (View.read_writes_whole x0.view f px) (ix2 ⟨0 + b.val, by omega⟩ d)
  have e : (Rect.unit (s := S2x768x1024) ![0, 0, 0] S1x256x1024.size h).emb (ix3 a b d) = (ix3 0 ⟨0 + b.val, by omega⟩ d : S2x768x1024.Idx) := by
    funext q; apply Fin.ext; fin_cases q
    · show 0 + 1 * a.val = 0; omega
    · show 0 + 1 * b.val = 0 + b.val; omega
    · show 0 + 1 * d.val = d.val; omega
  rw [← emb_x0] at e
  generalize x0.view.writes (Elt F) f [⟨Rect.whole S768x1024, px⟩] = g at hr ⊢
  refine Eq.trans ?_ hr
  exact congrArg (β := Elt F .f32) g e

theorem ldx0_256 (c : Dev nD) (f : Bf (F := F) c x0) (px : S768x1024.Idx → Elt F .f32) (h) :
   View.readAt (Elt F) sM18.view (Rect.unit (s := S2x768x1024) ![0, 256, 0] S1x256x1024.size h).toLoadRect (x0.view.writes (Elt F) f [⟨Rect.whole S768x1024, px⟩]) = ldx px 256 (by omega) := by
  funext j
  obtain ⟨a, b, d, rfl⟩ : ∃ (a : Fin 1) (b : Fin 256) (d : Fin 1024), j = ix3 a b d := ⟨_, _, _, eq_ix3 j⟩
  have hr := congrFun (View.read_writes_whole x0.view f px) (ix2 ⟨256 + b.val, by omega⟩ d)
  have e : (Rect.unit (s := S2x768x1024) ![0, 256, 0] S1x256x1024.size h).emb (ix3 a b d) = (ix3 0 ⟨256 + b.val, by omega⟩ d : S2x768x1024.Idx) := by
    funext q; apply Fin.ext; fin_cases q
    · show 0 + 1 * a.val = 0; omega
    · show 256 + 1 * b.val = 256 + b.val; omega
    · show 0 + 1 * d.val = d.val; omega
  rw [← emb_x0] at e
  generalize x0.view.writes (Elt F) f [⟨Rect.whole S768x1024, px⟩] = g at hr ⊢
  refine Eq.trans ?_ hr
  exact congrArg (β := Elt F .f32) g e

theorem ldx0_512 (c : Dev nD) (f : Bf (F := F) c x0) (px : S768x1024.Idx → Elt F .f32) (h) :
   View.readAt (Elt F) sM18.view (Rect.unit (s := S2x768x1024) ![0, 512, 0] S1x256x1024.size h).toLoadRect (x0.view.writes (Elt F) f [⟨Rect.whole S768x1024, px⟩]) = ldx px 512 (by omega) := by
  funext j
  obtain ⟨a, b, d, rfl⟩ : ∃ (a : Fin 1) (b : Fin 256) (d : Fin 1024), j = ix3 a b d := ⟨_, _, _, eq_ix3 j⟩
  have hr := congrFun (View.read_writes_whole x0.view f px) (ix2 ⟨512 + b.val, by omega⟩ d)
  have e : (Rect.unit (s := S2x768x1024) ![0, 512, 0] S1x256x1024.size h).emb (ix3 a b d) = (ix3 0 ⟨512 + b.val, by omega⟩ d : S2x768x1024.Idx) := by
    funext q; apply Fin.ext; fin_cases q
    · show 0 + 1 * a.val = 0; omega
    · show 512 + 1 * b.val = 512 + b.val; omega
    · show 0 + 1 * d.val = d.val; omega
  rw [← emb_x0] at e
  generalize x0.view.writes (Elt F) f [⟨Rect.whole S768x1024, px⟩] = g at hr ⊢
  refine Eq.trans ?_ hr
  exact congrArg (β := Elt F .f32) g e

theorem ldf0_0 (c : Dev nD) (f : Bf (F := F) c f0) (px : S256x1024.Idx → Elt F .f32) (h) :
   View.readAt (Elt F) sM22.view (Rect.unit (s := S2x256x1024) ![0, 0, 0] S1x256x1024.size h).toLoadRect (f0.view.writes (Elt F) f [⟨Rect.whole S256x1024, px⟩]) = ldf px := by
  funext j
  obtain ⟨a, b, d, rfl⟩ : ∃ (a : Fin 1) (b : Fin 256) (d : Fin 1024), j = ix3 a b d := ⟨_, _, _, eq_ix3 j⟩
  have hr := congrFun (View.read_writes_whole f0.view f px) (ix2 b d)
  have e : (Rect.unit (s := S2x256x1024) ![0, 0, 0] S1x256x1024.size h).emb (ix3 a b d) = (ix3 0 b d : S2x256x1024.Idx) := by
    funext q; apply Fin.ext; fin_cases q
    · show 0 + 1 * a.val = 0; omega
    · show 0 + 1 * b.val = b.val; omega
    · show 0 + 1 * d.val = d.val; omega
  rw [← emb_f0] at e
  generalize f0.view.writes (Elt F) f [⟨Rect.whole S256x1024, px⟩] = g at hr ⊢
  refine Eq.trans ?_ hr
  exact congrArg (β := Elt F .f32) g e

theorem rd_o0 (c : Dev nD) (f : Bf (F := F) c o0) (A B C : S1x256x1024.Idx → Elt F .f32) (h0 h1 h2) :
    View.read (Elt F) o0.view (View.write (Elt F) (sM19.access (Rect.unit (s := S2x768x1024) ![0, 512, 0] S1x256x1024.size h2)) (View.write (Elt F) (sM19.access (Rect.unit (s := S2x768x1024) ![0, 256, 0] S1x256x1024.size h1)) (View.write (Elt F) (sM19.access (Rect.unit (s := S2x768x1024) ![0, 0, 0] S1x256x1024.size h0)) f A Finset.univ) B Finset.univ) C Finset.univ)
      = stack3 A B C := by
  funext j
  obtain ⟨b, d, rfl⟩ : ∃ (b : Fin 768) (d : Fin 1024), j = ix2 b d := ⟨_, _, eq_ix2 j⟩
  have hne : ∀ (off : ℕ) (h) (y : S1x256x1024.Idx), (off + 256 ≤ b.val ∨ b.val < off) →
      (sM19.access (Rect.unit (s := S2x768x1024) ![0, off, 0] S1x256x1024.size h)).emb y ≠ (ix3 0 b d : S2x768x1024.Idx) := by
    intro off h y hb he
    have := congrArg (fun i : S2x768x1024.Idx => (i 1).val) he
    have hy : (y 1).val < 256 := (y 1).isLt
    have h2 : off + 1 * (y 1).val = b.val := this
    omega
  have heq : ∀ (off : ℕ) (h) (t : Fin 256), off + t.val = b.val →
      (sM19.access (Rect.unit (s := S2x768x1024) ![0, off, 0] S1x256x1024.size h)).emb (ix3 0 t d : S1x256x1024.Idx) = (ix3 0 b d : S2x768x1024.Idx) := by
    intro off h t ht
    funext q; apply Fin.ext; fin_cases q
    · rfl
    · show off + 1 * t.val = b.val; omega
    · show 0 + 1 * d.val = d.val; omega
  have key : ∀ (g : S2x768x1024.Idx → Elt F .f32), View.read (Elt F) o0.view g (ix2 b d) = g (ix3 0 b d) := fun g => congrArg g (emb_o0 b d)
  refine (key _).trans ?_
  have hnm : ∀ (off : ℕ) (h), (off + 256 ≤ b.val ∨ b.val < off) →
     (ix3 0 b d : S2x768x1024.Idx) ∉ (sM19.access (Rect.unit (s := S2x768x1024) ![0, off, 0] S1x256x1024.size h)).setOn Finset.univ := by
    intro off h hb hm
    obtain ⟨y, -, hy⟩ := Finset.mem_map.1 hm
    exact hne off h y hb hy
  unfold stack3
  by_cases hb : b.val < 256
  · rw [dif_pos (show ((ix2 b d : S768x1024.Idx) 0).val < 256 from hb)]
    refine (View.write_of_not_mem _ _ _ (hnm 512 h2 (by omega))).trans ?_
    refine (View.write_of_not_mem _ _ _ (hnm 256 h1 (by omega))).trans ?_
    rw [← heq 0 h0 ⟨b.val, hb⟩ (by simp)]
    exact View.write_emb_of_mem _ _ (Finset.mem_univ _)
  · rw [dif_neg (show ¬ ((ix2 b d : S768x1024.Idx) 0).val < 256 from hb)]
    by_cases hb' : b.val < 512
    · rw [dif_pos (show ((ix2 b d : S768x1024.Idx) 0).val < 512 from hb')]
      refine (View.write_of_not_mem _ _ _ (hnm 512 h2 (by omega))).trans ?_
      rw [← heq 256 h1 ⟨b.val - 256, by omega⟩ (by show 256 + (b.val - 256) = _; omega)]
      exact View.write_emb_of_mem _ _ (Finset.mem_univ _)
    · rw [dif_neg (show ¬ ((ix2 b d : S768x1024.Idx) 0).val < 512 from hb')]
      rw [← heq 512 h2 ⟨b.val - 512, by omega⟩ (by show 512 + (b.val - 512) = _; omega)]
      exact View.write_emb_of_mem _ _ (Finset.mem_univ _)

theorem emb_x1 (i : Fin 768) (j : Fin 1024) : x1.view.emb (ix2 i j : S768x1024.Idx) = (ix3 1 i j : S2x768x1024.Idx) := by
  refine (congrArg (Rect.unit (s := S2x768x1024) ![1, 0, 0] S1x768x1024.size inb_S2x768x1024_S1x768x1024_1_0_0).emb (ValueIdx.reshapeEquiv_ix2_1ab (a := 768) (b := 1024) rfl i j)).trans ?_
  funext a; apply Fin.ext; fin_cases a
  · rfl
  · show 0 + 1 * i.val = i.val; omega
  · show 0 + 1 * j.val = j.val; omega

theorem emb_o1 (i : Fin 768) (j : Fin 1024) : o1.view.emb (ix2 i j : S768x1024.Idx) = (ix3 1 i j : S2x768x1024.Idx) := by
  refine (congrArg (Rect.unit (s := S2x768x1024) ![1, 0, 0] S1x768x1024.size inb_S2x768x1024_S1x768x1024_1_0_0).emb (ValueIdx.reshapeEquiv_ix2_1ab (a := 768) (b := 1024) rfl i j)).trans ?_
  funext a; apply Fin.ext; fin_cases a
  · rfl
  · show 0 + 1 * i.val = i.val; omega
  · show 0 + 1 * j.val = j.val; omega

theorem emb_f1 (i : Fin 256) (j : Fin 1024) : f1.view.emb (ix2 i j : S256x1024.Idx) = (ix3 1 i j : S2x256x1024.Idx) := by
  refine (congrArg (Rect.unit (s := S2x256x1024) ![1, 0, 0] S1x256x1024.size inb_S2x256x1024_S1x256x1024_1_0_0).emb (ValueIdx.reshapeEquiv_ix2_1ab (a := 256) (b := 1024) rfl i j)).trans ?_
  funext a; apply Fin.ext; fin_cases a
  · rfl
  · show 0 + 1 * i.val = i.val; omega
  · show 0 + 1 * j.val = j.val; omega

theorem ldx1_0 (c : Dev nD) (f : Bf (F := F) c x1) (px : S768x1024.Idx → Elt F .f32) (h) :
   View.readAt (Elt F) sM18.view (Rect.unit (s := S2x768x1024) ![1, 0, 0] S1x256x1024.size h).toLoadRect (x1.view.writes (Elt F) f [⟨Rect.whole S768x1024, px⟩]) = ldx px 0 (by omega) := by
  funext j
  obtain ⟨a, b, d, rfl⟩ : ∃ (a : Fin 1) (b : Fin 256) (d : Fin 1024), j = ix3 a b d := ⟨_, _, _, eq_ix3 j⟩
  have hr := congrFun (View.read_writes_whole x1.view f px) (ix2 ⟨0 + b.val, by omega⟩ d)
  have e : (Rect.unit (s := S2x768x1024) ![1, 0, 0] S1x256x1024.size h).emb (ix3 a b d) = (ix3 1 ⟨0 + b.val, by omega⟩ d : S2x768x1024.Idx) := by
    funext q; apply Fin.ext; fin_cases q
    · show 1 + 1 * a.val = 1; omega
    · show 0 + 1 * b.val = 0 + b.val; omega
    · show 0 + 1 * d.val = d.val; omega
  rw [← emb_x1] at e
  generalize x1.view.writes (Elt F) f [⟨Rect.whole S768x1024, px⟩] = g at hr ⊢
  refine Eq.trans ?_ hr
  exact congrArg (β := Elt F .f32) g e

theorem ldx1_256 (c : Dev nD) (f : Bf (F := F) c x1) (px : S768x1024.Idx → Elt F .f32) (h) :
   View.readAt (Elt F) sM18.view (Rect.unit (s := S2x768x1024) ![1, 256, 0] S1x256x1024.size h).toLoadRect (x1.view.writes (Elt F) f [⟨Rect.whole S768x1024, px⟩]) = ldx px 256 (by omega) := by
  funext j
  obtain ⟨a, b, d, rfl⟩ : ∃ (a : Fin 1) (b : Fin 256) (d : Fin 1024), j = ix3 a b d := ⟨_, _, _, eq_ix3 j⟩
  have hr := congrFun (View.read_writes_whole x1.view f px) (ix2 ⟨256 + b.val, by omega⟩ d)
  have e : (Rect.unit (s := S2x768x1024) ![1, 256, 0] S1x256x1024.size h).emb (ix3 a b d) = (ix3 1 ⟨256 + b.val, by omega⟩ d : S2x768x1024.Idx) := by
    funext q; apply Fin.ext; fin_cases q
    · show 1 + 1 * a.val = 1; omega
    · show 256 + 1 * b.val = 256 + b.val; omega
    · show 0 + 1 * d.val = d.val; omega
  rw [← emb_x1] at e
  generalize x1.view.writes (Elt F) f [⟨Rect.whole S768x1024, px⟩] = g at hr ⊢
  refine Eq.trans ?_ hr
  exact congrArg (β := Elt F .f32) g e

theorem ldx1_512 (c : Dev nD) (f : Bf (F := F) c x1) (px : S768x1024.Idx → Elt F .f32) (h) :
   View.readAt (Elt F) sM18.view (Rect.unit (s := S2x768x1024) ![1, 512, 0] S1x256x1024.size h).toLoadRect (x1.view.writes (Elt F) f [⟨Rect.whole S768x1024, px⟩]) = ldx px 512 (by omega) := by
  funext j
  obtain ⟨a, b, d, rfl⟩ : ∃ (a : Fin 1) (b : Fin 256) (d : Fin 1024), j = ix3 a b d := ⟨_, _, _, eq_ix3 j⟩
  have hr := congrFun (View.read_writes_whole x1.view f px) (ix2 ⟨512 + b.val, by omega⟩ d)
  have e : (Rect.unit (s := S2x768x1024) ![1, 512, 0] S1x256x1024.size h).emb (ix3 a b d) = (ix3 1 ⟨512 + b.val, by omega⟩ d : S2x768x1024.Idx) := by
    funext q; apply Fin.ext; fin_cases q
    · show 1 + 1 * a.val = 1; omega
    · show 512 + 1 * b.val = 512 + b.val; omega
    · show 0 + 1 * d.val = d.val; omega
  rw [← emb_x1] at e
  generalize x1.view.writes (Elt F) f [⟨Rect.whole S768x1024, px⟩] = g at hr ⊢
  refine Eq.trans ?_ hr
  exact congrArg (β := Elt F .f32) g e

theorem ldf1_0 (c : Dev nD) (f : Bf (F := F) c f1) (px : S256x1024.Idx → Elt F .f32) (h) :
   View.readAt (Elt F) sM22.view (Rect.unit (s := S2x256x1024) ![1, 0, 0] S1x256x1024.size h).toLoadRect (f1.view.writes (Elt F) f [⟨Rect.whole S256x1024, px⟩]) = ldf px := by
  funext j
  obtain ⟨a, b, d, rfl⟩ : ∃ (a : Fin 1) (b : Fin 256) (d : Fin 1024), j = ix3 a b d := ⟨_, _, _, eq_ix3 j⟩
  have hr := congrFun (View.read_writes_whole f1.view f px) (ix2 b d)
  have e : (Rect.unit (s := S2x256x1024) ![1, 0, 0] S1x256x1024.size h).emb (ix3 a b d) = (ix3 1 b d : S2x256x1024.Idx) := by
    funext q; apply Fin.ext; fin_cases q
    · show 1 + 1 * a.val = 1; omega
    · show 0 + 1 * b.val = b.val; omega
    · show 0 + 1 * d.val = d.val; omega
  rw [← emb_f1] at e
  generalize f1.view.writes (Elt F) f [⟨Rect.whole S256x1024, px⟩] = g at hr ⊢
  refine Eq.trans ?_ hr
  exact congrArg (β := Elt F .f32) g e

theorem rd_o1 (c : Dev nD) (f : Bf (F := F) c o1) (A B C : S1x256x1024.Idx → Elt F .f32) (h0 h1 h2) :
    View.read (Elt F) o1.view (View.write (Elt F) (sM19.access (Rect.unit (s := S2x768x1024) ![1, 512, 0] S1x256x1024.size h2)) (View.write (Elt F) (sM19.access (Rect.unit (s := S2x768x1024) ![1, 256, 0] S1x256x1024.size h1)) (View.write (Elt F) (sM19.access (Rect.unit (s := S2x768x1024) ![1, 0, 0] S1x256x1024.size h0)) f A Finset.univ) B Finset.univ) C Finset.univ)
      = stack3 A B C := by
  funext j
  obtain ⟨b, d, rfl⟩ : ∃ (b : Fin 768) (d : Fin 1024), j = ix2 b d := ⟨_, _, eq_ix2 j⟩
  have hne : ∀ (off : ℕ) (h) (y : S1x256x1024.Idx), (off + 256 ≤ b.val ∨ b.val < off) →
      (sM19.access (Rect.unit (s := S2x768x1024) ![1, off, 0] S1x256x1024.size h)).emb y ≠ (ix3 1 b d : S2x768x1024.Idx) := by
    intro off h y hb he
    have := congrArg (fun i : S2x768x1024.Idx => (i 1).val) he
    have hy : (y 1).val < 256 := (y 1).isLt
    have h2 : off + 1 * (y 1).val = b.val := this
    omega
  have heq : ∀ (off : ℕ) (h) (t : Fin 256), off + t.val = b.val →
      (sM19.access (Rect.unit (s := S2x768x1024) ![1, off, 0] S1x256x1024.size h)).emb (ix3 0 t d : S1x256x1024.Idx) = (ix3 1 b d : S2x768x1024.Idx) := by
    intro off h t ht
    funext q; apply Fin.ext; fin_cases q
    · rfl
    · show off + 1 * t.val = b.val; omega
    · show 0 + 1 * d.val = d.val; omega
  have key : ∀ (g : S2x768x1024.Idx → Elt F .f32), View.read (Elt F) o1.view g (ix2 b d) = g (ix3 1 b d) := fun g => congrArg g (emb_o1 b d)
  refine (key _).trans ?_
  have hnm : ∀ (off : ℕ) (h), (off + 256 ≤ b.val ∨ b.val < off) →
     (ix3 1 b d : S2x768x1024.Idx) ∉ (sM19.access (Rect.unit (s := S2x768x1024) ![1, off, 0] S1x256x1024.size h)).setOn Finset.univ := by
    intro off h hb hm
    obtain ⟨y, -, hy⟩ := Finset.mem_map.1 hm
    exact hne off h y hb hy
  unfold stack3
  by_cases hb : b.val < 256
  · rw [dif_pos (show ((ix2 b d : S768x1024.Idx) 0).val < 256 from hb)]
    refine (View.write_of_not_mem _ _ _ (hnm 512 h2 (by omega))).trans ?_
    refine (View.write_of_not_mem _ _ _ (hnm 256 h1 (by omega))).trans ?_
    rw [← heq 0 h0 ⟨b.val, hb⟩ (by simp)]
    exact View.write_emb_of_mem _ _ (Finset.mem_univ _)
  · rw [dif_neg (show ¬ ((ix2 b d : S768x1024.Idx) 0).val < 256 from hb)]
    by_cases hb' : b.val < 512
    · rw [dif_pos (show ((ix2 b d : S768x1024.Idx) 0).val < 512 from hb')]
      refine (View.write_of_not_mem _ _ _ (hnm 512 h2 (by omega))).trans ?_
      rw [← heq 256 h1 ⟨b.val - 256, by omega⟩ (by show 256 + (b.val - 256) = _; omega)]
      exact View.write_emb_of_mem _ _ (Finset.mem_univ _)
    · rw [dif_neg (show ¬ ((ix2 b d : S768x1024.Idx) 0).val < 512 from hb')]
      rw [← heq 512 h2 ⟨b.val - 512, by omega⟩ (by show 512 + (b.val - 512) = _; omega)]
      exact View.write_emb_of_mem _ _ (Finset.mem_univ _)

end Cert.KernelIdeal.Hand

end
-- ==== Proof.Boxes.lean ====
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Cutting the ring buffers into the pieces a run works on, and putting them together again -/

/-- The indices of a rank-3 array with first coordinate in `s0 … s1 - 1` and second in `lo … hi - 1`. -/
def bx {n m d : ℕ} (s0 s1 lo hi : ℕ) : Finset (Shape.Idx ⟨3, ![n, m, d]⟩) :=
  Finset.univ.filter fun i => (s0 ≤ (i 0).val ∧ (i 0).val < s1) ∧ (lo ≤ (i 1).val ∧ (i 1).val < hi)
theorem mem_bx {n m d : ℕ} (s0 s1 lo hi : ℕ) (i : Shape.Idx ⟨3, ![n, m, d]⟩) :
    i ∈ bx s0 s1 lo hi ↔ (s0 ≤ (i 0).val ∧ (i 0).val < s1) ∧ (lo ≤ (i 1).val ∧ (i 1).val < hi) := by simp [bx]
theorem bx_union_rows {n m d : ℕ} (s0 s1 : ℕ) {a b e : ℕ} (h : a ≤ b) (h' : b ≤ e) :
    (bx s0 s1 a b ∪ bx s0 s1 b e : Finset (Shape.Idx ⟨3, ![n, m, d]⟩)) = bx s0 s1 a e := by
  ext i; rw [Finset.mem_union, mem_bx, mem_bx, mem_bx]; omega
theorem bx_disj_rows {n m d : ℕ} (s0 s1 a b e : ℕ) : Disjoint (bx s0 s1 a b : Finset (Shape.Idx ⟨3, ![n, m, d]⟩)) (bx s0 s1 b e) := by
  rw [Finset.disjoint_left]; intro i hi hj; rw [mem_bx] at hi hj; omega
theorem bx_union_slots {n m d : ℕ} {a b e : ℕ} (lo hi : ℕ) (h : a ≤ b) (h' : b ≤ e) :
    (bx a b lo hi ∪ bx b e lo hi : Finset (Shape.Idx ⟨3, ![n, m, d]⟩)) = bx a e lo hi := by
  ext i; rw [Finset.mem_union, mem_bx, mem_bx, mem_bx]; omega
theorem bx_disj_slots {n m d : ℕ} (a b e lo hi : ℕ) : Disjoint (bx a b lo hi : Finset (Shape.Idx ⟨3, ![n, m, d]⟩)) (bx b e lo hi) := by
  rw [Finset.disjoint_left]; intro i hi hj; rw [mem_bx] at hi hj; omega
theorem bx_univ {n m d : ℕ} : (bx 0 n 0 m : Finset (Shape.Idx ⟨3, ![n, m, d]⟩)) = Finset.univ := by
  ext i; rw [mem_bx]
  have h0 : (i 0).val < n := (i 0).isLt
  have h1 : (i 1).val < m := (i 1).isLt
  simp [h0, h1]
/-- The image of a rank-2 window placed at slot `s`, rows `lo …`. -/
theorem map_bx {n m d h : ℕ} (s lo : ℕ) (emb : Shape.Idx ⟨2, ![h, d]⟩ ↪ Shape.Idx ⟨3, ![n, m, d]⟩) (hs : s < n) (hl : lo + h ≤ m)
    (he : ∀ (a : Fin h) (b : Fin d), emb (ix2 a b) = ix3 ⟨s, hs⟩ ⟨lo + a.val, by have := a.isLt; omega⟩ b) :
    Finset.univ.map emb = bx s (s + 1) lo (lo + h) := by
  ext i
  constructor
  · intro hi
    obtain ⟨y, -, hy⟩ := Finset.mem_map.1 hi
    obtain ⟨a, b, rfl⟩ : ∃ (a : Fin h) (b : Fin d), y = ix2 a b := ⟨_, _, eq_ix2 y⟩
    rw [he] at hy
    refine (mem_bx _ _ _ _ _).2 ?_
    rw [← hy]
    show (s ≤ s ∧ s < s + 1) ∧ (lo ≤ lo + a.val ∧ lo + a.val < lo + h)
    have := a.isLt; omega
  · intro hi
    obtain ⟨⟨h1, h2⟩, h3, h4⟩ := (mem_bx _ _ _ _ _).1 hi
    refine Finset.mem_map.2 ⟨ix2 ⟨(i 1).val - lo, by omega⟩ ⟨(i 2).val, (i 2).isLt⟩, Finset.mem_univ _, ?_⟩
    refine (he _ _).trans ?_
    funext q; apply Fin.ext; fin_cases q
    · show s = (i 0).val; omega
    · show lo + ((i 1).val - lo) = (i 1).val; omega
    · rfl

/-- A buffer's elements `I`, at contents not said. -/
abbrev anyI (ℓ : Loc nD τ sig) (I : Finset (Idx ℓ)) : sProp 𝕄 := iprop(∃ f : Buf (Elt F) ℓ, ℓ ↦[I]{fullShare} f)
/-- A memref's elements, at contents not said. -/
abbrev anyM (c : Dev nD) {sp : Space} {S : Shape} {e : EltTy} (M : Memref sig .tc sp S e) : sProp 𝕄 := iprop(∃ f : Bf (F := F) c M, pt c M fullShare f)

theorem any_split {ℓ : Loc nD τ sig} {I J K : Finset (Idx ℓ)} (hK : I ∪ J = K) (h : Disjoint I J) : anyI (F := F) ℓ K ⊢ iprop(anyI (F := F) ℓ I ∗ anyI (F := F) ℓ J) := by
  subst hK
  iintro ⟨%f, H⟩
  icases (pointsTo_union h).1 $$ H with ⟨H1, H2⟩
  isplitl [H1]
  · iexists f; iexact H1
  · iexists f; iexact H2
theorem any_join {ℓ : Loc nD τ sig} {I J K : Finset (Idx ℓ)} (hK : I ∪ J = K) (h : Disjoint I J) : iprop(anyI (F := F) ℓ I ∗ anyI (F := F) ℓ J) ⊢ anyI (F := F) ℓ K := by
  subst hK
  iintro ⟨⟨%f, H⟩, ⟨%g, H'⟩⟩
  iexists _
  iapply (pointsTo_join h)
  isplitl [H] <;> iassumption

theorem set_x0c0 : x0c0.view.set = (bx 0 1 0 256 : Finset S2x768x1024.Idx) :=
  map_bx (n := 2) (m := 768) (d := 1024) (h := 256) 0 0 x0c0.view.emb (by omega) (by omega) fun i j => by
    refine (congrArg (Rect.unit (s := S2x768x1024) ![0, 0, 0] S1x256x1024.size inb_S2x768x1024_S1x256x1024_0_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_x0c0 (c : Dev nD) : anyM (F := F) c x0c0 = anyI (F := F) (View.loc (c : Thread nD τ) sM18.view) (bx 0 1 0 256 : Finset S2x768x1024.Idx) := by
  rw [← set_x0c0]

theorem set_x0c1 : x0c1.view.set = (bx 0 1 256 512 : Finset S2x768x1024.Idx) :=
  map_bx (n := 2) (m := 768) (d := 1024) (h := 256) 0 256 x0c1.view.emb (by omega) (by omega) fun i j => by
    refine (congrArg (Rect.unit (s := S2x768x1024) ![0, 256, 0] S1x256x1024.size inb_S2x768x1024_S1x256x1024_0_256_0).emb (ValueIdx.reshapeEquiv_ix2_1ab (a := 256) (b := 1024) rfl i j)).trans ?_
    funext a; apply Fin.ext; fin_cases a
    · rfl
    · show 256 + 1 * i.val = 256 + i.val; omega
    · show 0 + 1 * j.val = j.val; omega
theorem any_x0c1 (c : Dev nD) : anyM (F := F) c x0c1 = anyI (F := F) (View.loc (c : Thread nD τ) sM18.view) (bx 0 1 256 512 : Finset S2x768x1024.Idx) := by
  rw [← set_x0c1]

theorem set_x0c2 : x0c2.view.set = (bx 0 1 512 768 : Finset S2x768x1024.Idx) :=
  map_bx (n := 2) (m := 768) (d := 1024) (h := 256) 0 512 x0c2.view.emb (by omega) (by omega) fun i j => by
    refine (congrArg (Rect.unit (s := S2x768x1024) ![0, 512, 0] S1x256x1024.size inb_S2x768x1024_S1x256x1024_0_512_0).emb (ValueIdx.reshapeEquiv_ix2_1ab (a := 256) (b := 1024) rfl i j)).trans ?_
    funext a; apply Fin.ext; fin_cases a
    · rfl
    · show 512 + 1 * i.val = 512 + i.val; omega
    · show 0 + 1 * j.val = j.val; omega
theorem any_x0c2 (c : Dev nD) : anyM (F := F) c x0c2 = anyI (F := F) (View.loc (c : Thread nD τ) sM18.view) (bx 0 1 512 768 : Finset S2x768x1024.Idx) := by
  rw [← set_x0c2]

theorem set_x0 : x0.view.set = (bx 0 1 0 768 : Finset S2x768x1024.Idx) :=
  map_bx (n := 2) (m := 768) (d := 1024) (h := 768) 0 0 x0.view.emb (by omega) (by omega) fun i j => by
    refine (congrArg (Rect.unit (s := S2x768x1024) ![0, 0, 0] S1x768x1024.size inb_S2x768x1024_S1x768x1024_0_0_0).emb (ValueIdx.reshapeEquiv_ix2_1ab (a := 768) (b := 1024) rfl i j)).trans ?_
    funext a; apply Fin.ext; fin_cases a
    · rfl
    · show 0 + 1 * i.val = 0 + i.val; omega
    · show 0 + 1 * j.val = j.val; omega
theorem any_x0 (c : Dev nD) : anyM (F := F) c x0 = anyI (F := F) (View.loc (c : Thread nD τ) sM18.view) (bx 0 1 0 768 : Finset S2x768x1024.Idx) := by
  rw [← set_x0]

theorem set_x1 : x1.view.set = (bx 1 2 0 768 : Finset S2x768x1024.Idx) :=
  map_bx (n := 2) (m := 768) (d := 1024) (h := 768) 1 0 x1.view.emb (by omega) (by omega) fun i j => by
    refine (congrArg (Rect.unit (s := S2x768x1024) ![1, 0, 0] S1x768x1024.size inb_S2x768x1024_S1x768x1024_1_0_0).emb (ValueIdx.reshapeEquiv_ix2_1ab (a := 768) (b := 1024) rfl i j)).trans ?_
    funext a; apply Fin.ext; fin_cases a
    · rfl
    · show 0 + 1 * i.val = 0 + i.val; omega
    · show 0 + 1 * j.val = j.val; omega
theorem any_x1 (c : Dev nD) : anyM (F := F) c x1 = anyI (F := F) (View.loc (c : Thread nD τ) sM18.view) (bx 1 2 0 768 : Finset S2x768x1024.Idx) := by
  rw [← set_x1]

theorem set_o0c0 : o0c0.view.set = (bx 0 1 0 256 : Finset S2x768x1024.Idx) :=
  map_bx (n := 2) (m := 768) (d := 1024) (h := 256) 0 0 o0c0.view.emb (by omega) (by omega) fun i j => by
    refine (congrArg (Rect.unit (s := S2x768x1024) ![0, 0, 0] S1x256x1024.size inb_S2x768x1024_S1x256x1024_0_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_o0c0 (c : Dev nD) : anyM (F := F) c o0c0 = anyI (F := F) (View.loc (c : Thread nD τ) sM19.view) (bx 0 1 0 256 : Finset S2x768x1024.Idx) := by
  rw [← set_o0c0]

theorem set_o0c1 : o0c1.view.set = (bx 0 1 256 512 : Finset S2x768x1024.Idx) :=
  map_bx (n := 2) (m := 768) (d := 1024) (h := 256) 0 256 o0c1.view.emb (by omega) (by omega) fun i j => by
    refine (congrArg (Rect.unit (s := S2x768x1024) ![0, 256, 0] S1x256x1024.size inb_S2x768x1024_S1x256x1024_0_256_0).emb (ValueIdx.reshapeEquiv_ix2_1ab (a := 256) (b := 1024) rfl i j)).trans ?_
    funext a; apply Fin.ext; fin_cases a
    · rfl
    · show 256 + 1 * i.val = 256 + i.val; omega
    · show 0 + 1 * j.val = j.val; omega
theorem any_o0c1 (c : Dev nD) : anyM (F := F) c o0c1 = anyI (F := F) (View.loc (c : Thread nD τ) sM19.view) (bx 0 1 256 512 : Finset S2x768x1024.Idx) := by
  rw [← set_o0c1]

theorem set_o0c2 : o0c2.view.set = (bx 0 1 512 768 : Finset S2x768x1024.Idx) :=
  map_bx (n := 2) (m := 768) (d := 1024) (h := 256) 0 512 o0c2.view.emb (by omega) (by omega) fun i j => by
    refine (congrArg (Rect.unit (s := S2x768x1024) ![0, 512, 0] S1x256x1024.size inb_S2x768x1024_S1x256x1024_0_512_0).emb (ValueIdx.reshapeEquiv_ix2_1ab (a := 256) (b := 1024) rfl i j)).trans ?_
    funext a; apply Fin.ext; fin_cases a
    · rfl
    · show 512 + 1 * i.val = 512 + i.val; omega
    · show 0 + 1 * j.val = j.val; omega
theorem any_o0c2 (c : Dev nD) : anyM (F := F) c o0c2 = anyI (F := F) (View.loc (c : Thread nD τ) sM19.view) (bx 0 1 512 768 : Finset S2x768x1024.Idx) := by
  rw [← set_o0c2]

theorem set_o0 : o0.view.set = (bx 0 1 0 768 : Finset S2x768x1024.Idx) :=
  map_bx (n := 2) (m := 768) (d := 1024) (h := 768) 0 0 o0.view.emb (by omega) (by omega) fun i j => by
    refine (congrArg (Rect.unit (s := S2x768x1024) ![0, 0, 0] S1x768x1024.size inb_S2x768x1024_S1x768x1024_0_0_0).emb (ValueIdx.reshapeEquiv_ix2_1ab (a := 768) (b := 1024) rfl i j)).trans ?_
    funext a; apply Fin.ext; fin_cases a
    · rfl
    · show 0 + 1 * i.val = 0 + i.val; omega
    · show 0 + 1 * j.val = j.val; omega
theorem any_o0 (c : Dev nD) : anyM (F := F) c o0 = anyI (F := F) (View.loc (c : Thread nD τ) sM19.view) (bx 0 1 0 768 : Finset S2x768x1024.Idx) := by
  rw [← set_o0]

theorem set_o1c0 : o1c0.view.set = (bx 1 2 0 256 : Finset S2x768x1024.Idx) :=
  map_bx (n := 2) (m := 768) (d := 1024) (h := 256) 1 0 o1c0.view.emb (by omega) (by omega) fun i j => by
    refine (congrArg (Rect.unit (s := S2x768x1024) ![1, 0, 0] S1x256x1024.size inb_S2x768x1024_S1x256x1024_1_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_o1c0 (c : Dev nD) : anyM (F := F) c o1c0 = anyI (F := F) (View.loc (c : Thread nD τ) sM19.view) (bx 1 2 0 256 : Finset S2x768x1024.Idx) := by
  rw [← set_o1c0]

theorem set_o1c1 : o1c1.view.set = (bx 1 2 256 512 : Finset S2x768x1024.Idx) :=
  map_bx (n := 2) (m := 768) (d := 1024) (h := 256) 1 256 o1c1.view.emb (by omega) (by omega) fun i j => by
    refine (congrArg (Rect.unit (s := S2x768x1024) ![1, 256, 0] S1x256x1024.size inb_S2x768x1024_S1x256x1024_1_256_0).emb (ValueIdx.reshapeEquiv_ix2_1ab (a := 256) (b := 1024) rfl i j)).trans ?_
    funext a; apply Fin.ext; fin_cases a
    · rfl
    · show 256 + 1 * i.val = 256 + i.val; omega
    · show 0 + 1 * j.val = j.val; omega
theorem any_o1c1 (c : Dev nD) : anyM (F := F) c o1c1 = anyI (F := F) (View.loc (c : Thread nD τ) sM19.view) (bx 1 2 256 512 : Finset S2x768x1024.Idx) := by
  rw [← set_o1c1]

theorem set_o1c2 : o1c2.view.set = (bx 1 2 512 768 : Finset S2x768x1024.Idx) :=
  map_bx (n := 2) (m := 768) (d := 1024) (h := 256) 1 512 o1c2.view.emb (by omega) (by omega) fun i j => by
    refine (congrArg (Rect.unit (s := S2x768x1024) ![1, 512, 0] S1x256x1024.size inb_S2x768x1024_S1x256x1024_1_512_0).emb (ValueIdx.reshapeEquiv_ix2_1ab (a := 256) (b := 1024) rfl i j)).trans ?_
    funext a; apply Fin.ext; fin_cases a
    · rfl
    · show 512 + 1 * i.val = 512 + i.val; omega
    · show 0 + 1 * j.val = j.val; omega
theorem any_o1c2 (c : Dev nD) : anyM (F := F) c o1c2 = anyI (F := F) (View.loc (c : Thread nD τ) sM19.view) (bx 1 2 512 768 : Finset S2x768x1024.Idx) := by
  rw [← set_o1c2]

theorem set_o1 : o1.view.set = (bx 1 2 0 768 : Finset S2x768x1024.Idx) :=
  map_bx (n := 2) (m := 768) (d := 1024) (h := 768) 1 0 o1.view.emb (by omega) (by omega) fun i j => by
    refine (congrArg (Rect.unit (s := S2x768x1024) ![1, 0, 0] S1x768x1024.size inb_S2x768x1024_S1x768x1024_1_0_0).emb (ValueIdx.reshapeEquiv_ix2_1ab (a := 768) (b := 1024) rfl i j)).trans ?_
    funext a; apply Fin.ext; fin_cases a
    · rfl
    · show 0 + 1 * i.val = 0 + i.val; omega
    · show 0 + 1 * j.val = j.val; omega
theorem any_o1 (c : Dev nD) : anyM (F := F) c o1 = anyI (F := F) (View.loc (c : Thread nD τ) sM19.view) (bx 1 2 0 768 : Finset S2x768x1024.Idx) := by
  rw [← set_o1]

theorem set_f0 : f0.view.set = (bx 0 1 0 256 : Finset S2x256x1024.Idx) :=
  map_bx (n := 2) (m := 256) (d := 1024) (h := 256) 0 0 f0.view.emb (by omega) (by omega) fun i j => by
    refine (congrArg (Rect.unit (s := S2x256x1024) ![0, 0, 0] S1x256x1024.size inb_S2x256x1024_S1x256x1024_0_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_f0 (c : Dev nD) : anyM (F := F) c f0 = anyI (F := F) (View.loc (c : Thread nD τ) sM22.view) (bx 0 1 0 256 : Finset S2x256x1024.Idx) := by
  rw [← set_f0]

theorem set_f1 : f1.view.set = (bx 1 2 0 256 : Finset S2x256x1024.Idx) :=
  map_bx (n := 2) (m := 256) (d := 1024) (h := 256) 1 0 f1.view.emb (by omega) (by omega) fun i j => by
    refine (congrArg (Rect.unit (s := S2x256x1024) ![1, 0, 0] S1x256x1024.size inb_S2x256x1024_S1x256x1024_1_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_f1 (c : Dev nD) : anyM (F := F) c f1 = anyI (F := F) (View.loc (c : Thread nD τ) sM22.view) (bx 1 2 0 256 : Finset S2x256x1024.Idx) := by
  rw [← set_f1]

theorem set_st0 : st0.view.set = (bx 0 1 0 256 : Finset S8x256x1024.Idx) :=
  map_bx (n := 8) (m := 256) (d := 1024) (h := 256) 0 0 st0.view.emb (by omega) (by omega) fun i j => by
    refine (congrArg (Rect.unit (s := S8x256x1024) ![0, 0, 0] S1x256x1024.size inb_S8x256x1024_S1x256x1024_0_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_st0 (c : Dev nD) : anyM (F := F) c st0 = anyI (F := F) (View.loc (c : Thread nD τ) sMst.view) (bx 0 1 0 256 : Finset S8x256x1024.Idx) := by
  rw [← set_st0]

theorem set_st1 : st1.view.set = (bx 1 2 0 256 : Finset S8x256x1024.Idx) :=
  map_bx (n := 8) (m := 256) (d := 1024) (h := 256) 1 0 st1.view.emb (by omega) (by omega) fun i j => by
    refine (congrArg (Rect.unit (s := S8x256x1024) ![1, 0, 0] S1x256x1024.size inb_S8x256x1024_S1x256x1024_1_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_st1 (c : Dev nD) : anyM (F := F) c st1 = anyI (F := F) (View.loc (c : Thread nD τ) sMst.view) (bx 1 2 0 256 : Finset S8x256x1024.Idx) := by
  rw [← set_st1]

theorem set_st2 : st2.view.set = (bx 2 3 0 256 : Finset S8x256x1024.Idx) :=
  map_bx (n := 8) (m := 256) (d := 1024) (h := 256) 2 0 st2.view.emb (by omega) (by omega) fun i j => by
    refine (congrArg (Rect.unit (s := S8x256x1024) ![2, 0, 0] S1x256x1024.size inb_S8x256x1024_S1x256x1024_2_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_st2 (c : Dev nD) : anyM (F := F) c st2 = anyI (F := F) (View.loc (c : Thread nD τ) sMst.view) (bx 2 3 0 256 : Finset S8x256x1024.Idx) := by
  rw [← set_st2]

theorem set_st3 : st3.view.set = (bx 3 4 0 256 : Finset S8x256x1024.Idx) :=
  map_bx (n := 8) (m := 256) (d := 1024) (h := 256) 3 0 st3.view.emb (by omega) (by omega) fun i j => by
    refine (congrArg (Rect.unit (s := S8x256x1024) ![3, 0, 0] S1x256x1024.size inb_S8x256x1024_S1x256x1024_3_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_st3 (c : Dev nD) : anyM (F := F) c st3 = anyI (F := F) (View.loc (c : Thread nD τ) sMst.view) (bx 3 4 0 256 : Finset S8x256x1024.Idx) := by
  rw [← set_st3]

theorem set_st4 : st4.view.set = (bx 4 5 0 256 : Finset S8x256x1024.Idx) :=
  map_bx (n := 8) (m := 256) (d := 1024) (h := 256) 4 0 st4.view.emb (by omega) (by omega) fun i j => by
    refine (congrArg (Rect.unit (s := S8x256x1024) ![4, 0, 0] S1x256x1024.size inb_S8x256x1024_S1x256x1024_4_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_st4 (c : Dev nD) : anyM (F := F) c st4 = anyI (F := F) (View.loc (c : Thread nD τ) sMst.view) (bx 4 5 0 256 : Finset S8x256x1024.Idx) := by
  rw [← set_st4]

theorem set_st5 : st5.view.set = (bx 5 6 0 256 : Finset S8x256x1024.Idx) :=
  map_bx (n := 8) (m := 256) (d := 1024) (h := 256) 5 0 st5.view.emb (by omega) (by omega) fun i j => by
    refine (congrArg (Rect.unit (s := S8x256x1024) ![5, 0, 0] S1x256x1024.size inb_S8x256x1024_S1x256x1024_5_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_st5 (c : Dev nD) : anyM (F := F) c st5 = anyI (F := F) (View.loc (c : Thread nD τ) sMst.view) (bx 5 6 0 256 : Finset S8x256x1024.Idx) := by
  rw [← set_st5]

theorem set_st6 : st6.view.set = (bx 6 7 0 256 : Finset S8x256x1024.Idx) :=
  map_bx (n := 8) (m := 256) (d := 1024) (h := 256) 6 0 st6.view.emb (by omega) (by omega) fun i j => by
    refine (congrArg (Rect.unit (s := S8x256x1024) ![6, 0, 0] S1x256x1024.size inb_S8x256x1024_S1x256x1024_6_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_st6 (c : Dev nD) : anyM (F := F) c st6 = anyI (F := F) (View.loc (c : Thread nD τ) sMst.view) (bx 6 7 0 256 : Finset S8x256x1024.Idx) := by
  rw [← set_st6]

theorem set_st7 : st7.view.set = (bx 7 8 0 256 : Finset S8x256x1024.Idx) :=
  map_bx (n := 8) (m := 256) (d := 1024) (h := 256) 7 0 st7.view.emb (by omega) (by omega) fun i j => by
    refine (congrArg (Rect.unit (s := S8x256x1024) ![7, 0, 0] S1x256x1024.size inb_S8x256x1024_S1x256x1024_7_0_0).emb (ValueIdx.reshapeEquiv_ix2_1ab (a := 256) (b := 1024) rfl i j)).trans ?_
    funext a; apply Fin.ext; fin_cases a
    · rfl
    · show 0 + 1 * i.val = 0 + i.val; omega
    · show 0 + 1 * j.val = j.val; omega
theorem any_st7 (c : Dev nD) : anyM (F := F) c st7 = anyI (F := F) (View.loc (c : Thread nD τ) sMst.view) (bx 7 8 0 256 : Finset S8x256x1024.Idx) := by
  rw [← set_st7]

theorem any_sM18 (c : Dev nD) : anyM (F := F) c sM18 = anyI (F := F) (View.loc (c : Thread nD τ) sM18.view) (bx 0 2 0 768 : Finset S2x768x1024.Idx) := by
  rw [show (bx 0 2 0 768 : Finset S2x768x1024.Idx) = sM18.view.set from (bx_univ (n := 2) (m := 768) (d := 1024)).trans (View.set_whole cc0_scratch6).symm]

theorem any_sM19 (c : Dev nD) : anyM (F := F) c sM19 = anyI (F := F) (View.loc (c : Thread nD τ) sM19.view) (bx 0 2 0 768 : Finset S2x768x1024.Idx) := by
  rw [show (bx 0 2 0 768 : Finset S2x768x1024.Idx) = sM19.view.set from (bx_univ (n := 2) (m := 768) (d := 1024)).trans (View.set_whole cc0_scratch7).symm]

theorem any_sM22 (c : Dev nD) : anyM (F := F) c sM22 = anyI (F := F) (View.loc (c : Thread nD τ) sM22.view) (bx 0 2 0 256 : Finset S2x256x1024.Idx) := by
  rw [show (bx 0 2 0 256 : Finset S2x256x1024.Idx) = sM22.view.set from (bx_univ (n := 2) (m := 256) (d := 1024)).trans (View.set_whole cc0_scratch10).symm]

theorem any_sMst (c : Dev nD) : anyM (F := F) c sMst = anyI (F := F) (View.loc (c : Thread nD τ) sMst.view) (bx 0 8 0 256 : Finset S8x256x1024.Idx) := by
  rw [show (bx 0 8 0 256 : Finset S8x256x1024.Idx) = sMst.view.set from (bx_univ (n := 8) (m := 256) (d := 1024)).trans (View.set_whole cc0_scoped0).symm]

/-- A slot is its three 256-row blocks. -/
theorem x0_split (c : Dev nD) : anyM (F := F) c x0 ⊢ iprop(anyM (F := F) c x0c0 ∗ anyM (F := F) c x0c1 ∗ anyM (F := F) c x0c2) := by
  rw [any_x0, any_x0c0, any_x0c1, any_x0c2]
  exact (any_split (bx_union_rows (n := 2) (m := 768) (d := 1024) 0 1 (by omega : 0 ≤ 256) (by omega : 256 ≤ 768)) (bx_disj_rows _ _ _ _ _)).trans
    (BI.sep_mono (Entails.refl _) (any_split (bx_union_rows (n := 2) (m := 768) (d := 1024) 0 1 (by omega : 256 ≤ 512) (by omega : 512 ≤ 768)) (bx_disj_rows _ _ _ _ _)))
theorem x0_join (c : Dev nD) : iprop(anyM (F := F) c x0c0 ∗ anyM (F := F) c x0c1 ∗ anyM (F := F) c x0c2) ⊢ anyM (F := F) c x0 := by
  rw [any_x0, any_x0c0, any_x0c1, any_x0c2]
  exact (BI.sep_mono (Entails.refl _) (any_join (bx_union_rows (n := 2) (m := 768) (d := 1024) 0 1 (by omega : 256 ≤ 512) (by omega : 512 ≤ 768)) (bx_disj_rows _ _ _ _ _))).trans
    (any_join (bx_union_rows (n := 2) (m := 768) (d := 1024) 0 1 (by omega : 0 ≤ 256) (by omega : 256 ≤ 768)) (bx_disj_rows _ _ _ _ _))

/-- A slot is its three 256-row blocks. -/
theorem o0_split (c : Dev nD) : anyM (F := F) c o0 ⊢ iprop(anyM (F := F) c o0c0 ∗ anyM (F := F) c o0c1 ∗ anyM (F := F) c o0c2) := by
  rw [any_o0, any_o0c0, any_o0c1, any_o0c2]
  exact (any_split (bx_union_rows (n := 2) (m := 768) (d := 1024) 0 1 (by omega : 0 ≤ 256) (by omega : 256 ≤ 768)) (bx_disj_rows _ _ _ _ _)).trans
    (BI.sep_mono (Entails.refl _) (any_split (bx_union_rows (n := 2) (m := 768) (d := 1024) 0 1 (by omega : 256 ≤ 512) (by omega : 512 ≤ 768)) (bx_disj_rows _ _ _ _ _)))
theorem o0_join (c : Dev nD) : iprop(anyM (F := F) c o0c0 ∗ anyM (F := F) c o0c1 ∗ anyM (F := F) c o0c2) ⊢ anyM (F := F) c o0 := by
  rw [any_o0, any_o0c0, any_o0c1, any_o0c2]
  exact (BI.sep_mono (Entails.refl _) (any_join (bx_union_rows (n := 2) (m := 768) (d := 1024) 0 1 (by omega : 256 ≤ 512) (by omega : 512 ≤ 768)) (bx_disj_rows _ _ _ _ _))).trans
    (any_join (bx_union_rows (n := 2) (m := 768) (d := 1024) 0 1 (by omega : 0 ≤ 256) (by omega : 256 ≤ 768)) (bx_disj_rows _ _ _ _ _))

/-- A slot is its three 256-row blocks. -/
theorem o1_split (c : Dev nD) : anyM (F := F) c o1 ⊢ iprop(anyM (F := F) c o1c0 ∗ anyM (F := F) c o1c1 ∗ anyM (F := F) c o1c2) := by
  rw [any_o1, any_o1c0, any_o1c1, any_o1c2]
  exact (any_split (bx_union_rows (n := 2) (m := 768) (d := 1024) 1 2 (by omega : 0 ≤ 256) (by omega : 256 ≤ 768)) (bx_disj_rows _ _ _ _ _)).trans
    (BI.sep_mono (Entails.refl _) (any_split (bx_union_rows (n := 2) (m := 768) (d := 1024) 1 2 (by omega : 256 ≤ 512) (by omega : 512 ≤ 768)) (bx_disj_rows _ _ _ _ _)))
theorem o1_join (c : Dev nD) : iprop(anyM (F := F) c o1c0 ∗ anyM (F := F) c o1c1 ∗ anyM (F := F) c o1c2) ⊢ anyM (F := F) c o1 := by
  rw [any_o1, any_o1c0, any_o1c1, any_o1c2]
  exact (BI.sep_mono (Entails.refl _) (any_join (bx_union_rows (n := 2) (m := 768) (d := 1024) 1 2 (by omega : 256 ≤ 512) (by omega : 512 ≤ 768)) (bx_disj_rows _ _ _ _ _))).trans
    (any_join (bx_union_rows (n := 2) (m := 768) (d := 1024) 1 2 (by omega : 0 ≤ 256) (by omega : 256 ≤ 768)) (bx_disj_rows _ _ _ _ _))

/-- A ring of two slots. -/
theorem sM18_split (c : Dev nD) : anyM (F := F) c sM18 ⊢ iprop(anyM (F := F) c x0 ∗ anyM (F := F) c x1) := by
  rw [any_sM18, any_x0, any_x1]
  exact any_split (bx_union_slots (n := 2) (m := 768) (d := 1024) 0 768 (by omega : 0 ≤ 1) (by omega : 1 ≤ 2)) (bx_disj_slots _ _ _ _ _)
theorem sM18_join (c : Dev nD) : iprop(anyM (F := F) c x0 ∗ anyM (F := F) c x1) ⊢ anyM (F := F) c sM18 := by
  rw [any_sM18, any_x0, any_x1]
  exact any_join (bx_union_slots (n := 2) (m := 768) (d := 1024) 0 768 (by omega : 0 ≤ 1) (by omega : 1 ≤ 2)) (bx_disj_slots _ _ _ _ _)

/-- A ring of two slots. -/
theorem sM19_split (c : Dev nD) : anyM (F := F) c sM19 ⊢ iprop(anyM (F := F) c o0 ∗ anyM (F := F) c o1) := by
  rw [any_sM19, any_o0, any_o1]
  exact any_split (bx_union_slots (n := 2) (m := 768) (d := 1024) 0 768 (by omega : 0 ≤ 1) (by omega : 1 ≤ 2)) (bx_disj_slots _ _ _ _ _)
theorem sM19_join (c : Dev nD) : iprop(anyM (F := F) c o0 ∗ anyM (F := F) c o1) ⊢ anyM (F := F) c sM19 := by
  rw [any_sM19, any_o0, any_o1]
  exact any_join (bx_union_slots (n := 2) (m := 768) (d := 1024) 0 768 (by omega : 0 ≤ 1) (by omega : 1 ≤ 2)) (bx_disj_slots _ _ _ _ _)

/-- A ring of two slots. -/
theorem sM22_split (c : Dev nD) : anyM (F := F) c sM22 ⊢ iprop(anyM (F := F) c f0 ∗ anyM (F := F) c f1) := by
  rw [any_sM22, any_f0, any_f1]
  exact any_split (bx_union_slots (n := 2) (m := 256) (d := 1024) 0 256 (by omega : 0 ≤ 1) (by omega : 1 ≤ 2)) (bx_disj_slots _ _ _ _ _)
theorem sM22_join (c : Dev nD) : iprop(anyM (F := F) c f0 ∗ anyM (F := F) c f1) ⊢ anyM (F := F) c sM22 := by
  rw [any_sM22, any_f0, any_f1]
  exact any_join (bx_union_slots (n := 2) (m := 256) (d := 1024) 0 256 (by omega : 0 ≤ 1) (by omega : 1 ≤ 2)) (bx_disj_slots _ _ _ _ _)

/-- The staging buffer of eight slots. -/
theorem sMst_split (c : Dev nD) : anyM (F := F) c sMst ⊢ iprop(anyM (F := F) c st0 ∗ anyM (F := F) c st1 ∗ anyM (F := F) c st2 ∗ anyM (F := F) c st3 ∗ anyM (F := F) c st4 ∗ anyM (F := F) c st5 ∗ anyM (F := F) c st6 ∗ anyM (F := F) c st7) :=
  (Entails.of_eq (any_sMst (F := F) c)).trans ((any_split (bx_union_slots (n := 8) (m := 256) (d := 1024) 0 256 (by omega : 0 ≤ 1) (by omega : 1 ≤ 8)) (bx_disj_slots _ _ _ _ _)).trans (BI.sep_mono (Entails.of_eq (any_st0 (F := F) c).symm) ((any_split (bx_union_slots (n := 8) (m := 256) (d := 1024) 0 256 (by omega : 1 ≤ 2) (by omega : 2 ≤ 8)) (bx_disj_slots _ _ _ _ _)).trans (BI.sep_mono (Entails.of_eq (any_st1 (F := F) c).symm) ((any_split (bx_union_slots (n := 8) (m := 256) (d := 1024) 0 256 (by omega : 2 ≤ 3) (by omega : 3 ≤ 8)) (bx_disj_slots _ _ _ _ _)).trans (BI.sep_mono (Entails.of_eq (any_st2 (F := F) c).symm) ((any_split (bx_union_slots (n := 8) (m := 256) (d := 1024) 0 256 (by omega : 3 ≤ 4) (by omega : 4 ≤ 8)) (bx_disj_slots _ _ _ _ _)).trans (BI.sep_mono (Entails.of_eq (any_st3 (F := F) c).symm) ((any_split (bx_union_slots (n := 8) (m := 256) (d := 1024) 0 256 (by omega : 4 ≤ 5) (by omega : 5 ≤ 8)) (bx_disj_slots _ _ _ _ _)).trans (BI.sep_mono (Entails.of_eq (any_st4 (F := F) c).symm) ((any_split (bx_union_slots (n := 8) (m := 256) (d := 1024) 0 256 (by omega : 5 ≤ 6) (by omega : 6 ≤ 8)) (bx_disj_slots _ _ _ _ _)).trans (BI.sep_mono (Entails.of_eq (any_st5 (F := F) c).symm) ((any_split (bx_union_slots (n := 8) (m := 256) (d := 1024) 0 256 (by omega : 6 ≤ 7) (by omega : 7 ≤ 8)) (bx_disj_slots _ _ _ _ _)).trans (BI.sep_mono (Entails.of_eq (any_st6 (F := F) c).symm) (Entails.of_eq (any_st7 (F := F) c).symm)))))))))))))))
theorem sMst_join (c : Dev nD) : iprop(anyM (F := F) c st0 ∗ anyM (F := F) c st1 ∗ anyM (F := F) c st2 ∗ anyM (F := F) c st3 ∗ anyM (F := F) c st4 ∗ anyM (F := F) c st5 ∗ anyM (F := F) c st6 ∗ anyM (F := F) c st7) ⊢ anyM (F := F) c sMst :=
  ((BI.sep_mono (Entails.of_eq (any_st0 (F := F) c)) ((BI.sep_mono (Entails.of_eq (any_st1 (F := F) c)) ((BI.sep_mono (Entails.of_eq (any_st2 (F := F) c)) ((BI.sep_mono (Entails.of_eq (any_st3 (F := F) c)) ((BI.sep_mono (Entails.of_eq (any_st4 (F := F) c)) ((BI.sep_mono (Entails.of_eq (any_st5 (F := F) c)) ((BI.sep_mono (Entails.of_eq (any_st6 (F := F) c)) (Entails.of_eq (any_st7 (F := F) c))).trans (any_join (bx_union_slots (n := 8) (m := 256) (d := 1024) 0 256 (by omega : 6 ≤ 7) (by omega : 7 ≤ 8)) (bx_disj_slots _ _ _ _ _)))).trans (any_join (bx_union_slots (n := 8) (m := 256) (d := 1024) 0 256 (by omega : 5 ≤ 6) (by omega : 6 ≤ 8)) (bx_disj_slots _ _ _ _ _)))).trans (any_join (bx_union_slots (n := 8) (m := 256) (d := 1024) 0 256 (by omega : 4 ≤ 5) (by omega : 5 ≤ 8)) (bx_disj_slots _ _ _ _ _)))).trans (any_join (bx_union_slots (n := 8) (m := 256) (d := 1024) 0 256 (by omega : 3 ≤ 4) (by omega : 4 ≤ 8)) (bx_disj_slots _ _ _ _ _)))).trans (any_join (bx_union_slots (n := 8) (m := 256) (d := 1024) 0 256 (by omega : 2 ≤ 3) (by omega : 3 ≤ 8)) (bx_disj_slots _ _ _ _ _)))).trans (any_join (bx_union_slots (n := 8) (m := 256) (d := 1024) 0 256 (by omega : 1 ≤ 2) (by omega : 2 ≤ 8)) (bx_disj_slots _ _ _ _ _)))).trans (any_join (bx_union_slots (n := 8) (m := 256) (d := 1024) 0 256 (by omega : 0 ≤ 1) (by omega : 1 ≤ 8)) (bx_disj_slots _ _ _ _ _))).trans (Entails.of_eq (any_sMst (F := F) c).symm)

end Cert.KernelIdeal.Hand

end
-- ==== Proof.Pro.lean ====
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What a run prepares before its loop: the weights it keeps in scratch memory and the first block of rows -/

/-- The arrays the kernel reads. -/
structure In (c : Dev nD) where
  x : Bf (F := F) c hM0
  w1 : Bf (F := F) c wM1
  w3 : Bf (F := F) c wM3
  w4 : Bf (F := F) c wM4
  w5 : Bf (F := F) c wM5
  w7 : Bf (F := F) c wM7
  w10 : Bf (F := F) c wM10
  h2 : Bf (F := F) c hM2
  h6 : Bf (F := F) c hM6
  h8 : Bf (F := F) c hM8
  h9 : Bf (F := F) c hM9

/-- The 256 by 1024 block of an array with its corner at row `r`, column `q`, with a unit axis in front. -/
def blk {n m : ℕ} {β : Type} (v : Shape.Idx ⟨2, ![n, m]⟩ → β) (r q : ℕ) (hr : r + 256 ≤ n) (hq : q + 1024 ≤ m) : S1x256x1024.Idx → β :=
  fun j => v (ix2 ⟨r + (j 1).val, by have h : (j 1).val < 256 := (j 1).isLt; omega⟩ ⟨q + (j 2).val, by have h : (j 2).val < 1024 := (j 2).isLt; omega⟩)

theorem rdb_hM0 (c : Dev nD) (v : Bf (F := F) c hM0) (r q : ℕ) (h : ∀ a, (![r, q] : Fin 2 → ℕ) a + S256x1024.size a ≤ (⟨2, ![16384, 1024]⟩ : Shape).size a) (h') :
    ldf (F := F) (ReadAs.same.apply (View.read (Elt F) (hM0.slice (Rect.unit (s := ⟨2, ![16384, 1024]⟩) ![r, q] S256x1024.size h) h').view v)) = blk (n := 16384) (m := 1024) v r q (h 0) (h 1) := by
  funext j
  refine congrArg (β := Elt F .f32) v ?_
  funext a; apply Fin.ext; fin_cases a
  · show r + 1 * (j 1).val = r + (j 1).val; omega
  · show q + 1 * (j 2).val = q + (j 2).val; omega
theorem rdb_hM2 (c : Dev nD) (v : Bf (F := F) c hM2) (r q : ℕ) (h : ∀ a, (![r, q] : Fin 2 → ℕ) a + S256x1024.size a ≤ (⟨2, ![1024, 2048]⟩ : Shape).size a) (h') :
    ldf (F := F) (ReadAs.same.apply (View.read (Elt F) (hM2.slice (Rect.unit (s := ⟨2, ![1024, 2048]⟩) ![r, q] S256x1024.size h) h').view v)) = blk (n := 1024) (m := 2048) v r q (h 0) (h 1) := by
  funext j
  refine congrArg (β := Elt F .f32) v ?_
  funext a; apply Fin.ext; fin_cases a
  · show r + 1 * (j 1).val = r + (j 1).val; omega
  · show q + 1 * (j 2).val = q + (j 2).val; omega
theorem rdb_hM6 (c : Dev nD) (v : Bf (F := F) c hM6) (r q : ℕ) (h : ∀ a, (![r, q] : Fin 2 → ℕ) a + S256x1024.size a ≤ (⟨2, ![1024, 1024]⟩ : Shape).size a) (h') :
    ldf (F := F) (ReadAs.same.apply (View.read (Elt F) (hM6.slice (Rect.unit (s := ⟨2, ![1024, 1024]⟩) ![r, q] S256x1024.size h) h').view v)) = blk (n := 1024) (m := 1024) v r q (h 0) (h 1) := by
  funext j
  refine congrArg (β := Elt F .f32) v ?_
  funext a; apply Fin.ext; fin_cases a
  · show r + 1 * (j 1).val = r + (j 1).val; omega
  · show q + 1 * (j 2).val = q + (j 2).val; omega
theorem rdb_hM8 (c : Dev nD) (v : Bf (F := F) c hM8) (r q : ℕ) (h : ∀ a, (![r, q] : Fin 2 → ℕ) a + S256x1024.size a ≤ (⟨2, ![1024, 4096]⟩ : Shape).size a) (h') :
    ldf (F := F) (ReadAs.same.apply (View.read (Elt F) (hM8.slice (Rect.unit (s := ⟨2, ![1024, 4096]⟩) ![r, q] S256x1024.size h) h').view v)) = blk (n := 1024) (m := 4096) v r q (h 0) (h 1) := by
  funext j
  refine congrArg (β := Elt F .f32) v ?_
  funext a; apply Fin.ext; fin_cases a
  · show r + 1 * (j 1).val = r + (j 1).val; omega
  · show q + 1 * (j 2).val = q + (j 2).val; omega
theorem rdb_hM9 (c : Dev nD) (v : Bf (F := F) c hM9) (r q : ℕ) (h : ∀ a, (![r, q] : Fin 2 → ℕ) a + S256x1024.size a ≤ (⟨2, ![4096, 1024]⟩ : Shape).size a) (h') :
    ldf (F := F) (ReadAs.same.apply (View.read (Elt F) (hM9.slice (Rect.unit (s := ⟨2, ![4096, 1024]⟩) ![r, q] S256x1024.size h) h').view v)) = blk (n := 4096) (m := 1024) v r q (h 0) (h 1) := by
  funext j
  refine congrArg (β := Elt F .f32) v ?_
  funext a; apply Fin.ext; fin_cases a
  · show r + 1 * (j 1).val = r + (j 1).val; omega
  · show q + 1 * (j 2).val = q + (j 2).val; omega

theorem emb_x0c0 (i : Fin 256) (j : Fin 1024) : x0c0.view.emb (ix2 i j : S256x1024.Idx) = (ix3 0 ⟨0 + i.val, by omega⟩ j : S2x768x1024.Idx) := by
  refine (congrArg (Rect.unit (s := S2x768x1024) ![0, 0, 0] S1x256x1024.size inb_S2x768x1024_S1x256x1024_0_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_x0c0 (c : Dev nD) (f : Bf (F := F) c x0c0) (px : S256x1024.Idx → Elt F .f32) (L : List (View.Piece (Elt F) S256x1024 .f32)) (h) :
   View.readAt (Elt F) sM18.view (Rect.unit (s := S2x768x1024) ![0, 0, 0] S1x256x1024.size h).toLoadRect (x0c0.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole x0c0.view (x0c0.view.writes (Elt F) f L) px) (ix2 b d)
  have e : (Rect.unit (s := S2x768x1024) ![0, 0, 0] S1x256x1024.size h).emb (ix3 a b d) = (ix3 0 ⟨0 + b.val, by omega⟩ d : S2x768x1024.Idx) := by
    funext q; apply Fin.ext; fin_cases q
    · show 0 + 1 * a.val = 0; omega
    · show 0 + 1 * b.val = 0 + b.val; omega
    · show 0 + 1 * d.val = d.val; omega
  rw [← emb_x0c0] at e
  rw [show ldf px (ix3 a b d) = View.read (Elt F) x0c0.view (x0c0.view.writes (Elt F) f (⟨Rect.whole S256x1024, px⟩ :: L)) (ix2 b d) from hr.symm]
  generalize x0c0.view.writes (Elt F) f (⟨Rect.whole S256x1024, px⟩ :: L) = g
  exact congrArg (β := Elt F .f32) g e

theorem emb_x0c1 (i : Fin 256) (j : Fin 1024) : x0c1.view.emb (ix2 i j : S256x1024.Idx) = (ix3 0 ⟨256 + i.val, by omega⟩ j : S2x768x1024.Idx) := by
  refine (congrArg (Rect.unit (s := S2x768x1024) ![0, 256, 0] S1x256x1024.size inb_S2x768x1024_S1x256x1024_0_256_0).emb (ValueIdx.reshapeEquiv_ix2_1ab (a := 256) (b := 1024) rfl i j)).trans ?_
  funext a; apply Fin.ext; fin_cases a
  · rfl
  · show 256 + 1 * i.val = 256 + i.val; omega
  · show 0 + 1 * j.val = j.val; omega
theorem lds_x0c1 (c : Dev nD) (f : Bf (F := F) c x0c1) (px : S256x1024.Idx → Elt F .f32) (L : List (View.Piece (Elt F) S256x1024 .f32)) (h) :
   View.readAt (Elt F) sM18.view (Rect.unit (s := S2x768x1024) ![0, 256, 0] S1x256x1024.size h).toLoadRect (x0c1.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole x0c1.view (x0c1.view.writes (Elt F) f L) px) (ix2 b d)
  have e : (Rect.unit (s := S2x768x1024) ![0, 256, 0] S1x256x1024.size h).emb (ix3 a b d) = (ix3 0 ⟨256 + b.val, by omega⟩ d : S2x768x1024.Idx) := by
    funext q; apply Fin.ext; fin_cases q
    · show 0 + 1 * a.val = 0; omega
    · show 256 + 1 * b.val = 256 + b.val; omega
    · show 0 + 1 * d.val = d.val; omega
  rw [← emb_x0c1] at e
  rw [show ldf px (ix3 a b d) = View.read (Elt F) x0c1.view (x0c1.view.writes (Elt F) f (⟨Rect.whole S256x1024, px⟩ :: L)) (ix2 b d) from hr.symm]
  generalize x0c1.view.writes (Elt F) f (⟨Rect.whole S256x1024, px⟩ :: L) = g
  exact congrArg (β := Elt F .f32) g e

theorem emb_x0c2 (i : Fin 256) (j : Fin 1024) : x0c2.view.emb (ix2 i j : S256x1024.Idx) = (ix3 0 ⟨512 + i.val, by omega⟩ j : S2x768x1024.Idx) := by
  refine (congrArg (Rect.unit (s := S2x768x1024) ![0, 512, 0] S1x256x1024.size inb_S2x768x1024_S1x256x1024_0_512_0).emb (ValueIdx.reshapeEquiv_ix2_1ab (a := 256) (b := 1024) rfl i j)).trans ?_
  funext a; apply Fin.ext; fin_cases a
  · rfl
  · show 512 + 1 * i.val = 512 + i.val; omega
  · show 0 + 1 * j.val = j.val; omega
theorem lds_x0c2 (c : Dev nD) (f : Bf (F := F) c x0c2) (px : S256x1024.Idx → Elt F .f32) (L : List (View.Piece (Elt F) S256x1024 .f32)) (h) :
   View.readAt (Elt F) sM18.view (Rect.unit (s := S2x768x1024) ![0, 512, 0] S1x256x1024.size h).toLoadRect (x0c2.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole x0c2.view (x0c2.view.writes (Elt F) f L) px) (ix2 b d)
  have e : (Rect.unit (s := S2x768x1024) ![0, 512, 0] S1x256x1024.size h).emb (ix3 a b d) = (ix3 0 ⟨512 + b.val, by omega⟩ d : S2x768x1024.Idx) := by
    funext q; apply Fin.ext; fin_cases q
    · show 0 + 1 * a.val = 0; omega
    · show 512 + 1 * b.val = 512 + b.val; omega
    · show 0 + 1 * d.val = d.val; omega
  rw [← emb_x0c2] at e
  rw [show ldf px (ix3 a b d) = View.read (Elt F) x0c2.view (x0c2.view.writes (Elt F) f (⟨Rect.whole S256x1024, px⟩ :: L)) (ix2 b d) from hr.symm]
  generalize x0c2.view.writes (Elt F) f (⟨Rect.whole S256x1024, px⟩ :: L) = g
  exact congrArg (β := Elt F .f32) g e

theorem emb_o0c0 (i : Fin 256) (j : Fin 1024) : o0c0.view.emb (ix2 i j : S256x1024.Idx) = (ix3 0 ⟨0 + i.val, by omega⟩ j : S2x768x1024.Idx) := by
  refine (congrArg (Rect.unit (s := S2x768x1024) ![0, 0, 0] S1x256x1024.size inb_S2x768x1024_S1x256x1024_0_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_o0c0 (c : Dev nD) (f : Bf (F := F) c o0c0) (px : S256x1024.Idx → Elt F .f32) (L : List (View.Piece (Elt F) S256x1024 .f32)) (h) :
   View.readAt (Elt F) sM19.view (Rect.unit (s := S2x768x1024) ![0, 0, 0] S1x256x1024.size h).toLoadRect (o0c0.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole o0c0.view (o0c0.view.writes (Elt F) f L) px) (ix2 b d)
  have e : (Rect.unit (s := S2x768x1024) ![0, 0, 0] S1x256x1024.size h).emb (ix3 a b d) = (ix3 0 ⟨0 + b.val, by omega⟩ d : S2x768x1024.Idx) := by
    funext q; apply Fin.ext; fin_cases q
    · show 0 + 1 * a.val = 0; omega
    · show 0 + 1 * b.val = 0 + b.val; omega
    · show 0 + 1 * d.val = d.val; omega
  rw [← emb_o0c0] at e
  rw [show ldf px (ix3 a b d) = View.read (Elt F) o0c0.view (o0c0.view.writes (Elt F) f (⟨Rect.whole S256x1024, px⟩ :: L)) (ix2 b d) from hr.symm]
  generalize o0c0.view.writes (Elt F) f (⟨Rect.whole S256x1024, px⟩ :: L) = g
  exact congrArg (β := Elt F .f32) g e

theorem emb_o0c1 (i : Fin 256) (j : Fin 1024) : o0c1.view.emb (ix2 i j : S256x1024.Idx) = (ix3 0 ⟨256 + i.val, by omega⟩ j : S2x768x1024.Idx) := by
  refine (congrArg (Rect.unit (s := S2x768x1024) ![0, 256, 0] S1x256x1024.size inb_S2x768x1024_S1x256x1024_0_256_0).emb (ValueIdx.reshapeEquiv_ix2_1ab (a := 256) (b := 1024) rfl i j)).trans ?_
  funext a; apply Fin.ext; fin_cases a
  · rfl
  · show 256 + 1 * i.val = 256 + i.val; omega
  · show 0 + 1 * j.val = j.val; omega
theorem lds_o0c1 (c : Dev nD) (f : Bf (F := F) c o0c1) (px : S256x1024.Idx → Elt F .f32) (L : List (View.Piece (Elt F) S256x1024 .f32)) (h) :
   View.readAt (Elt F) sM19.view (Rect.unit (s := S2x768x1024) ![0, 256, 0] S1x256x1024.size h).toLoadRect (o0c1.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole o0c1.view (o0c1.view.writes (Elt F) f L) px) (ix2 b d)
  have e : (Rect.unit (s := S2x768x1024) ![0, 256, 0] S1x256x1024.size h).emb (ix3 a b d) = (ix3 0 ⟨256 + b.val, by omega⟩ d : S2x768x1024.Idx) := by
    funext q; apply Fin.ext; fin_cases q
    · show 0 + 1 * a.val = 0; omega
    · show 256 + 1 * b.val = 256 + b.val; omega
    · show 0 + 1 * d.val = d.val; omega
  rw [← emb_o0c1] at e
  rw [show ldf px (ix3 a b d) = View.read (Elt F) o0c1.view (o0c1.view.writes (Elt F) f (⟨Rect.whole S256x1024, px⟩ :: L)) (ix2 b d) from hr.symm]
  generalize o0c1.view.writes (Elt F) f (⟨Rect.whole S256x1024, px⟩ :: L) = g
  exact congrArg (β := Elt F .f32) g e

theorem emb_o0c2 (i : Fin 256) (j : Fin 1024) : o0c2.view.emb (ix2 i j : S256x1024.Idx) = (ix3 0 ⟨512 + i.val, by omega⟩ j : S2x768x1024.Idx) := by
  refine (congrArg (Rect.unit (s := S2x768x1024) ![0, 512, 0] S1x256x1024.size inb_S2x768x1024_S1x256x1024_0_512_0).emb (ValueIdx.reshapeEquiv_ix2_1ab (a := 256) (b := 1024) rfl i j)).trans ?_
  funext a; apply Fin.ext; fin_cases a
  · rfl
  · show 512 + 1 * i.val = 512 + i.val; omega
  · show 0 + 1 * j.val = j.val; omega
theorem lds_o0c2 (c : Dev nD) (f : Bf (F := F) c o0c2) (px : S256x1024.Idx → Elt F .f32) (L : List (View.Piece (Elt F) S256x1024 .f32)) (h) :
   View.readAt (Elt F) sM19.view (Rect.unit (s := S2x768x1024) ![0, 512, 0] S1x256x1024.size h).toLoadRect (o0c2.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole o0c2.view (o0c2.view.writes (Elt F) f L) px) (ix2 b d)
  have e : (Rect.unit (s := S2x768x1024) ![0, 512, 0] S1x256x1024.size h).emb (ix3 a b d) = (ix3 0 ⟨512 + b.val, by omega⟩ d : S2x768x1024.Idx) := by
    funext q; apply Fin.ext; fin_cases q
    · show 0 + 1 * a.val = 0; omega
    · show 512 + 1 * b.val = 512 + b.val; omega
    · show 0 + 1 * d.val = d.val; omega
  rw [← emb_o0c2] at e
  rw [show ldf px (ix3 a b d) = View.read (Elt F) o0c2.view (o0c2.view.writes (Elt F) f (⟨Rect.whole S256x1024, px⟩ :: L)) (ix2 b d) from hr.symm]
  generalize o0c2.view.writes (Elt F) f (⟨Rect.whole S256x1024, px⟩ :: L) = g
  exact congrArg (β := Elt F .f32) g e

theorem emb_o1c0 (i : Fin 256) (j : Fin 1024) : o1c0.view.emb (ix2 i j : S256x1024.Idx) = (ix3 1 ⟨0 + i.val, by omega⟩ j : S2x768x1024.Idx) := by
  refine (congrArg (Rect.unit (s := S2x768x1024) ![1, 0, 0] S1x256x1024.size inb_S2x768x1024_S1x256x1024_1_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_o1c0 (c : Dev nD) (f : Bf (F := F) c o1c0) (px : S256x1024.Idx → Elt F .f32) (L : List (View.Piece (Elt F) S256x1024 .f32)) (h) :
   View.readAt (Elt F) sM19.view (Rect.unit (s := S2x768x1024) ![1, 0, 0] S1x256x1024.size h).toLoadRect (o1c0.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole o1c0.view (o1c0.view.writes (Elt F) f L) px) (ix2 b d)
  have e : (Rect.unit (s := S2x768x1024) ![1, 0, 0] S1x256x1024.size h).emb (ix3 a b d) = (ix3 1 ⟨0 + b.val, by omega⟩ d : S2x768x1024.Idx) := by
    funext q; apply Fin.ext; fin_cases q
    · show 1 + 1 * a.val = 1; omega
    · show 0 + 1 * b.val = 0 + b.val; omega
    · show 0 + 1 * d.val = d.val; omega
  rw [← emb_o1c0] at e
  rw [show ldf px (ix3 a b d) = View.read (Elt F) o1c0.view (o1c0.view.writes (Elt F) f (⟨Rect.whole S256x1024, px⟩ :: L)) (ix2 b d) from hr.symm]
  generalize o1c0.view.writes (Elt F) f (⟨Rect.whole S256x1024, px⟩ :: L) = g
  exact congrArg (β := Elt F .f32) g e

theorem emb_o1c1 (i : Fin 256) (j : Fin 1024) : o1c1.view.emb (ix2 i j : S256x1024.Idx) = (ix3 1 ⟨256 + i.val, by omega⟩ j : S2x768x1024.Idx) := by
  refine (congrArg (Rect.unit (s := S2x768x1024) ![1, 256, 0] S1x256x1024.size inb_S2x768x1024_S1x256x1024_1_256_0).emb (ValueIdx.reshapeEquiv_ix2_1ab (a := 256) (b := 1024) rfl i j)).trans ?_
  funext a; apply Fin.ext; fin_cases a
  · rfl
  · show 256 + 1 * i.val = 256 + i.val; omega
  · show 0 + 1 * j.val = j.val; omega
theorem lds_o1c1 (c : Dev nD) (f : Bf (F := F) c o1c1) (px : S256x1024.Idx → Elt F .f32) (L : List (View.Piece (Elt F) S256x1024 .f32)) (h) :
   View.readAt (Elt F) sM19.view (Rect.unit (s := S2x768x1024) ![1, 256, 0] S1x256x1024.size h).toLoadRect (o1c1.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole o1c1.view (o1c1.view.writes (Elt F) f L) px) (ix2 b d)
  have e : (Rect.unit (s := S2x768x1024) ![1, 256, 0] S1x256x1024.size h).emb (ix3 a b d) = (ix3 1 ⟨256 + b.val, by omega⟩ d : S2x768x1024.Idx) := by
    funext q; apply Fin.ext; fin_cases q
    · show 1 + 1 * a.val = 1; omega
    · show 256 + 1 * b.val = 256 + b.val; omega
    · show 0 + 1 * d.val = d.val; omega
  rw [← emb_o1c1] at e
  rw [show ldf px (ix3 a b d) = View.read (Elt F) o1c1.view (o1c1.view.writes (Elt F) f (⟨Rect.whole S256x1024, px⟩ :: L)) (ix2 b d) from hr.symm]
  generalize o1c1.view.writes (Elt F) f (⟨Rect.whole S256x1024, px⟩ :: L) = g
  exact congrArg (β := Elt F .f32) g e

theorem emb_o1c2 (i : Fin 256) (j : Fin 1024) : o1c2.view.emb (ix2 i j : S256x1024.Idx) = (ix3 1 ⟨512 + i.val, by omega⟩ j : S2x768x1024.Idx) := by
  refine (congrArg (Rect.unit (s := S2x768x1024) ![1, 512, 0] S1x256x1024.size inb_S2x768x1024_S1x256x1024_1_512_0).emb (ValueIdx.reshapeEquiv_ix2_1ab (a := 256) (b := 1024) rfl i j)).trans ?_
  funext a; apply Fin.ext; fin_cases a
  · rfl
  · show 512 + 1 * i.val = 512 + i.val; omega
  · show 0 + 1 * j.val = j.val; omega
theorem lds_o1c2 (c : Dev nD) (f : Bf (F := F) c o1c2) (px : S256x1024.Idx → Elt F .f32) (L : List (View.Piece (Elt F) S256x1024 .f32)) (h) :
   View.readAt (Elt F) sM19.view (Rect.unit (s := S2x768x1024) ![1, 512, 0] S1x256x1024.size h).toLoadRect (o1c2.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole o1c2.view (o1c2.view.writes (Elt F) f L) px) (ix2 b d)
  have e : (Rect.unit (s := S2x768x1024) ![1, 512, 0] S1x256x1024.size h).emb (ix3 a b d) = (ix3 1 ⟨512 + b.val, by omega⟩ d : S2x768x1024.Idx) := by
    funext q; apply Fin.ext; fin_cases q
    · show 1 + 1 * a.val = 1; omega
    · show 512 + 1 * b.val = 512 + b.val; omega
    · show 0 + 1 * d.val = d.val; omega
  rw [← emb_o1c2] at e
  rw [show ldf px (ix3 a b d) = View.read (Elt F) o1c2.view (o1c2.view.writes (Elt F) f (⟨Rect.whole S256x1024, px⟩ :: L)) (ix2 b d) from hr.symm]
  generalize o1c2.view.writes (Elt F) f (⟨Rect.whole S256x1024, px⟩ :: L) = g
  exact congrArg (β := Elt F .f32) g e
theorem lds_f1 (c : Dev nD) (f : Bf (F := F) c f1) (px : S256x1024.Idx → Elt F .f32) (L : List (View.Piece (Elt F) S256x1024 .f32)) (h) :
   View.readAt (Elt F) sM22.view (Rect.unit (s := S2x256x1024) ![1, 0, 0] S1x256x1024.size h).toLoadRect (f1.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole f1.view (f1.view.writes (Elt F) f L) px) (ix2 b d)
  have e : (Rect.unit (s := S2x256x1024) ![1, 0, 0] S1x256x1024.size h).emb (ix3 a b d) = (ix3 1 b d : S2x256x1024.Idx) := by
    funext q; apply Fin.ext; fin_cases q
    · show 1 + 1 * a.val = 1; omega
    · show 0 + 1 * b.val = b.val; omega
    · show 0 + 1 * d.val = d.val; omega
  rw [← emb_f1] at e
  rw [show ldf px (ix3 a b d) = View.read (Elt F) f1.view (f1.view.writes (Elt F) f (⟨Rect.whole S256x1024, px⟩ :: L)) (ix2 b d) from hr.symm]
  generalize f1.view.writes (Elt F) f (⟨Rect.whole S256x1024, px⟩ :: L) = g
  exact congrArg (β := Elt F .f32) g e

theorem emb_st0 (i : Fin 256) (j : Fin 1024) : st0.view.emb (ix2 i j : S256x1024.Idx) = (ix3 0 ⟨0 + i.val, by omega⟩ j : S8x256x1024.Idx) := by
  refine (congrArg (Rect.unit (s := S8x256x1024) ![0, 0, 0] S1x256x1024.size inb_S8x256x1024_S1x256x1024_0_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_st0 (c : Dev nD) (f : Bf (F := F) c st0) (px : S256x1024.Idx → Elt F .f32) (L : List (View.Piece (Elt F) S256x1024 .f32)) (h) :
   View.readAt (Elt F) sMst.view (Rect.unit (s := S8x256x1024) ![0, 0, 0] S1x256x1024.size h).toLoadRect (st0.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole st0.view (st0.view.writes (Elt F) f L) px) (ix2 b d)
  have e : (Rect.unit (s := S8x256x1024) ![0, 0, 0] S1x256x1024.size h).emb (ix3 a b d) = (ix3 0 ⟨0 + b.val, by omega⟩ d : S8x256x1024.Idx) := by
    funext q; apply Fin.ext; fin_cases q
    · show 0 + 1 * a.val = 0; omega
    · show 0 + 1 * b.val = 0 + b.val; omega
    · show 0 + 1 * d.val = d.val; omega
  rw [← emb_st0] at e
  rw [show ldf px (ix3 a b d) = View.read (Elt F) st0.view (st0.view.writes (Elt F) f (⟨Rect.whole S256x1024, px⟩ :: L)) (ix2 b d) from hr.symm]
  generalize st0.view.writes (Elt F) f (⟨Rect.whole S256x1024, px⟩ :: L) = g
  exact congrArg (β := Elt F .f32) g e

theorem emb_st1 (i : Fin 256) (j : Fin 1024) : st1.view.emb (ix2 i j : S256x1024.Idx) = (ix3 1 ⟨0 + i.val, by omega⟩ j : S8x256x1024.Idx) := by
  refine (congrArg (Rect.unit (s := S8x256x1024) ![1, 0, 0] S1x256x1024.size inb_S8x256x1024_S1x256x1024_1_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_st1 (c : Dev nD) (f : Bf (F := F) c st1) (px : S256x1024.Idx → Elt F .f32) (L : List (View.Piece (Elt F) S256x1024 .f32)) (h) :
   View.readAt (Elt F) sMst.view (Rect.unit (s := S8x256x1024) ![1, 0, 0] S1x256x1024.size h).toLoadRect (st1.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole st1.view (st1.view.writes (Elt F) f L) px) (ix2 b d)
  have e : (Rect.unit (s := S8x256x1024) ![1, 0, 0] S1x256x1024.size h).emb (ix3 a b d) = (ix3 1 ⟨0 + b.val, by omega⟩ d : S8x256x1024.Idx) := by
    funext q; apply Fin.ext; fin_cases q
    · show 1 + 1 * a.val = 1; omega
    · show 0 + 1 * b.val = 0 + b.val; omega
    · show 0 + 1 * d.val = d.val; omega
  rw [← emb_st1] at e
  rw [show ldf px (ix3 a b d) = View.read (Elt F) st1.view (st1.view.writes (Elt F) f (⟨Rect.whole S256x1024, px⟩ :: L)) (ix2 b d) from hr.symm]
  generalize st1.view.writes (Elt F) f (⟨Rect.whole S256x1024, px⟩ :: L) = g
  exact congrArg (β := Elt F .f32) g e

theorem emb_st2 (i : Fin 256) (j : Fin 1024) : st2.view.emb (ix2 i j : S256x1024.Idx) = (ix3 2 ⟨0 + i.val, by omega⟩ j : S8x256x1024.Idx) := by
  refine (congrArg (Rect.unit (s := S8x256x1024) ![2, 0, 0] S1x256x1024.size inb_S8x256x1024_S1x256x1024_2_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_st2 (c : Dev nD) (f : Bf (F := F) c st2) (px : S256x1024.Idx → Elt F .f32) (L : List (View.Piece (Elt F) S256x1024 .f32)) (h) :
   View.readAt (Elt F) sMst.view (Rect.unit (s := S8x256x1024) ![2, 0, 0] S1x256x1024.size h).toLoadRect (st2.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole st2.view (st2.view.writes (Elt F) f L) px) (ix2 b d)
  have e : (Rect.unit (s := S8x256x1024) ![2, 0, 0] S1x256x1024.size h).emb (ix3 a b d) = (ix3 2 ⟨0 + b.val, by omega⟩ d : S8x256x1024.Idx) := by
    funext q; apply Fin.ext; fin_cases q
    · show 2 + 1 * a.val = 2; omega
    · show 0 + 1 * b.val = 0 + b.val; omega
    · show 0 + 1 * d.val = d.val; omega
  rw [← emb_st2] at e
  rw [show ldf px (ix3 a b d) = View.read (Elt F) st2.view (st2.view.writes (Elt F) f (⟨Rect.whole S256x1024, px⟩ :: L)) (ix2 b d) from hr.symm]
  generalize st2.view.writes (Elt F) f (⟨Rect.whole S256x1024, px⟩ :: L) = g
  exact congrArg (β := Elt F .f32) g e

theorem emb_st3 (i : Fin 256) (j : Fin 1024) : st3.view.emb (ix2 i j : S256x1024.Idx) = (ix3 3 ⟨0 + i.val, by omega⟩ j : S8x256x1024.Idx) := by
  refine (congrArg (Rect.unit (s := S8x256x1024) ![3, 0, 0] S1x256x1024.size inb_S8x256x1024_S1x256x1024_3_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_st3 (c : Dev nD) (f : Bf (F := F) c st3) (px : S256x1024.Idx → Elt F .f32) (L : List (View.Piece (Elt F) S256x1024 .f32)) (h) :
   View.readAt (Elt F) sMst.view (Rect.unit (s := S8x256x1024) ![3, 0, 0] S1x256x1024.size h).toLoadRect (st3.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole st3.view (st3.view.writes (Elt F) f L) px) (ix2 b d)
  have e : (Rect.unit (s := S8x256x1024) ![3, 0, 0] S1x256x1024.size h).emb (ix3 a b d) = (ix3 3 ⟨0 + b.val, by omega⟩ d : S8x256x1024.Idx) := by
    funext q; apply Fin.ext; fin_cases q
    · show 3 + 1 * a.val = 3; omega
    · show 0 + 1 * b.val = 0 + b.val; omega
    · show 0 + 1 * d.val = d.val; omega
  rw [← emb_st3] at e
  rw [show ldf px (ix3 a b d) = View.read (Elt F) st3.view (st3.view.writes (Elt F) f (⟨Rect.whole S256x1024, px⟩ :: L)) (ix2 b d) from hr.symm]
  generalize st3.view.writes (Elt F) f (⟨Rect.whole S256x1024, px⟩ :: L) = g
  exact congrArg (β := Elt F .f32) g e

theorem emb_st4 (i : Fin 256) (j : Fin 1024) : st4.view.emb (ix2 i j : S256x1024.Idx) = (ix3 4 ⟨0 + i.val, by omega⟩ j : S8x256x1024.Idx) := by
  refine (congrArg (Rect.unit (s := S8x256x1024) ![4, 0, 0] S1x256x1024.size inb_S8x256x1024_S1x256x1024_4_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_st4 (c : Dev nD) (f : Bf (F := F) c st4) (px : S256x1024.Idx → Elt F .f32) (L : List (View.Piece (Elt F) S256x1024 .f32)) (h) :
   View.readAt (Elt F) sMst.view (Rect.unit (s := S8x256x1024) ![4, 0, 0] S1x256x1024.size h).toLoadRect (st4.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole st4.view (st4.view.writes (Elt F) f L) px) (ix2 b d)
  have e : (Rect.unit (s := S8x256x1024) ![4, 0, 0] S1x256x1024.size h).emb (ix3 a b d) = (ix3 4 ⟨0 + b.val, by omega⟩ d : S8x256x1024.Idx) := by
    funext q; apply Fin.ext; fin_cases q
    · show 4 + 1 * a.val = 4; omega
    · show 0 + 1 * b.val = 0 + b.val; omega
    · show 0 + 1 * d.val = d.val; omega
  rw [← emb_st4] at e
  rw [show ldf px (ix3 a b d) = View.read (Elt F) st4.view (st4.view.writes (Elt F) f (⟨Rect.whole S256x1024, px⟩ :: L)) (ix2 b d) from hr.symm]
  generalize st4.view.writes (Elt F) f (⟨Rect.whole S256x1024, px⟩ :: L) = g
  exact congrArg (β := Elt F .f32) g e

theorem emb_st5 (i : Fin 256) (j : Fin 1024) : st5.view.emb (ix2 i j : S256x1024.Idx) = (ix3 5 ⟨0 + i.val, by omega⟩ j : S8x256x1024.Idx) := by
  refine (congrArg (Rect.unit (s := S8x256x1024) ![5, 0, 0] S1x256x1024.size inb_S8x256x1024_S1x256x1024_5_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_st5 (c : Dev nD) (f : Bf (F := F) c st5) (px : S256x1024.Idx → Elt F .f32) (L : List (View.Piece (Elt F) S256x1024 .f32)) (h) :
   View.readAt (Elt F) sMst.view (Rect.unit (s := S8x256x1024) ![5, 0, 0] S1x256x1024.size h).toLoadRect (st5.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole st5.view (st5.view.writes (Elt F) f L) px) (ix2 b d)
  have e : (Rect.unit (s := S8x256x1024) ![5, 0, 0] S1x256x1024.size h).emb (ix3 a b d) = (ix3 5 ⟨0 + b.val, by omega⟩ d : S8x256x1024.Idx) := by
    funext q; apply Fin.ext; fin_cases q
    · show 5 + 1 * a.val = 5; omega
    · show 0 + 1 * b.val = 0 + b.val; omega
    · show 0 + 1 * d.val = d.val; omega
  rw [← emb_st5] at e
  rw [show ldf px (ix3 a b d) = View.read (Elt F) st5.view (st5.view.writes (Elt F) f (⟨Rect.whole S256x1024, px⟩ :: L)) (ix2 b d) from hr.symm]
  generalize st5.view.writes (Elt F) f (⟨Rect.whole S256x1024, px⟩ :: L) = g
  exact congrArg (β := Elt F .f32) g e

theorem emb_st6 (i : Fin 256) (j : Fin 1024) : st6.view.emb (ix2 i j : S256x1024.Idx) = (ix3 6 ⟨0 + i.val, by omega⟩ j : S8x256x1024.Idx) := by
  refine (congrArg (Rect.unit (s := S8x256x1024) ![6, 0, 0] S1x256x1024.size inb_S8x256x1024_S1x256x1024_6_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_st6 (c : Dev nD) (f : Bf (F := F) c st6) (px : S256x1024.Idx → Elt F .f32) (L : List (View.Piece (Elt F) S256x1024 .f32)) (h) :
   View.readAt (Elt F) sMst.view (Rect.unit (s := S8x256x1024) ![6, 0, 0] S1x256x1024.size h).toLoadRect (st6.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole st6.view (st6.view.writes (Elt F) f L) px) (ix2 b d)
  have e : (Rect.unit (s := S8x256x1024) ![6, 0, 0] S1x256x1024.size h).emb (ix3 a b d) = (ix3 6 ⟨0 + b.val, by omega⟩ d : S8x256x1024.Idx) := by
    funext q; apply Fin.ext; fin_cases q
    · show 6 + 1 * a.val = 6; omega
    · show 0 + 1 * b.val = 0 + b.val; omega
    · show 0 + 1 * d.val = d.val; omega
  rw [← emb_st6] at e
  rw [show ldf px (ix3 a b d) = View.read (Elt F) st6.view (st6.view.writes (Elt F) f (⟨Rect.whole S256x1024, px⟩ :: L)) (ix2 b d) from hr.symm]
  generalize st6.view.writes (Elt F) f (⟨Rect.whole S256x1024, px⟩ :: L) = g
  exact congrArg (β := Elt F .f32) g e

theorem emb_st7 (i : Fin 256) (j : Fin 1024) : st7.view.emb (ix2 i j : S256x1024.Idx) = (ix3 7 ⟨0 + i.val, by omega⟩ j : S8x256x1024.Idx) := by
  refine (congrArg (Rect.unit (s := S8x256x1024) ![7, 0, 0] S1x256x1024.size inb_S8x256x1024_S1x256x1024_7_0_0).emb (ValueIdx.reshapeEquiv_ix2_1ab (a := 256) (b := 1024) rfl i j)).trans ?_
  funext a; apply Fin.ext; fin_cases a
  · rfl
  · show 0 + 1 * i.val = 0 + i.val; omega
  · show 0 + 1 * j.val = j.val; omega
theorem lds_st7 (c : Dev nD) (f : Bf (F := F) c st7) (px : S256x1024.Idx → Elt F .f32) (L : List (View.Piece (Elt F) S256x1024 .f32)) (h) :
   View.readAt (Elt F) sMst.view (Rect.unit (s := S8x256x1024) ![7, 0, 0] S1x256x1024.size h).toLoadRect (st7.view.writes (Elt F) f (⟨Rect.whole S256x1024, px⟩ :: L)) = ldf px := by
  funext j
  obtain ⟨a, b, d, rfl⟩ : ∃ (a : Fin 1) (b : Fin 256) (d : Fin 1024), j = ix3 a b d := ⟨_, _, _, eq_ix3 j⟩
  have hr := congrFun (View.read_writes_whole st7.view (st7.view.writes (Elt F) f L) px) (ix2 b d)
  have e : (Rect.unit (s := S8x256x1024) ![7, 0, 0] S1x256x1024.size h).emb (ix3 a b d) = (ix3 7 ⟨0 + b.val, by omega⟩ d : S8x256x1024.Idx) := by
    funext q; apply Fin.ext; fin_cases q
    · show 7 + 1 * a.val = 7; omega
    · show 0 + 1 * b.val = 0 + b.val; omega
    · show 0 + 1 * d.val = d.val; omega
  rw [← emb_st7] at e
  rw [show ldf px (ix3 a b d) = View.read (Elt F) st7.view (st7.view.writes (Elt F) f (⟨Rect.whole S256x1024, px⟩ :: L)) (ix2 b d) from hr.symm]
  generalize st7.view.writes (Elt F) f (⟨Rect.whole S256x1024, px⟩ :: L) = g
  exact congrArg (β := Elt F .f32) g e

/-- The number two. -/
def p_cst_414 : F .f32 := FloatOps.ofBits FTy.f32 1073741824#32

def p_r_1 {c : Dev nD} (I : In (F := F) c) : FVec F S256x1024 .bf16 :=
  k0_pay74 (blk (n := 16384) (m := 1024) I.x 0 0 (by decide) (by decide)) (View.readAt (Elt F) wM1.view (Rect.unit (s := S1x1024) ![0, 0] S1x1024.size inb_S1x1024_S1x1024_0_0).toLoadRect I.w1)

def p_r_3 {c : Dev nD} (I : In (F := F) c) : FVec F S256x512 .bf16 :=
  k0_pay96 (blk (n := 1024) (m := 2048) I.h2 512 1024 (by decide) (by decide))

def p_r_2 {c : Dev nD} (I : In (F := F) c) : FVec F S256x512 .bf16 :=
  k0_pay83 (blk (n := 1024) (m := 2048) I.h2 512 0 (by decide) (by decide))

def p_HsM12_16 {c : Dev nD} (I : In (F := F) c) : List (View.Piece (Elt F) S1024x2048 .bf16) :=
  [⟨Rect.unit (s := S1024x2048) ![768, 0] S256x512.size inb_S1024x2048_S256x512_768_0, k0_pay99 (blk (n := 1024) (m := 2048) I.h2 768 1024 (by decide) (by decide))⟩, ⟨Rect.unit (s := S1024x2048) ![768, 512] S256x512.size inb_S1024x2048_S256x512_768_512, k0_pay98 (blk (n := 1024) (m := 2048) I.h2 768 1024 (by decide) (by decide))⟩, ⟨Rect.unit (s := S1024x2048) ![512, 0] S256x512.size inb_S1024x2048_S256x512_512_0, p_r_3 I⟩, ⟨Rect.unit (s := S1024x2048) ![512, 512] S256x512.size inb_S1024x2048_S256x512_512_512, k0_pay95 (blk (n := 1024) (m := 2048) I.h2 512 1024 (by decide) (by decide))⟩, ⟨Rect.unit (s := S1024x2048) ![256, 0] S256x512.size inb_S1024x2048_S256x512_256_0, k0_pay93 (blk (n := 1024) (m := 2048) I.h2 256 1024 (by decide) (by decide))⟩, ⟨Rect.unit (s := S1024x2048) ![256, 512] S256x512.size inb_S1024x2048_S256x512_256_512, k0_pay92 (blk (n := 1024) (m := 2048) I.h2 256 1024 (by decide) (by decide))⟩, ⟨Rect.unit (s := S1024x2048) ![0, 0] S256x512.size inb_S1024x2048_S256x512_0_0, k0_pay90 (blk (n := 1024) (m := 2048) I.h2 0 1024 (by decide) (by decide))⟩, ⟨Rect.unit (s := S1024x2048) ![0, 512] S256x512.size inb_S1024x2048_S256x512_0_512, k0_pay89 (blk (n := 1024) (m := 2048) I.h2 0 1024 (by decide) (by decide))⟩, ⟨Rect.unit (s := S1024x2048) ![768, 1536] S256x512.size inb_S1024x2048_S256x512_768_1536, k0_pay87 (blk (n := 1024) (m := 2048) I.h2 768 0 (by decide) (by decide))⟩, ⟨Rect.unit (s := S1024x2048) ![768, 1024] S256x512.size inb_S1024x2048_S256x512_768_1024, k0_pay86 (blk (n := 1024) (m := 2048) I.h2 768 0 (by decide) (by decide))⟩, ⟨Rect.unit (s := S1024x2048) ![512, 1536] S256x512.size inb_S1024x2048_S256x512_512_1536, k0_pay84 (p_r_2 I)⟩, ⟨Rect.unit (s := S1024x2048) ![512, 1024] S256x512.size inb_S1024x2048_S256x512_512_1024, k0_pay82 (blk (n := 1024) (m := 2048) I.h2 512 0 (by decide) (by decide))⟩, ⟨Rect.unit (s := S1024x2048) ![256, 1536] S256x512.size inb_S1024x2048_S256x512_256_1536, k0_pay80 (blk (n := 1024) (m := 2048) I.h2 256 0 (by decide) (by decide))⟩, ⟨Rect.unit (s := S1024x2048) ![256, 1024] S256x512.size inb_S1024x2048_S256x512_256_1024, k0_pay79 (blk (n := 1024) (m := 2048) I.h2 256 0 (by decide) (by decide))⟩, ⟨Rect.unit (s := S1024x2048) ![0, 1536] S256x512.size inb_S1024x2048_S256x512_0_1536, k0_pay77 (blk (n := 1024) (m := 2048) I.h2 0 0 (by decide) (by decide))⟩, ⟨Rect.unit (s := S1024x2048) ![0, 1024] S256x512.size inb_S1024x2048_S256x512_0_1024, k0_pay76 (blk (n := 1024) (m := 2048) I.h2 0 0 (by decide) (by decide))⟩]

def p_v357_r0 {c : Dev nD} (I : In (F := F) c) : S1024x2048.Idx → Elt F .bf16 :=
  sM12.view.readCov (p_HsM12_16 I) (Rect.unit (s := S1024x2048) ![0, 0] S1024x2048.size inb_S1024x2048_S1024x2048_0_0).toLoadRect

def p_r_4 {c : Dev nD} (I : In (F := F) c) : FVec F S256x2048 .f32 :=
  k0_pay100 (p_r_1 I) (p_v357_r0 I)

def p_r_13 {c : Dev nD} (I : In (F := F) c) : FVec F S256x512 .f32 :=
  k0_pay113 k0_pay71 (p_r_4 I) (View.readAt (Elt F) wM3.view (Rect.unit (s := S1x1536) ![0, 0] S1x512.size inb_S1x1536_S1x512_0_0).toLoadRect I.w3) (View.readAt (Elt F) wM3.view (Rect.unit (s := S1x1536) ![0, 512] S1x512.size inb_S1x1536_S1x512_0_512).toLoadRect I.w3) (View.readAt (Elt F) wM3.view (Rect.unit (s := S1x1536) ![0, 1024] S1x512.size inb_S1x1536_S1x512_0_1024).toLoadRect I.w3)

def p_v834_r0 {c : Dev nD} (I : In (F := F) c) : S1x256x1024.Idx → Elt F .f32 :=
  (blk (n := 4096) (m := 1024) I.h9 1792 0 (by decide) (by decide))

def p_r_10 {c : Dev nD} (I : In (F := F) c) : FVec F S128x128 .f32 :=
  k0_pay109 (View.readAt (Elt F) wM5.view (Rect.unit (s := S1x512) ![0, 384] S1x128.size inb_S1x512_S1x128_0_384).toLoadRect I.w5)

def p_v697_r0 {c : Dev nD} (I : In (F := F) c) : S1x256x1024.Idx → Elt F .f32 :=
  (blk (n := 4096) (m := 1024) I.h9 768 0 (by decide) (by decide))

def p_v681_r0 {c : Dev nD} (I : In (F := F) c) : S1x256x1024.Idx → Elt F .f32 :=
  (blk (n := 4096) (m := 1024) I.h9 512 0 (by decide) (by decide))

def p_r_24 {c : Dev nD} (I : In (F := F) c) : FVec F S256x1024 .bf16 :=
  k0_pay133 (p_v681_r0 I)

def p_v665_r0 {c : Dev nD} (I : In (F := F) c) : S1x256x1024.Idx → Elt F .f32 :=
  (blk (n := 4096) (m := 1024) I.h9 256 0 (by decide) (by decide))

def p_v649_r0 {c : Dev nD} (I : In (F := F) c) : S1x256x1024.Idx → Elt F .f32 :=
  (blk (n := 4096) (m := 1024) I.h9 0 0 (by decide) (by decide))

def p_HsM15_4 {c : Dev nD} (I : In (F := F) c) : List (View.Piece (Elt F) S4096x1024 .bf16) :=
  [⟨Rect.unit (s := S4096x1024) ![768, 0] S256x1024.size inb_S4096x1024_S256x1024_768_0, k0_pay135 (p_v697_r0 I)⟩, ⟨Rect.unit (s := S4096x1024) ![512, 0] S256x1024.size inb_S4096x1024_S256x1024_512_0, k0_pay134 (p_r_24 I)⟩, ⟨Rect.unit (s := S4096x1024) ![256, 0] S256x1024.size inb_S4096x1024_S256x1024_256_0, k0_pay132 (p_v665_r0 I)⟩, ⟨Rect.unit (s := S4096x1024) ![0, 0] S256x1024.size inb_S4096x1024_S256x1024_0_0, k0_pay131 (p_v649_r0 I)⟩]

def p_v703_r0 {c : Dev nD} (I : In (F := F) c) : S1024x1024.Idx → Elt F .bf16 :=
  sM15.view.readCov (p_HsM15_4 I) (Rect.unit (s := S4096x1024) ![0, 0] S1024x1024.size inb_S4096x1024_S1024x1024_0_0).toLoadRect

def p_v1022_r0 {c : Dev nD} (I : In (F := F) c) : S1x256x1024.Idx → Elt F .f32 :=
  (blk (n := 4096) (m := 1024) I.h9 3584 0 (by decide) (by decide))

def p_r {c : Dev nD} (I : In (F := F) c) : FVec F S256x1024 .f32 :=
  k0_pay73 (blk (n := 16384) (m := 1024) I.x 0 0 (by decide) (by decide))

def p_r_11 {c : Dev nD} (I : In (F := F) c) : FVec F S256x512 .f32 :=
  k0_pay111 (p_r_4 I)

def p_r_15 {c : Dev nD} (I : In (F := F) c) : FVec F S256x128 .f32 :=
  k0_pay116 k0_pay72 (p_r_4 I)

def p_r_16 {c : Dev nD} (I : In (F := F) c) : FVec F S256x128 .f32 :=
  k0_pay117 (p_r_11 I) k0_pay115 (p_r_15 I) p_cst_414

def p_r_14 {c : Dev nD} (I : In (F := F) c) : FVec F S272x512 .f32 :=
  k0_pay114 k0_pay72 (p_r_4 I)

def p_r_17 {c : Dev nD} (I : In (F := F) c) : FVec F S256x128 .f32 :=
  k0_pay118 (p_r_11 I) (p_r_14 I) (k0_pay115 (F := F))

def p_r_18 {c : Dev nD} (I : In (F := F) c) : FVec F S256x128 .f32 :=
  k0_pay119 (p_r_11 I) (p_r_14 I) (k0_pay115 (F := F))

def p_r_19 {c : Dev nD} (I : In (F := F) c) : FVec F S256x128 .f32 :=
  k0_pay120 (p_r_11 I) (p_r_14 I) (k0_pay115 (F := F))

def p_r_7 {c : Dev nD} (I : In (F := F) c) : FVec F S256x1024 .f32 :=
  k0_pay106 (blk (n := 1024) (m := 1024) I.h6 768 0 (by decide) (by decide))

def p_r_8 {c : Dev nD} (I : In (F := F) c) : FVec F S128x1024 .f32 :=
  k0_pay107 (blk (n := 1024) (m := 1024) I.h6 768 0 (by decide) (by decide)) (View.readAt (Elt F) wM4.view (Rect.unit (s := S4x128x128) ![2, 0, 0] S1x128x128.size inb_S4x128x128_S1x128x128_2_0_0).toLoadRect I.w4) (View.readAt (Elt F) wM5.view (Rect.unit (s := S1x512) ![0, 256] S1x128.size inb_S1x512_S1x128_0_256).toLoadRect I.w5)

def p_r_9 {c : Dev nD} (I : In (F := F) c) : FVec F S128x128 .f32 :=
  k0_pay108 (View.readAt (Elt F) wM4.view (Rect.unit (s := S4x128x128) ![3, 0, 0] S1x128x128.size inb_S4x128x128_S1x128x128_3_0_0).toLoadRect I.w4)

def p_r_6 {c : Dev nD} (I : In (F := F) c) : FVec F S256x1024 .f32 :=
  k0_pay104 (blk (n := 1024) (m := 1024) I.h6 512 0 (by decide) (by decide)) (View.readAt (Elt F) wM4.view (Rect.unit (s := S4x128x128) ![0, 0, 0] S1x128x128.size inb_S4x128x128_S1x128x128_0_0_0).toLoadRect I.w4) (View.readAt (Elt F) wM5.view (Rect.unit (s := S1x512) ![0, 0] S1x128.size inb_S1x512_S1x128_0_0).toLoadRect I.w5) (View.readAt (Elt F) wM4.view (Rect.unit (s := S4x128x128) ![1, 0, 0] S1x128x128.size inb_S4x128x128_S1x128x128_1_0_0).toLoadRect I.w4) (View.readAt (Elt F) wM5.view (Rect.unit (s := S1x512) ![0, 128] S1x128.size inb_S1x512_S1x128_0_128).toLoadRect I.w5)

def p_r_5 {c : Dev nD} (I : In (F := F) c) : FVec F S256x1024 .bf16 :=
  k0_pay102 (blk (n := 1024) (m := 1024) I.h6 256 0 (by decide) (by decide))

def p_HsM13_4 {c : Dev nD} (I : In (F := F) c) : List (View.Piece (Elt F) S1024x1024 .bf16) :=
  [⟨Rect.unit (s := S1024x1024) ![768, 0] S256x1024.size inb_S1024x1024_S256x1024_768_0, k0_pay110 (p_r_7 I) (p_r_8 I) (p_r_9 I) (p_r_10 I)⟩, ⟨Rect.unit (s := S1024x1024) ![512, 0] S256x1024.size inb_S1024x1024_S256x1024_512_0, k0_pay105 (p_r_6 I)⟩, ⟨Rect.unit (s := S1024x1024) ![256, 0] S256x1024.size inb_S1024x1024_S256x1024_256_0, k0_pay103 (p_r_5 I)⟩, ⟨Rect.unit (s := S1024x1024) ![0, 0] S256x1024.size inb_S1024x1024_S256x1024_0_0, k0_pay101 (blk (n := 1024) (m := 1024) I.h6 0 0 (by decide) (by decide))⟩]

def p_v545_r0 {c : Dev nD} (I : In (F := F) c) : S1024x1024.Idx → Elt F .bf16 :=
  sM13.view.readCov (p_HsM13_4 I) (Rect.unit (s := S1024x1024) ![0, 0] S1024x1024.size inb_S1024x1024_S1024x1024_0_0).toLoadRect

def p_r_20 {c : Dev nD} (I : In (F := F) c) : FVec F S256x1024 .f32 :=
  k0_pay121 (p_r I) (p_r_13 I) (p_r_16 I) (p_r_17 I) (p_r_18 I) (p_r_19 I) (p_v545_r0 I)

def p_r_21 {c : Dev nD} (I : In (F := F) c) : FVec F S256x1024 .bf16 :=
  k0_pay124 (p_r I) (p_r_13 I) (p_r_16 I) (p_r_17 I) (p_r_18 I) (p_r_19 I) (p_v545_r0 I) (View.readAt (Elt F) wM7.view (Rect.unit (s := S1x1024) ![0, 0] S1x1024.size inb_S1x1024_S1x1024_0_0).toLoadRect I.w7)

def p_r_22 {c : Dev nD} (I : In (F := F) c) : FVec F S256x1024 .bf16 :=
  k0_pay128 (blk (n := 1024) (m := 4096) I.h8 768 0 (by decide) (by decide))

def p_HsM14_4 {c : Dev nD} (I : In (F := F) c) : List (View.Piece (Elt F) S1024x4096 .bf16) :=
  [⟨Rect.unit (s := S1024x4096) ![768, 0] S256x1024.size inb_S1024x4096_S256x1024_768_0, k0_pay129 (p_r_22 I)⟩, ⟨Rect.unit (s := S1024x4096) ![512, 0] S256x1024.size inb_S1024x4096_S256x1024_512_0, k0_pay127 (blk (n := 1024) (m := 4096) I.h8 512 0 (by decide) (by decide))⟩, ⟨Rect.unit (s := S1024x4096) ![256, 0] S256x1024.size inb_S1024x4096_S256x1024_256_0, k0_pay126 (blk (n := 1024) (m := 4096) I.h8 256 0 (by decide) (by decide))⟩, ⟨Rect.unit (s := S1024x4096) ![0, 0] S256x1024.size inb_S1024x4096_S256x1024_0_0, k0_pay125 (blk (n := 1024) (m := 4096) I.h8 0 0 (by decide) (by decide))⟩]

def p_v633_r0 {c : Dev nD} (I : In (F := F) c) : S1024x1024.Idx → Elt F .bf16 :=
  sM14.view.readCov (p_HsM14_4 I) (Rect.unit (s := S1024x4096) ![0, 0] S1024x1024.size inb_S1024x4096_S1024x1024_0_0).toLoadRect

def p_r_23 {c : Dev nD} (I : In (F := F) c) : FVec F S256x1024 .bf16 :=
  k0_pay130 (p_r_21 I) (p_v633_r0 I)

def p_r_25 {c : Dev nD} (I : In (F := F) c) : FVec F S256x1024 .f32 :=
  k0_pay136 (p_r_20 I) (p_r_23 I) (p_v703_r0 I)

def p_v764_r0 {c : Dev nD} (I : In (F := F) c) : S1x256x1024.Idx → Elt F .f32 :=
  (blk (n := 1024) (m := 4096) I.h8 768 1024 (by decide) (by decide))

def p_v748_r0 {c : Dev nD} (I : In (F := F) c) : S1x256x1024.Idx → Elt F .f32 :=
  (blk (n := 1024) (m := 4096) I.h8 512 1024 (by decide) (by decide))

def p_v732_r0 {c : Dev nD} (I : In (F := F) c) : S1x256x1024.Idx → Elt F .f32 :=
  (blk (n := 1024) (m := 4096) I.h8 256 1024 (by decide) (by decide))

def p_v716_r0 {c : Dev nD} (I : In (F := F) c) : S1x256x1024.Idx → Elt F .f32 :=
  (blk (n := 1024) (m := 4096) I.h8 0 1024 (by decide) (by decide))

def p_HsM14_8 {c : Dev nD} (I : In (F := F) c) : List (View.Piece (Elt F) S1024x4096 .bf16) :=
  ⟨Rect.unit (s := S1024x4096) ![768, 1024] S256x1024.size inb_S1024x4096_S256x1024_768_1024, k0_pay140 (p_v764_r0 I)⟩ :: ⟨Rect.unit (s := S1024x4096) ![512, 1024] S256x1024.size inb_S1024x4096_S256x1024_512_1024, k0_pay139 (p_v748_r0 I)⟩ :: ⟨Rect.unit (s := S1024x4096) ![256, 1024] S256x1024.size inb_S1024x4096_S256x1024_256_1024, k0_pay138 (p_v732_r0 I)⟩ :: ⟨Rect.unit (s := S1024x4096) ![0, 1024] S256x1024.size inb_S1024x4096_S256x1024_0_1024, k0_pay137 (p_v716_r0 I)⟩ :: p_HsM14_4 I

def p_v770_r0 {c : Dev nD} (I : In (F := F) c) : S1024x1024.Idx → Elt F .bf16 :=
  sM14.view.readCov (p_HsM14_8 I) (Rect.unit (s := S1024x4096) ![0, 1024] S1024x1024.size inb_S1024x4096_S1024x1024_0_1024).toLoadRect

def p_r_26 {c : Dev nD} (I : In (F := F) c) : FVec F S256x1024 .bf16 :=
  k0_pay141 (p_r_21 I) (p_v770_r0 I)

def p_v {c : Dev nD} (I : In (F := F) c) : S1x256x1024.Idx → Elt F .f32 :=
  (blk (n := 4096) (m := 1024) I.h9 1536 0 (by decide) (by decide))

def p_v802_r0 {c : Dev nD} (I : In (F := F) c) : S1x256x1024.Idx → Elt F .f32 :=
  (blk (n := 4096) (m := 1024) I.h9 1280 0 (by decide) (by decide))

def p_v786_r0 {c : Dev nD} (I : In (F := F) c) : S1x256x1024.Idx → Elt F .f32 :=
  (blk (n := 4096) (m := 1024) I.h9 1024 0 (by decide) (by decide))

def p_HsM15_8 {c : Dev nD} (I : In (F := F) c) : List (View.Piece (Elt F) S4096x1024 .bf16) :=
  ⟨Rect.unit (s := S4096x1024) ![1792, 0] S256x1024.size inb_S4096x1024_S256x1024_1792_0, k0_pay145 (p_v834_r0 I)⟩ :: ⟨Rect.unit (s := S4096x1024) ![1536, 0] S256x1024.size inb_S4096x1024_S256x1024_1536_0, k0_pay144 (p_v I)⟩ :: ⟨Rect.unit (s := S4096x1024) ![1280, 0] S256x1024.size inb_S4096x1024_S256x1024_1280_0, k0_pay143 (p_v802_r0 I)⟩ :: ⟨Rect.unit (s := S4096x1024) ![1024, 0] S256x1024.size inb_S4096x1024_S256x1024_1024_0, k0_pay142 (p_v786_r0 I)⟩ :: p_HsM15_4 I

def p_v840_r0 {c : Dev nD} (I : In (F := F) c) : S1024x1024.Idx → Elt F .bf16 :=
  sM15.view.readCov (p_HsM15_8 I) (Rect.unit (s := S4096x1024) ![1024, 0] S1024x1024.size inb_S4096x1024_S1024x1024_1024_0).toLoadRect

def p_r_27 {c : Dev nD} (I : In (F := F) c) : FVec F S256x1024 .f32 :=
  k0_pay146 (p_r_25 I) (p_r_26 I) (p_v840_r0 I)

def p_v1000_r0 {c : Dev nD} (I : In (F := F) c) : S1x256x1024.Idx → Elt F .f32 :=
  (blk (n := 4096) (m := 1024) I.h9 3072 0 (by decide) (by decide))

def p_v864_r0 {c : Dev nD} (I : In (F := F) c) : S1x256x1024.Idx → Elt F .f32 :=
  (blk (n := 1024) (m := 4096) I.h8 256 2048 (by decide) (by decide))

def p_v950_r0 {c : Dev nD} (I : In (F := F) c) : S1x256x1024.Idx → Elt F .f32 :=
  (blk (n := 1024) (m := 4096) I.h8 0 3072 (by decide) (by decide))

def p_v1033_r0 {c : Dev nD} (I : In (F := F) c) : S1x256x1024.Idx → Elt F .f32 :=
  (blk (n := 4096) (m := 1024) I.h9 3840 0 (by decide) (by decide))

def p_v1011_r0 {c : Dev nD} (I : In (F := F) c) : S1x256x1024.Idx → Elt F .f32 :=
  (blk (n := 4096) (m := 1024) I.h9 3328 0 (by decide) (by decide))

def p_r_32 {c : Dev nD} (I : In (F := F) c) : FVec F S256x1024 .bf16 :=
  k0_pay164 (p_v1011_r0 I)

def p_v936_r0 {c : Dev nD} (I : In (F := F) c) : S1x256x1024.Idx → Elt F .f32 :=
  (blk (n := 4096) (m := 1024) I.h9 2816 0 (by decide) (by decide))

def p_v925_r0 {c : Dev nD} (I : In (F := F) c) : S1x256x1024.Idx → Elt F .f32 :=
  (blk (n := 4096) (m := 1024) I.h9 2560 0 (by decide) (by decide))

def p_v914_r0 {c : Dev nD} (I : In (F := F) c) : S1x256x1024.Idx → Elt F .f32 :=
  (blk (n := 4096) (m := 1024) I.h9 2304 0 (by decide) (by decide))

def p_v903_r0 {c : Dev nD} (I : In (F := F) c) : S1x256x1024.Idx → Elt F .f32 :=
  (blk (n := 4096) (m := 1024) I.h9 2048 0 (by decide) (by decide))

def p_HsM15_12 {c : Dev nD} (I : In (F := F) c) : List (View.Piece (Elt F) S4096x1024 .bf16) :=
  ⟨Rect.unit (s := S4096x1024) ![2816, 0] S256x1024.size inb_S4096x1024_S256x1024_2816_0, k0_pay155 (p_v936_r0 I)⟩ :: ⟨Rect.unit (s := S4096x1024) ![2560, 0] S256x1024.size inb_S4096x1024_S256x1024_2560_0, k0_pay154 (p_v925_r0 I)⟩ :: ⟨Rect.unit (s := S4096x1024) ![2304, 0] S256x1024.size inb_S4096x1024_S256x1024_2304_0, k0_pay153 (p_v914_r0 I)⟩ :: ⟨Rect.unit (s := S4096x1024) ![2048, 0] S256x1024.size inb_S4096x1024_S256x1024_2048_0, k0_pay152 (p_v903_r0 I)⟩ :: p_HsM15_8 I

def p_HsM15_16 {c : Dev nD} (I : In (F := F) c) : List (View.Piece (Elt F) S4096x1024 .bf16) :=
  ⟨Rect.unit (s := S4096x1024) ![3840, 0] S256x1024.size inb_S4096x1024_S256x1024_3840_0, k0_pay167 (p_v1033_r0 I)⟩ :: ⟨Rect.unit (s := S4096x1024) ![3584, 0] S256x1024.size inb_S4096x1024_S256x1024_3584_0, k0_pay166 (p_v1022_r0 I)⟩ :: ⟨Rect.unit (s := S4096x1024) ![3328, 0] S256x1024.size inb_S4096x1024_S256x1024_3328_0, k0_pay165 (p_r_32 I)⟩ :: ⟨Rect.unit (s := S4096x1024) ![3072, 0] S256x1024.size inb_S4096x1024_S256x1024_3072_0, k0_pay163 (p_v1000_r0 I)⟩ :: p_HsM15_12 I

def p_v1039_r0 {c : Dev nD} (I : In (F := F) c) : S1024x1024.Idx → Elt F .bf16 :=
  sM15.view.readCov (p_HsM15_16 I) (Rect.unit (s := S4096x1024) ![3072, 0] S1024x1024.size inb_S4096x1024_S1024x1024_3072_0).toLoadRect

def p_v983_r0 {c : Dev nD} (I : In (F := F) c) : S1x256x1024.Idx → Elt F .f32 :=
  (blk (n := 1024) (m := 4096) I.h8 768 3072 (by decide) (by decide))

def p_r_30 {c : Dev nD} (I : In (F := F) c) : FVec F S256x1024 .bf16 :=
  k0_pay160 (p_v983_r0 I)

def p_v972_r0 {c : Dev nD} (I : In (F := F) c) : S1x256x1024.Idx → Elt F .f32 :=
  (blk (n := 1024) (m := 4096) I.h8 512 3072 (by decide) (by decide))

def p_v961_r0 {c : Dev nD} (I : In (F := F) c) : S1x256x1024.Idx → Elt F .f32 :=
  (blk (n := 1024) (m := 4096) I.h8 256 3072 (by decide) (by decide))

def p_v886_r0 {c : Dev nD} (I : In (F := F) c) : S1x256x1024.Idx → Elt F .f32 :=
  (blk (n := 1024) (m := 4096) I.h8 768 2048 (by decide) (by decide))

def p_v875_r0 {c : Dev nD} (I : In (F := F) c) : S1x256x1024.Idx → Elt F .f32 :=
  (blk (n := 1024) (m := 4096) I.h8 512 2048 (by decide) (by decide))

def p_v853_r0 {c : Dev nD} (I : In (F := F) c) : S1x256x1024.Idx → Elt F .f32 :=
  (blk (n := 1024) (m := 4096) I.h8 0 2048 (by decide) (by decide))

def p_HsM14_12 {c : Dev nD} (I : In (F := F) c) : List (View.Piece (Elt F) S1024x4096 .bf16) :=
  ⟨Rect.unit (s := S1024x4096) ![768, 2048] S256x1024.size inb_S1024x4096_S256x1024_768_2048, k0_pay150 (p_v886_r0 I)⟩ :: ⟨Rect.unit (s := S1024x4096) ![512, 2048] S256x1024.size inb_S1024x4096_S256x1024_512_2048, k0_pay149 (p_v875_r0 I)⟩ :: ⟨Rect.unit (s := S1024x4096) ![256, 2048] S256x1024.size inb_S1024x4096_S256x1024_256_2048, k0_pay148 (p_v864_r0 I)⟩ :: ⟨Rect.unit (s := S1024x4096) ![0, 2048] S256x1024.size inb_S1024x4096_S256x1024_0_2048, k0_pay147 (p_v853_r0 I)⟩ :: p_HsM14_8 I

def p_HsM14_16 {c : Dev nD} (I : In (F := F) c) : List (View.Piece (Elt F) S1024x4096 .bf16) :=
  ⟨Rect.unit (s := S1024x4096) ![768, 3072] S256x1024.size inb_S1024x4096_S256x1024_768_3072, k0_pay161 (p_r_30 I)⟩ :: ⟨Rect.unit (s := S1024x4096) ![512, 3072] S256x1024.size inb_S1024x4096_S256x1024_512_3072, k0_pay159 (p_v972_r0 I)⟩ :: ⟨Rect.unit (s := S1024x4096) ![256, 3072] S256x1024.size inb_S1024x4096_S256x1024_256_3072, k0_pay158 (p_v961_r0 I)⟩ :: ⟨Rect.unit (s := S1024x4096) ![0, 3072] S256x1024.size inb_S1024x4096_S256x1024_0_3072, k0_pay157 (p_v950_r0 I)⟩ :: p_HsM14_12 I

def p_v989_r0 {c : Dev nD} (I : In (F := F) c) : S1024x1024.Idx → Elt F .bf16 :=
  sM14.view.readCov (p_HsM14_16 I) (Rect.unit (s := S1024x4096) ![0, 3072] S1024x1024.size inb_S1024x4096_S1024x1024_0_3072).toLoadRect

def p_v892_r0 {c : Dev nD} (I : In (F := F) c) : S1024x1024.Idx → Elt F .bf16 :=
  sM14.view.readCov (p_HsM14_12 I) (Rect.unit (s := S1024x4096) ![0, 2048] S1024x1024.size inb_S1024x4096_S1024x1024_0_2048).toLoadRect

def p_r_28 {c : Dev nD} (I : In (F := F) c) : FVec F S256x1024 .bf16 :=
  k0_pay151 (p_r_21 I) (p_v892_r0 I)

def p_v942_r0 {c : Dev nD} (I : In (F := F) c) : S1024x1024.Idx → Elt F .bf16 :=
  sM15.view.readCov (p_HsM15_12 I) (Rect.unit (s := S4096x1024) ![2048, 0] S1024x1024.size inb_S4096x1024_S1024x1024_2048_0).toLoadRect

def p_r_29 {c : Dev nD} (I : In (F := F) c) : FVec F S256x1024 .f32 :=
  k0_pay156 (p_r_27 I) (p_r_28 I) (p_v942_r0 I)

def p_r_31 {c : Dev nD} (I : In (F := F) c) : FVec F S256x1024 .bf16 :=
  k0_pay162 (p_r_21 I) (p_v989_r0 I)

def p_r_33 {c : Dev nD} (I : In (F := F) c) : FVec F S256x1024 .f32 :=
  k0_pay168 (p_r_29 I) (p_r_31 I) (p_v1039_r0 I)

def p_r_12 {c : Dev nD} (I : In (F := F) c) : FVec F S256x512 .f32 :=
  k0_pay112 (p_r_4 I)

def p_HsM21_1 {c : Dev nD} (I : In (F := F) c) : List (View.Piece (Elt F) S256x1024 .bf16) :=
  [⟨Rect.unit (s := S256x1024) ![0, 0] S256x1024.size inb_S256x1024_S256x1024_0_0, k0_pay170 (blk (n := 16384) (m := 1024) I.x 256 0 (by decide) (by decide)) (View.readAt (Elt F) wM1.view (Rect.unit (s := S1x1024) ![0, 0] S1x1024.size inb_S1x1024_S1x1024_0_0).toLoadRect I.w1)⟩]

def p_HsM20_1 {c : Dev nD} (I : In (F := F) c) : List (View.Piece (Elt F) S256x1024 .f32) :=
  [⟨Rect.unit (s := S256x1024) ![0, 0] S256x1024.size inb_S256x1024_S256x1024_0_0, k0_pay169 (p_r_33 I)⟩]

/-- The weights as the loop finds them. -/
def p_W {c : Dev nD} (I : In (F := F) c) : Wt (F := F) c where
  w1 := I.w1
  w3 := I.w3
  w7 := I.w7
  w10 := I.w10
  m12 := sM12.view.writes (Elt F) sM12.view.junk (p_HsM12_16 I)
  m13 := sM13.view.writes (Elt F) sM13.view.junk (p_HsM13_4 I)
  m14 := sM14.view.writes (Elt F) sM14.view.junk (p_HsM14_16 I)
  m15 := sM15.view.writes (Elt F) sM15.view.junk (p_HsM15_16 I)

/-- What the first trip finds carried: the history of both mixers, the finished first block, the normalized look-ahead block. -/
def p_S0 {c : Dev nD} (I : In (F := F) c) : St (F := F) c where
  s16 := k0_pay122 (p_r_12 I)
  s17 := k0_pay123 (p_r_11 I)
  s20 := k0_pay169 (p_r_33 I)
  s21 := k0_pay170 (blk (n := 16384) (m := 1024) I.x 256 0 (by decide) (by decide)) (View.readAt (Elt F) wM1.view (Rect.unit (s := S1x1024) ![0, 0] S1x1024.size inb_S1x1024_S1x1024_0_0).toLoadRect I.w1)

end Cert.KernelIdeal.Hand

end
-- ==== Proof.Rows.lean ====
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The result, and the rows of it a run has written -/

/-- The result of the run: each loop tile as its trip leaves it, and the last 256 rows. -/
def Gout {c : Dev nD} (W : Wt (F := F) c) (x : Bf (F := F) c hM0) (S0 : St (F := F) c) : S16384x1024.Idx → Elt F .f32 := fun i =>
  if h : (i 0).val < 16128 then outN W x S0 ((i 0).val / 768) (ix2 ⟨(i 0).val % 768, Nat.mod_lt _ (by omega)⟩ ⟨(i 1).val, (i 1).isLt⟩)
  else k0_pay171 (View.readAt (Elt F) sM20.view (Rect.unit (s := S256x1024) ![0, 0] S256x1024.size (by decide)).toLoadRect (Sn W x S0 21).s20) (View.readAt (Elt F) wM10.view (Rect.unit (s := S1x1024) ![0, 0] S1x1024.size (by decide)).toLoadRect W.w10)
    (ix3 0 ⟨(i 0).val - 16128, by have : (i 0).val < 16384 := (i 0).isLt; omega⟩ ⟨(i 1).val, (i 1).isLt⟩)

/-- The rows `lo … hi - 1` of a 16384-row array. -/
def rowsF (lo hi : ℕ) : Finset S16384x1024.Idx := Finset.univ.filter fun i => lo ≤ (i 0).val ∧ (i 0).val < hi

theorem mem_rowsF (lo hi : ℕ) (i : S16384x1024.Idx) : i ∈ rowsF lo hi ↔ lo ≤ (i 0).val ∧ (i 0).val < hi := by simp [rowsF]

theorem rowsF_union {a b d : ℕ} (h : a ≤ b) (h' : b ≤ d) : rowsF a b ∪ rowsF b d = rowsF a d := by
  ext i; rw [Finset.mem_union, mem_rowsF, mem_rowsF, mem_rowsF]; omega
theorem rowsF_disj (a b d : ℕ) : Disjoint (rowsF a b) (rowsF b d) := by
  rw [Finset.disjoint_left]; intro i hi hj; rw [mem_rowsF] at hi hj; omega
theorem rowsF_empty (a : ℕ) : rowsF a a = ∅ := by
  ext i; rw [mem_rowsF]; simp
theorem rowsF_univ : rowsF 0 16384 = Finset.univ := by
  ext i; rw [mem_rowsF]; have : (i 0).val < 16384 := (i 0).isLt; simp; exact this

theorem orw_emb (r : ℕ) (h) (a : Fin 768) (b : Fin 1024) : (orw r h).view.emb (ix2 a b : S768x1024.Idx) = (ix2 ⟨768 * r + a.val, by have : 768 * r + 768 ≤ 16384 := h 0; omega⟩ b : S16384x1024.Idx) := by
  funext q; apply Fin.ext; fin_cases q
  · show 768 * r + 1 * a.val = _; rw [Nat.one_mul]; rfl
  · show 0 + 1 * b.val = b.val; omega

theorem orw_set (r : ℕ) (h) : (orw r h).view.set = rowsF (768 * r) (768 * r + 768) := by
  have hr : 768 * r + 768 ≤ 16384 := h 0
  ext i
  constructor
  · intro hi
    obtain ⟨y, -, hy⟩ := Finset.mem_map.1 hi
    obtain ⟨a, b, rfl⟩ : ∃ (a : Fin 768) (b : Fin 1024), y = ix2 a b := ⟨_, _, eq_ix2 y⟩
    have h1 : (orw r h).view.emb (ix2 a b : S768x1024.Idx) = i := hy
    rw [orw_emb] at h1
    refine (mem_rowsF _ _ _).2 ?_
    rw [← h1]
    show 768 * r ≤ 768 * r + a.val ∧ 768 * r + a.val < 768 * r + 768
    omega
  · intro hi
    obtain ⟨h1, h2⟩ := (mem_rowsF _ _ _).1 hi
    refine Finset.mem_map.2 ⟨ix2 ⟨(i 0).val - 768 * r, by omega⟩ ⟨(i 1).val, (i 1).isLt⟩, Finset.mem_univ _, ?_⟩
    refine (orw_emb r h _ _).trans ?_
    funext q; apply Fin.ext; fin_cases q
    · show 768 * r + ((i 0).val - 768 * r) = (i 0).val; omega
    · rfl

theorem orw_set' (r n : ℕ) (h) (hr : r = n) : (orw r h).view.set = rowsF (768 * n) (768 * (n + 1)) := by subst hr; exact orw_set _ _

/-- The window of the result the last copy of the run writes. -/
abbrev oL : Memref sig .tc .hbm S256x1024 .f32 :=
  hM11.slice (Rect.unit (s := S16384x1024) ![16128, 0] S256x1024.size inb_S16384x1024_S256x1024_16128_0) (fun _ => rfl)
theorem oL_emb (a : Fin 256) (b : Fin 1024) : oL.view.emb (ix2 a b : S256x1024.Idx) = (ix2 ⟨16128 + a.val, by omega⟩ b : S16384x1024.Idx) := by
  funext q; apply Fin.ext; fin_cases q
  · show 16128 + 1 * a.val = 16128 + a.val; omega
  · show 0 + 1 * b.val = b.val; omega
theorem oL_set : oL.view.set = rowsF 16128 16384 := by
  ext i
  constructor
  · intro hi
    obtain ⟨y, -, hy⟩ := Finset.mem_map.1 hi
    obtain ⟨a, b, rfl⟩ : ∃ (a : Fin 256) (b : Fin 1024), y = ix2 a b := ⟨_, _, eq_ix2 y⟩
    have h1 : oL.view.emb (ix2 a b : S256x1024.Idx) = i := hy
    rw [oL_emb] at h1
    refine (mem_rowsF _ _ _).2 ?_
    rw [← h1]
    show 16128 ≤ 16128 + a.val ∧ 16128 + a.val < 16384
    omega
  · intro hi
    obtain ⟨h1, h2⟩ := (mem_rowsF _ _ _).1 hi
    refine Finset.mem_map.2 ⟨ix2 ⟨(i 0).val - 16128, by omega⟩ ⟨(i 1).val, (i 1).isLt⟩, Finset.mem_univ _, ?_⟩
    refine (oL_emb _ _).trans ?_
    funext q; apply Fin.ext; fin_cases q
    · show 16128 + ((i 0).val - 16128) = (i 0).val; omega
    · rfl

/-- The rows not yet handed to a copy: the next tile, and the rest. -/
theorem tail_split (c : Dev nD) (n m : ℕ) (hn : n ≤ 20) (hm : m = n + 1) (v : Bf (F := F) c hM11) :
    ((View.loc (c : Thread nD τ) hM11.view ↦[rowsF (768 * n) 16384]{fullShare} v) : sProp 𝕄)
      ⊢ iprop(pt c (orw (min n 20) (orw_inb _ (Nat.min_le_right _ _))) fullShare v ∗ (View.loc (c : Thread nD τ) hM11.view ↦[rowsF (768 * m) 16384]{fullShare} v)) := by
  subst hm
  have e : (orw (min n 20) (orw_inb _ (Nat.min_le_right _ _))).view.set = rowsF (768 * n) (768 * (n + 1)) := orw_set' _ _ _ (Nat.min_eq_left hn)
  rw [← rowsF_union (a := 768 * n) (b := 768 * (n + 1)) (d := 16384) (by omega) (by omega)]
  refine (pointsTo_union (rowsF_disj _ _ _)).1.trans ?_
  show _ ⊢ iprop((View.loc (c : Thread nD τ) hM11.view ↦[(orw (min n 20) (orw_inb _ (Nat.min_le_right _ _))).view.set]{fullShare} v) ∗ _)
  rw [e]

/-- A tile's landed copy joins the rows already written. -/
theorem done_join {c : Dev nD} (W : Wt (F := F) c) (x : Bf (F := F) c hM0) (S0 : St (F := F) c) (n m : ℕ) (hn : n ≤ 20) (hm : m = n + 1) (vo : Bf (F := F) c hM11) :
    iprop((View.loc (c : Thread nD τ) hM11.view ↦[rowsF 0 (768 * n)]{fullShare} Gout W x S0)
      ∗ (View.loc (c : Thread nD τ) hM11.view ↦[(orw (min n 20) (orw_inb _ (Nat.min_le_right _ _))).view.set]{fullShare} (orw (min n 20) (orw_inb _ (Nat.min_le_right _ _))).view.writes (Elt F) vo [⟨Rect.whole S768x1024, outN W x S0 n⟩]))
      ⊢ ((View.loc (c : Thread nD τ) hM11.view ↦[rowsF 0 (768 * m)]{fullShare} Gout W x S0) : sProp 𝕄) := by
  subst hm
  have e : (orw (min n 20) (orw_inb _ (Nat.min_le_right _ _))).view.set = rowsF (768 * n) (768 * (n + 1)) := orw_set' _ _ _ (Nat.min_eq_left hn)
  have hr := View.read_writes_whole (Val := Elt F) (orw (min n 20) (orw_inb _ (Nat.min_le_right _ _))).view vo (outN W x S0 n)
  generalize (orw (min n 20) (orw_inb _ (Nat.min_le_right _ _))).view.writes (Elt F) vo [⟨Rect.whole S768x1024, outN W x S0 n⟩] = g at hr ⊢
  rw [e, ← rowsF_union (a := 0) (b := 768 * n) (d := 768 * (n + 1)) (by omega) (by omega)]
  refine (BI.sep_mono (Entails.refl _) (Entails.of_eq (pointsTo_congr fun i hi => ?_))).trans (pointsTo_union (rowsF_disj _ _ _)).2
  obtain ⟨h1, h2⟩ := (mem_rowsF _ _ _).1 hi
  have hy := congrFun hr (ix2 ⟨(i 0).val - 768 * n, by omega⟩ ⟨(i 1).val, (i 1).isLt⟩)
  have he : (orw (min n 20) (orw_inb _ (Nat.min_le_right _ _))).view.emb (ix2 ⟨(i 0).val - 768 * n, by omega⟩ ⟨(i 1).val, (i 1).isLt⟩ : S768x1024.Idx) = i := by
    refine (orw_emb _ _ _ _).trans ?_
    funext q; apply Fin.ext; fin_cases q
    · show 768 * min n 20 + ((i 0).val - 768 * n) = (i 0).val; rw [Nat.min_eq_left hn]; omega
    · rfl
  have hg : g i = outN W x S0 n (ix2 ⟨(i 0).val - 768 * n, by omega⟩ ⟨(i 1).val, (i 1).isLt⟩) := (congrArg (β := Elt F .f32) g he).symm.trans hy
  refine hg.trans ?_
  show _ = Gout W x S0 i
  unfold Gout
  rw [dif_pos (show (i 0).val < 16128 by omega)]
  have hd : (i 0).val / 768 = n := by omega
  have hm : (i 0).val % 768 = (i 0).val - 768 * n := by omega
  rw [hd]
  congr 2
  exact Fin.ext hm.symm

/-- The last 256 rows join the rest: the whole result. -/
theorem last_join {c : Dev nD} (W : Wt (F := F) c) (x : Bf (F := F) c hM0) (S0 : St (F := F) c) (vo : Bf (F := F) c hM11)
    (p : S256x1024.Idx → Elt F .f32)
    (hp : ∀ (a : Fin 256) (b : Fin 1024), p (ix2 a b) = k0_pay171 (View.readAt (Elt F) sM20.view (Rect.unit (s := S256x1024) ![0, 0] S256x1024.size (by decide)).toLoadRect (Sn W x S0 21).s20) (View.readAt (Elt F) wM10.view (Rect.unit (s := S1x1024) ![0, 0] S1x1024.size (by decide)).toLoadRect W.w10) (ix3 0 a b)) :
    iprop((View.loc (c : Thread nD τ) hM11.view ↦[rowsF 0 (768 * 21)]{fullShare} Gout W x S0)
      ∗ (View.loc (c : Thread nD τ) hM11.view ↦[oL.view.set]{fullShare} oL.view.writes (Elt F) vo [⟨Rect.whole S256x1024, p⟩]))
      ⊢ ((View.loc (c : Thread nD τ) hM11.view ↦{fullShare} Gout W x S0) : sProp 𝕄) := by
  have hr := View.read_writes_whole (Val := Elt F) oL.view vo p
  generalize oL.view.writes (Elt F) vo [⟨Rect.whole S256x1024, p⟩] = g at hr ⊢
  rw [oL_set]
  show _ ⊢ ((View.loc (c : Thread nD τ) hM11.view ↦[(Finset.univ : Finset S16384x1024.Idx)]{fullShare} Gout W x S0) : sProp 𝕄)
  rw [← rowsF_univ, ← rowsF_union (a := 0) (b := 768 * 21) (d := 16384) (by omega) (by omega)]
  refine (BI.sep_mono (Entails.refl _) (Entails.of_eq (pointsTo_congr fun i hi => ?_))).trans (pointsTo_union (rowsF_disj _ _ _)).2
  obtain ⟨h1, h2⟩ := (mem_rowsF _ _ _).1 hi
  have hy := congrFun hr (ix2 ⟨(i 0).val - 16128, by omega⟩ ⟨(i 1).val, (i 1).isLt⟩)
  have he : oL.view.emb (ix2 ⟨(i 0).val - 16128, by omega⟩ ⟨(i 1).val, (i 1).isLt⟩ : S256x1024.Idx) = i := by
    refine (oL_emb _ _).trans ?_
    funext q; apply Fin.ext; fin_cases q
    · show 16128 + ((i 0).val - 16128) = (i 0).val; omega
    · rfl
  have hg : g i = p (ix2 ⟨(i 0).val - 16128, by omega⟩ ⟨(i 1).val, (i 1).isLt⟩) := (congrArg (β := Elt F .f32) g he).symm.trans hy
  refine hg.trans ?_
  show _ = Gout W x S0 i
  unfold Gout
  rw [dif_neg (show ¬ (i 0).val < 16128 by omega)]
  exact hp _ _

end Cert.KernelIdeal.Hand

end
-- ==== Proof.Inv.lean ====
module

public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What holds between two trips -/

/-- Slot 0 of the result's ring after `n` outgoing tiles counted by the slot's parity: free, or tile `n - 1` on its way out. -/
def OS0 {c : Dev nD} (W : Wt (F := F) c) (x : Bf (F := F) c hM0) (S0 : St (F := F) c) (n : ℕ) : sProp 𝕄 :=
  if n = 0 then iprop(sv0 c 8 ∗ ∃ v : Bf (F := F) c o0, pt c o0 fullShare v)
  else iprop(∃ (vo : Bf (F := F) c hM11) (vos : Bf (F := F) c o0), Transfers.Flight countersEmb (c : Thread nD τ) (SemLoc.dma ⟨8, by decide⟩) default 98304 iprop((View.loc (c : Thread nD τ) hM11.view ↦[(orw (min (n - 1) 20) (orw_inb _ (Nat.min_le_right (n - 1) 20))).view.set]{fullShare} (orw (min (n - 1) 20) (orw_inb _ (Nat.min_le_right (n - 1) 20))).view.writes (Elt F) vo [⟨Rect.whole S768x1024, outN W x S0 (n - 1)⟩]) ∗ (View.loc (c : Thread nD τ) o0.view ↦[o0.view.set]{fullShare} vos)))

theorem OS0_zero {c : Dev nD} (W : Wt (F := F) c) (x : Bf (F := F) c hM0) (S0 : St (F := F) c) (n : ℕ) (hn : n = 0) :
    OS0 W x S0 n = iprop(sv0 c 8 ∗ ∃ v : Bf (F := F) c o0, pt c o0 fullShare v) := if_pos hn
theorem OS0_pos {c : Dev nD} (W : Wt (F := F) c) (x : Bf (F := F) c hM0) (S0 : St (F := F) c) (n m : ℕ) (hn : n = m + 1) :
    OS0 W x S0 n = iprop(∃ (vo : Bf (F := F) c hM11) (vos : Bf (F := F) c o0), Transfers.Flight countersEmb (c : Thread nD τ) (SemLoc.dma ⟨8, by decide⟩) default 98304 iprop((View.loc (c : Thread nD τ) hM11.view ↦[(orw (min m 20) (orw_inb _ (Nat.min_le_right m 20))).view.set]{fullShare} (orw (min m 20) (orw_inb _ (Nat.min_le_right m 20))).view.writes (Elt F) vo [⟨Rect.whole S768x1024, outN W x S0 m⟩]) ∗ (View.loc (c : Thread nD τ) o0.view ↦[o0.view.set]{fullShare} vos))) := by
  subst hn; exact if_neg (by omega)

/-- Slot 1 of the result's ring after `n` outgoing tiles counted by the slot's parity: free, or tile `n - 1` on its way out. -/
def OS1 {c : Dev nD} (W : Wt (F := F) c) (x : Bf (F := F) c hM0) (S0 : St (F := F) c) (n : ℕ) : sProp 𝕄 :=
  if n = 0 then iprop(sv0 c 9 ∗ ∃ v : Bf (F := F) c o1, pt c o1 fullShare v)
  else iprop(∃ (vo : Bf (F := F) c hM11) (vos : Bf (F := F) c o1), Transfers.Flight countersEmb (c : Thread nD τ) (SemLoc.dma ⟨9, by decide⟩) default 98304 iprop((View.loc (c : Thread nD τ) hM11.view ↦[(orw (min (n - 1) 20) (orw_inb _ (Nat.min_le_right (n - 1) 20))).view.set]{fullShare} (orw (min (n - 1) 20) (orw_inb _ (Nat.min_le_right (n - 1) 20))).view.writes (Elt F) vo [⟨Rect.whole S768x1024, outN W x S0 (n - 1)⟩]) ∗ (View.loc (c : Thread nD τ) o1.view ↦[o1.view.set]{fullShare} vos)))

theorem OS1_zero {c : Dev nD} (W : Wt (F := F) c) (x : Bf (F := F) c hM0) (S0 : St (F := F) c) (n : ℕ) (hn : n = 0) :
    OS1 W x S0 n = iprop(sv0 c 9 ∗ ∃ v : Bf (F := F) c o1, pt c o1 fullShare v) := if_pos hn
theorem OS1_pos {c : Dev nD} (W : Wt (F := F) c) (x : Bf (F := F) c hM0) (S0 : St (F := F) c) (n m : ℕ) (hn : n = m + 1) :
    OS1 W x S0 n = iprop(∃ (vo : Bf (F := F) c hM11) (vos : Bf (F := F) c o1), Transfers.Flight countersEmb (c : Thread nD τ) (SemLoc.dma ⟨9, by decide⟩) default 98304 iprop((View.loc (c : Thread nD τ) hM11.view ↦[(orw (min m 20) (orw_inb _ (Nat.min_le_right m 20))).view.set]{fullShare} (orw (min m 20) (orw_inb _ (Nat.min_le_right m 20))).view.writes (Elt F) vo [⟨Rect.whole S768x1024, outN W x S0 m⟩]) ∗ (View.loc (c : Thread nD τ) o1.view ↦[o1.view.set]{fullShare} vos))) := by
  subst hn; exact if_neg (by omega)

/-- Between two trips, after an even number `n` of them: the next tile on its way into slot 1, the look-ahead block of the one after
into its slot, the result's tiles of the last two trips on their way out, the earlier ones written, the rest of the result untouched. -/
def inv0 {c : Dev nD} (W : Wt (F := F) c) (x : Bf (F := F) c hM0) (S0 : St (F := F) c) (n : ℕ) : sProp 𝕄 :=
  iprop((∃ vx : Bf (F := F) c x1, Transfers.Flight countersEmb (c : Thread nD τ) (SemLoc.dma ⟨7, by decide⟩) default 98304 iprop((View.loc (c : Thread nD τ) x1.view ↦[x1.view.set]{fullShare} x1.view.writes (Elt F) vx [⟨Rect.whole S768x1024, tileX x n⟩]) ∗ (View.loc (c : Thread nD τ) hM0.view ↦[(xr (min n 20) (xr_inb _ (Nat.min_le_right n 20))).view.set]{fullShare.left.right} x))) ∗ (View.loc (c : Thread nD τ) hM0.view ↦[Finset.univ \ (xr (min n 20) (xr_inb _ (Nat.min_le_right n 20))).view.set]{fullShare.left.right} x) ∗ sv0 c 6 ∗ (View.loc (c : Thread nD τ) hM0.view ↦{fullShare.left.left} x) ∗ (∃ v : Bf (F := F) c x0, pt c x0 fullShare v) ∗ (∃ vf : Bf (F := F) c f0, Transfers.Flight countersEmb (c : Thread nD τ) (SemLoc.dma ⟨10, by decide⟩) default 32768 iprop((View.loc (c : Thread nD τ) f0.view ↦[f0.view.set]{fullShare} f0.view.writes (Elt F) vf [⟨Rect.whole S256x1024, tileF x (n + 1)⟩]) ∗ (View.loc (c : Thread nD τ) hM0.view ↦[(fr (min (n + 1) 20) (fr_inb _ (Nat.min_le_right (n + 1) 20))).view.set]{fullShare.right.right} x))) ∗ (View.loc (c : Thread nD τ) hM0.view ↦[Finset.univ \ (fr (min (n + 1) 20) (fr_inb _ (Nat.min_le_right (n + 1) 20))).view.set]{fullShare.right.right} x) ∗ sv0 c 11 ∗ (View.loc (c : Thread nD τ) hM0.view ↦{fullShare.right.left} x) ∗ (∃ v : Bf (F := F) c f1, pt c f1 fullShare v) ∗ OS1 W x S0 (n - 1) ∗ OS0 W x S0 n ∗ pt c wM1 fullShare W.w1 ∗ pt c wM3 fullShare W.w3 ∗ pt c wM7 fullShare W.w7 ∗ pt c wM10 fullShare W.w10 ∗ pt c sM12 fullShare W.m12 ∗ pt c sM13 fullShare W.m13 ∗ pt c sM14 fullShare W.m14 ∗ pt c sM15 fullShare W.m15 ∗ pt c sM16 fullShare (Sn W x S0 n).s16 ∗ pt c sM17 fullShare (Sn W x S0 n).s17 ∗ pt c sM20 fullShare (Sn W x S0 n).s20 ∗ pt c sM21 fullShare (Sn W x S0 n).s21 ∗ (View.loc (c : Thread nD τ) hM11.view ↦[rowsF 0 (768 * (n - 2))]{fullShare} Gout W x S0) ∗ (∃ v : Bf (F := F) c hM11, View.loc (c : Thread nD τ) hM11.view ↦[rowsF (768 * n) 16384]{fullShare} v) ∗ (∃ Wt' : Waits sig Unit, owes (c : Thread nD τ) 0 Wt'))

/-- Between two trips, after an odd number `n` of them: the next tile on its way into slot 0, the look-ahead block of the one after
into its slot, the result's tiles of the last two trips on their way out, the earlier ones written, the rest of the result untouched. -/
def inv1 {c : Dev nD} (W : Wt (F := F) c) (x : Bf (F := F) c hM0) (S0 : St (F := F) c) (n : ℕ) : sProp 𝕄 :=
  iprop((∃ vx : Bf (F := F) c x0, Transfers.Flight countersEmb (c : Thread nD τ) (SemLoc.dma ⟨6, by decide⟩) default 98304 iprop((View.loc (c : Thread nD τ) x0.view ↦[x0.view.set]{fullShare} x0.view.writes (Elt F) vx [⟨Rect.whole S768x1024, tileX x n⟩]) ∗ (View.loc (c : Thread nD τ) hM0.view ↦[(xr (min n 20) (xr_inb _ (Nat.min_le_right n 20))).view.set]{fullShare.left.left} x))) ∗ (View.loc (c : Thread nD τ) hM0.view ↦[Finset.univ \ (xr (min n 20) (xr_inb _ (Nat.min_le_right n 20))).view.set]{fullShare.left.left} x) ∗ sv0 c 7 ∗ (View.loc (c : Thread nD τ) hM0.view ↦{fullShare.left.right} x) ∗ (∃ v : Bf (F := F) c x1, pt c x1 fullShare v) ∗ (∃ vf : Bf (F := F) c f1, Transfers.Flight countersEmb (c : Thread nD τ) (SemLoc.dma ⟨11, by decide⟩) default 32768 iprop((View.loc (c : Thread nD τ) f1.view ↦[f1.view.set]{fullShare} f1.view.writes (Elt F) vf [⟨Rect.whole S256x1024, tileF x (n + 1)⟩]) ∗ (View.loc (c : Thread nD τ) hM0.view ↦[(fr (min (n + 1) 20) (fr_inb _ (Nat.min_le_right (n + 1) 20))).view.set]{fullShare.right.left} x))) ∗ (View.loc (c : Thread nD τ) hM0.view ↦[Finset.univ \ (fr (min (n + 1) 20) (fr_inb _ (Nat.min_le_right (n + 1) 20))).view.set]{fullShare.right.left} x) ∗ sv0 c 10 ∗ (View.loc (c : Thread nD τ) hM0.view ↦{fullShare.right.right} x) ∗ (∃ v : Bf (F := F) c f0, pt c f0 fullShare v) ∗ OS0 W x S0 (n - 1) ∗ OS1 W x S0 n ∗ pt c wM1 fullShare W.w1 ∗ pt c wM3 fullShare W.w3 ∗ pt c wM7 fullShare W.w7 ∗ pt c wM10 fullShare W.w10 ∗ pt c sM12 fullShare W.m12 ∗ pt c sM13 fullShare W.m13 ∗ pt c sM14 fullShare W.m14 ∗ pt c sM15 fullShare W.m15 ∗ pt c sM16 fullShare (Sn W x S0 n).s16 ∗ pt c sM17 fullShare (Sn W x S0 n).s17 ∗ pt c sM20 fullShare (Sn W x S0 n).s20 ∗ pt c sM21 fullShare (Sn W x S0 n).s21 ∗ (View.loc (c : Thread nD τ) hM11.view ↦[rowsF 0 (768 * (n - 2))]{fullShare} Gout W x S0) ∗ (∃ v : Bf (F := F) c hM11, View.loc (c : Thread nD τ) hM11.view ↦[rowsF (768 * n) 16384]{fullShare} v) ∗ (∃ Wt' : Waits sig Unit, owes (c : Thread nD τ) 0 Wt'))

theorem ib_0_0 : ∀ a, (![0, 0, 0] : Fin 3 → ℕ) a + S1x256x1024.size a ≤ S2x768x1024.size a := by decide
theorem ib_0_256 : ∀ a, (![0, 256, 0] : Fin 3 → ℕ) a + S1x256x1024.size a ≤ S2x768x1024.size a := by decide
theorem ib_0_512 : ∀ a, (![0, 512, 0] : Fin 3 → ℕ) a + S1x256x1024.size a ≤ S2x768x1024.size a := by decide
theorem ib_1_0 : ∀ a, (![1, 0, 0] : Fin 3 → ℕ) a + S1x256x1024.size a ≤ S2x768x1024.size a := by decide
theorem ib_1_256 : ∀ a, (![1, 256, 0] : Fin 3 → ℕ) a + S1x256x1024.size a ≤ S2x768x1024.size a := by decide
theorem ib_1_512 : ∀ a, (![1, 512, 0] : Fin 3 → ℕ) a + S1x256x1024.size a ≤ S2x768x1024.size a := by decide
theorem ibf_0 : ∀ a, (![0, 0, 0] : Fin 3 → ℕ) a + S1x256x1024.size a ≤ S2x256x1024.size a := by decide
theorem ibf_1 : ∀ a, (![1, 0, 0] : Fin 3 → ℕ) a + S1x256x1024.size a ≤ S2x256x1024.size a := by decide
/-- What a trip leaves, in terms of what it loads out of the slots. -/
theorem kF_val (k : Fin k0_t1_loop.trips) : kF k.val = k := Fin.ext (Nat.min_eq_left (trip_le k))
theorem sn16_0 {c : Dev nD} (W : Wt (F := F) c) (x : Bf (F := F) c hM0) (S0 : St (F := F) c) (k : Fin k0_t1_loop.trips) :
    (Sn W x S0 (k.val + 1)).s16 = k0_pay52 (d_39 W (Sn W x S0 k.val) k (View.readAt (Elt F) sM18.view (Rect.unit (s := S2x768x1024) ![0, 0, 0] S1x256x1024.size ib_0_0).toLoadRect (x0.view.writes (Elt F) x0.view.junk [⟨Rect.whole S768x1024, tileX x k.val⟩])) (View.readAt (Elt F) sM18.view (Rect.unit (s := S2x768x1024) ![0, 256, 0] S1x256x1024.size ib_0_256).toLoadRect (x0.view.writes (Elt F) x0.view.junk [⟨Rect.whole S768x1024, tileX x k.val⟩])) (View.readAt (Elt F) sM18.view (Rect.unit (s := S2x768x1024) ![0, 512, 0] S1x256x1024.size ib_0_512).toLoadRect (x0.view.writes (Elt F) x0.view.junk [⟨Rect.whole S768x1024, tileX x k.val⟩]))) := by
  show (stepS W (Sn W x S0 k.val) (kF k.val) (tileX x k.val) (tileF x (k.val + 1))).s16 = _
  rw [kF_val, ldx0_0 c, ldx0_256 c, ldx0_512 c]; rfl
theorem sn17_0 {c : Dev nD} (W : Wt (F := F) c) (x : Bf (F := F) c hM0) (S0 : St (F := F) c) (k : Fin k0_t1_loop.trips) :
    (Sn W x S0 (k.val + 1)).s17 = k0_pay53 (d_37 W (Sn W x S0 k.val) k (View.readAt (Elt F) sM18.view (Rect.unit (s := S2x768x1024) ![0, 0, 0] S1x256x1024.size ib_0_0).toLoadRect (x0.view.writes (Elt F) x0.view.junk [⟨Rect.whole S768x1024, tileX x k.val⟩])) (View.readAt (Elt F) sM18.view (Rect.unit (s := S2x768x1024) ![0, 256, 0] S1x256x1024.size ib_0_256).toLoadRect (x0.view.writes (Elt F) x0.view.junk [⟨Rect.whole S768x1024, tileX x k.val⟩])) (View.readAt (Elt F) sM18.view (Rect.unit (s := S2x768x1024) ![0, 512, 0] S1x256x1024.size ib_0_512).toLoadRect (x0.view.writes (Elt F) x0.view.junk [⟨Rect.whole S768x1024, tileX x k.val⟩]))) := by
  show (stepS W (Sn W x S0 k.val) (kF k.val) (tileX x k.val) (tileF x (k.val + 1))).s17 = _
  rw [kF_val, ldx0_0 c, ldx0_256 c, ldx0_512 c]; rfl
theorem sn20_0 {c : Dev nD} (W : Wt (F := F) c) (x : Bf (F := F) c hM0) (S0 : St (F := F) c) (k : Fin k0_t1_loop.trips) :
    (Sn W x S0 (k.val + 1)).s20 = k0_pay70 (d_63 W (Sn W x S0 k.val) k (View.readAt (Elt F) sM18.view (Rect.unit (s := S2x768x1024) ![0, 0, 0] S1x256x1024.size ib_0_0).toLoadRect (x0.view.writes (Elt F) x0.view.junk [⟨Rect.whole S768x1024, tileX x k.val⟩])) (View.readAt (Elt F) sM18.view (Rect.unit (s := S2x768x1024) ![0, 256, 0] S1x256x1024.size ib_0_256).toLoadRect (x0.view.writes (Elt F) x0.view.junk [⟨Rect.whole S768x1024, tileX x k.val⟩])) (View.readAt (Elt F) sM18.view (Rect.unit (s := S2x768x1024) ![0, 512, 0] S1x256x1024.size ib_0_512).toLoadRect (x0.view.writes (Elt F) x0.view.junk [⟨Rect.whole S768x1024, tileX x k.val⟩]))) := by
  show (stepS W (Sn W x S0 k.val) (kF k.val) (tileX x k.val) (tileF x (k.val + 1))).s20 = _
  rw [kF_val, ldx0_0 c, ldx0_256 c, ldx0_512 c]; rfl
theorem sn21_1 {c : Dev nD} (W : Wt (F := F) c) (x : Bf (F := F) c hM0) (S0 : St (F := F) c) (k : Fin k0_t1_loop.trips) :
    (Sn W x S0 (k.val + 1)).s21 = k0_pay9 (View.readAt (Elt F) sM22.view (Rect.unit (s := S2x256x1024) ![1, 0, 0] S1x256x1024.size ibf_1).toLoadRect (f1.view.writes (Elt F) f1.view.junk [⟨Rect.whole S256x1024, tileF x (k.val + 1)⟩])) (View.readAt (Elt F) wM1.view (Rect.unit (s := S1x1024) ![0, 0] S1x1024.size inb_S1x1024_S1x1024_0_0).toLoadRect W.w1) := by
  rw [ldf1_0 c]; rfl
theorem on_0 {c : Dev nD} (W : Wt (F := F) c) (x : Bf (F := F) c hM0) (S0 : St (F := F) c) (k : Fin k0_t1_loop.trips) (f : Bf (F := F) c o0) :
    outN W x S0 k.val = View.read (Elt F) o0.view (View.write (Elt F) (sM19.access (Rect.unit (s := S2x768x1024) ![0, 512, 0] S1x256x1024.size ib_0_512)) (View.write (Elt F) (sM19.access (Rect.unit (s := S2x768x1024) ![0, 256, 0] S1x256x1024.size ib_0_256)) (View.write (Elt F) (sM19.access (Rect.unit (s := S2x768x1024) ![0, 0, 0] S1x256x1024.size ib_0_0)) f
      (shapeCast S1x256x1024 (k0_pay1 (View.readAt (Elt F) sM20.view (Rect.unit (s := S256x1024) ![0, 0] S256x1024.size inb_S256x1024_S256x1024_0_0).toLoadRect (Sn W x S0 k.val).s20) (View.readAt (Elt F) wM10.view (Rect.unit (s := S1x1024) ![0, 0] S1x1024.size inb_S1x1024_S1x1024_0_0).toLoadRect W.w10)) shapeCasts_S256x1024_S1x256x1024) Finset.univ)
      (k0_pay68 (d_56 W (Sn W x S0 k.val) k (View.readAt (Elt F) sM18.view (Rect.unit (s := S2x768x1024) ![0, 0, 0] S1x256x1024.size ib_0_0).toLoadRect (x0.view.writes (Elt F) x0.view.junk [⟨Rect.whole S768x1024, tileX x k.val⟩])) (View.readAt (Elt F) sM18.view (Rect.unit (s := S2x768x1024) ![0, 256, 0] S1x256x1024.size ib_0_256).toLoadRect (x0.view.writes (Elt F) x0.view.junk [⟨Rect.whole S768x1024, tileX x k.val⟩])) (View.readAt (Elt F) sM18.view (Rect.unit (s := S2x768x1024) ![0, 512, 0] S1x256x1024.size ib_0_512).toLoadRect (x0.view.writes (Elt F) x0.view.junk [⟨Rect.whole S768x1024, tileX x k.val⟩]))) (View.readAt (Elt F) wM10.view (Rect.unit (s := S1x1024) ![0, 0] S1x1024.size inb_S1x1024_S1x1024_0_0).toLoadRect W.w10)) Finset.univ)
      (k0_pay69 (d_60 W (Sn W x S0 k.val) k (View.readAt (Elt F) sM18.view (Rect.unit (s := S2x768x1024) ![0, 0, 0] S1x256x1024.size ib_0_0).toLoadRect (x0.view.writes (Elt F) x0.view.junk [⟨Rect.whole S768x1024, tileX x k.val⟩])) (View.readAt (Elt F) sM18.view (Rect.unit (s := S2x768x1024) ![0, 256, 0] S1x256x1024.size ib_0_256).toLoadRect (x0.view.writes (Elt F) x0.view.junk [⟨Rect.whole S768x1024, tileX x k.val⟩])) (View.readAt (Elt F) sM18.view (Rect.unit (s := S2x768x1024) ![0, 512, 0] S1x256x1024.size ib_0_512).toLoadRect (x0.view.writes (Elt F) x0.view.junk [⟨Rect.whole S768x1024, tileX x k.val⟩]))) (View.readAt (Elt F) wM10.view (Rect.unit (s := S1x1024) ![0, 0] S1x1024.size inb_S1x1024_S1x1024_0_0).toLoadRect W.w10)) Finset.univ) := by
  rw [rd_o0 c]
  show outB W (Sn W x S0 k.val) (kF k.val) (tileX x k.val) = _
  rw [kF_val, ldx0_0 c, ldx0_256 c, ldx0_512 c]; rfl
theorem sn16_1 {c : Dev nD} (W : Wt (F := F) c) (x : Bf (F := F) c hM0) (S0 : St (F := F) c) (k : Fin k0_t1_loop.trips) :
    (Sn W x S0 (k.val + 1)).s16 = k0_pay52 (d_39 W (Sn W x S0 k.val) k (View.readAt (Elt F) sM18.view (Rect.unit (s := S2x768x1024) ![1, 0, 0] S1x256x1024.size ib_1_0).toLoadRect (x1.view.writes (Elt F) x1.view.junk [⟨Rect.whole S768x1024, tileX x k.val⟩])) (View.readAt (Elt F) sM18.view (Rect.unit (s := S2x768x1024) ![1, 256, 0] S1x256x1024.size ib_1_256).toLoadRect (x1.view.writes (Elt F) x1.view.junk [⟨Rect.whole S768x1024, tileX x k.val⟩])) (View.readAt (Elt F) sM18.view (Rect.unit (s := S2x768x1024) ![1, 512, 0] S1x256x1024.size ib_1_512).toLoadRect (x1.view.writes (Elt F) x1.view.junk [⟨Rect.whole S768x1024, tileX x k.val⟩]))) := by
  show (stepS W (Sn W x S0 k.val) (kF k.val) (tileX x k.val) (tileF x (k.val + 1))).s16 = _
  rw [kF_val, ldx1_0 c, ldx1_256 c, ldx1_512 c]; rfl
theorem sn17_1 {c : Dev nD} (W : Wt (F := F) c) (x : Bf (F := F) c hM0) (S0 : St (F := F) c) (k : Fin k0_t1_loop.trips) :
    (Sn W x S0 (k.val + 1)).s17 = k0_pay53 (d_37 W (Sn W x S0 k.val) k (View.readAt (Elt F) sM18.view (Rect.unit (s := S2x768x1024) ![1, 0, 0] S1x256x1024.size ib_1_0).toLoadRect (x1.view.writes (Elt F) x1.view.junk [⟨Rect.whole S768x1024, tileX x k.val⟩])) (View.readAt (Elt F) sM18.view (Rect.unit (s := S2x768x1024) ![1, 256, 0] S1x256x1024.size ib_1_256).toLoadRect (x1.view.writes (Elt F) x1.view.junk [⟨Rect.whole S768x1024, tileX x k.val⟩])) (View.readAt (Elt F) sM18.view (Rect.unit (s := S2x768x1024) ![1, 512, 0] S1x256x1024.size ib_1_512).toLoadRect (x1.view.writes (Elt F) x1.view.junk [⟨Rect.whole S768x1024, tileX x k.val⟩]))) := by
  show (stepS W (Sn W x S0 k.val) (kF k.val) (tileX x k.val) (tileF x (k.val + 1))).s17 = _
  rw [kF_val, ldx1_0 c, ldx1_256 c, ldx1_512 c]; rfl
theorem sn20_1 {c : Dev nD} (W : Wt (F := F) c) (x : Bf (F := F) c hM0) (S0 : St (F := F) c) (k : Fin k0_t1_loop.trips) :
    (Sn W x S0 (k.val + 1)).s20 = k0_pay70 (d_63 W (Sn W x S0 k.val) k (View.readAt (Elt F) sM18.view (Rect.unit (s := S2x768x1024) ![1, 0, 0] S1x256x1024.size ib_1_0).toLoadRect (x1.view.writes (Elt F) x1.view.junk [⟨Rect.whole S768x1024, tileX x k.val⟩])) (View.readAt (Elt F) sM18.view (Rect.unit (s := S2x768x1024) ![1, 256, 0] S1x256x1024.size ib_1_256).toLoadRect (x1.view.writes (Elt F) x1.view.junk [⟨Rect.whole S768x1024, tileX x k.val⟩])) (View.readAt (Elt F) sM18.view (Rect.unit (s := S2x768x1024) ![1, 512, 0] S1x256x1024.size ib_1_512).toLoadRect (x1.view.writes (Elt F) x1.view.junk [⟨Rect.whole S768x1024, tileX x k.val⟩]))) := by
  show (stepS W (Sn W x S0 k.val) (kF k.val) (tileX x k.val) (tileF x (k.val + 1))).s20 = _
  rw [kF_val, ldx1_0 c, ldx1_256 c, ldx1_512 c]; rfl
theorem sn21_0 {c : Dev nD} (W : Wt (F := F) c) (x : Bf (F := F) c hM0) (S0 : St (F := F) c) (k : Fin k0_t1_loop.trips) :
    (Sn W x S0 (k.val + 1)).s21 = k0_pay9 (View.readAt (Elt F) sM22.view (Rect.unit (s := S2x256x1024) ![0, 0, 0] S1x256x1024.size ibf_0).toLoadRect (f0.view.writes (Elt F) f0.view.junk [⟨Rect.whole S256x1024, tileF x (k.val + 1)⟩])) (View.readAt (Elt F) wM1.view (Rect.unit (s := S1x1024) ![0, 0] S1x1024.size inb_S1x1024_S1x1024_0_0).toLoadRect W.w1) := by
  rw [ldf0_0 c]; rfl
theorem on_1 {c : Dev nD} (W : Wt (F := F) c) (x : Bf (F := F) c hM0) (S0 : St (F := F) c) (k : Fin k0_t1_loop.trips) (f : Bf (F := F) c o1) :
    outN W x S0 k.val = View.read (Elt F) o1.view (View.write (Elt F) (sM19.access (Rect.unit (s := S2x768x1024) ![1, 512, 0] S1x256x1024.size ib_1_512)) (View.write (Elt F) (sM19.access (Rect.unit (s := S2x768x1024) ![1, 256, 0] S1x256x1024.size ib_1_256)) (View.write (Elt F) (sM19.access (Rect.unit (s := S2x768x1024) ![1, 0, 0] S1x256x1024.size ib_1_0)) f
      (shapeCast S1x256x1024 (k0_pay1 (View.readAt (Elt F) sM20.view (Rect.unit (s := S256x1024) ![0, 0] S256x1024.size inb_S256x1024_S256x1024_0_0).toLoadRect (Sn W x S0 k.val).s20) (View.readAt (Elt F) wM10.view (Rect.unit (s := S1x1024) ![0, 0] S1x1024.size inb_S1x1024_S1x1024_0_0).toLoadRect W.w10)) shapeCasts_S256x1024_S1x256x1024) Finset.univ)
      (k0_pay68 (d_56 W (Sn W x S0 k.val) k (View.readAt (Elt F) sM18.view (Rect.unit (s := S2x768x1024) ![1, 0, 0] S1x256x1024.size ib_1_0).toLoadRect (x1.view.writes (Elt F) x1.view.junk [⟨Rect.whole S768x1024, tileX x k.val⟩])) (View.readAt (Elt F) sM18.view (Rect.unit (s := S2x768x1024) ![1, 256, 0] S1x256x1024.size ib_1_256).toLoadRect (x1.view.writes (Elt F) x1.view.junk [⟨Rect.whole S768x1024, tileX x k.val⟩])) (View.readAt (Elt F) sM18.view (Rect.unit (s := S2x768x1024) ![1, 512, 0] S1x256x1024.size ib_1_512).toLoadRect (x1.view.writes (Elt F) x1.view.junk [⟨Rect.whole S768x1024, tileX x k.val⟩]))) (View.readAt (Elt F) wM10.view (Rect.unit (s := S1x1024) ![0, 0] S1x1024.size inb_S1x1024_S1x1024_0_0).toLoadRect W.w10)) Finset.univ)
      (k0_pay69 (d_60 W (Sn W x S0 k.val) k (View.readAt (Elt F) sM18.view (Rect.unit (s := S2x768x1024) ![1, 0, 0] S1x256x1024.size ib_1_0).toLoadRect (x1.view.writes (Elt F) x1.view.junk [⟨Rect.whole S768x1024, tileX x k.val⟩])) (View.readAt (Elt F) sM18.view (Rect.unit (s := S2x768x1024) ![1, 256, 0] S1x256x1024.size ib_1_256).toLoadRect (x1.view.writes (Elt F) x1.view.junk [⟨Rect.whole S768x1024, tileX x k.val⟩])) (View.readAt (Elt F) sM18.view (Rect.unit (s := S2x768x1024) ![1, 512, 0] S1x256x1024.size ib_1_512).toLoadRect (x1.view.writes (Elt F) x1.view.junk [⟨Rect.whole S768x1024, tileX x k.val⟩]))) (View.readAt (Elt F) wM10.view (Rect.unit (s := S1x1024) ![0, 0] S1x1024.size inb_S1x1024_S1x1024_0_0).toLoadRect W.w10)) Finset.univ) := by
  rw [rd_o1 c]
  show outB W (Sn W x S0 k.val) (kF k.val) (tileX x k.val) = _
  rw [kF_val, ldx1_0 c, ldx1_256 c, ldx1_512 c]; rfl
theorem pt16 (c : Dev nD) (f : Bf (F := F) c sM16) (h) (w w' : S8x512.Idx → Elt F .f32) (e : w' = w) :
    ((View.loc (c : Thread nD τ) sM16.view ↦[sM16.view.set]{fullShare} sM16.view.writes (Elt F) f [⟨Rect.unit (s := S8x512) ![0, 0] S8x512.size h, w⟩]) : sProp 𝕄) ⊢ pt c sM16 fullShare w' := by
  subst e; rw [w16]
theorem pt17 (c : Dev nD) (f : Bf (F := F) c sM17) (h) (w w' : S16x512.Idx → Elt F .f32) (e : w' = w) :
    ((View.loc (c : Thread nD τ) sM17.view ↦[sM17.view.set]{fullShare} sM17.view.writes (Elt F) f [⟨Rect.unit (s := S16x512) ![0, 0] S16x512.size h, w⟩]) : sProp 𝕄) ⊢ pt c sM17 fullShare w' := by
  subst e; rw [w17]
theorem pt20 (c : Dev nD) (f : Bf (F := F) c sM20) (h) (w w' : S256x1024.Idx → Elt F .f32) (e : w' = w) :
    ((View.loc (c : Thread nD τ) sM20.view ↦[sM20.view.set]{fullShare} sM20.view.writes (Elt F) f [⟨Rect.unit (s := S256x1024) ![0, 0] S256x1024.size h, w⟩]) : sProp 𝕄) ⊢ pt c sM20 fullShare w' := by
  subst e; rw [w20]
theorem pt21 (c : Dev nD) (f : Bf (F := F) c sM21) (h) (w w' : S256x1024.Idx → Elt F .bf16) (e : w' = w) :
    ((View.loc (c : Thread nD τ) sM21.view ↦[sM21.view.set]{fullShare} sM21.view.writes (Elt F) f [⟨Rect.unit (s := S256x1024) ![0, 0] S256x1024.size h, w⟩]) : sProp 𝕄) ⊢ pt c sM21 fullShare w' := by
  subst e; rw [w21]

end Cert.KernelIdeal.Hand

end
-- ==== Proof.Trip0.lean ====
module

public import proofs.«01_k».proof.Proof.Inv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- One trip of even number, with an earlier tile still on its way out of the slot it fills. -/
theorem trip0_ge2 {c : Dev nD} (W : Wt (F := F) c) (x : Bf (F := F) c hM0) (S0 : St (F := F) c) (k : Fin k0_t1_loop.trips) (hk : k.val % 2 = 0) (h2 : 2 ≤ k.val) (v1041 : FVec F S256x1024 .f32) :
    inv0 W x S0 k.val ⊢ wp frame (wpE (defs₀ (F := F)) Variants.none c none) Set.univ (k0_t1_body (F := F) hM0 (Memref.isWhole_whole _) wM1 (Memref.isWhole_whole _) hM2 (Memref.isWhole_whole _) wM3 (Memref.isWhole_whole _) wM4 (Memref.isWhole_whole _) wM5 (Memref.isWhole_whole _) hM6 (Memref.isWhole_whole _) wM7 (Memref.isWhole_whole _) hM8 (Memref.isWhole_whole _) hM9 (Memref.isWhole_whole _) wM10 (Memref.isWhole_whole _) hM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) sM20 (Memref.isWhole_whole _) sM21 (Memref.isWhole_whole _) sM22 (Memref.isWhole_whole _) cc0_scratch11 cc0_scratch12 cc0_scratch13 sMst (Memref.isWhole_whole _) cc0_scoped1 v1041 k ⟨⟩) (fun _ => inv1 W x S0 (k.val + 1)) := by
  have hk' : (k.val + 1) % 2 = 1 := by omega
  have hk20 : k.val ≤ 20 := trip_le k
  have hcond : k0_cond1 k = 1#1 := (cond1_iff k).2 h2
  unfold inv0
  rw [OS1_pos W x S0 (k.val - 1) (k.val - 2) (by omega)]
  unfold k0_t1_body
  iintro ⟨⟨%vx, Hqx⟩, Hxr, Hqxn, Hxs, ⟨%vxn, Hxn⟩, ⟨%vf, Hqf⟩, Hfr, Hqfn, Hfs, ⟨%vfn, Hfn⟩, ⟨%vo, %vos, Hqo⟩, Hon, HwM1, HwM3, HwM7, HwM10, HsM12, HsM13, HsM14, HsM15, HsM16, HsM17, HsM20, HsM21, Hdn, ⟨%von, Htl⟩, ⟨%Wt', HW⟩⟩
  icases (tail_split c k.val (k.val + 1) hk20 rfl von) $$ Htl with ⟨Hot, Htl⟩
  ihave Htl := (park _) $$ Htl
  ihave Hdn := (park _) $$ Hdn
  sl_exec
  sl_exec
  sl_exec
  sl_exec
  sl_exec
  sl_exec
  sl_exec
  sl_exec
  ihave Htl := (unpark _) $$ Htl
  ihave Hdn := (unpark _) $$ Hdn
  rw [wp_ret]
  imodintro
  unfold inv1
  rw [show k.val + 1 - 1 = k.val from rfl, OS1_pos W x S0 (k.val + 1) k.val rfl, on_1 W x S0 k vos]
  isplitl [Hqxn]
  · iexists vxn; iexact Hqxn
  isplitl [Hxs]
  · iexact Hxs
  isplitl [Hqx]
  · iexact Hqx
  isplitl [Hxr]
  · iexact Hxr
  isplitl [Hqx_dst]
  · iexists _; iexact Hqx_dst
  isplitl [Hqfn]
  · iexists vfn; iexact Hqfn
  isplitl [Hfs]
  · iexact Hfs
  isplitl [Hqf]
  · iexact Hqf
  isplitl [Hfr]
  · iexact Hfr
  isplitl [Hqf_dst]
  · iexists _; iexact Hqf_dst
  isplitl [Hon]
  · iexact Hon
  isplitl [Hqo]
  · iexists von; iexists _; iexact Hqo
  isplitl [HwM1]
  · iexact HwM1
  isplitl [HwM3]
  · iexact HwM3
  isplitl [HwM7]
  · iexact HwM7
  isplitl [HwM10]
  · iexact HwM10
  isplitl [HsM12]
  · iexact HsM12
  isplitl [HsM13]
  · iexact HsM13
  isplitl [HsM14]
  · iexact HsM14
  isplitl [HsM15]
  · iexact HsM15
  isplitl [HsM16]
  · iapply (pt16 c _ _ _ _ (sn16_1 W x S0 k)); iexact HsM16
  isplitl [HsM17]
  · iapply (pt17 c _ _ _ _ (sn17_1 W x S0 k)); iexact HsM17
  isplitl [HsM20]
  · iapply (pt20 c _ _ _ _ (sn20_1 W x S0 k)); iexact HsM20
  isplitl [HsM21]
  · iapply (pt21 c _ _ _ _ (sn21_0 W x S0 k)); iexact HsM21
  isplitl [Hdn Hqo_dst]
  · iapply (done_join W x S0 (k.val - 2) (k.val + 1 - 2) (by omega) (by omega) vo); isplitl [Hdn] <;> iassumption
  isplitl [Htl]
  · iexists von; iexact Htl
  iexists _; iexact HW

set_option maxHeartbeats 8000000 in
/-- One trip of even number, without an earlier tile still on its way out of the slot it fills. -/
theorem trip0_lt2 {c : Dev nD} (W : Wt (F := F) c) (x : Bf (F := F) c hM0) (S0 : St (F := F) c) (k : Fin k0_t1_loop.trips) (hk : k.val % 2 = 0) (h2 : k.val < 2) (v1041 : FVec F S256x1024 .f32) :
    inv0 W x S0 k.val ⊢ wp frame (wpE (defs₀ (F := F)) Variants.none c none) Set.univ (k0_t1_body (F := F) hM0 (Memref.isWhole_whole _) wM1 (Memref.isWhole_whole _) hM2 (Memref.isWhole_whole _) wM3 (Memref.isWhole_whole _) wM4 (Memref.isWhole_whole _) wM5 (Memref.isWhole_whole _) hM6 (Memref.isWhole_whole _) wM7 (Memref.isWhole_whole _) hM8 (Memref.isWhole_whole _) hM9 (Memref.isWhole_whole _) wM10 (Memref.isWhole_whole _) hM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) sM20 (Memref.isWhole_whole _) sM21 (Memref.isWhole_whole _) sM22 (Memref.isWhole_whole _) cc0_scratch11 cc0_scratch12 cc0_scratch13 sMst (Memref.isWhole_whole _) cc0_scoped1 v1041 k ⟨⟩) (fun _ => inv1 W x S0 (k.val + 1)) := by
  have hk' : (k.val + 1) % 2 = 1 := by omega
  have hk20 : k.val ≤ 20 := trip_le k
  have hcond : ¬ (k0_cond1 k = 1#1) := fun h => by have := (cond1_iff k).1 h; omega
  unfold inv0
  rw [OS1_zero W x S0 (k.val - 1) (by omega)]
  unfold k0_t1_body
  iintro ⟨⟨%vx, Hqx⟩, Hxr, Hqxn, Hxs, ⟨%vxn, Hxn⟩, ⟨%vf, Hqf⟩, Hfr, Hqfn, Hfs, ⟨%vfn, Hfn⟩, ⟨Hqo, %vos, Hoc⟩, Hon, HwM1, HwM3, HwM7, HwM10, HsM12, HsM13, HsM14, HsM15, HsM16, HsM17, HsM20, HsM21, Hdn, ⟨%von, Htl⟩, ⟨%Wt', HW⟩⟩
  icases (tail_split c k.val (k.val + 1) hk20 rfl von) $$ Htl with ⟨Hot, Htl⟩
  ihave Htl := (park _) $$ Htl
  ihave Hdn := (park _) $$ Hdn
  sl_exec
  sl_exec
  sl_exec
  sl_exec
  sl_exec
  sl_exec
  sl_exec
  sl_exec
  ihave Htl := (unpark _) $$ Htl
  ihave Hdn := (unpark _) $$ Hdn
  rw [wp_ret]
  imodintro
  unfold inv1
  rw [show k.val + 1 - 1 = k.val from rfl, OS1_pos W x S0 (k.val + 1) k.val rfl, on_1 W x S0 k vos]
  isplitl [Hqxn]
  · iexists vxn; iexact Hqxn
  isplitl [Hxs]
  · iexact Hxs
  isplitl [Hqx]
  · iexact Hqx
  isplitl [Hxr]
  · iexact Hxr
  isplitl [Hqx_dst]
  · iexists _; iexact Hqx_dst
  isplitl [Hqfn]
  · iexists vfn; iexact Hqfn
  isplitl [Hfs]
  · iexact Hfs
  isplitl [Hqf]
  · iexact Hqf
  isplitl [Hfr]
  · iexact Hfr
  isplitl [Hqf_dst]
  · iexists _; iexact Hqf_dst
  isplitl [Hon]
  · iexact Hon
  isplitl [Hqo]
  · iexists von; iexists _; iexact Hqo
  isplitl [HwM1]
  · iexact HwM1
  isplitl [HwM3]
  · iexact HwM3
  isplitl [HwM7]
  · iexact HwM7
  isplitl [HwM10]
  · iexact HwM10
  isplitl [HsM12]
  · iexact HsM12
  isplitl [HsM13]
  · iexact HsM13
  isplitl [HsM14]
  · iexact HsM14
  isplitl [HsM15]
  · iexact HsM15
  isplitl [HsM16]
  · iapply (pt16 c _ _ _ _ (sn16_1 W x S0 k)); iexact HsM16
  isplitl [HsM17]
  · iapply (pt17 c _ _ _ _ (sn17_1 W x S0 k)); iexact HsM17
  isplitl [HsM20]
  · iapply (pt20 c _ _ _ _ (sn20_1 W x S0 k)); iexact HsM20
  isplitl [HsM21]
  · iapply (pt21 c _ _ _ _ (sn21_0 W x S0 k)); iexact HsM21
  isplitl [Hdn]
  · rw [show k.val + 1 - 2 = k.val - 2 by omega]; iexact Hdn
  isplitl [Htl]
  · iexists von; iexact Htl
  iexists _; iexact HW

end Cert.KernelIdeal.Hand

end
-- ==== Proof.Trip1.lean ====
module

public import proofs.«01_k».proof.Proof.Inv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- One trip of odd number, with an earlier tile still on its way out of the slot it fills. -/
theorem trip1_ge2 {c : Dev nD} (W : Wt (F := F) c) (x : Bf (F := F) c hM0) (S0 : St (F := F) c) (k : Fin k0_t1_loop.trips) (hk : k.val % 2 = 1) (h2 : 2 ≤ k.val) (v1041 : FVec F S256x1024 .f32) :
    inv1 W x S0 k.val ⊢ wp frame (wpE (defs₀ (F := F)) Variants.none c none) Set.univ (k0_t1_body (F := F) hM0 (Memref.isWhole_whole _) wM1 (Memref.isWhole_whole _) hM2 (Memref.isWhole_whole _) wM3 (Memref.isWhole_whole _) wM4 (Memref.isWhole_whole _) wM5 (Memref.isWhole_whole _) hM6 (Memref.isWhole_whole _) wM7 (Memref.isWhole_whole _) hM8 (Memref.isWhole_whole _) hM9 (Memref.isWhole_whole _) wM10 (Memref.isWhole_whole _) hM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) sM20 (Memref.isWhole_whole _) sM21 (Memref.isWhole_whole _) sM22 (Memref.isWhole_whole _) cc0_scratch11 cc0_scratch12 cc0_scratch13 sMst (Memref.isWhole_whole _) cc0_scoped1 v1041 k ⟨⟩) (fun _ => inv0 W x S0 (k.val + 1)) := by
  have hk' : (k.val + 1) % 2 = 0 := by omega
  have hk20 : k.val ≤ 20 := trip_le k
  have hcond : k0_cond1 k = 1#1 := (cond1_iff k).2 h2
  unfold inv1
  rw [OS0_pos W x S0 (k.val - 1) (k.val - 2) (by omega)]
  unfold k0_t1_body
  iintro ⟨⟨%vx, Hqx⟩, Hxr, Hqxn, Hxs, ⟨%vxn, Hxn⟩, ⟨%vf, Hqf⟩, Hfr, Hqfn, Hfs, ⟨%vfn, Hfn⟩, ⟨%vo, %vos, Hqo⟩, Hon, HwM1, HwM3, HwM7, HwM10, HsM12, HsM13, HsM14, HsM15, HsM16, HsM17, HsM20, HsM21, Hdn, ⟨%von, Htl⟩, ⟨%Wt', HW⟩⟩
  icases (tail_split c k.val (k.val + 1) hk20 rfl von) $$ Htl with ⟨Hot, Htl⟩
  ihave Htl := (park _) $$ Htl
  ihave Hdn := (park _) $$ Hdn
  sl_exec
  sl_exec
  sl_exec
  sl_exec
  sl_exec
  sl_exec
  sl_exec
  sl_exec
  ihave Htl := (unpark _) $$ Htl
  ihave Hdn := (unpark _) $$ Hdn
  rw [wp_ret]
  imodintro
  unfold inv0
  rw [show k.val + 1 - 1 = k.val from rfl, OS0_pos W x S0 (k.val + 1) k.val rfl, on_0 W x S0 k vos]
  isplitl [Hqxn]
  · iexists vxn; iexact Hqxn
  isplitl [Hxs]
  · iexact Hxs
  isplitl [Hqx]
  · iexact Hqx
  isplitl [Hxr]
  · iexact Hxr
  isplitl [Hqx_dst]
  · iexists _; iexact Hqx_dst
  isplitl [Hqfn]
  · iexists vfn; iexact Hqfn
  isplitl [Hfs]
  · iexact Hfs
  isplitl [Hqf]
  · iexact Hqf
  isplitl [Hfr]
  · iexact Hfr
  isplitl [Hqf_dst]
  · iexists _; iexact Hqf_dst
  isplitl [Hon]
  · iexact Hon
  isplitl [Hqo]
  · iexists von; iexists _; iexact Hqo
  isplitl [HwM1]
  · iexact HwM1
  isplitl [HwM3]
  · iexact HwM3
  isplitl [HwM7]
  · iexact HwM7
  isplitl [HwM10]
  · iexact HwM10
  isplitl [HsM12]
  · iexact HsM12
  isplitl [HsM13]
  · iexact HsM13
  isplitl [HsM14]
  · iexact HsM14
  isplitl [HsM15]
  · iexact HsM15
  isplitl [HsM16]
  · iapply (pt16 c _ _ _ _ (sn16_0 W x S0 k)); iexact HsM16
  isplitl [HsM17]
  · iapply (pt17 c _ _ _ _ (sn17_0 W x S0 k)); iexact HsM17
  isplitl [HsM20]
  · iapply (pt20 c _ _ _ _ (sn20_0 W x S0 k)); iexact HsM20
  isplitl [HsM21]
  · iapply (pt21 c _ _ _ _ (sn21_1 W x S0 k)); iexact HsM21
  isplitl [Hdn Hqo_dst]
  · iapply (done_join W x S0 (k.val - 2) (k.val + 1 - 2) (by omega) (by omega) vo); isplitl [Hdn] <;> iassumption
  isplitl [Htl]
  · iexists von; iexact Htl
  iexists _; iexact HW

set_option maxHeartbeats 8000000 in
/-- One trip of odd number, without an earlier tile still on its way out of the slot it fills. -/
theorem trip1_lt2 {c : Dev nD} (W : Wt (F := F) c) (x : Bf (F := F) c hM0) (S0 : St (F := F) c) (k : Fin k0_t1_loop.trips) (hk : k.val % 2 = 1) (h2 : k.val < 2) (v1041 : FVec F S256x1024 .f32) :
    inv1 W x S0 k.val ⊢ wp frame (wpE (defs₀ (F := F)) Variants.none c none) Set.univ (k0_t1_body (F := F) hM0 (Memref.isWhole_whole _) wM1 (Memref.isWhole_whole _) hM2 (Memref.isWhole_whole _) wM3 (Memref.isWhole_whole _) wM4 (Memref.isWhole_whole _) wM5 (Memref.isWhole_whole _) hM6 (Memref.isWhole_whole _) wM7 (Memref.isWhole_whole _) hM8 (Memref.isWhole_whole _) hM9 (Memref.isWhole_whole _) wM10 (Memref.isWhole_whole _) hM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) sM20 (Memref.isWhole_whole _) sM21 (Memref.isWhole_whole _) sM22 (Memref.isWhole_whole _) cc0_scratch11 cc0_scratch12 cc0_scratch13 sMst (Memref.isWhole_whole _) cc0_scoped1 v1041 k ⟨⟩) (fun _ => inv0 W x S0 (k.val + 1)) := by
  have hk' : (k.val + 1) % 2 = 0 := by omega
  have hk20 : k.val ≤ 20 := trip_le k
  have hcond : ¬ (k0_cond1 k = 1#1) := fun h => by have := (cond1_iff k).1 h; omega
  unfold inv1
  rw [OS0_zero W x S0 (k.val - 1) (by omega)]
  unfold k0_t1_body
  iintro ⟨⟨%vx, Hqx⟩, Hxr, Hqxn, Hxs, ⟨%vxn, Hxn⟩, ⟨%vf, Hqf⟩, Hfr, Hqfn, Hfs, ⟨%vfn, Hfn⟩, ⟨Hqo, %vos, Hoc⟩, Hon, HwM1, HwM3, HwM7, HwM10, HsM12, HsM13, HsM14, HsM15, HsM16, HsM17, HsM20, HsM21, Hdn, ⟨%von, Htl⟩, ⟨%Wt', HW⟩⟩
  icases (tail_split c k.val (k.val + 1) hk20 rfl von) $$ Htl with ⟨Hot, Htl⟩
  ihave Htl := (park _) $$ Htl
  ihave Hdn := (park _) $$ Hdn
  sl_exec
  sl_exec
  sl_exec
  sl_exec
  sl_exec
  sl_exec
  sl_exec
  sl_exec
  ihave Htl := (unpark _) $$ Htl
  ihave Hdn := (unpark _) $$ Hdn
  rw [wp_ret]
  imodintro
  unfold inv0
  rw [show k.val + 1 - 1 = k.val from rfl, OS0_pos W x S0 (k.val + 1) k.val rfl, on_0 W x S0 k vos]
  isplitl [Hqxn]
  · iexists vxn; iexact Hqxn
  isplitl [Hxs]
  · iexact Hxs
  isplitl [Hqx]
  · iexact Hqx
  isplitl [Hxr]
  · iexact Hxr
  isplitl [Hqx_dst]
  · iexists _; iexact Hqx_dst
  isplitl [Hqfn]
  · iexists vfn; iexact Hqfn
  isplitl [Hfs]
  · iexact Hfs
  isplitl [Hqf]
  · iexact Hqf
  isplitl [Hfr]
  · iexact Hfr
  isplitl [Hqf_dst]
  · iexists _; iexact Hqf_dst
  isplitl [Hon]
  · iexact Hon
  isplitl [Hqo]
  · iexists von; iexists _; iexact Hqo
  isplitl [HwM1]
  · iexact HwM1
  isplitl [HwM3]
  · iexact HwM3
  isplitl [HwM7]
  · iexact HwM7
  isplitl [HwM10]
  · iexact HwM10
  isplitl [HsM12]
  · iexact HsM12
  isplitl [HsM13]
  · iexact HsM13
  isplitl [HsM14]
  · iexact HsM14
  isplitl [HsM15]
  · iexact HsM15
  isplitl [HsM16]
  · iapply (pt16 c _ _ _ _ (sn16_0 W x S0 k)); iexact HsM16
  isplitl [HsM17]
  · iapply (pt17 c _ _ _ _ (sn17_0 W x S0 k)); iexact HsM17
  isplitl [HsM20]
  · iapply (pt20 c _ _ _ _ (sn20_0 W x S0 k)); iexact HsM20
  isplitl [HsM21]
  · iapply (pt21 c _ _ _ _ (sn21_1 W x S0 k)); iexact HsM21
  isplitl [Hdn]
  · rw [show k.val + 1 - 2 = k.val - 2 by omega]; iexact Hdn
  isplitl [Htl]
  · iexists von; iexact Htl
  iexists _; iexact HW

end Cert.KernelIdeal.Hand

end
-- ==== Proof.Step.lean ====
module

public import proofs.«01_k».proof.Proof.Boxes
public import proofs.«01_k».proof.Proof.Pro
public import proofs.«01_k».proof.Proof.Trip0
public import proofs.«01_k».proof.Proof.Trip1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A whole run of the kernel -/

/-- Between two trips. -/
def inv {c : Dev nD} (W : Wt (F := F) c) (x : Bf (F := F) c hM0) (S0 : St (F := F) c) (n : ℕ) : sProp 𝕄 :=
  if n % 2 = 0 then inv0 W x S0 n else inv1 W x S0 n
theorem inv_even {c : Dev nD} (W : Wt (F := F) c) (x : Bf (F := F) c hM0) (S0 : St (F := F) c) (n : ℕ) (h : n % 2 = 0) : inv W x S0 n = inv0 W x S0 n := if_pos h
theorem inv_odd {c : Dev nD} (W : Wt (F := F) c) (x : Bf (F := F) c hM0) (S0 : St (F := F) c) (n : ℕ) (h : n % 2 = 1) : inv W x S0 n = inv1 W x S0 n := if_neg (by omega)

/-- One trip. -/
theorem step {c : Dev nD} (W : Wt (F := F) c) (x : Bf (F := F) c hM0) (S0 : St (F := F) c) (v1041 : FVec F S256x1024 .f32) (k : Fin k0_t1_loop.trips) :
    inv W x S0 k.val ⊢ wp frame (wpE (defs₀ (F := F)) Variants.none c none) Set.univ (k0_t1_body (F := F) hM0 (Memref.isWhole_whole _) wM1 (Memref.isWhole_whole _) hM2 (Memref.isWhole_whole _) wM3 (Memref.isWhole_whole _) wM4 (Memref.isWhole_whole _) wM5 (Memref.isWhole_whole _) hM6 (Memref.isWhole_whole _) wM7 (Memref.isWhole_whole _) hM8 (Memref.isWhole_whole _) hM9 (Memref.isWhole_whole _) wM10 (Memref.isWhole_whole _) hM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) sM20 (Memref.isWhole_whole _) sM21 (Memref.isWhole_whole _) sM22 (Memref.isWhole_whole _) cc0_scratch11 cc0_scratch12 cc0_scratch13 sMst (Memref.isWhole_whole _) cc0_scoped1 v1041 k ⟨⟩) (fun _ => inv W x S0 (k.val + 1)) := by
  rcases Nat.mod_two_eq_zero_or_one k.val with h | h
  · rw [inv_even _ _ _ _ h, inv_odd _ _ _ (k.val + 1) (by omega)]
    rcases Nat.lt_or_ge k.val 2 with h2 | h2
    · exact trip0_lt2 W x S0 k h h2 v1041
    · exact trip0_ge2 W x S0 k h h2 v1041
  · rw [inv_odd _ _ _ _ h, inv_even _ _ _ (k.val + 1) (by omega)]
    rcases Nat.lt_or_ge k.val 2 with h2 | h2
    · exact trip1_lt2 W x S0 k h h2 v1041
    · exact trip1_ge2 W x S0 k h h2 v1041

theorem anyM_i (c : Dev nD) {sp : Space} {S : Shape} {e : EltTy} (M : Memref sig .tc sp S e) (f : Bf (F := F) c M) :
    (pt c M fullShare f : sProp 𝕄) ⊢ anyM c M := by
  iintro H; iexists f; iexact H

/-- A slot's first block, contents kept, apart from the rest. -/
theorem o0_cut (c : Dev nD) (v : Bf (F := F) c o0) :
    ((View.loc (c : Thread nD τ) o0.view ↦[o0.view.set]{fullShare} v) : sProp 𝕄) ⊢ iprop(pt c o0c0 fullShare v ∗ anyM c o0c1 ∗ anyM c o0c2) := by
  rw [any_o0c1, any_o0c2]
  show _ ⊢ iprop((View.loc (c : Thread nD τ) o0.view ↦[o0c0.view.set]{fullShare} v) ∗ _)
  rw [set_o0, set_o0c0, ← bx_union_rows (n := 2) (m := 768) (d := 1024) 0 1 (by omega : 0 ≤ 256) (by omega : 256 ≤ 768)]
  refine (pointsTo_union (bx_disj_rows _ _ _ _ _)).1.trans (BI.sep_mono (Entails.refl _) ?_)
  refine BIBase.Entails.trans ?_ (any_split (F := F) (ℓ := View.loc (c : Thread nD τ) sM19.view) (bx_union_rows (n := 2) (m := 768) (d := 1024) 0 1 (by omega : 256 ≤ 512) (by omega : 512 ≤ 768)) (bx_disj_rows _ _ _ _ _))
  iintro H; iexists v; iexact H

/-- What the last copy carries: the block just stored, read as a matrix. -/
theorem read_last (c : Dev nD) (v : Bf (F := F) c o0c0) (P : S1x256x1024.Idx → Elt F .f32) (a : Fin 256) (b : Fin 1024) :
    (ReadAs.same.apply (View.read (Elt F) o0c0.view (View.write (Elt F) (sM19.access (Rect.unit (s := S2x768x1024) ![0, 0, 0] S1x256x1024.size inb_S2x768x1024_S1x256x1024_0_0_0)) v P Finset.univ)) : S256x1024.Idx → Elt F .f32) (ix2 a b) = P (ix3 0 a b) := by
  have h := congrFun (View.read_write_univ (v := sM19.access (Rect.unit (s := S2x768x1024) ![0, 0, 0] S1x256x1024.size inb_S2x768x1024_S1x256x1024_0_0_0)) v P) (ix3 0 a b)
  have e : (Rect.unit (s := S2x768x1024) ![0, 0, 0] S1x256x1024.size inb_S2x768x1024_S1x256x1024_0_0_0).emb (ix3 0 a b) = (ix3 0 ⟨0 + a.val, by omega⟩ b : S2x768x1024.Idx) := by
    funext q; apply Fin.ext; fin_cases q
    · rfl
    · show 0 + 1 * a.val = 0 + a.val; omega
    · show 0 + 1 * b.val = b.val; omega
  rw [← emb_o0c0] at e
  rw [← h]
  generalize View.write (Elt F) (sM19.access (Rect.unit (s := S2x768x1024) ![0, 0, 0] S1x256x1024.size inb_S2x768x1024_S1x256x1024_0_0_0)) v P Finset.univ = g
  exact congrArg (β := Elt F .f32) g e.symm

theorem empty_any (c : Dev nD) (f : Bf (F := F) c hM11) : (emp : sProp 𝕄) ⊢ (View.loc (c : Thread nD τ) hM11.view ↦[rowsF 0 (768 * (0 - 2))]{fullShare} f) := by
  rw [show (768 * (0 - 2)) = 0 from rfl, rowsF_empty]; exact Entails.of_eq pointsTo_empty.symm
theorem all_any (c : Dev nD) (f : Bf (F := F) c hM11) : (pt c hM11 fullShare f : sProp 𝕄) ⊢ (View.loc (c : Thread nD τ) hM11.view ↦[rowsF (768 * 0) 16384]{fullShare} f) := by
  rw [show (768 * 0) = 0 from rfl, rowsF_univ, ← View.set_whole main_v15]

theorem ptw_sM12 (c : Dev nD) (L L' : List (View.Piece (Elt F) S1024x2048 .bf16)) (h : L = L') :
    (View.loc (c : Thread nD τ) sM12.view ↦[sM12.view.set]{fullShare} sM12.view.writes (Elt F) sM12.view.junk L : sProp 𝕄) ⊢ pt c sM12 fullShare (sM12.view.writes (Elt F) sM12.view.junk L') := by
  rw [h]

theorem ptw_sM13 (c : Dev nD) (L L' : List (View.Piece (Elt F) S1024x1024 .bf16)) (h : L = L') :
    (View.loc (c : Thread nD τ) sM13.view ↦[sM13.view.set]{fullShare} sM13.view.writes (Elt F) sM13.view.junk L : sProp 𝕄) ⊢ pt c sM13 fullShare (sM13.view.writes (Elt F) sM13.view.junk L') := by
  rw [h]

theorem ptw_sM14 (c : Dev nD) (L L' : List (View.Piece (Elt F) S1024x4096 .bf16)) (h : L = L') :
    (View.loc (c : Thread nD τ) sM14.view ↦[sM14.view.set]{fullShare} sM14.view.writes (Elt F) sM14.view.junk L : sProp 𝕄) ⊢ pt c sM14 fullShare (sM14.view.writes (Elt F) sM14.view.junk L') := by
  rw [h]

theorem ptw_sM15 (c : Dev nD) (L L' : List (View.Piece (Elt F) S4096x1024 .bf16)) (h : L = L') :
    (View.loc (c : Thread nD τ) sM15.view ↦[sM15.view.set]{fullShare} sM15.view.writes (Elt F) sM15.view.junk L : sProp 𝕄) ⊢ pt c sM15 fullShare (sM15.view.writes (Elt F) sM15.view.junk L') := by
  rw [h]

@[sl_canon] theorem lx (hi hs) : (hM0.slice (Rect.unit (s := S16384x1024) ![15616, 0] S768x1024.size hi) hs : Memref sig .tc .hbm S768x1024 .f32) = xr (min 21 20) (xr_inb _ (Nat.min_le_right 21 20)) :=
  Memref.slice_unit_congr _ rfl _ _ _ _
@[sl_canon] theorem lf (hi hs) : (hM0.slice (Rect.unit (s := S16384x1024) ![15616, 0] S256x1024.size hi) hs : Memref sig .tc .hbm S256x1024 .f32) = fr (min (21 + 1) 20) (fr_inb _ (Nat.min_le_right (21 + 1) 20)) :=
  Memref.slice_unit_congr _ rfl _ _ _ _
@[sl_canon] theorem lo19 (hi hs) : (hM11.slice (Rect.unit (s := S16384x1024) ![14592, 0] S768x1024.size hi) hs : Memref sig .tc .hbm S768x1024 .f32) = orw (min 19 20) (orw_inb _ (Nat.min_le_right 19 20)) :=
  Memref.slice_unit_congr _ rfl _ _ _ _
@[sl_canon] theorem lo20 (hi hs) : (hM11.slice (Rect.unit (s := S16384x1024) ![15360, 0] S768x1024.size hi) hs : Memref sig .tc .hbm S768x1024 .f32) = orw (min 20 20) (orw_inb _ (Nat.min_le_right 20 20)) :=
  Memref.slice_unit_congr _ rfl _ _ _ _
/-- After the last trip: the last two tiles on their way out, the two copies in that nobody uses on their way. -/
def fin {c : Dev nD} (W : Wt (F := F) c) (x : Bf (F := F) c hM0) (S0 : St (F := F) c) : sProp 𝕄 :=
  iprop((∃ vx : Bf (F := F) c x0, Transfers.Flight countersEmb (c : Thread nD τ) (SemLoc.dma ⟨6, by decide⟩) default 98304 iprop((View.loc (c : Thread nD τ) x0.view ↦[x0.view.set]{fullShare} x0.view.writes (Elt F) vx [⟨Rect.whole S768x1024, tileX x 21⟩]) ∗ (View.loc (c : Thread nD τ) hM0.view ↦[(xr (min 21 20) (xr_inb _ (Nat.min_le_right 21 20))).view.set]{fullShare.left.left} x))) ∗ (View.loc (c : Thread nD τ) hM0.view ↦[Finset.univ \ (xr (min 21 20) (xr_inb _ (Nat.min_le_right 21 20))).view.set]{fullShare.left.left} x) ∗ sv0 c 7 ∗ (View.loc (c : Thread nD τ) hM0.view ↦{fullShare.left.right} x) ∗ (∃ v : Bf (F := F) c x1, pt c x1 fullShare v) ∗ (∃ vf : Bf (F := F) c f1, Transfers.Flight countersEmb (c : Thread nD τ) (SemLoc.dma ⟨11, by decide⟩) default 32768 iprop((View.loc (c : Thread nD τ) f1.view ↦[f1.view.set]{fullShare} f1.view.writes (Elt F) vf [⟨Rect.whole S256x1024, tileF x (21 + 1)⟩]) ∗ (View.loc (c : Thread nD τ) hM0.view ↦[(fr (min (21 + 1) 20) (fr_inb _ (Nat.min_le_right (21 + 1) 20))).view.set]{fullShare.right.left} x))) ∗ (View.loc (c : Thread nD τ) hM0.view ↦[Finset.univ \ (fr (min (21 + 1) 20) (fr_inb _ (Nat.min_le_right (21 + 1) 20))).view.set]{fullShare.right.left} x) ∗ sv0 c 10 ∗ (View.loc (c : Thread nD τ) hM0.view ↦{fullShare.right.right} x) ∗ (∃ v : Bf (F := F) c f0, pt c f0 fullShare v) ∗ (∃ (vo : Bf (F := F) c hM11) (vos : Bf (F := F) c o0), Transfers.Flight countersEmb (c : Thread nD τ) (SemLoc.dma ⟨8, by decide⟩) default 98304 iprop((View.loc (c : Thread nD τ) hM11.view ↦[(orw (min 19 20) (orw_inb _ (Nat.min_le_right 19 20))).view.set]{fullShare} (orw (min 19 20) (orw_inb _ (Nat.min_le_right 19 20))).view.writes (Elt F) vo [⟨Rect.whole S768x1024, outN W x S0 19⟩]) ∗ (View.loc (c : Thread nD τ) o0.view ↦[o0.view.set]{fullShare} vos))) ∗ (∃ (vo : Bf (F := F) c hM11) (vos : Bf (F := F) c o1), Transfers.Flight countersEmb (c : Thread nD τ) (SemLoc.dma ⟨9, by decide⟩) default 98304 iprop((View.loc (c : Thread nD τ) hM11.view ↦[(orw (min 20 20) (orw_inb _ (Nat.min_le_right 20 20))).view.set]{fullShare} (orw (min 20 20) (orw_inb _ (Nat.min_le_right 20 20))).view.writes (Elt F) vo [⟨Rect.whole S768x1024, outN W x S0 20⟩]) ∗ (View.loc (c : Thread nD τ) o1.view ↦[o1.view.set]{fullShare} vos))) ∗ pt c wM1 fullShare W.w1 ∗ pt c wM3 fullShare W.w3 ∗ pt c wM7 fullShare W.w7 ∗ pt c wM10 fullShare W.w10 ∗ pt c sM12 fullShare W.m12 ∗ pt c sM13 fullShare W.m13 ∗ pt c sM14 fullShare W.m14 ∗ pt c sM15 fullShare W.m15 ∗ pt c sM16 fullShare (Sn W x S0 21).s16 ∗ pt c sM17 fullShare (Sn W x S0 21).s17 ∗ pt c sM20 fullShare (Sn W x S0 21).s20 ∗ pt c sM21 fullShare (Sn W x S0 21).s21 ∗ (View.loc (c : Thread nD τ) hM11.view ↦[rowsF 0 (768 * 19)]{fullShare} Gout W x S0) ∗ (∃ v : Bf (F := F) c hM11, pt c oL fullShare v) ∗ (∃ Wt' : Waits sig Unit, owes (c : Thread nD τ) 0 Wt'))
theorem tail_last (c : Dev nD) (v : Bf (F := F) c hM11) : (View.loc (c : Thread nD τ) hM11.view ↦[rowsF (768 * 21) 16384]{fullShare} v : sProp 𝕄) = pt c oL fullShare v := by
  show _ = (View.loc (c : Thread nD τ) hM11.view ↦[oL.view.set]{fullShare} v); rw [oL_set]
theorem tail_last_ex (c : Dev nD) : (iprop(∃ v : Bf (F := F) c hM11, View.loc (c : Thread nD τ) hM11.view ↦[rowsF (768 * 21) 16384]{fullShare} v) : sProp 𝕄) = iprop(∃ v : Bf (F := F) c hM11, pt c oL fullShare v) :=
  congrArg _ (funext fun v => tail_last c v)
theorem inv_last {c : Dev nD} (W : Wt (F := F) c) (x : Bf (F := F) c hM0) (S0 : St (F := F) c) : inv W x S0 k0_t1_loop.trips = fin W x S0 := by
  rw [trips_eq, inv_odd _ _ _ 21 rfl]
  unfold inv1 fin
  rw [OS0_pos _ _ _ (21 - 1) 19 rfl, OS1_pos _ _ _ 21 20 rfl]
  rw [tail_last_ex]

theorem rdb'_hM0 (c : Dev nD) (v : Bf (F := F) c hM0) (r q : ℕ) (h : ∀ a, (![r, q] : Fin 2 → ℕ) a + S256x1024.size a ≤ (⟨2, ![16384, 1024]⟩ : Shape).size a) :
    ldf (F := F) (ReadAs.same.apply (View.read (Elt F) ((View.whole (κ := .tc) main_v0).slice (Rect.unit (s := ⟨2, ![16384, 1024]⟩) ![r, q] ![256, 1024] h)) v)) = blk (n := 16384) (m := 1024) v r q (h 0) (h 1) :=
  rdb_hM0 c v r q h (fun _ => rfl)

theorem rdb'_hM2 (c : Dev nD) (v : Bf (F := F) c hM2) (r q : ℕ) (h : ∀ a, (![r, q] : Fin 2 → ℕ) a + S256x1024.size a ≤ (⟨2, ![1024, 2048]⟩ : Shape).size a) :
    ldf (F := F) (ReadAs.same.apply (View.read (Elt F) ((View.whole (κ := .tc) main_v2).slice (Rect.unit (s := ⟨2, ![1024, 2048]⟩) ![r, q] ![256, 1024] h)) v)) = blk (n := 1024) (m := 2048) v r q (h 0) (h 1) :=
  rdb_hM2 c v r q h (fun _ => rfl)

theorem rdb'_hM6 (c : Dev nD) (v : Bf (F := F) c hM6) (r q : ℕ) (h : ∀ a, (![r, q] : Fin 2 → ℕ) a + S256x1024.size a ≤ (⟨2, ![1024, 1024]⟩ : Shape).size a) :
    ldf (F := F) (ReadAs.same.apply (View.read (Elt F) ((View.whole (κ := .tc) main_v6).slice (Rect.unit (s := ⟨2, ![1024, 1024]⟩) ![r, q] ![256, 1024] h)) v)) = blk (n := 1024) (m := 1024) v r q (h 0) (h 1) :=
  rdb_hM6 c v r q h (fun _ => rfl)

theorem rdb'_hM8 (c : Dev nD) (v : Bf (F := F) c hM8) (r q : ℕ) (h : ∀ a, (![r, q] : Fin 2 → ℕ) a + S256x1024.size a ≤ (⟨2, ![1024, 4096]⟩ : Shape).size a) :
    ldf (F := F) (ReadAs.same.apply (View.read (Elt F) ((View.whole (κ := .tc) main_v8).slice (Rect.unit (s := ⟨2, ![1024, 4096]⟩) ![r, q] ![256, 1024] h)) v)) = blk (n := 1024) (m := 4096) v r q (h 0) (h 1) :=
  rdb_hM8 c v r q h (fun _ => rfl)

theorem rdb'_hM9 (c : Dev nD) (v : Bf (F := F) c hM9) (r q : ℕ) (h : ∀ a, (![r, q] : Fin 2 → ℕ) a + S256x1024.size a ≤ (⟨2, ![4096, 1024]⟩ : Shape).size a) :
    ldf (F := F) (ReadAs.same.apply (View.read (Elt F) ((View.whole (κ := .tc) main_v9).slice (Rect.unit (s := ⟨2, ![4096, 1024]⟩) ![r, q] ![256, 1024] h)) v)) = blk (n := 4096) (m := 1024) v r q (h 0) (h 1) :=
  rdb_hM9 c v r q h (fun _ => rfl)

end Cert.KernelIdeal.Hand

end
-- ==== Proof.Body.lean ====
module

public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
set_option sl_exec.stopBefore "k0_part54" in
/-- A run of the kernel on arrays `I`, its scratch memory and its result at anything, its cells at zero: everything comes back, the
result filled as `Gout` says. -/
theorem run (c : Dev nD) (x : Bf (F := F) c hM0) (W : Waits sig Unit) (K : PUnit → sProp 𝕄)
   (vwM1 : Bf (F := F) c wM1) (vwM3 : Bf (F := F) c wM3) (vwM4 : Bf (F := F) c wM4) (vwM5 : Bf (F := F) c wM5) (vwM7 : Bf (F := F) c wM7) (vwM10 : Bf (F := F) c wM10) (vhM2 : Bf (F := F) c hM2) (vhM6 : Bf (F := F) c hM6) (vhM8 : Bf (F := F) c hM8) (vhM9 : Bf (F := F) c hM9) (vhM11 : Bf (F := F) c hM11) (vsM12 : Bf (F := F) c sM12) (vsM13 : Bf (F := F) c sM13) (vsM14 : Bf (F := F) c sM14) (vsM15 : Bf (F := F) c sM15) (vsM16 : Bf (F := F) c sM16) (vsM17 : Bf (F := F) c sM17) (vsM20 : Bf (F := F) c sM20) (vsM21 : Bf (F := F) c sM21) (vx0c0 : Bf (F := F) c x0c0) (vx0c1 : Bf (F := F) c x0c1) (vx0c2 : Bf (F := F) c x0c2) (vx1 : Bf (F := F) c x1) (vo0c0 : Bf (F := F) c o0c0) (vo0c1 : Bf (F := F) c o0c1) (vo0c2 : Bf (F := F) c o0c2) (vo1c0 : Bf (F := F) c o1c0) (vo1c1 : Bf (F := F) c o1c1) (vo1c2 : Bf (F := F) c o1c2) (vf0 : Bf (F := F) c f0) (vf1 : Bf (F := F) c f1) (vst0 : Bf (F := F) c st0) (vst1 : Bf (F := F) c st1) (vst2 : Bf (F := F) c st2) (vst3 : Bf (F := F) c st3) (vst4 : Bf (F := F) c st4) (vst5 : Bf (F := F) c st5) (vst6 : Bf (F := F) c st6) (vst7 : Bf (F := F) c st7) :
   iprop(sv0 c 6 ∗ sv0 c 7 ∗ sv0 c 8 ∗ sv0 c 9 ∗ sv0 c 10 ∗ sv0 c 11 ∗ sv0 c 12 ∗ sv0 c 13 ∗ sv0 c 14 ∗ sv0 c 15 ∗ sv0 c 16 ∗ sv0 c 17 ∗ sv0 c 18 ∗ sv0 c 19 ∗ sv0 c 20 ∗ sv0 c 21 ∗ sv0 c 22 ∗ sv0 c 23 ∗ sv0 c 24 ∗ sv0 c 25 ∗ sv0 c 26 ∗ sv0 c 27 ∗ (View.loc (c : Thread nD τ) hM0.view ↦{fullShare.left.left} x) ∗ (View.loc (c : Thread nD τ) hM0.view ↦{fullShare.left.right} x) ∗ (View.loc (c : Thread nD τ) hM0.view ↦{fullShare.right.left} x) ∗ (View.loc (c : Thread nD τ) hM0.view ↦{fullShare.right.right} x) ∗ pt c wM1 fullShare vwM1 ∗ pt c wM3 fullShare vwM3 ∗ pt c wM4 fullShare vwM4 ∗ pt c wM5 fullShare vwM5 ∗ pt c wM7 fullShare vwM7 ∗ pt c wM10 fullShare vwM10 ∗ pt c hM2 fullShare vhM2 ∗ pt c hM6 fullShare vhM6 ∗ pt c hM8 fullShare vhM8 ∗ pt c hM9 fullShare vhM9 ∗ pt c hM11 fullShare vhM11 ∗ pt c sM12 fullShare vsM12 ∗ pt c sM13 fullShare vsM13 ∗ pt c sM14 fullShare vsM14 ∗ pt c sM15 fullShare vsM15 ∗ pt c sM16 fullShare vsM16 ∗ pt c sM17 fullShare vsM17 ∗ pt c sM20 fullShare vsM20 ∗ pt c sM21 fullShare vsM21 ∗ pt c x0c0 fullShare vx0c0 ∗ pt c x0c1 fullShare vx0c1 ∗ pt c x0c2 fullShare vx0c2 ∗ pt c x1 fullShare vx1 ∗ pt c o0c0 fullShare vo0c0 ∗ pt c o0c1 fullShare vo0c1 ∗ pt c o0c2 fullShare vo0c2 ∗ pt c o1c0 fullShare vo1c0 ∗ pt c o1c1 fullShare vo1c1 ∗ pt c o1c2 fullShare vo1c2 ∗ pt c f0 fullShare vf0 ∗ pt c f1 fullShare vf1 ∗ pt c st0 fullShare vst0 ∗ pt c st1 fullShare vst1 ∗ pt c st2 fullShare vst2 ∗ pt c st3 fullShare vst3 ∗ pt c st4 fullShare vst4 ∗ pt c st5 fullShare vst5 ∗ pt c st6 fullShare vst6 ∗ pt c st7 fullShare vst7
     ∗ owes (c : Thread nD τ) 0 W ∗ ((sv0 c 6 ∗ sv0 c 7 ∗ sv0 c 8 ∗ sv0 c 9 ∗ sv0 c 10 ∗ sv0 c 11 ∗ sv0 c 12 ∗ sv0 c 13 ∗ sv0 c 14 ∗ sv0 c 15 ∗ sv0 c 16 ∗ sv0 c 17 ∗ sv0 c 18 ∗ sv0 c 19 ∗ sv0 c 20 ∗ sv0 c 21 ∗ sv0 c 22 ∗ sv0 c 23 ∗ sv0 c 24 ∗ sv0 c 25 ∗ sv0 c 26 ∗ sv0 c 27 ∗ (View.loc (c : Thread nD τ) hM0.view ↦{fullShare.left.left} x) ∗ (View.loc (c : Thread nD τ) hM0.view ↦{fullShare.left.right} x) ∗ (View.loc (c : Thread nD τ) hM0.view ↦{fullShare.right.left} x) ∗ (View.loc (c : Thread nD τ) hM0.view ↦{fullShare.right.right} x) ∗ pt c wM1 fullShare vwM1 ∗ pt c wM3 fullShare vwM3 ∗ pt c wM4 fullShare vwM4 ∗ pt c wM5 fullShare vwM5 ∗ pt c wM7 fullShare vwM7 ∗ pt c wM10 fullShare vwM10 ∗ pt c hM2 fullShare vhM2 ∗ pt c hM6 fullShare vhM6 ∗ pt c hM8 fullShare vhM8 ∗ pt c hM9 fullShare vhM9 ∗ (View.loc (c : Thread nD τ) hM11.view ↦{fullShare} Gout (p_W (In.mk x vwM1 vwM3 vwM4 vwM5 vwM7 vwM10 vhM2 vhM6 vhM8 vhM9)) x (p_S0 (In.mk x vwM1 vwM3 vwM4 vwM5 vwM7 vwM10 vhM2 vhM6 vhM8 vhM9))) ∗ anyM c sM12 ∗ anyM c sM13 ∗ anyM c sM14 ∗ anyM c sM15 ∗ anyM c sM16 ∗ anyM c sM17 ∗ anyM c sM20 ∗ anyM c sM21 ∗ anyM c x0 ∗ anyM c x1 ∗ anyM c o0 ∗ anyM c o1 ∗ anyM c f0 ∗ anyM c f1 ∗ anyM c st0 ∗ anyM c st1 ∗ anyM c st2 ∗ anyM c st3 ∗ anyM c st4 ∗ anyM c st5 ∗ anyM c st6 ∗ anyM c st7 ∗ (∃ W' : Waits sig Unit, owes (c : Thread nD τ) 0 W')) -∗ K ⟨⟩)) ⊢ wp frame (wpE (defs₀ (F := F)) Variants.none c none) Set.univ (cc0_hybrid_block (F := F) hM0 (Memref.isWhole_whole _) wM1 (Memref.isWhole_whole _) hM2 (Memref.isWhole_whole _) wM3 (Memref.isWhole_whole _) wM4 (Memref.isWhole_whole _) wM5 (Memref.isWhole_whole _) hM6 (Memref.isWhole_whole _) wM7 (Memref.isWhole_whole _) hM8 (Memref.isWhole_whole _) hM9 (Memref.isWhole_whole _) wM10 (Memref.isWhole_whole _) hM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) sM20 (Memref.isWhole_whole _) sM21 (Memref.isWhole_whole _) sM22 (Memref.isWhole_whole _) cc0_scratch11 cc0_scratch12 cc0_scratch13 sMst (Memref.isWhole_whole _) cc0_scoped1) K := by
  iintro ⟨Hq6, Hq7, Hq8, Hq9, Hq10, Hq11, Hq12, Hq13, Hq14, Hq15, Hq16, Hq17, Hq18, Hq19, Hq20, Hq21, Hq22, Hq23, Hq24, Hq25, Hq26, Hq27, Hx0, Hx1, Hx2, Hx3, HwM1, HwM3, HwM4, HwM5, HwM7, HwM10, HhM2, HhM6, HhM8, HhM9, HhM11, HsM12, HsM13, HsM14, HsM15, HsM16, HsM17, HsM20, HsM21, Hx0c0, Hx0c1, Hx0c2, Hx1, Ho0c0, Ho0c1, Ho0c2, Ho1c0, Ho1c1, Ho1c2, Hf0, Hf1, Hst0, Hst1, Hst2, Hst3, Hst4, Hst5, Hst6, Hst7, HW, Hk⟩
  sl_exec
  set_option sl_exec.stopBefore "xx" in
  sl_exec
  have e_r_1 : run.sl.r_1 (F := F) c x vwM1 = p_r_1 (In.mk x vwM1 vwM3 vwM4 vwM5 vwM7 vwM10 vhM2 vhM6 vhM8 vhM9) := by
    delta run.sl.r_1 p_r_1
    delta run.sl.dma0
    simp only [lds_x0c0 c, rdb_hM0 c, rdb'_hM0 c] <;> with_reducible rfl
  have e_r_3 : run.sl.r_3 (F := F) c vhM2 = p_r_3 (In.mk x vwM1 vwM3 vwM4 vwM5 vwM7 vwM10 vhM2 vhM6 vhM8 vhM9) := by
    delta run.sl.r_3 p_r_3
    delta run.sl.dma0_10
    simp only [lds_st6 c, rdb_hM2 c, rdb'_hM2 c] <;> with_reducible rfl
  have e_r_2 : run.sl.r_2 (F := F) c vhM2 = p_r_2 (In.mk x vwM1 vwM3 vwM4 vwM5 vwM7 vwM10 vhM2 vhM6 vhM8 vhM9) := by
    delta run.sl.r_2 p_r_2
    delta run.sl.dma0_6
    simp only [lds_st2 c, rdb_hM2 c, rdb'_hM2 c] <;> with_reducible rfl
  have e_HsM12_16 : run.sl.HsM12_16 (F := F) c vhM2 = p_HsM12_16 (In.mk x vwM1 vwM3 vwM4 vwM5 vwM7 vwM10 vhM2 vhM6 vhM8 vhM9) := by
    delta run.sl.HsM12_16 p_HsM12_16
    delta run.sl.dma0_10 run.sl.dma0_11 run.sl.dma0_4 run.sl.dma0_5 run.sl.dma0_6 run.sl.dma0_7 run.sl.dma0_8 run.sl.dma0_9
    simp only [e_r_3, e_r_2, lds_st0 c, lds_st1 c, lds_st2 c, lds_st3 c, lds_st4 c, lds_st5 c, lds_st6 c, lds_st7 c, rdb_hM2 c, rdb'_hM2 c] <;> with_reducible rfl
  have e_v357_r0 : run.sl.v357_r0 (F := F) c vhM2 = p_v357_r0 (In.mk x vwM1 vwM3 vwM4 vwM5 vwM7 vwM10 vhM2 vhM6 vhM8 vhM9) := by
    delta run.sl.v357_r0 p_v357_r0
    skip
    simp only [e_HsM12_16] <;> with_reducible rfl
  have e_r_4 : run.sl.r_4 (F := F) c x vwM1 vhM2 = p_r_4 (In.mk x vwM1 vwM3 vwM4 vwM5 vwM7 vwM10 vhM2 vhM6 vhM8 vhM9) := by
    delta run.sl.r_4 p_r_4
    skip
    simp only [e_r_1, e_v357_r0] <;> with_reducible rfl
  have e_r_13 : run.sl.r_13 (F := F) c x vwM1 vwM3 vhM2 = p_r_13 (In.mk x vwM1 vwM3 vwM4 vwM5 vwM7 vwM10 vhM2 vhM6 vhM8 vhM9) := by
    delta run.sl.r_13 p_r_13
    skip
    simp only [e_r_4] <;> with_reducible rfl
  have e_v834_r0 : run.sl.v834_r0 (F := F) c vhM6 vhM9 = p_v834_r0 (In.mk x vwM1 vwM3 vwM4 vwM5 vwM7 vwM10 vhM2 vhM6 vhM8 vhM9) := by
    delta run.sl.v834_r0 p_v834_r0
    delta run.sl.dma0_15 run.sl.dma72
    simp only [lds_o0c1 c, rdb_hM6 c, rdb_hM9 c, rdb'_hM6 c, rdb'_hM9 c] <;> with_reducible rfl
  have e_r_10 : run.sl.r_10 (F := F) c vwM5 = p_r_10 (In.mk x vwM1 vwM3 vwM4 vwM5 vwM7 vwM10 vhM2 vhM6 vhM8 vhM9) := by
    delta run.sl.r_10 p_r_10
    skip
    simp only [] <;> with_reducible rfl
  have e_v697_r0 : run.sl.v697_r0 (F := F) c vhM2 vhM9 = p_v697_r0 (In.mk x vwM1 vwM3 vwM4 vwM5 vwM7 vwM10 vhM2 vhM6 vhM8 vhM9) := by
    delta run.sl.v697_r0 p_v697_r0
    delta run.sl.dma0_7 run.sl.dma22
    simp only [lds_st3 c, rdb_hM2 c, rdb_hM9 c, rdb'_hM2 c, rdb'_hM9 c] <;> with_reducible rfl
  have e_v681_r0 : run.sl.v681_r0 (F := F) c vhM2 vhM9 = p_v681_r0 (In.mk x vwM1 vwM3 vwM4 vwM5 vwM7 vwM10 vhM2 vhM6 vhM8 vhM9) := by
    delta run.sl.v681_r0 p_v681_r0
    delta run.sl.dma0_6 run.sl.dma17
    simp only [lds_st2 c, rdb_hM2 c, rdb_hM9 c, rdb'_hM2 c, rdb'_hM9 c] <;> with_reducible rfl
  have e_r_24 : run.sl.r_24 (F := F) c vhM2 vhM9 = p_r_24 (In.mk x vwM1 vwM3 vwM4 vwM5 vwM7 vwM10 vhM2 vhM6 vhM8 vhM9) := by
    delta run.sl.r_24 p_r_24
    skip
    simp only [e_v681_r0] <;> with_reducible rfl
  have e_v665_r0 : run.sl.v665_r0 (F := F) c vhM2 vhM9 = p_v665_r0 (In.mk x vwM1 vwM3 vwM4 vwM5 vwM7 vwM10 vhM2 vhM6 vhM8 vhM9) := by
    delta run.sl.v665_r0 p_v665_r0
    delta run.sl.dma0_5 run.sl.dma12
    simp only [lds_st1 c, rdb_hM2 c, rdb_hM9 c, rdb'_hM2 c, rdb'_hM9 c] <;> with_reducible rfl
  have e_v649_r0 : run.sl.v649_r0 (F := F) c vhM2 vhM9 = p_v649_r0 (In.mk x vwM1 vwM3 vwM4 vwM5 vwM7 vwM10 vhM2 vhM6 vhM8 vhM9) := by
    delta run.sl.v649_r0 p_v649_r0
    delta run.sl.dma0_4 run.sl.dma7
    simp only [lds_st0 c, rdb_hM2 c, rdb_hM9 c, rdb'_hM2 c, rdb'_hM9 c] <;> with_reducible rfl
  have e_HsM15_4 : run.sl.HsM15_4 (F := F) c vhM2 vhM9 = p_HsM15_4 (In.mk x vwM1 vwM3 vwM4 vwM5 vwM7 vwM10 vhM2 vhM6 vhM8 vhM9) := by
    delta run.sl.HsM15_4 p_HsM15_4
    skip
    simp only [e_v697_r0, e_r_24, e_v665_r0, e_v649_r0] <;> with_reducible rfl
  have e_v703_r0 : run.sl.v703_r0 (F := F) c vhM2 vhM9 = p_v703_r0 (In.mk x vwM1 vwM3 vwM4 vwM5 vwM7 vwM10 vhM2 vhM6 vhM8 vhM9) := by
    delta run.sl.v703_r0 p_v703_r0
    skip
    simp only [e_HsM15_4] <;> with_reducible rfl
  have e_v1022_r0 : run.sl.v1022_r0 (F := F) c vhM6 vhM9 = p_v1022_r0 (In.mk x vwM1 vwM3 vwM4 vwM5 vwM7 vwM10 vhM2 vhM6 vhM8 vhM9) := by
    delta run.sl.v1022_r0 p_v1022_r0
    delta run.sl.dma0_14 run.sl.dma120 run.sl.dma56
    simp only [lds_o0c0 c, rdb_hM6 c, rdb_hM9 c, rdb'_hM6 c, rdb'_hM9 c] <;> with_reducible rfl
  have e_r : run.sl.r (F := F) c x = p_r (In.mk x vwM1 vwM3 vwM4 vwM5 vwM7 vwM10 vhM2 vhM6 vhM8 vhM9) := by
    delta run.sl.r p_r
    delta run.sl.dma0
    simp only [lds_x0c0 c, rdb_hM0 c, rdb'_hM0 c] <;> with_reducible rfl
  have e_r_11 : run.sl.r_11 (F := F) c x vwM1 vhM2 = p_r_11 (In.mk x vwM1 vwM3 vwM4 vwM5 vwM7 vwM10 vhM2 vhM6 vhM8 vhM9) := by
    delta run.sl.r_11 p_r_11
    skip
    simp only [e_r_4] <;> with_reducible rfl
  have e_r_15 : run.sl.r_15 (F := F) c x vwM1 vhM2 = p_r_15 (In.mk x vwM1 vwM3 vwM4 vwM5 vwM7 vwM10 vhM2 vhM6 vhM8 vhM9) := by
    delta run.sl.r_15 p_r_15
    skip
    simp only [e_r_4] <;> with_reducible rfl
  have e_r_16 : run.sl.r_16 (F := F) c x vwM1 vhM2 = p_r_16 (In.mk x vwM1 vwM3 vwM4 vwM5 vwM7 vwM10 vhM2 vhM6 vhM8 vhM9) := by
    delta run.sl.r_16 p_r_16
    delta run.sl.cst_414_r0 p_cst_414
    simp only [e_r_11, e_r_15] <;> with_reducible rfl
  have e_r_14 : run.sl.r_14 (F := F) c x vwM1 vhM2 = p_r_14 (In.mk x vwM1 vwM3 vwM4 vwM5 vwM7 vwM10 vhM2 vhM6 vhM8 vhM9) := by
    delta run.sl.r_14 p_r_14
    skip
    simp only [e_r_4] <;> with_reducible rfl
  have e_r_17 : run.sl.r_17 (F := F) c x vwM1 vhM2 = p_r_17 (In.mk x vwM1 vwM3 vwM4 vwM5 vwM7 vwM10 vhM2 vhM6 vhM8 vhM9) := by
    delta run.sl.r_17 p_r_17
    skip
    simp only [e_r_11, e_r_14] <;> with_reducible rfl
  have e_r_18 : run.sl.r_18 (F := F) c x vwM1 vhM2 = p_r_18 (In.mk x vwM1 vwM3 vwM4 vwM5 vwM7 vwM10 vhM2 vhM6 vhM8 vhM9) := by
    delta run.sl.r_18 p_r_18
    skip
    simp only [e_r_11, e_r_14] <;> with_reducible rfl
  have e_r_19 : run.sl.r_19 (F := F) c x vwM1 vhM2 = p_r_19 (In.mk x vwM1 vwM3 vwM4 vwM5 vwM7 vwM10 vhM2 vhM6 vhM8 vhM9) := by
    delta run.sl.r_19 p_r_19
    skip
    simp only [e_r_11, e_r_14] <;> with_reducible rfl
  have e_r_7 : run.sl.r_7 (F := F) c vhM6 = p_r_7 (In.mk x vwM1 vwM3 vwM4 vwM5 vwM7 vwM10 vhM2 vhM6 vhM8 vhM9) := by
    delta run.sl.r_7 p_r_7
    delta run.sl.dma0_15
    simp only [lds_o0c1 c, rdb_hM6 c, rdb'_hM6 c] <;> with_reducible rfl
  have e_r_8 : run.sl.r_8 (F := F) c vwM4 vwM5 vhM6 = p_r_8 (In.mk x vwM1 vwM3 vwM4 vwM5 vwM7 vwM10 vhM2 vhM6 vhM8 vhM9) := by
    delta run.sl.r_8 p_r_8
    delta run.sl.dma0_15
    simp only [lds_o0c1 c, rdb_hM6 c, rdb'_hM6 c] <;> with_reducible rfl
  have e_r_9 : run.sl.r_9 (F := F) c vwM4 = p_r_9 (In.mk x vwM1 vwM3 vwM4 vwM5 vwM7 vwM10 vhM2 vhM6 vhM8 vhM9) := by
    delta run.sl.r_9 p_r_9
    skip
    simp only [] <;> with_reducible rfl
  have e_r_6 : run.sl.r_6 (F := F) c vwM4 vwM5 vhM6 = p_r_6 (In.mk x vwM1 vwM3 vwM4 vwM5 vwM7 vwM10 vhM2 vhM6 vhM8 vhM9) := by
    delta run.sl.r_6 p_r_6
    delta run.sl.dma0_14
    simp only [lds_o0c0 c, rdb_hM6 c, rdb'_hM6 c] <;> with_reducible rfl
  have e_r_5 : run.sl.r_5 (F := F) c vhM6 = p_r_5 (In.mk x vwM1 vwM3 vwM4 vwM5 vwM7 vwM10 vhM2 vhM6 vhM8 vhM9) := by
    delta run.sl.r_5 p_r_5
    delta run.sl.dma0_13
    simp only [lds_x0c2 c, rdb_hM6 c, rdb'_hM6 c] <;> with_reducible rfl
  have e_HsM13_4 : run.sl.HsM13_4 (F := F) c vwM4 vwM5 vhM6 = p_HsM13_4 (In.mk x vwM1 vwM3 vwM4 vwM5 vwM7 vwM10 vhM2 vhM6 vhM8 vhM9) := by
    delta run.sl.HsM13_4 p_HsM13_4
    delta run.sl.dma0_12
    simp only [e_r_7, e_r_8, e_r_9, e_r_10, e_r_6, e_r_5, lds_x0c1 c, rdb_hM6 c, rdb'_hM6 c] <;> with_reducible rfl
  have e_v545_r0 : run.sl.v545_r0 (F := F) c vwM4 vwM5 vhM6 = p_v545_r0 (In.mk x vwM1 vwM3 vwM4 vwM5 vwM7 vwM10 vhM2 vhM6 vhM8 vhM9) := by
    delta run.sl.v545_r0 p_v545_r0
    skip
    simp only [e_HsM13_4] <;> with_reducible rfl
  have e_r_20 : run.sl.r_20 (F := F) c x vwM1 vwM3 vwM4 vwM5 vhM2 vhM6 = p_r_20 (In.mk x vwM1 vwM3 vwM4 vwM5 vwM7 vwM10 vhM2 vhM6 vhM8 vhM9) := by
    delta run.sl.r_20 p_r_20
    skip
    simp only [e_r, e_r_13, e_r_16, e_r_17, e_r_18, e_r_19, e_v545_r0] <;> with_reducible rfl
  have e_r_21 : run.sl.r_21 (F := F) c x vwM1 vwM3 vwM4 vwM5 vwM7 vhM2 vhM6 = p_r_21 (In.mk x vwM1 vwM3 vwM4 vwM5 vwM7 vwM10 vhM2 vhM6 vhM8 vhM9) := by
    delta run.sl.r_21 p_r_21
    skip
    simp only [e_r, e_r_13, e_r_16, e_r_17, e_r_18, e_r_19, e_v545_r0] <;> with_reducible rfl
  have e_r_22 : run.sl.r_22 (F := F) c vhM8 = p_r_22 (In.mk x vwM1 vwM3 vwM4 vwM5 vwM7 vwM10 vhM2 vhM6 vhM8 vhM9) := by
    delta run.sl.r_22 p_r_22
    delta run.sl.dma2
    simp only [lds_o1c2 c, rdb_hM8 c, rdb'_hM8 c] <;> with_reducible rfl
  have e_HsM14_4 : run.sl.HsM14_4 (F := F) c vhM8 = p_HsM14_4 (In.mk x vwM1 vwM3 vwM4 vwM5 vwM7 vwM10 vhM2 vhM6 vhM8 vhM9) := by
    delta run.sl.HsM14_4 p_HsM14_4
    delta run.sl.dma0_16 run.sl.dma0_17 run.sl.dma0_18
    simp only [e_r_22, lds_o0c2 c, lds_o1c0 c, lds_o1c1 c, rdb_hM8 c, rdb'_hM8 c] <;> with_reducible rfl
  have e_v633_r0 : run.sl.v633_r0 (F := F) c vhM8 = p_v633_r0 (In.mk x vwM1 vwM3 vwM4 vwM5 vwM7 vwM10 vhM2 vhM6 vhM8 vhM9) := by
    delta run.sl.v633_r0 p_v633_r0
    skip
    simp only [e_HsM14_4] <;> with_reducible rfl
  have e_r_23 : run.sl.r_23 (F := F) c x vwM1 vwM3 vwM4 vwM5 vwM7 vhM2 vhM6 vhM8 = p_r_23 (In.mk x vwM1 vwM3 vwM4 vwM5 vwM7 vwM10 vhM2 vhM6 vhM8 vhM9) := by
    delta run.sl.r_23 p_r_23
    skip
    simp only [e_r_21, e_v633_r0] <;> with_reducible rfl
  have e_r_25 : run.sl.r_25 (F := F) c x vwM1 vwM3 vwM4 vwM5 vwM7 vhM2 vhM6 vhM8 vhM9 = p_r_25 (In.mk x vwM1 vwM3 vwM4 vwM5 vwM7 vwM10 vhM2 vhM6 vhM8 vhM9) := by
    delta run.sl.r_25 p_r_25
    skip
    simp only [e_r_20, e_r_23, e_v703_r0] <;> with_reducible rfl
  have e_v764_r0 : run.sl.v764_r0 (F := F) c vhM2 vhM8 = p_v764_r0 (In.mk x vwM1 vwM3 vwM4 vwM5 vwM7 vwM10 vhM2 vhM6 vhM8 vhM9) := by
    delta run.sl.v764_r0 p_v764_r0
    delta run.sl.dma0_11 run.sl.dma43
    simp only [lds_st7 c, rdb_hM2 c, rdb_hM8 c, rdb'_hM2 c, rdb'_hM8 c] <;> with_reducible rfl
  have e_v748_r0 : run.sl.v748_r0 (F := F) c vhM2 vhM8 = p_v748_r0 (In.mk x vwM1 vwM3 vwM4 vwM5 vwM7 vwM10 vhM2 vhM6 vhM8 vhM9) := by
    delta run.sl.v748_r0 p_v748_r0
    delta run.sl.dma0_10 run.sl.dma37
    simp only [lds_st6 c, rdb_hM2 c, rdb_hM8 c, rdb'_hM2 c, rdb'_hM8 c] <;> with_reducible rfl
  have e_v732_r0 : run.sl.v732_r0 (F := F) c vhM2 vhM8 = p_v732_r0 (In.mk x vwM1 vwM3 vwM4 vwM5 vwM7 vwM10 vhM2 vhM6 vhM8 vhM9) := by
    delta run.sl.v732_r0 p_v732_r0
    delta run.sl.dma0_9 run.sl.dma32
    simp only [lds_st5 c, rdb_hM2 c, rdb_hM8 c, rdb'_hM2 c, rdb'_hM8 c] <;> with_reducible rfl
  have e_v716_r0 : run.sl.v716_r0 (F := F) c vhM2 vhM8 = p_v716_r0 (In.mk x vwM1 vwM3 vwM4 vwM5 vwM7 vwM10 vhM2 vhM6 vhM8 vhM9) := by
    delta run.sl.v716_r0 p_v716_r0
    delta run.sl.dma0_8 run.sl.dma27
    simp only [lds_st4 c, rdb_hM2 c, rdb_hM8 c, rdb'_hM2 c, rdb'_hM8 c] <;> with_reducible rfl
  have e_HsM14_8 : run.sl.HsM14_8 (F := F) c vhM2 vhM8 = p_HsM14_8 (In.mk x vwM1 vwM3 vwM4 vwM5 vwM7 vwM10 vhM2 vhM6 vhM8 vhM9) := by
    delta run.sl.HsM14_8 p_HsM14_8
    skip
    simp only [e_v764_r0, e_v748_r0, e_v732_r0, e_v716_r0, e_HsM14_4] <;> with_reducible rfl
  have e_v770_r0 : run.sl.v770_r0 (F := F) c vhM2 vhM8 = p_v770_r0 (In.mk x vwM1 vwM3 vwM4 vwM5 vwM7 vwM10 vhM2 vhM6 vhM8 vhM9) := by
    delta run.sl.v770_r0 p_v770_r0
    skip
    simp only [e_HsM14_8] <;> with_reducible rfl
  have e_r_26 : run.sl.r_26 (F := F) c x vwM1 vwM3 vwM4 vwM5 vwM7 vhM2 vhM6 vhM8 = p_r_26 (In.mk x vwM1 vwM3 vwM4 vwM5 vwM7 vwM10 vhM2 vhM6 vhM8 vhM9) := by
    delta run.sl.r_26 p_r_26
    skip
    simp only [e_r_21, e_v770_r0] <;> with_reducible rfl
  have e_v : run.sl.v (F := F) c vhM6 vhM9 = p_v (In.mk x vwM1 vwM3 vwM4 vwM5 vwM7 vwM10 vhM2 vhM6 vhM8 vhM9) := by
    delta run.sl.v p_v
    delta run.sl.dma0_14 run.sl.dma56
    simp only [lds_o0c0 c, rdb_hM6 c, rdb_hM9 c, rdb'_hM6 c, rdb'_hM9 c] <;> with_reducible rfl
  have e_v802_r0 : run.sl.v802_r0 (F := F) c vhM6 vhM9 = p_v802_r0 (In.mk x vwM1 vwM3 vwM4 vwM5 vwM7 vwM10 vhM2 vhM6 vhM8 vhM9) := by
    delta run.sl.v802_r0 p_v802_r0
    delta run.sl.dma0_13 run.sl.dma49
    simp only [lds_x0c2 c, rdb_hM6 c, rdb_hM9 c, rdb'_hM6 c, rdb'_hM9 c] <;> with_reducible rfl
  have e_v786_r0 : run.sl.v786_r0 (F := F) c vhM6 vhM9 = p_v786_r0 (In.mk x vwM1 vwM3 vwM4 vwM5 vwM7 vwM10 vhM2 vhM6 vhM8 vhM9) := by
    delta run.sl.v786_r0 p_v786_r0
    delta run.sl.dma0_12 run.sl.dma46
    simp only [lds_x0c1 c, rdb_hM6 c, rdb_hM9 c, rdb'_hM6 c, rdb'_hM9 c] <;> with_reducible rfl
  have e_HsM15_8 : run.sl.HsM15_8 (F := F) c vhM2 vhM6 vhM9 = p_HsM15_8 (In.mk x vwM1 vwM3 vwM4 vwM5 vwM7 vwM10 vhM2 vhM6 vhM8 vhM9) := by
    delta run.sl.HsM15_8 p_HsM15_8
    skip
    simp only [e_v834_r0, e_v, e_v802_r0, e_v786_r0, e_HsM15_4] <;> with_reducible rfl
  have e_v840_r0 : run.sl.v840_r0 (F := F) c vhM2 vhM6 vhM9 = p_v840_r0 (In.mk x vwM1 vwM3 vwM4 vwM5 vwM7 vwM10 vhM2 vhM6 vhM8 vhM9) := by
    delta run.sl.v840_r0 p_v840_r0
    skip
    simp only [e_HsM15_8] <;> with_reducible rfl
  have e_r_27 : run.sl.r_27 (F := F) c x vwM1 vwM3 vwM4 vwM5 vwM7 vhM2 vhM6 vhM8 vhM9 = p_r_27 (In.mk x vwM1 vwM3 vwM4 vwM5 vwM7 vwM10 vhM2 vhM6 vhM8 vhM9) := by
    delta run.sl.r_27 p_r_27
    skip
    simp only [e_r_25, e_r_26, e_v840_r0] <;> with_reducible rfl
  have e_v1000_r0 : run.sl.v1000_r0 (F := F) c vhM6 vhM9 = p_v1000_r0 (In.mk x vwM1 vwM3 vwM4 vwM5 vwM7 vwM10 vhM2 vhM6 vhM8 vhM9) := by
    delta run.sl.v1000_r0 p_v1000_r0
    delta run.sl.dma0_12 run.sl.dma114 run.sl.dma46
    simp only [lds_x0c1 c, rdb_hM6 c, rdb_hM9 c, rdb'_hM6 c, rdb'_hM9 c] <;> with_reducible rfl
  have e_v864_r0 : run.sl.v864_r0 (F := F) c vhM8 = p_v864_r0 (In.mk x vwM1 vwM3 vwM4 vwM5 vwM7 vwM10 vhM2 vhM6 vhM8 vhM9) := by
    delta run.sl.v864_r0 p_v864_r0
    delta run.sl.dma0_17 run.sl.dma78
    simp only [lds_o1c0 c, rdb_hM8 c, rdb'_hM8 c] <;> with_reducible rfl
  have e_v950_r0 : run.sl.v950_r0 (F := F) c vhM2 vhM8 = p_v950_r0 (In.mk x vwM1 vwM3 vwM4 vwM5 vwM7 vwM10 vhM2 vhM6 vhM8 vhM9) := by
    delta run.sl.v950_r0 p_v950_r0
    delta run.sl.dma0_8 run.sl.dma101 run.sl.dma27
    simp only [lds_st4 c, rdb_hM2 c, rdb_hM8 c, rdb'_hM2 c, rdb'_hM8 c] <;> with_reducible rfl
  have e_v1033_r0 : run.sl.v1033_r0 (F := F) c vhM6 vhM9 = p_v1033_r0 (In.mk x vwM1 vwM3 vwM4 vwM5 vwM7 vwM10 vhM2 vhM6 vhM8 vhM9) := by
    delta run.sl.v1033_r0 p_v1033_r0
    delta run.sl.dma0_15 run.sl.dma124 run.sl.dma72
    simp only [lds_o0c1 c, rdb_hM6 c, rdb_hM9 c, rdb'_hM6 c, rdb'_hM9 c] <;> with_reducible rfl
  have e_v1011_r0 : run.sl.v1011_r0 (F := F) c vhM6 vhM9 = p_v1011_r0 (In.mk x vwM1 vwM3 vwM4 vwM5 vwM7 vwM10 vhM2 vhM6 vhM8 vhM9) := by
    delta run.sl.v1011_r0 p_v1011_r0
    delta run.sl.dma0_13 run.sl.dma117 run.sl.dma49
    simp only [lds_x0c2 c, rdb_hM6 c, rdb_hM9 c, rdb'_hM6 c, rdb'_hM9 c] <;> with_reducible rfl
  have e_r_32 : run.sl.r_32 (F := F) c vhM6 vhM9 = p_r_32 (In.mk x vwM1 vwM3 vwM4 vwM5 vwM7 vwM10 vhM2 vhM6 vhM8 vhM9) := by
    delta run.sl.r_32 p_r_32
    skip
    simp only [e_v1011_r0] <;> with_reducible rfl
  have e_v936_r0 : run.sl.v936_r0 (F := F) c vhM2 vhM9 = p_v936_r0 (In.mk x vwM1 vwM3 vwM4 vwM5 vwM7 vwM10 vhM2 vhM6 vhM8 vhM9) := by
    delta run.sl.v936_r0 p_v936_r0
    delta run.sl.dma0_7 run.sl.dma22 run.sl.dma98
    simp only [lds_st3 c, rdb_hM2 c, rdb_hM9 c, rdb'_hM2 c, rdb'_hM9 c] <;> with_reducible rfl
  have e_v925_r0 : run.sl.v925_r0 (F := F) c vhM2 vhM9 = p_v925_r0 (In.mk x vwM1 vwM3 vwM4 vwM5 vwM7 vwM10 vhM2 vhM6 vhM8 vhM9) := by
    delta run.sl.v925_r0 p_v925_r0
    delta run.sl.dma0_6 run.sl.dma17 run.sl.dma94
    simp only [lds_st2 c, rdb_hM2 c, rdb_hM9 c, rdb'_hM2 c, rdb'_hM9 c] <;> with_reducible rfl
  have e_v914_r0 : run.sl.v914_r0 (F := F) c vhM2 vhM9 = p_v914_r0 (In.mk x vwM1 vwM3 vwM4 vwM5 vwM7 vwM10 vhM2 vhM6 vhM8 vhM9) := by
    delta run.sl.v914_r0 p_v914_r0
    delta run.sl.dma0_5 run.sl.dma12 run.sl.dma91
    simp only [lds_st1 c, rdb_hM2 c, rdb_hM9 c, rdb'_hM2 c, rdb'_hM9 c] <;> with_reducible rfl
  have e_v903_r0 : run.sl.v903_r0 (F := F) c vhM2 vhM9 = p_v903_r0 (In.mk x vwM1 vwM3 vwM4 vwM5 vwM7 vwM10 vhM2 vhM6 vhM8 vhM9) := by
    delta run.sl.v903_r0 p_v903_r0
    delta run.sl.dma0_4 run.sl.dma7 run.sl.dma88
    simp only [lds_st0 c, rdb_hM2 c, rdb_hM9 c, rdb'_hM2 c, rdb'_hM9 c] <;> with_reducible rfl
  have e_HsM15_12 : run.sl.HsM15_12 (F := F) c vhM2 vhM6 vhM9 = p_HsM15_12 (In.mk x vwM1 vwM3 vwM4 vwM5 vwM7 vwM10 vhM2 vhM6 vhM8 vhM9) := by
    delta run.sl.HsM15_12 p_HsM15_12
    skip
    simp only [e_v936_r0, e_v925_r0, e_v914_r0, e_v903_r0, e_HsM15_8] <;> with_reducible rfl
  have e_HsM15_16 : run.sl.HsM15_16 (F := F) c vhM2 vhM6 vhM9 = p_HsM15_16 (In.mk x vwM1 vwM3 vwM4 vwM5 vwM7 vwM10 vhM2 vhM6 vhM8 vhM9) := by
    delta run.sl.HsM15_16 p_HsM15_16
    skip
    simp only [e_v1033_r0, e_v1022_r0, e_r_32, e_v1000_r0, e_HsM15_12] <;> with_reducible rfl
  have e_v1039_r0 : run.sl.v1039_r0 (F := F) c vhM2 vhM6 vhM9 = p_v1039_r0 (In.mk x vwM1 vwM3 vwM4 vwM5 vwM7 vwM10 vhM2 vhM6 vhM8 vhM9) := by
    delta run.sl.v1039_r0 p_v1039_r0
    skip
    simp only [e_HsM15_16] <;> with_reducible rfl
  have e_v983_r0 : run.sl.v983_r0 (F := F) c vhM2 vhM8 = p_v983_r0 (In.mk x vwM1 vwM3 vwM4 vwM5 vwM7 vwM10 vhM2 vhM6 vhM8 vhM9) := by
    delta run.sl.v983_r0 p_v983_r0
    delta run.sl.dma0_11 run.sl.dma111 run.sl.dma43
    simp only [lds_st7 c, rdb_hM2 c, rdb_hM8 c, rdb'_hM2 c, rdb'_hM8 c] <;> with_reducible rfl
  have e_r_30 : run.sl.r_30 (F := F) c vhM2 vhM8 = p_r_30 (In.mk x vwM1 vwM3 vwM4 vwM5 vwM7 vwM10 vhM2 vhM6 vhM8 vhM9) := by
    delta run.sl.r_30 p_r_30
    skip
    simp only [e_v983_r0] <;> with_reducible rfl
  have e_v972_r0 : run.sl.v972_r0 (F := F) c vhM2 vhM8 = p_v972_r0 (In.mk x vwM1 vwM3 vwM4 vwM5 vwM7 vwM10 vhM2 vhM6 vhM8 vhM9) := by
    delta run.sl.v972_r0 p_v972_r0
    delta run.sl.dma0_10 run.sl.dma107 run.sl.dma37
    simp only [lds_st6 c, rdb_hM2 c, rdb_hM8 c, rdb'_hM2 c, rdb'_hM8 c] <;> with_reducible rfl
  have e_v961_r0 : run.sl.v961_r0 (F := F) c vhM2 vhM8 = p_v961_r0 (In.mk x vwM1 vwM3 vwM4 vwM5 vwM7 vwM10 vhM2 vhM6 vhM8 vhM9) := by
    delta run.sl.v961_r0 p_v961_r0
    delta run.sl.dma0_9 run.sl.dma104 run.sl.dma32
    simp only [lds_st5 c, rdb_hM2 c, rdb_hM8 c, rdb'_hM2 c, rdb'_hM8 c] <;> with_reducible rfl
  have e_v886_r0 : run.sl.v886_r0 (F := F) c vhM8 = p_v886_r0 (In.mk x vwM1 vwM3 vwM4 vwM5 vwM7 vwM10 vhM2 vhM6 vhM8 vhM9) := by
    delta run.sl.v886_r0 p_v886_r0
    delta run.sl.dma2 run.sl.dma85
    simp only [lds_o1c2 c, rdb_hM8 c, rdb'_hM8 c] <;> with_reducible rfl
  have e_v875_r0 : run.sl.v875_r0 (F := F) c vhM8 = p_v875_r0 (In.mk x vwM1 vwM3 vwM4 vwM5 vwM7 vwM10 vhM2 vhM6 vhM8 vhM9) := by
    delta run.sl.v875_r0 p_v875_r0
    delta run.sl.dma0_18 run.sl.dma81
    simp only [lds_o1c1 c, rdb_hM8 c, rdb'_hM8 c] <;> with_reducible rfl
  have e_v853_r0 : run.sl.v853_r0 (F := F) c vhM8 = p_v853_r0 (In.mk x vwM1 vwM3 vwM4 vwM5 vwM7 vwM10 vhM2 vhM6 vhM8 vhM9) := by
    delta run.sl.v853_r0 p_v853_r0
    delta run.sl.dma0_16 run.sl.dma75
    simp only [lds_o0c2 c, rdb_hM8 c, rdb'_hM8 c] <;> with_reducible rfl
  have e_HsM14_12 : run.sl.HsM14_12 (F := F) c vhM2 vhM8 = p_HsM14_12 (In.mk x vwM1 vwM3 vwM4 vwM5 vwM7 vwM10 vhM2 vhM6 vhM8 vhM9) := by
    delta run.sl.HsM14_12 p_HsM14_12
    skip
    simp only [e_v886_r0, e_v875_r0, e_v864_r0, e_v853_r0, e_HsM14_8] <;> with_reducible rfl
  have e_HsM14_16 : run.sl.HsM14_16 (F := F) c vhM2 vhM8 = p_HsM14_16 (In.mk x vwM1 vwM3 vwM4 vwM5 vwM7 vwM10 vhM2 vhM6 vhM8 vhM9) := by
    delta run.sl.HsM14_16 p_HsM14_16
    skip
    simp only [e_r_30, e_v972_r0, e_v961_r0, e_v950_r0, e_HsM14_12] <;> with_reducible rfl
  have e_v989_r0 : run.sl.v989_r0 (F := F) c vhM2 vhM8 = p_v989_r0 (In.mk x vwM1 vwM3 vwM4 vwM5 vwM7 vwM10 vhM2 vhM6 vhM8 vhM9) := by
    delta run.sl.v989_r0 p_v989_r0
    skip
    simp only [e_HsM14_16] <;> with_reducible rfl
  have e_v892_r0 : run.sl.v892_r0 (F := F) c vhM2 vhM8 = p_v892_r0 (In.mk x vwM1 vwM3 vwM4 vwM5 vwM7 vwM10 vhM2 vhM6 vhM8 vhM9) := by
    delta run.sl.v892_r0 p_v892_r0
    skip
    simp only [e_HsM14_12] <;> with_reducible rfl
  have e_r_28 : run.sl.r_28 (F := F) c x vwM1 vwM3 vwM4 vwM5 vwM7 vhM2 vhM6 vhM8 = p_r_28 (In.mk x vwM1 vwM3 vwM4 vwM5 vwM7 vwM10 vhM2 vhM6 vhM8 vhM9) := by
    delta run.sl.r_28 p_r_28
    skip
    simp only [e_r_21, e_v892_r0] <;> with_reducible rfl
  have e_v942_r0 : run.sl.v942_r0 (F := F) c vhM2 vhM6 vhM9 = p_v942_r0 (In.mk x vwM1 vwM3 vwM4 vwM5 vwM7 vwM10 vhM2 vhM6 vhM8 vhM9) := by
    delta run.sl.v942_r0 p_v942_r0
    skip
    simp only [e_HsM15_12] <;> with_reducible rfl
  have e_r_29 : run.sl.r_29 (F := F) c x vwM1 vwM3 vwM4 vwM5 vwM7 vhM2 vhM6 vhM8 vhM9 = p_r_29 (In.mk x vwM1 vwM3 vwM4 vwM5 vwM7 vwM10 vhM2 vhM6 vhM8 vhM9) := by
    delta run.sl.r_29 p_r_29
    skip
    simp only [e_r_27, e_r_28, e_v942_r0] <;> with_reducible rfl
  have e_r_31 : run.sl.r_31 (F := F) c x vwM1 vwM3 vwM4 vwM5 vwM7 vhM2 vhM6 vhM8 = p_r_31 (In.mk x vwM1 vwM3 vwM4 vwM5 vwM7 vwM10 vhM2 vhM6 vhM8 vhM9) := by
    delta run.sl.r_31 p_r_31
    skip
    simp only [e_r_21, e_v989_r0] <;> with_reducible rfl
  have e_r_33 : run.sl.r_33 (F := F) c x vwM1 vwM3 vwM4 vwM5 vwM7 vhM2 vhM6 vhM8 vhM9 = p_r_33 (In.mk x vwM1 vwM3 vwM4 vwM5 vwM7 vwM10 vhM2 vhM6 vhM8 vhM9) := by
    delta run.sl.r_33 p_r_33
    skip
    simp only [e_r_29, e_r_31, e_v1039_r0] <;> with_reducible rfl
  have e_r_12 : run.sl.r_12 (F := F) c x vwM1 vhM2 = p_r_12 (In.mk x vwM1 vwM3 vwM4 vwM5 vwM7 vwM10 vhM2 vhM6 vhM8 vhM9) := by
    delta run.sl.r_12 p_r_12
    skip
    simp only [e_r_4] <;> with_reducible rfl

  sl_for (fun k _ => inv (p_W (In.mk x vwM1 vwM3 vwM4 vwM5 vwM7 vwM10 vhM2 vhM6 vhM8 vhM9)) x (p_S0 (In.mk x vwM1 vwM3 vwM4 vwM5 vwM7 vwM10 vhM2 vhM6 vhM8 vhM9)) k) $$ [Hq7 Hx1 Hq6 Hx0 Hx0c0 Hx0c1 Hx0c2 Hq10 Hx3 Hq11 Hx2 Hf1 Hq9 Ho1c0 Ho1c1 Ho1c2 Hq8 Ho0c0 Ho0c1 Ho0c2 HwM1 HwM3 HwM7 HwM10 HsM12 HsM13 HsM14 HsM15 HsM16 HsM17 HsM20 HsM21 HhM11 HW]
  · intro k acc; cases acc; exact step (p_W (In.mk x vwM1 vwM3 vwM4 vwM5 vwM7 vwM10 vhM2 vhM6 vhM8 vhM9)) x (p_S0 (In.mk x vwM1 vwM3 vwM4 vwM5 vwM7 vwM10 vhM2 vhM6 vhM8 vhM9)) _ k
  · rw [inv_even _ _ _ 0 rfl]
    unfold inv0
    rw [OS1_zero _ _ _ (0 - 1) rfl, OS0_zero _ _ _ 0 rfl]
    isplitl [Hq7]
    · iexists _; iexact Hq7
    isplitl [Hx1]
    · iexact Hx1
    isplitl [Hq6]
    · iexact Hq6
    isplitl [Hx0]
    · iexact Hx0
    isplitl [Hx0c0 Hx0c1 Hx0c2]
    · skip
      iapply (x0_join c)
      isplitl [Hx0c0]
      · iexists _; iexact Hx0c0
      isplitl [Hx0c1]
      · iexists _; iexact Hx0c1
      iexists _; iexact Hx0c2
    isplitl [Hq10]
    · iexists _; iexact Hq10
    isplitl [Hx3]
    · iexact Hx3
    isplitl [Hq11]
    · iexact Hq11
    isplitl [Hx2]
    · iexact Hx2
    isplitl [Hf1]
    · iexists _; iexact Hf1
    isplitl [Hq9 Ho1c0 Ho1c1 Ho1c2]
    · isplitl [Hq9]
      · iexact Hq9
      iapply (o1_join c)
      isplitl [Ho1c0]
      · iexists _; iexact Ho1c0
      isplitl [Ho1c1]
      · iexists _; iexact Ho1c1
      iexists _; iexact Ho1c2
    isplitl [Hq8 Ho0c0 Ho0c1 Ho0c2]
    · isplitl [Hq8]
      · iexact Hq8
      iapply (o0_join c)
      isplitl [Ho0c0]
      · iexists _; iexact Ho0c0
      isplitl [Ho0c1]
      · iexists _; iexact Ho0c1
      iexists _; iexact Ho0c2
    isplitl [HwM1]
    · iexact HwM1
    isplitl [HwM3]
    · iexact HwM3
    isplitl [HwM7]
    · iexact HwM7
    isplitl [HwM10]
    · iexact HwM10
    isplitl [HsM12]
    · iapply (ptw_sM12 c _ _ e_HsM12_16); iexact HsM12
    isplitl [HsM13]
    · iapply (ptw_sM13 c _ _ e_HsM13_4); iexact HsM13
    isplitl [HsM14]
    · iapply (ptw_sM14 c _ _ e_HsM14_16); iexact HsM14
    isplitl [HsM15]
    · iapply (ptw_sM15 c _ _ e_HsM15_16); iexact HsM15
    isplitl [HsM16]
    · iapply (pt16 c _ _ _ _ (show _ = _ from (congrArg k0_pay122 e_r_12).symm)); iexact HsM16
    isplitl [HsM17]
    · iapply (pt17 c _ _ _ _ (show _ = _ from (congrArg k0_pay123 e_r_11).symm)); iexact HsM17
    isplitl [HsM20]
    · iapply (pt20 c _ _ _ _ (show _ = _ from (congrArg k0_pay169 e_r_33).symm)); iexact HsM20
    isplitl [HsM21]
    · iapply (pt21 c _ _ _ _ (show _ = _ from (congrArg (fun t => k0_pay170 t _) ((lds_f1 c _ _ _ _).trans (rdb_hM0 c _ _ _ _ _))).symm)); iexact HsM21
    isplitl []
    · iapply (empty_any c _); iempintro
    isplitl [HhM11]
    · iexists _; iapply (all_any c _); iexact HhM11
    iexists _; iexact HW
  clear e_r_1 e_r_3 e_r_2 e_HsM12_16 e_v357_r0 e_r_4 e_r_13 e_v834_r0 e_r_10 e_v697_r0 e_v681_r0 e_r_24 e_v665_r0 e_v649_r0 e_HsM15_4 e_v703_r0 e_v1022_r0 e_r e_r_11 e_r_15 e_r_16 e_r_14 e_r_17 e_r_18 e_r_19 e_r_7 e_r_8 e_r_9 e_r_6 e_r_5 e_HsM13_4 e_v545_r0 e_r_20 e_r_21 e_r_22 e_HsM14_4 e_v633_r0 e_r_23 e_r_25 e_v764_r0 e_v748_r0 e_v732_r0 e_v716_r0 e_HsM14_8 e_v770_r0 e_r_26 e_v e_v802_r0 e_v786_r0 e_HsM15_8 e_v840_r0 e_r_27 e_v1000_r0 e_v864_r0 e_v950_r0 e_v1033_r0 e_v1011_r0 e_r_32 e_v936_r0 e_v925_r0 e_v914_r0 e_v903_r0 e_HsM15_12 e_HsM15_16 e_v1039_r0 e_v983_r0 e_r_30 e_v972_r0 e_v961_r0 e_v886_r0 e_v875_r0 e_v853_r0 e_HsM14_12 e_HsM14_16 e_v989_r0 e_v892_r0 e_r_28 e_v942_r0 e_r_29 e_r_31 e_r_33 e_r_12
  iintro %acc HI
  ihave HI := (Entails.of_eq (inv_last (p_W (In.mk x vwM1 vwM3 vwM4 vwM5 vwM7 vwM10 vhM2 vhM6 vhM8 vhM9)) x (p_S0 (In.mk x vwM1 vwM3 vwM4 vwM5 vwM7 vwM10 vhM2 vhM6 vhM8 vhM9)))) $$ HI
  unfold fin
  icases HI with ⟨⟨%vx, Hq6⟩, Hx0, Hq7, Hx1, ⟨%vx1', Hsx1⟩, ⟨%vf, Hq11⟩, Hx2, Hq10, Hx3, ⟨%vf0', Hsf0⟩, ⟨%vo8, %vs8, Hq8⟩, ⟨%vo9, %vs9, Hq9⟩, HwM1, HwM3, HwM7, HwM10, HsM12, HsM13, HsM14, HsM15, HsM16, HsM17, HsM20, HsM21, Hdn, ⟨%vt, Hot⟩, ⟨%Wt', HW⟩⟩
  ihave Hdn := (park _) $$ Hdn
  sl_exec
  icases (o0_cut c _) $$ Hq8_src with ⟨Hoc0, Hoc1, Hoc2⟩
  sl_exec
  have hp : ∀ (a : Fin 256) (b : Fin 1024), run.sl.dma0_19 c x vwM1 vwM3 vwM4 vwM5 vwM7 vwM10 vhM2 vhM6 vhM8 vhM9 vs8 (ix2 a b) = k0_pay171 (View.readAt (Elt F) sM20.view (Rect.unit (s := S256x1024) ![0, 0] S256x1024.size (by decide)).toLoadRect (Sn (p_W (In.mk x vwM1 vwM3 vwM4 vwM5 vwM7 vwM10 vhM2 vhM6 vhM8 vhM9)) x (p_S0 (In.mk x vwM1 vwM3 vwM4 vwM5 vwM7 vwM10 vhM2 vhM6 vhM8 vhM9)) 21).s20) (View.readAt (Elt F) wM10.view (Rect.unit (s := S1x1024) ![0, 0] S1x1024.size (by decide)).toLoadRect (p_W (In.mk x vwM1 vwM3 vwM4 vwM5 vwM7 vwM10 vhM2 vhM6 vhM8 vhM9)).w10) (ix3 0 a b) := by
    intro a b
    delta run.sl.dma0_19 run.sl.Hq8_src_w1
    exact read_last c vs8 _ a b
  ihave Hdn := (unpark _) $$ Hdn
  rw [wp_ret]
  imodintro
  iapply Hk
  isplitl [Hq6]
  · iexact Hq6
  isplitl [Hq7]
  · iexact Hq7
  isplitl [Hq8]
  · iexact Hq8
  isplitl [Hq9]
  · iexact Hq9
  isplitl [Hq10]
  · iexact Hq10
  isplitl [Hq11]
  · iexact Hq11
  isplitl [Hq12]
  · iexact Hq12
  isplitl [Hq13]
  · iexact Hq13
  isplitl [Hq14]
  · iexact Hq14
  isplitl [Hq15]
  · iexact Hq15
  isplitl [Hq16]
  · iexact Hq16
  isplitl [Hq17]
  · iexact Hq17
  isplitl [Hq18]
  · iexact Hq18
  isplitl [Hq19]
  · iexact Hq19
  isplitl [Hq20]
  · iexact Hq20
  isplitl [Hq21]
  · iexact Hq21
  isplitl [Hq22]
  · iexact Hq22
  isplitl [Hq23]
  · iexact Hq23
  isplitl [Hq24]
  · iexact Hq24
  isplitl [Hq25]
  · iexact Hq25
  isplitl [Hq26]
  · iexact Hq26
  isplitl [Hq27]
  · iexact Hq27
  isplitl [Hx0]
  · iexact Hx0
  isplitl [Hx1]
  · iexact Hx1
  isplitl [Hx2]
  · iexact Hx2
  isplitl [Hx3]
  · iexact Hx3
  isplitl [HwM1]
  · iapply (Entails.of_eq (show (pt c wM1 fullShare (p_W (In.mk x vwM1 vwM3 vwM4 vwM5 vwM7 vwM10 vhM2 vhM6 vhM8 vhM9)).w1 : sProp 𝕄) = pt c wM1 fullShare vwM1 from rfl)); iexact HwM1
  isplitl [HwM3]
  · iapply (Entails.of_eq (show (pt c wM3 fullShare (p_W (In.mk x vwM1 vwM3 vwM4 vwM5 vwM7 vwM10 vhM2 vhM6 vhM8 vhM9)).w3 : sProp 𝕄) = pt c wM3 fullShare vwM3 from rfl)); iexact HwM3
  isplitl [HwM4]
  · iexact HwM4
  isplitl [HwM5]
  · iexact HwM5
  isplitl [HwM7]
  · iapply (Entails.of_eq (show (pt c wM7 fullShare (p_W (In.mk x vwM1 vwM3 vwM4 vwM5 vwM7 vwM10 vhM2 vhM6 vhM8 vhM9)).w7 : sProp 𝕄) = pt c wM7 fullShare vwM7 from rfl)); iexact HwM7
  isplitl [HwM10]
  · iapply (Entails.of_eq (show (pt c wM10 fullShare (p_W (In.mk x vwM1 vwM3 vwM4 vwM5 vwM7 vwM10 vhM2 vhM6 vhM8 vhM9)).w10 : sProp 𝕄) = pt c wM10 fullShare vwM10 from rfl)); iexact HwM10
  isplitl [HhM2]
  · iexact HhM2
  isplitl [HhM6]
  · iexact HhM6
  isplitl [HhM8]
  · iexact HhM8
  isplitl [HhM9]
  · iexact HhM9
  isplitl [Hdn Hq8_dst Hq9_dst Hot]
  · iapply (last_join (p_W (In.mk x vwM1 vwM3 vwM4 vwM5 vwM7 vwM10 vhM2 vhM6 vhM8 vhM9)) x (p_S0 (In.mk x vwM1 vwM3 vwM4 vwM5 vwM7 vwM10 vhM2 vhM6 vhM8 vhM9)) vt _ hp)
    isplitl [Hdn Hq8_dst Hq9_dst]
    · iapply (done_join (p_W (In.mk x vwM1 vwM3 vwM4 vwM5 vwM7 vwM10 vhM2 vhM6 vhM8 vhM9)) x (p_S0 (In.mk x vwM1 vwM3 vwM4 vwM5 vwM7 vwM10 vhM2 vhM6 vhM8 vhM9)) 20 21 (by omega) (by omega) vo9)
      isplitl [Hdn Hq8_dst]
      · iapply (done_join (p_W (In.mk x vwM1 vwM3 vwM4 vwM5 vwM7 vwM10 vhM2 vhM6 vhM8 vhM9)) x (p_S0 (In.mk x vwM1 vwM3 vwM4 vwM5 vwM7 vwM10 vhM2 vhM6 vhM8 vhM9)) 19 20 (by omega) (by omega) vo8)
        isplitl [Hdn] <;> iassumption
      · iexact Hq9_dst
    · iexact Hot
  isplitl [HsM12]
  · iexists _; iexact HsM12
  isplitl [HsM13]
  · iexists _; iexact HsM13
  isplitl [HsM14]
  · iexists _; iexact HsM14
  isplitl [HsM15]
  · iexists _; iexact HsM15
  isplitl [HsM16]
  · iexists _; iexact HsM16
  isplitl [HsM17]
  · iexists _; iexact HsM17
  isplitl [HsM20]
  · iexists _; iexact HsM20
  isplitl [HsM21]
  · iexists _; iexact HsM21
  isplitl [Hq6_dst]
  · iexists _; iexact Hq6_dst
  isplitl [Hsx1]
  · iexists _; iexact Hsx1
  isplitl [Hoc0 Hoc1 Hoc2]
  · iapply (o0_join c)
    isplitl [Hoc0]
    · iexists _; iexact Hoc0
    isplitl [Hoc1]
    · iexact Hoc1
    iexact Hoc2
  isplitl [Hq9_src]
  · iexists _; iexact Hq9_src
  isplitl [Hsf0]
  · iexists _; iexact Hsf0
  isplitl [Hq11_dst]
  · iexists _; iexact Hq11_dst
  isplitl [Hst0]
  · iexists _; iexact Hst0
  isplitl [Hst1]
  · iexists _; iexact Hst1
  isplitl [Hst2]
  · iexists _; iexact Hst2
  isplitl [Hst3]
  · iexists _; iexact Hst3
  isplitl [Hst4]
  · iexists _; iexact Hst4
  isplitl [Hst5]
  · iexists _; iexact Hst5
  isplitl [Hst6]
  · iexists _; iexact Hst6
  isplitl [Hst7]
  · iexists _; iexact Hst7
  iexists _; iexact HW

end Cert.KernelIdeal.Hand

end
-- ==== Proof.Lau.lean ====
module

public import proofs.«01_k».proof.Proof.Boxes
public import proofs.«01_k».proof.Proof.Pro
public import proofs.«01_k».proof.Proof.Rows
public import proofs.«01_k».proof.Proof.Gen.KernelIdeal.Frame
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch: the kernel's own cells, the arrays it reads and writes in HBM, and what the region is entered with -/

/-- The kernel's own DMA cells. -/
abbrev osem0 : Fin 22 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27] : Fin 22 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(sv0 c 6 ∗ sv0 c 7 ∗ sv0 c 8 ∗ sv0 c 9 ∗ sv0 c 10 ∗ sv0 c 11 ∗ sv0 c 12 ∗ sv0 c 13 ∗ sv0 c 14 ∗ sv0 c 15 ∗ sv0 c 16 ∗ sv0 c 17 ∗ sv0 c 18 ∗ sv0 c 19 ∗ sv0 c 20 ∗ sv0 c 21 ∗ sv0 c 22 ∗ sv0 c 23 ∗ sv0 c 24 ∗ sv0 c 25 ∗ sv0 c 26 ∗ sv0 c 27) := by
  rw [Pipeline.ownSems0_eq_of_list c osem0 [0, 1, 2, 3, 4, 5, 6, 7, 8, 9, 10, 11, 12, 13, 14, 15, 16, 17, 18, 19, 20, 21] (by decide) (by decide)]; rfl

/-- The arrays the kernel's transfers read. -/
def H0 : Finset (Ref sig .tc) := {main_v0, main_v2, main_v6, main_v8, main_v9}
theorem H0_sub : H0 ⊆ Pipeline.restRefs sig spec0 := by decide
/-- The array they write. -/
def R0 : Finset (Ref sig .tc) := {main_v15}
theorem R0_sub : R0 ⊆ Pipeline.restRefs sig spec0 \ H0 := by decide

/-- A whole buffer held is its points-to. -/
theorem pt_whole (c : Dev nD) (b : Ref sig .tc) (q : PosShare TreeShare) (f : Buf (Elt F) ((c : Thread nD τ).loc b)) :
    (pt c (Memref.whole b) q f : sProp 𝕄) = iprop(((c : Thread nD τ).loc b) ↦{q} f) := by
  show iprop(_ ↦[(View.whole b).set]{q} f) = _
  rw [View.set_whole]
/-- A whole buffer held at anything is its points-to at anything. -/
theorem any_whole (c : Dev nD) (b : Ref sig .tc) :
    (anyM (F := F) c (Memref.whole b) : sProp 𝕄) = iprop(∃ f : Buf (Elt F) ((c : Thread nD τ).loc b), ((c : Thread nD τ).loc b) ↦{fullShare} f) := by
  unfold anyM; simp only [pt_whole]
theorem hPts_eq (c : Dev nD) (f : (b : Ref sig .tc) → Buf (Elt F) ((c : Thread nD τ).loc b)) :
    (bigSep H0 (fun b => ((c : Thread nD τ).loc b) ↦{fullShare} f b) : sProp 𝕄)
      = iprop(pt c hM0 fullShare (f main_v0) ∗ pt c hM2 fullShare (f main_v2) ∗ pt c hM6 fullShare (f main_v6) ∗ pt c hM8 fullShare (f main_v8) ∗ pt c hM9 fullShare (f main_v9)) := by
  rw [BI.bigSep_eq_bigSepL_of_eq [main_v0, main_v2, main_v6, main_v8, main_v9] (by decide) (by decide)]
  exact congrArg₂ (fun a b => iprop(a ∗ b)) ((pt_whole c main_v0 _ _).symm) (congrArg₂ (fun a b => iprop(a ∗ b)) ((pt_whole c main_v2 _ _).symm) (congrArg₂ (fun a b => iprop(a ∗ b)) ((pt_whole c main_v6 _ _).symm) (congrArg₂ (fun a b => iprop(a ∗ b)) ((pt_whole c main_v8 _ _).symm) ((pt_whole c main_v9 _ _).symm))))
theorem rPts_eq (c : Dev nD) (f : (b : Ref sig .tc) → Buf (Elt F) ((c : Thread nD τ).loc b)) :
    (bigSep R0 (fun b => ((c : Thread nD τ).loc b) ↦{fullShare} f b) : sProp 𝕄) = iprop(pt c hM11 fullShare (f main_v15)) := by
  rw [BI.bigSep_eq_bigSepL_of_eq [main_v15] (by decide) (by decide)]
  exact (pt_whole c main_v15 _ _).symm
theorem scr_eq (c : Dev nD) :
    (Pipeline.scopedRest (Ix := Unit) (Name := ℕ) (U := Pipeline.UD sig nD τ) (Lvl := ℕ) (Val := Elt F) spec0 c : sProp 𝕄)
      = iprop(anyM (F := F) c sM12 ∗ anyM (F := F) c sM13 ∗ anyM (F := F) c sM14 ∗ anyM (F := F) c sM15 ∗ anyM (F := F) c sM16 ∗ anyM (F := F) c sM17 ∗ anyM (F := F) c sM18 ∗ anyM (F := F) c sM19 ∗ anyM (F := F) c sM20 ∗ anyM (F := F) c sM21 ∗ anyM (F := F) c sM22 ∗ anyM (F := F) c sMst) := by
  rw [scopedRest0_eq]
  exact congrArg₂ (fun a b => iprop(a ∗ b)) ((any_whole c cc0_scratch0).symm) (congrArg₂ (fun a b => iprop(a ∗ b)) ((any_whole c cc0_scratch1).symm) (congrArg₂ (fun a b => iprop(a ∗ b)) ((any_whole c cc0_scratch2).symm) (congrArg₂ (fun a b => iprop(a ∗ b)) ((any_whole c cc0_scratch3).symm) (congrArg₂ (fun a b => iprop(a ∗ b)) ((any_whole c cc0_scratch4).symm) (congrArg₂ (fun a b => iprop(a ∗ b)) ((any_whole c cc0_scratch5).symm) (congrArg₂ (fun a b => iprop(a ∗ b)) ((any_whole c cc0_scratch6).symm) (congrArg₂ (fun a b => iprop(a ∗ b)) ((any_whole c cc0_scratch7).symm) (congrArg₂ (fun a b => iprop(a ∗ b)) ((any_whole c cc0_scratch8).symm) (congrArg₂ (fun a b => iprop(a ∗ b)) ((any_whole c cc0_scratch9).symm) (congrArg₂ (fun a b => iprop(a ∗ b)) ((any_whole c cc0_scratch10).symm) ((any_whole c cc0_scoped0).symm)))))))))))

/-- What the kernel is run on: the arrays as the region finds them, the staged ones by their blocks. -/
def Iv (c : Dev nD) : In (F := F) c :=
  ⟨V m c main_v0, iblk m c 0 t0_0, iblk m c 1 t0_0, iblk m c 2 t0_0, iblk m c 3 t0_0, iblk m c 4 t0_0, iblk m c 5 t0_0, V m c main_v2, V m c main_v6, V m c main_v8, V m c main_v9⟩
/-- What the region leaves in the result's array, every other as found. -/
def Gv (c : Dev nD) (b : Ref sig .tc) : Buf (Elt F) ((c : Thread nD τ).loc b) :=
  Function.update (V m c) main_v15 (Gout (p_W (Iv m c)) (Iv m c).x (p_S0 (Iv m c))) b
theorem Gv_v15 (c : Dev nD) : Gv m c main_v15 = Gout (p_W (Iv m c)) (Iv m c).x (p_S0 (Iv m c)) := Function.update_self _ _ _

/-- The proof data of the launch: the arrays as the region finds them, every staged block left in place, the scratch memory, the cells
and the arrays in HBM as the invariant, the result's array at `Gv` once the kernel has run. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ k := Pipeline.ΦDRV osem0 spec0 H0 R0 (V m) (if k.val = 0 then V m else Gv m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by
  dsimp only [dats]
theorem after_1 (c : Dev nD) (t : Fin cfg0.N) : (dats m 0 c).after 1 t = iblk m c 1 t := by
  dsimp only [dats]
theorem after_2 (c : Dev nD) (t : Fin cfg0.N) : (dats m 0 c).after 2 t = iblk m c 2 t := by
  dsimp only [dats]
theorem after_3 (c : Dev nD) (t : Fin cfg0.N) : (dats m 0 c).after 3 t = iblk m c 3 t := by
  dsimp only [dats]
theorem after_4 (c : Dev nD) (t : Fin cfg0.N) : (dats m 0 c).after 4 t = iblk m c 4 t := by
  dsimp only [dats]
theorem after_5 (c : Dev nD) (t : Fin cfg0.N) : (dats m 0 c).after 5 t = iblk m c 5 t := by
  dsimp only [dats]
theorem Phi_first (c : Dev nD) : (dats m 0 c).Φ t0_0.castSucc = Pipeline.ΦDRV osem0 spec0 H0 R0 (V m) (V m) c := rfl
theorem Phi_last (c : Dev nD) : (dats m 0 c).Φ t0_0.succ = Pipeline.ΦDRV osem0 spec0 H0 R0 (V m) (Gv m) c := rfl
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem in_0 (c : Dev nD) : iprop(∃ d, owns (c : Thread nD τ) (win0_0.stage (cfg0.slots t0_0 0)) fullShare ((dats m 0 c).before 0 t0_0 d)) ⊢ pt c wM1 fullShare (Iv m c).w1 := by
  iintro ⟨%d, H⟩
  rw [before_0]
  ihave H := (BIBase.Entails.trans (Entails.of_eq (owns_whole (c : Thread nD τ) (b := cc0_stg0_0) fullShare _)) (Entails.of_eq (pt_whole c cc0_stg0_0 fullShare _).symm)) $$ H
  iexact H
theorem out_0 (c : Dev nD) : pt c wM1 fullShare (Iv m c).w1 ⊢ (owns (c : Thread nD τ) (win0_0.stage (cfg0.slots t0_0 0)) fullShare ((dats m 0 c).after 0 t0_0) : sProp 𝕄) := by
  rw [after_0]
  exact BIBase.Entails.trans (Entails.of_eq (pt_whole c cc0_stg0_0 fullShare _)) (Entails.of_eq (owns_whole (c : Thread nD τ) (b := cc0_stg0_0) fullShare _).symm)
theorem in_1 (c : Dev nD) : iprop(∃ d, owns (c : Thread nD τ) (win0_1.stage (cfg0.slots t0_0 1)) fullShare ((dats m 0 c).before 1 t0_0 d)) ⊢ pt c wM3 fullShare (Iv m c).w3 := by
  iintro ⟨%d, H⟩
  rw [before_1]
  ihave H := (BIBase.Entails.trans (Entails.of_eq (owns_whole (c : Thread nD τ) (b := cc0_stg1_0) fullShare _)) (Entails.of_eq (pt_whole c cc0_stg1_0 fullShare _).symm)) $$ H
  iexact H
theorem out_1 (c : Dev nD) : pt c wM3 fullShare (Iv m c).w3 ⊢ (owns (c : Thread nD τ) (win0_1.stage (cfg0.slots t0_0 1)) fullShare ((dats m 0 c).after 1 t0_0) : sProp 𝕄) := by
  rw [after_1]
  exact BIBase.Entails.trans (Entails.of_eq (pt_whole c cc0_stg1_0 fullShare _)) (Entails.of_eq (owns_whole (c : Thread nD τ) (b := cc0_stg1_0) fullShare _).symm)
theorem in_2 (c : Dev nD) : iprop(∃ d, owns (c : Thread nD τ) (win0_2.stage (cfg0.slots t0_0 2)) fullShare ((dats m 0 c).before 2 t0_0 d)) ⊢ pt c wM4 fullShare (Iv m c).w4 := by
  iintro ⟨%d, H⟩
  rw [before_2]
  ihave H := (BIBase.Entails.trans (Entails.of_eq (owns_whole (c : Thread nD τ) (b := cc0_stg2_0) fullShare _)) (Entails.of_eq (pt_whole c cc0_stg2_0 fullShare _).symm)) $$ H
  iexact H
theorem out_2 (c : Dev nD) : pt c wM4 fullShare (Iv m c).w4 ⊢ (owns (c : Thread nD τ) (win0_2.stage (cfg0.slots t0_0 2)) fullShare ((dats m 0 c).after 2 t0_0) : sProp 𝕄) := by
  rw [after_2]
  exact BIBase.Entails.trans (Entails.of_eq (pt_whole c cc0_stg2_0 fullShare _)) (Entails.of_eq (owns_whole (c : Thread nD τ) (b := cc0_stg2_0) fullShare _).symm)
theorem in_3 (c : Dev nD) : iprop(∃ d, owns (c : Thread nD τ) (win0_3.stage (cfg0.slots t0_0 3)) fullShare ((dats m 0 c).before 3 t0_0 d)) ⊢ pt c wM5 fullShare (Iv m c).w5 := by
  iintro ⟨%d, H⟩
  rw [before_3]
  ihave H := (BIBase.Entails.trans (Entails.of_eq (owns_whole (c : Thread nD τ) (b := cc0_stg3_0) fullShare _)) (Entails.of_eq (pt_whole c cc0_stg3_0 fullShare _).symm)) $$ H
  iexact H
theorem out_3 (c : Dev nD) : pt c wM5 fullShare (Iv m c).w5 ⊢ (owns (c : Thread nD τ) (win0_3.stage (cfg0.slots t0_0 3)) fullShare ((dats m 0 c).after 3 t0_0) : sProp 𝕄) := by
  rw [after_3]
  exact BIBase.Entails.trans (Entails.of_eq (pt_whole c cc0_stg3_0 fullShare _)) (Entails.of_eq (owns_whole (c : Thread nD τ) (b := cc0_stg3_0) fullShare _).symm)
theorem in_4 (c : Dev nD) : iprop(∃ d, owns (c : Thread nD τ) (win0_4.stage (cfg0.slots t0_0 4)) fullShare ((dats m 0 c).before 4 t0_0 d)) ⊢ pt c wM7 fullShare (Iv m c).w7 := by
  iintro ⟨%d, H⟩
  rw [before_4]
  ihave H := (BIBase.Entails.trans (Entails.of_eq (owns_whole (c : Thread nD τ) (b := cc0_stg4_0) fullShare _)) (Entails.of_eq (pt_whole c cc0_stg4_0 fullShare _).symm)) $$ H
  iexact H
theorem out_4 (c : Dev nD) : pt c wM7 fullShare (Iv m c).w7 ⊢ (owns (c : Thread nD τ) (win0_4.stage (cfg0.slots t0_0 4)) fullShare ((dats m 0 c).after 4 t0_0) : sProp 𝕄) := by
  rw [after_4]
  exact BIBase.Entails.trans (Entails.of_eq (pt_whole c cc0_stg4_0 fullShare _)) (Entails.of_eq (owns_whole (c : Thread nD τ) (b := cc0_stg4_0) fullShare _).symm)
theorem in_5 (c : Dev nD) : iprop(∃ d, owns (c : Thread nD τ) (win0_5.stage (cfg0.slots t0_0 5)) fullShare ((dats m 0 c).before 5 t0_0 d)) ⊢ pt c wM10 fullShare (Iv m c).w10 := by
  iintro ⟨%d, H⟩
  rw [before_5]
  ihave H := (BIBase.Entails.trans (Entails.of_eq (owns_whole (c : Thread nD τ) (b := cc0_stg5_0) fullShare _)) (Entails.of_eq (pt_whole c cc0_stg5_0 fullShare _).symm)) $$ H
  iexact H
theorem out_5 (c : Dev nD) : pt c wM10 fullShare (Iv m c).w10 ⊢ (owns (c : Thread nD τ) (win0_5.stage (cfg0.slots t0_0 5)) fullShare ((dats m 0 c).after 5 t0_0) : sProp 𝕄) := by
  rw [after_5]
  exact BIBase.Entails.trans (Entails.of_eq (pt_whole c cc0_stg5_0 fullShare _)) (Entails.of_eq (owns_whole (c : Thread nD τ) (b := cc0_stg5_0) fullShare _).symm)
/-- An array's share in four. -/
theorem share_four (c : Dev nD) (x : Bf (F := F) c hM0) : (pt c hM0 fullShare x : sProp 𝕄)
    ⊣⊢ iprop((View.loc (c : Thread nD τ) hM0.view ↦{fullShare.left.left} x) ∗ (View.loc (c : Thread nD τ) hM0.view ↦{fullShare.left.right} x)
      ∗ (View.loc (c : Thread nD τ) hM0.view ↦{fullShare.right.left} x) ∗ (View.loc (c : Thread nD τ) hM0.view ↦{fullShare.right.right} x)) := by
  rw [pt_whole]
  constructor
  · iintro H
    icases (pointsTo_share (PosShare.mem_left_op_right fullShare)).1 $$ H with ⟨H1, H2⟩
    icases (pointsTo_share (PosShare.mem_left_op_right fullShare.left)).1 $$ H1 with ⟨H1, H3⟩
    icases (pointsTo_share (PosShare.mem_left_op_right fullShare.right)).1 $$ H2 with ⟨H2, H4⟩
    isplitl [H1]; · iexact H1
    isplitl [H3]; · iexact H3
    isplitl [H2]; · iexact H2
    iexact H4
  · iintro ⟨H1, H3, H2, H4⟩
    iapply (pointsTo_share (PosShare.mem_left_op_right fullShare)).2
    isplitl [H1 H3]
    · iapply (pointsTo_share (PosShare.mem_left_op_right fullShare.left)).2
      isplitl [H1]; · iexact H1
      iexact H3
    iapply (pointsTo_share (PosShare.mem_left_op_right fullShare.right)).2
    isplitl [H2]; · iexact H2
    iexact H4

/-- What the launch hands the kernel, one by one. -/
theorem Phi_eq (c : Dev nD) (G : (c : Dev nD) → (b : Ref sig .tc) → Buf (Elt F) ((c : Thread nD τ).loc b)) :
    (Pipeline.ΦDRV osem0 spec0 H0 R0 (V m) G c : sProp 𝕄)
      = iprop((anyM (F := F) c sM12 ∗ anyM (F := F) c sM13 ∗ anyM (F := F) c sM14 ∗ anyM (F := F) c sM15 ∗ anyM (F := F) c sM16 ∗ anyM (F := F) c sM17 ∗ anyM (F := F) c sM18 ∗ anyM (F := F) c sM19 ∗ anyM (F := F) c sM20 ∗ anyM (F := F) c sM21 ∗ anyM (F := F) c sM22 ∗ anyM (F := F) c sMst) ∗ (sv0 c 6 ∗ sv0 c 7 ∗ sv0 c 8 ∗ sv0 c 9 ∗ sv0 c 10 ∗ sv0 c 11 ∗ sv0 c 12 ∗ sv0 c 13 ∗ sv0 c 14 ∗ sv0 c 15 ∗ sv0 c 16 ∗ sv0 c 17 ∗ sv0 c 18 ∗ sv0 c 19 ∗ sv0 c 20 ∗ sv0 c 21 ∗ sv0 c 22 ∗ sv0 c 23 ∗ sv0 c 24 ∗ sv0 c 25 ∗ sv0 c 26 ∗ sv0 c 27) ∗ (pt c hM0 fullShare (V m c main_v0) ∗ pt c hM2 fullShare (V m c main_v2) ∗ pt c hM6 fullShare (V m c main_v6) ∗ pt c hM8 fullShare (V m c main_v8) ∗ pt c hM9 fullShare (V m c main_v9)) ∗ pt c hM11 fullShare (G c main_v15)) := by
  unfold Pipeline.ΦDRV
  rw [scr_eq, ownSems00_eq, hPts_eq, rPts_eq]

/-! ## `@main` around the region -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

end Cert.KernelIdeal.Hand

end
-- ==== Proof.Run.lean ====
module

public import proofs.«01_k».proof.Proof.Body
public import proofs.«01_k».proof.Proof.Lau

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's run inside its launch -/

/-- The result's array after the run. -/
theorem g15 (c : Dev nD) (I : In (F := F) c) :
    iprop(View.loc (c : Thread nD τ) hM11.view ↦{fullShare} Gout (p_W (In.mk I.x I.w1 I.w3 I.w4 I.w5 I.w7 I.w10 I.h2 I.h6 I.h8 I.h9)) I.x (p_S0 (In.mk I.x I.w1 I.w3 I.w4 I.w5 I.w7 I.w10 I.h2 I.h6 I.h8 I.h9)))
      ⊢ (pt c hM11 fullShare (Gout (p_W I) I.x (p_S0 I)) : sProp 𝕄) := by
  cases I
  exact Entails.of_eq (pt_whole c main_v15 _ _).symm

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t))

/-- The kernel's run on what the launch hands it: every block back in place, the scratch memory at anything, the cells at zero, the
arrays read unchanged, the result written. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [Phi_first, Phi_last, Phi_eq, Phi_eq, Gv_v15]
  unfold Dat.owesAt Pipeline.owesWithin
  rw [show (dats m 0 c).owed t0_0.castSucc = 0 from rfl, show (dats m 0 c).owed t0_0.succ = 0 from rfl]
  rw [show bodyAt0 (F := F) t0_0 = cc0_hybrid_block hM0 (Memref.isWhole_whole _) wM1 (Memref.isWhole_whole _) hM2 (Memref.isWhole_whole _) wM3 (Memref.isWhole_whole _) wM4 (Memref.isWhole_whole _) wM5 (Memref.isWhole_whole _) hM6 (Memref.isWhole_whole _) wM7 (Memref.isWhole_whole _) hM8 (Memref.isWhole_whole _) hM9 (Memref.isWhole_whole _) wM10 (Memref.isWhole_whole _) hM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) sM20 (Memref.isWhole_whole _) sM21 (Memref.isWhole_whole _) sM22 (Memref.isWhole_whole _) cc0_scratch11 cc0_scratch12 cc0_scratch13 sMst (Memref.isWhole_whole _) cc0_scoped1 from rfl]
  iintro ⟨⟨⟨HsM12, HsM13, HsM14, HsM15, HsM16, HsM17, HsM18, HsM19, HsM20, HsM21, HsM22, HsMst⟩, ⟨Hq6, Hq7, Hq8, Hq9, Hq10, Hq11, Hq12, Hq13, Hq14, Hq15, Hq16, Hq17, Hq18, Hq19, Hq20, Hq21, Hq22, Hq23, Hq24, Hq25, Hq26, Hq27⟩, ⟨HhM0, HhM2, HhM6, HhM8, HhM9⟩, HhM11⟩, ⟨%W, -, HW⟩, Hw0, Hw1, Hw2, Hw3, Hw4, Hw5⟩
  ihave HwM1 := (in_0 m c) $$ Hw0
  ihave HwM3 := (in_1 m c) $$ Hw1
  ihave HwM4 := (in_2 m c) $$ Hw2
  ihave HwM5 := (in_3 m c) $$ Hw3
  ihave HwM7 := (in_4 m c) $$ Hw4
  ihave HwM10 := (in_5 m c) $$ Hw5
  icases (share_four c _).1 $$ HhM0 with ⟨Hx0, Hx1, Hx2, Hx3⟩
  icases (sM18_split c) $$ HsM18 with ⟨Hxs0, Hxs1⟩
  icases (x0_split c) $$ Hxs0 with ⟨Hx0c0, Hx0c1, Hx0c2⟩
  icases (sM19_split c) $$ HsM19 with ⟨Hos0, Hos1⟩
  icases (o0_split c) $$ Hos0 with ⟨Ho0c0, Ho0c1, Ho0c2⟩
  icases (o1_split c) $$ Hos1 with ⟨Ho1c0, Ho1c1, Ho1c2⟩
  icases (sM22_split c) $$ HsM22 with ⟨Hf0, Hf1⟩
  icases (sMst_split c) $$ HsMst with ⟨Hst0, Hst1, Hst2, Hst3, Hst4, Hst5, Hst6, Hst7⟩
  icases HsM12 with ⟨%vHsM12, HsM12⟩
  icases HsM13 with ⟨%vHsM13, HsM13⟩
  icases HsM14 with ⟨%vHsM14, HsM14⟩
  icases HsM15 with ⟨%vHsM15, HsM15⟩
  icases HsM16 with ⟨%vHsM16, HsM16⟩
  icases HsM17 with ⟨%vHsM17, HsM17⟩
  icases HsM20 with ⟨%vHsM20, HsM20⟩
  icases HsM21 with ⟨%vHsM21, HsM21⟩
  icases Hx0c0 with ⟨%vHx0c0, Hx0c0⟩
  icases Hx0c1 with ⟨%vHx0c1, Hx0c1⟩
  icases Hx0c2 with ⟨%vHx0c2, Hx0c2⟩
  icases Hxs1 with ⟨%vHxs1, Hxs1⟩
  icases Ho0c0 with ⟨%vHo0c0, Ho0c0⟩
  icases Ho0c1 with ⟨%vHo0c1, Ho0c1⟩
  icases Ho0c2 with ⟨%vHo0c2, Ho0c2⟩
  icases Ho1c0 with ⟨%vHo1c0, Ho1c0⟩
  icases Ho1c1 with ⟨%vHo1c1, Ho1c1⟩
  icases Ho1c2 with ⟨%vHo1c2, Ho1c2⟩
  icases Hf0 with ⟨%vHf0, Hf0⟩
  icases Hf1 with ⟨%vHf1, Hf1⟩
  icases Hst0 with ⟨%vHst0, Hst0⟩
  icases Hst1 with ⟨%vHst1, Hst1⟩
  icases Hst2 with ⟨%vHst2, Hst2⟩
  icases Hst3 with ⟨%vHst3, Hst3⟩
  icases Hst4 with ⟨%vHst4, Hst4⟩
  icases Hst5 with ⟨%vHst5, Hst5⟩
  icases Hst6 with ⟨%vHst6, Hst6⟩
  icases Hst7 with ⟨%vHst7, Hst7⟩
  iapply (run c (Iv m c).x W _ (Iv m c).w1 (Iv m c).w3 (Iv m c).w4 (Iv m c).w5 (Iv m c).w7 (Iv m c).w10 (Iv m c).h2 (Iv m c).h6 (Iv m c).h8 (Iv m c).h9 _ vHsM12 vHsM13 vHsM14 vHsM15 vHsM16 vHsM17 vHsM20 vHsM21 vHx0c0 vHx0c1 vHx0c2 vHxs1 vHo0c0 vHo0c1 vHo0c2 vHo1c0 vHo1c1 vHo1c2 vHf0 vHf1 vHst0 vHst1 vHst2 vHst3 vHst4 vHst5 vHst6 vHst7)
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hx0]; · iexact Hx0
  isplitl [Hx1]; · iexact Hx1
  isplitl [Hx2]; · iexact Hx2
  isplitl [Hx3]; · iexact Hx3
  isplitl [HwM1]; · iexact HwM1
  isplitl [HwM3]; · iexact HwM3
  isplitl [HwM4]; · iexact HwM4
  isplitl [HwM5]; · iexact HwM5
  isplitl [HwM7]; · iexact HwM7
  isplitl [HwM10]; · iexact HwM10
  isplitl [HhM2]; · iexact HhM2
  isplitl [HhM6]; · iexact HhM6
  isplitl [HhM8]; · iexact HhM8
  isplitl [HhM9]; · iexact HhM9
  isplitl [HhM11]; · iexact HhM11
  isplitl [HsM12]; · iexact HsM12
  isplitl [HsM13]; · iexact HsM13
  isplitl [HsM14]; · iexact HsM14
  isplitl [HsM15]; · iexact HsM15
  isplitl [HsM16]; · iexact HsM16
  isplitl [HsM17]; · iexact HsM17
  isplitl [HsM20]; · iexact HsM20
  isplitl [HsM21]; · iexact HsM21
  isplitl [Hx0c0]; · iexact Hx0c0
  isplitl [Hx0c1]; · iexact Hx0c1
  isplitl [Hx0c2]; · iexact Hx0c2
  isplitl [Hxs1]; · iexact Hxs1
  isplitl [Ho0c0]; · iexact Ho0c0
  isplitl [Ho0c1]; · iexact Ho0c1
  isplitl [Ho0c2]; · iexact Ho0c2
  isplitl [Ho1c0]; · iexact Ho1c0
  isplitl [Ho1c1]; · iexact Ho1c1
  isplitl [Ho1c2]; · iexact Ho1c2
  isplitl [Hf0]; · iexact Hf0
  isplitl [Hf1]; · iexact Hf1
  isplitl [Hst0]; · iexact Hst0
  isplitl [Hst1]; · iexact Hst1
  isplitl [Hst2]; · iexact Hst2
  isplitl [Hst3]; · iexact Hst3
  isplitl [Hst4]; · iexact Hst4
  isplitl [Hst5]; · iexact Hst5
  isplitl [Hst6]; · iexact Hst6
  isplitl [Hst7]; · iexact Hst7
  isplitl [HW]; · iexact HW
  iintro ⟨Hq6, Hq7, Hq8, Hq9, Hq10, Hq11, Hq12, Hq13, Hq14, Hq15, Hq16, Hq17, Hq18, Hq19, Hq20, Hq21, Hq22, Hq23, Hq24, Hq25, Hq26, Hq27, Hx0, Hx1, Hx2, Hx3, HwM1, HwM3, HwM4, HwM5, HwM7, HwM10, HhM2, HhM6, HhM8, HhM9, HhM11, HsM12, HsM13, HsM14, HsM15, HsM16, HsM17, HsM20, HsM21, Hxs0, Hxs1, Hos0, Hos1, Hf0, Hf1, Hst0, Hst1, Hst2, Hst3, Hst4, Hst5, Hst6, Hst7, ⟨%W', HW'⟩⟩
  ihave HhM11 := (g15 c (Iv m c)) $$ HhM11
  ihave HhM0 := (share_four c _).2 $$ [Hx0 Hx1 Hx2 Hx3]
  · isplitl [Hx0]; · iexact Hx0
    isplitl [Hx1]; · iexact Hx1
    isplitl [Hx2]; · iexact Hx2
    iexact Hx3
  ihave HsM18 := (sM18_join c) $$ [Hxs0 Hxs1]
  · isplitl [Hxs0]; · iexact Hxs0
    iexact Hxs1
  ihave HsM19 := (sM19_join c) $$ [Hos0 Hos1]
  · isplitl [Hos0]; · iexact Hos0
    iexact Hos1
  ihave HsM22 := (sM22_join c) $$ [Hf0 Hf1]
  · isplitl [Hf0]; · iexact Hf0
    iexact Hf1
  ihave HsMst := (sMst_join c) $$ [Hst0 Hst1 Hst2 Hst3 Hst4 Hst5 Hst6 Hst7]
  · isplitl [Hst0]; · iexact Hst0
    isplitl [Hst1]; · iexact Hst1
    isplitl [Hst2]; · iexact Hst2
    isplitl [Hst3]; · iexact Hst3
    isplitl [Hst4]; · iexact Hst4
    isplitl [Hst5]; · iexact Hst5
    isplitl [Hst6]; · iexact Hst6
    iexact Hst7
  isplitl [HsM12 HsM13 HsM14 HsM15 HsM16 HsM17 HsM18 HsM19 HsM20 HsM21 HsM22 HsMst Hq6 Hq7 Hq8 Hq9 Hq10 Hq11 Hq12 Hq13 Hq14 Hq15 Hq16 Hq17 Hq18 Hq19 Hq20 Hq21 Hq22 Hq23 Hq24 Hq25 Hq26 Hq27 HhM0 HhM2 HhM6 HhM8 HhM9 HhM11]
  · isplitl [HsM12 HsM13 HsM14 HsM15 HsM16 HsM17 HsM18 HsM19 HsM20 HsM21 HsM22 HsMst]
    · isplitl [HsM12]; · iexact HsM12
      isplitl [HsM13]; · iexact HsM13
      isplitl [HsM14]; · iexact HsM14
      isplitl [HsM15]; · iexact HsM15
      isplitl [HsM16]; · iexact HsM16
      isplitl [HsM17]; · iexact HsM17
      isplitl [HsM18]; · iexact HsM18
      isplitl [HsM19]; · iexact HsM19
      isplitl [HsM20]; · iexact HsM20
      isplitl [HsM21]; · iexact HsM21
      isplitl [HsM22]; · iexact HsM22
      iexact HsMst
    isplitl [Hq6 Hq7 Hq8 Hq9 Hq10 Hq11 Hq12 Hq13 Hq14 Hq15 Hq16 Hq17 Hq18 Hq19 Hq20 Hq21 Hq22 Hq23 Hq24 Hq25 Hq26 Hq27]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      iexact Hq27
    isplitl [HhM0 HhM2 HhM6 HhM8 HhM9]
    · isplitl [HhM0]; · iexact HhM0
      isplitl [HhM2]; · iexact HhM2
      isplitl [HhM6]; · iexact HhM6
      isplitl [HhM8]; · iexact HhM8
      iexact HhM9
    iexact HhM11
  isplitl [HW']
  · iexists W'; isplitr; · ipureintro; exact fun _ _ => Or.inl trivial
    iexact HW'
  isplitl [HwM1]; · iapply (out_0 m c); iexact HwM1
  isplitl [HwM3]; · iapply (out_1 m c); iexact HwM3
  isplitl [HwM4]; · iapply (out_2 m c); iexact HwM4
  isplitl [HwM5]; · iapply (out_3 m c); iexact HwM5
  isplitl [HwM7]; · iapply (out_4 m c); iexact HwM7
  iapply (out_5 m c); iexact HwM10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run of `@main` -/

/-- What the result of `@main` holds at the end: the kernel's result under its leading axis. -/
def Rv (c : Dev nD) : Buf (Elt F) ((c : Thread nD τ).loc main_v16) :=
  StableHlo.after (hostOps1 (F := F)) (Pipeline.withArrays spec0 c (Pipeline.withR (V0 m c) R0 c (Gv m c)) fun w => (dats m 0 c).arrAt w cfg0.N) (Proc.devRef .tc main_v16)

/-- An argument at the end of `@main`. -/
theorem arg_end (c : Dev nD) (b : Ref sig .tc) (h1 : ∀ w, Pipeline.arrRef spec0 w ≠ b) (h2 : b ∉ R0) (h3 : Proc.devRef (τ := τ) .tc main_v16 ≠ Proc.devRef .tc b)
    (h4 : V m c b = m ((c : Thread nD τ).loc b)) :
    StableHlo.after ([hostOps1 (F := F)].flatten) (Pipeline.withArrays spec0 c (Pipeline.withR (V0 m c) R0 c (Gv m c)) fun w => (dats m 0 c).arrAt w cfg0.N) (Proc.devRef .tc b)
      = m ((c : Thread nD τ).loc b) := by
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact fun h => h3 h.symm)),
    Pipeline.withArrays_of_ne _ c _ _ b h1, Pipeline.withR_of_not_mem _ _ _ _ b h2]
  exact h4

set_option backward.isDefEq.respectTransparency.types false in
/-- Every fair run of `@main` ends, its arguments unchanged, its result at `Rv`, every counter at zero. -/
theorem run_main : θ_run defs (onTc (τ := τ) (main (F := F))) (s₀ m ρ) (fun r => (∀ c : Dev nD, r.2.mem ((c.tc : Thread nD τ).loc main_v16) = Rv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Gv m)
    (hmain := hmain m Variants.none) (hA := A_eq m)
    (hin := fun _ => .rfl) (hout := fun _ => .rfl)
    (hQ' := fun r h => ⟨fun c => ⟨(h.1 c).2 main_v16 (Pipeline.mem_restRefs_of main_v16 (by decide) (by decide)),
      ((h.1 c).2 main_arg0 (Pipeline.mem_restRefs_of main_arg0 (by decide) (by decide))).trans (arg_end m c main_arg0 (by exact (by decide : ∀ w, Pipeline.arrRef spec0 w ≠ main_arg0)) (by decide) (StableHlo.devRef_ne_of_ne (by decide)) (V_main_arg0 m c)),
      ((h.1 c).2 main_arg1 (Pipeline.mem_restRefs_of main_arg1 (by decide) (by decide))).trans (arg_end m c main_arg1 (by exact (by decide : ∀ w, Pipeline.arrRef spec0 w ≠ main_arg1)) (by decide) (StableHlo.devRef_ne_of_ne (by decide)) (V_main_arg1 m c)),
      ((h.1 c).2 main_arg2 (Pipeline.mem_restRefs_of main_arg2 (by decide) (by decide))).trans (arg_end m c main_arg2 (by exact (by decide : ∀ w, Pipeline.arrRef spec0 w ≠ main_arg2)) (by decide) (StableHlo.devRef_ne_of_ne (by decide)) (V_main_arg2 m c)),
      ((h.1 c).2 main_arg3 (Pipeline.mem_restRefs_of main_arg3 (by decide) (by decide))).trans (arg_end m c main_arg3 (by exact (by decide : ∀ w, Pipeline.arrRef spec0 w ≠ main_arg3)) (by decide) (StableHlo.devRef_ne_of_ne (by decide)) (V_main_arg3 m c)),
      ((h.1 c).2 main_arg4 (Pipeline.mem_restRefs_of main_arg4 (by decide) (by decide))).trans (arg_end m c main_arg4 (by exact (by decide : ∀ w, Pipeline.arrRef spec0 w ≠ main_arg4)) (by decide) (StableHlo.devRef_ne_of_ne (by decide)) (V_main_arg4 m c)),
      ((h.1 c).2 main_arg5 (Pipeline.mem_restRefs_of main_arg5 (by decide) (by decide))).trans (arg_end m c main_arg5 (by exact (by decide : ∀ w, Pipeline.arrRef spec0 w ≠ main_arg5)) (by decide) (StableHlo.devRef_ne_of_ne (by decide)) (V_main_arg5 m c)),
      ((h.1 c).2 main_arg6 (Pipeline.mem_restRefs_of main_arg6 (by decide) (by decide))).trans (arg_end m c main_arg6 (by exact (by decide : ∀ w, Pipeline.arrRef spec0 w ≠ main_arg6)) (by decide) (StableHlo.devRef_ne_of_ne (by decide)) (V_main_arg6 m c)),
      ((h.1 c).2 main_arg7 (Pipeline.mem_restRefs_of main_arg7 (by decide) (by decide))).trans (arg_end m c main_arg7 (by exact (by decide : ∀ w, Pipeline.arrRef spec0 w ≠ main_arg7)) (by decide) (StableHlo.devRef_ne_of_ne (by decide)) (V_main_arg7 m c)),
      ((h.1 c).2 main_arg8 (Pipeline.mem_restRefs_of main_arg8 (by decide) (by decide))).trans (arg_end m c main_arg8 (by exact (by decide : ∀ w, Pipeline.arrRef spec0 w ≠ main_arg8)) (by decide) (StableHlo.devRef_ne_of_ne (by decide)) (V_main_arg8 m c)),
      ((h.1 c).2 main_arg9 (Pipeline.mem_restRefs_of main_arg9 (by decide) (by decide))).trans (arg_end m c main_arg9 (by exact (by decide : ∀ w, Pipeline.arrRef spec0 w ≠ main_arg9)) (by decide) (StableHlo.devRef_ne_of_ne (by decide)) (V_main_arg9 m c)),
      ((h.1 c).2 main_arg10 (Pipeline.mem_restRefs_of main_arg10 (by decide) (by decide))).trans (arg_end m c main_arg10 (by exact (by decide : ∀ w, Pipeline.arrRef spec0 w ≠ main_arg10)) (by decide) (StableHlo.devRef_ne_of_ne (by decide)) (V_main_arg10 m c))⟩, h.2⟩)

end Cert.KernelIdeal.Hand

end
-- ==== Proof.Sp.lean ====
module

public import Idealize.ShloMosaic.Lib.Pointwise
public import Idealize.ShloMosaic.Lib.IdealHost

@[expose] public section

noncomputable section

namespace Cert.Sp

open Idealize.ShloMosaic

/-! ## The block, row by row, as plain sums over the extended reals

Rows are natural numbers (a row beyond the last is zero), so that a row so many rows back is a subtraction. -/

/-- The constants of the norms: the length of a row, and the small number added to a mean of squares. -/
abbrev cN : EReal := Ideal.ofBits .f32 0x44800000#32
abbrev cE : EReal := Ideal.ofBits .f32 0x358637BD#32

/-- The root-mean-square norm of a row, scaled. -/
def nrm (X g : Fin 1024 → EReal) (d : Fin 1024) : EReal :=
  X d * Ideal.rsqrt (Ideal.div (∑ k : Fin 1024, X k * X k) cN + cE) * g d

/-- The value `k` rows back, zero before the first row. -/
def lag (f : ℕ → EReal) (n k : ℕ) : EReal := if k ≤ n then f (n - k) else 0

/-- Everything the block is given, by rows and columns. -/
structure Args where
  x : ℕ → Fin 1024 → EReal
  g1 : Fin 1024 → EReal
  win : Fin 1024 → Fin 2048 → EReal
  cw : Fin 3 → Fin 512 → EReal
  pw : Fin 4 → Fin 128 → Fin 128 → EReal
  ps : Fin 512 → EReal
  wo : Fin 1024 → Fin 1024 → EReal
  g2 : Fin 1024 → EReal
  f1 : Fin 1024 → Fin 4096 → EReal
  f2 : Fin 4096 → Fin 1024 → EReal
  g3 : Fin 1024 → EReal

variable (A : Args)

/-- The input projection. -/
def proj (n : ℕ) (e : Fin 2048) : EReal := ∑ d : Fin 1024, nrm (A.x n) A.g1 d * A.win d e
/-- What the convolution runs over, and what is pooled. -/
def z (c : Fin 512) (n : ℕ) : EReal := proj A n ⟨1024 + c.val, by omega⟩ * proj A n ⟨c.val, by omega⟩
def v (c : Fin 512) (n : ℕ) : EReal := proj A n ⟨1536 + c.val, by omega⟩
/-- The gated convolution. -/
def conv (n : ℕ) (c : Fin 512) : EReal :=
  proj A n ⟨512 + c.val, by omega⟩ * (A.cw 0 c * lag (z A c) n 2 + A.cw 1 c * lag (z A c) n 1 + A.cw 2 c * z A c n)
/-- The sum of the last `w` rows. -/
def wsum (f : ℕ → EReal) (w n : ℕ) : EReal := ∑ j ∈ Finset.range w, lag f n j
/-- The four windows' widths, as rows and as the constants the programs hold. -/
def wd : Fin 4 → ℕ := ![2, 4, 8, 16]
def wc : Fin 4 → EReal := ![Ideal.ofBits .f32 0x40000000#32, Ideal.ofBits .f32 0x40800000#32, Ideal.ofBits .f32 0x41000000#32, Ideal.ofBits .f32 0x41800000#32]
/-- A row's trailing mean less the row itself. -/
def u (n : ℕ) (g : Fin 4) (k : Fin 128) : EReal :=
  Ideal.div (wsum (v A ⟨128 * g.val + k.val, by omega⟩) (wd g) n) (min (((n : ℝ) : EReal) + 1) (wc g)) - v A ⟨128 * g.val + k.val, by omega⟩ n
/-- The pooled channels, mapped and scaled. -/
def pool (n : ℕ) (g : Fin 4) (k : Fin 128) : EReal := (∑ q : Fin 128, A.pw g q k * u A n g q) * A.ps ⟨128 * g.val + k.val, by omega⟩
/-- Both mixers' channels side by side. -/
def mix (n : ℕ) (e : Fin 1024) : EReal :=
  if h : e.val < 512 then conv A n ⟨e.val, h⟩ else pool A n ⟨(e.val - 512) / 128, by omega⟩ ⟨(e.val - 512) % 128, by omega⟩
/-- The row after the mixers. -/
def x1 (n : ℕ) (d : Fin 1024) : EReal := A.x n d + ∑ e : Fin 1024, mix A n e * A.wo e d

/-- A row through the squared-ReLU layer. -/
def hid (X : Fin 1024 → EReal) (f : Fin 4096) : EReal := max (∑ d : Fin 1024, nrm X A.g2 d * A.f1 d f) 0
def ffn (X : Fin 1024 → EReal) (d : Fin 1024) : EReal := X d + ∑ f : Fin 4096, hid A X f * hid A X f * A.f2 f d
/-- The row after the whole block, and the result. -/
def x2 (n : ℕ) : Fin 1024 → EReal := ffn A (x1 A n)
def res (n : ℕ) (d : Fin 1024) : EReal := nrm (x2 A n) A.g3 d

/-! The kernel's own order: the pooling maps and the scale folded into the output projection. -/

def wo' (g : Fin 4) (q : Fin 128) (d : Fin 1024) : EReal :=
  ∑ k : Fin 128, (A.pw g q k * A.ps ⟨128 * g.val + k.val, by omega⟩) * A.wo ⟨512 + (128 * g.val + k.val), by omega⟩ d

def x1' (n : ℕ) (d : Fin 1024) : EReal :=
  A.x n d + (∑ c : Fin 512, conv A n c * A.wo ⟨c.val, by omega⟩ d + ∑ g : Fin 4, ∑ q : Fin 128, u A n g q * wo' A g q d)
def x2' (n : ℕ) : Fin 1024 → EReal := ffn A (x1' A n)
def res' (n : ℕ) (d : Fin 1024) : EReal := nrm (x2' A n) A.g3 d

end Cert.Sp

end
-- ==== Proof.SpFin.lean ====
module

public import proofs.«01_k».proof.Proof.Sp

@[expose] public section

noncomputable section

namespace Cert.Sp

open Idealize.ShloMosaic

/-! ## What is finite when the arguments are, and the two laws that need it -/

/-- A finite extended real. -/
def IsR (x : EReal) : Prop := ∃ a : ℝ, x = (a : EReal)

theorem IsR.zero : IsR 0 := ⟨0, by simp⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))
theorem IsR.min {x y : EReal} (hx : IsR x) (hy : IsR y) : IsR (min x y) := by
  rcases min_choice x y with h | h <;> rw [h] <;> assumption
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]
theorem rsqrt_coe (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (by linarith), if_neg (by linarith)]

theorem cN_eq : cN = ((1024 : ℝ) : EReal) := by
  simp [cN, Ideal.ofBits, Ideal.ieee, -EReal.coe_mul]; norm_num
theorem cE_eq : ∃ a : ℝ, 0 < a ∧ cE = (a : EReal) := by
  refine ⟨_, ?_, by simp [cE, Ideal.ofBits, Ideal.ieee, -EReal.coe_mul]; rfl⟩
  positivity
theorem wc_eq (g : Fin 4) : wc g = (((wd g : ℕ) : ℝ) : EReal) := by
  fin_cases g <;> simp [wc, wd, Ideal.ofBits, Ideal.ieee, -EReal.coe_mul] <;> norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_self_nn (x : EReal) : 0 ≤ x * x := by
  induction x with
  | bot => simp
  | top => simp
  | coe a => rw [← EReal.coe_mul]; exact_mod_cast mul_self_nonneg a

/-- The norm takes a row with an infinite entry to zero. -/
theorem nrm_inf (X g : Fin 1024 → EReal) (k : Fin 1024) (hk : ¬IsR (X k)) (d : Fin 1024) : nrm X g d = 0 := by
  obtain ⟨e, he, hE⟩ := cE_eq
  have hkk : X k * X k = ⊤ := by
    generalize X k = y at hk
    induction y with
    | bot => simp
    | top => simp
    | coe a => exact absurd ⟨a, rfl⟩ hk
  have hs : (∑ k : Fin 1024, X k * X k) = ⊤ := by
    refine top_le_iff.mp (hkk ▸ ?_)
    exact Finset.single_le_sum (f := fun k => X k * X k) (fun i _ => mul_self_nn (X i)) (Finset.mem_univ k)
  have hr : Ideal.rsqrt (Ideal.div (∑ k : Fin 1024, X k * X k) cN + cE) = 0 := by
    rw [hs, cN_eq, hE]
    unfold Ideal.div
    rw [if_neg (by norm_num), ← EReal.coe_inv, EReal.top_mul_coe_of_pos (by norm_num), EReal.top_add_coe]
    rfl
  unfold nrm
  rw [hr, mul_zero, zero_mul]

/-- A row's norm is finite whatever the row holds. -/
theorem nrm_fin (X g : Fin 1024 → EReal) (hg : ∀ d, IsR (g d)) (d : Fin 1024) : IsR (nrm X g d) := by
  by_cases hX : ∀ d, IsR (X d)
  · refine ((hX d).mul ?_).mul (hg d)
    choose a ha using hX
    obtain ⟨e, he, hE⟩ := cE_eq
    have hs : (∑ k : Fin 1024, X k * X k) = ((∑ k : Fin 1024, a k * a k : ℝ) : EReal) := by
      rw [coe_sum]; exact Finset.sum_congr rfl fun k _ => by rw [ha k, EReal.coe_mul]
    rw [hs, cN_eq, div_coe _ _ (by norm_num), hE, ← EReal.coe_add, rsqrt_coe _ (by
      have : 0 ≤ ∑ k : Fin 1024, a k * a k := Finset.sum_nonneg fun k _ => mul_self_nonneg _
      positivity)]
    exact ⟨_, rfl⟩
  · obtain ⟨k, hk⟩ := not_forall.mp hX
    rw [nrm_inf X g k hk d]
    exact IsR.zero

/-- The sum of the first `n + 1` rows is that of the first `n - w + 1` and the last `w`. -/
theorem cs_split (f : ℕ → EReal) (n : ℕ) : ∀ w, ∑ j ∈ Finset.range (n + 1), f j = (if w ≤ n then ∑ j ∈ Finset.range (n - w + 1), f j else 0) + wsum f w n
  | 0 => by simp [wsum]
  | w + 1 => by
    rw [cs_split f n w]
    unfold wsum
    rw [Finset.sum_range_succ _ w]
    by_cases h : w + 1 ≤ n
    · rw [if_pos h, if_pos (by omega), show n - w + 1 = (n - (w + 1) + 1) + 1 by omega, Finset.sum_range_succ _ (n - (w + 1) + 1),
        lag, if_pos (by omega), show n - (w + 1) + 1 = n - w by omega]
      abel
    · rw [if_neg h, lag]
      by_cases h' : w ≤ n
      · rw [if_pos h', if_pos h', show n - w = 0 by omega]; simp [add_comm]
      · rw [if_neg h', if_neg h']; simp

theorem cs_sub (f : ℕ → EReal) (hf : ∀ n, IsR (f n)) (w n : ℕ) :
    (∑ j ∈ Finset.range (n + 1), f j) - (if w ≤ n then ∑ j ∈ Finset.range (n - w + 1), f j else 0) = wsum f w n := by
  have h2 : IsR (if w ≤ n then ∑ j ∈ Finset.range (n - w + 1), f j else 0) := by
    split
    · exact IsR.sum _ _ fun i _ => hf i
    · exact IsR.zero
  have h3 : IsR (wsum f w n) := IsR.sum _ _ fun j _ => by unfold lag; split; exacts [hf _, IsR.zero]
  rw [cs_split f n w]
  obtain ⟨a, ha⟩ := h2; obtain ⟨b, hb⟩ := h3
  rw [ha, hb, ← EReal.coe_add, ← EReal.coe_sub]; congr 1; ring

/-- Finite weights, of those that reach the pooled averages. -/
structure Args.Fin (A : Args) : Prop where
  g1 : ∀ d, IsR (A.g1 d)
  win : ∀ d (e : _root_.Fin 512), IsR (A.win d ⟨1536 + e.val, by omega⟩)
  ps : ∀ c, IsR (A.ps c)
  wo : ∀ (e : _root_.Fin 512) d, IsR (A.wo ⟨512 + e.val, by omega⟩ d)

variable {A : Args} (hA : A.Fin)
include hA

theorem v_fin (c : Fin 512) (n : ℕ) : IsR (v A c n) := by
  unfold v proj
  exact IsR.sum _ _ fun d _ => (nrm_fin _ _ hA.g1 d).mul (hA.win d c)

theorem u_fin (n : ℕ) (g : Fin 4) (k : Fin 128) : IsR (u A n g k) := by
  refine IsR.sub ?_ (v_fin hA _ _)
  obtain ⟨a, ha⟩ : IsR (wsum (v A ⟨128 * g.val + k.val, by omega⟩) (wd g) n) :=
    IsR.sum _ _ fun j _ => by unfold lag; split; exacts [v_fin hA _ _, IsR.zero]
  rw [ha, wc_eq]
  have hm : (min (((n : ℝ) : EReal) + 1) (((wd g : ℕ) : ℝ) : EReal)) = ((min ((n : ℝ) + 1) (wd g : ℝ) : ℝ) : EReal) := by
    rw [show (1 : EReal) = ((1 : ℝ) : EReal) by norm_cast, ← EReal.coe_add]
    exact (EReal.coe_strictMono.monotone.map_min).symm
  have hp : 0 < min ((n : ℝ) + 1) (wd g : ℝ) := by
    refine lt_min (by positivity) ?_
    have : 0 < wd g := by fin_cases g <;> decide
    exact_mod_cast this
  rw [hm, div_coe _ _ hp.ne']
  exact ⟨_, rfl⟩

/-! ## An extended real with its infinity's sign forgotten

The kernel folds the pooling maps and the scale into the output projection. With infinite pooling maps the two orders can
leave infinities of different signs, never a number one way and an infinity the other; the last norm takes both to zero. -/

/-- The number, or that there is none. -/
def ph : EReal → WithTop ℝ
  | ⊥ => ⊤
  | ⊤ => ⊤
  | (r : ℝ) => (r : WithTop ℝ)
/-- A real multiple of it. -/
def sm (a : ℝ) : WithTop ℝ → WithTop ℝ
  | ⊤ => if a = 0 then 0 else ⊤
  | (r : ℝ) => ((a * r : ℝ) : WithTop ℝ)

omit hA

theorem ph_bot : ph ⊥ = ⊤ := rfl
theorem ph_top : ph ⊤ = ⊤ := rfl
theorem ph_coe (r : ℝ) : ph (r : EReal) = (r : WithTop ℝ) := rfl
theorem sm_top (a : ℝ) : sm a ⊤ = if a = 0 then 0 else ⊤ := rfl
theorem sm_coe (a r : ℝ) : sm a (r : WithTop ℝ) = ((a * r : ℝ) : WithTop ℝ) := rfl

theorem ph_eq {x y : EReal} (h : ph x = ph y) : x = y ∨ (¬IsR x ∧ ¬IsR y) := by
  have nb : ¬IsR ⊥ := by rintro ⟨a, ha⟩; exact absurd ha (EReal.bot_ne_coe a)
  have nt : ¬IsR ⊤ := by rintro ⟨a, ha⟩; exact absurd ha (EReal.top_ne_coe a)
  induction x with
  | bot => induction y with
    | bot => exact .inl rfl
    | top => exact .inr ⟨nb, nt⟩
    | coe b => exact absurd h.symm (WithTop.coe_ne_top)
  | top => induction y with
    | bot => exact .inr ⟨nt, nb⟩
    | top => exact .inl rfl
    | coe b => exact absurd h.symm (WithTop.coe_ne_top)
  | coe a => induction y with
    | bot => exact absurd h (WithTop.coe_ne_top)
    | top => exact absurd h (WithTop.coe_ne_top)
    | coe b => exact .inl (congrArg _ (WithTop.coe_injective h))

theorem ph_add (x y : EReal) : ph (x + y) = ph x + ph y := by
  induction x with
  | bot => simp [ph_bot]
  | top => induction y with
    | bot => simp [ph_bot]
    | top => rfl
    | coe b => simp [ph_top]
  | coe a => induction y with
    | bot => simp [ph_bot]
    | top => simp [ph_top]
    | coe b => rw [← EReal.coe_add, ph_coe, ph_coe, ph_coe, WithTop.coe_add]

theorem ph_mul (a : ℝ) (x : EReal) : ph ((a : EReal) * x) = sm a (ph x) := by
  induction x with
  | bot =>
    rw [ph_bot, sm_top]
    rcases lt_trichotomy a 0 with h | h | h
    · rw [EReal.coe_mul_bot_of_neg h, if_neg h.ne, ph_top]
    · subst h; simp; rfl
    · rw [EReal.coe_mul_bot_of_pos h, if_neg h.ne', ph_bot]
  | top =>
    rw [ph_top, sm_top]
    rcases lt_trichotomy a 0 with h | h | h
    · rw [EReal.coe_mul_top_of_neg h, if_neg h.ne, ph_bot]
    · subst h; simp; rfl
    · rw [EReal.coe_mul_top_of_pos h, if_neg h.ne', ph_top]
  | coe b => rw [← EReal.coe_mul, ph_coe, ph_coe, sm_coe]

theorem ph_sum {ι : Type} (s : Finset ι) (f : ι → EReal) : ph (∑ i ∈ s, f i) = ∑ i ∈ s, ph (f i) := by
  classical
  induction s using Finset.induction_on with
  | empty => rfl
  | insert a s ha ih => rw [Finset.sum_insert ha, Finset.sum_insert ha, ph_add, ih]

theorem sm_zero (a : ℝ) : sm a 0 = 0 := by
  show sm a ((0 : ℝ) : WithTop ℝ) = _
  rw [sm_coe, mul_zero]; rfl
theorem sm_add (a : ℝ) (x y : WithTop ℝ) : sm a (x + y) = sm a x + sm a y := by
  by_cases h : a = 0
  · have h0 : ∀ z, sm a z = 0 := by
      intro z; induction z with
      | top => rw [sm_top, if_pos h]
      | coe r => rw [sm_coe, h, zero_mul]; rfl
    rw [h0, h0, h0, add_zero]
  · induction x with
    | top => rw [top_add, sm_top, if_neg h, top_add]
    | coe r => induction y with
      | top => rw [add_top, sm_top, if_neg h, add_top]
      | coe q => rw [← WithTop.coe_add, sm_coe, sm_coe, sm_coe, ← WithTop.coe_add, mul_add]
theorem sm_sum {ι : Type} (a : ℝ) (s : Finset ι) (f : ι → WithTop ℝ) : sm a (∑ i ∈ s, f i) = ∑ i ∈ s, sm a (f i) := by
  classical
  induction s using Finset.induction_on with
  | empty => exact sm_zero a
  | insert b s hb ih => rw [Finset.sum_insert hb, Finset.sum_insert hb, sm_add, ih]
theorem sm_sm (a b : ℝ) (x : WithTop ℝ) : sm a (sm b x) = sm (a * b) x := by
  induction x with
  | top =>
    rw [sm_top, sm_top]
    by_cases hb : b = 0
    · rw [if_pos hb, if_pos (by rw [hb, mul_zero]), sm_zero]
    · by_cases ha : a = 0
      · rw [if_neg hb, if_pos (by rw [ha, zero_mul]), sm_top, if_pos ha]
      · rw [if_neg hb, if_neg (mul_ne_zero ha hb), sm_top, if_neg ha]
  | coe r => rw [sm_coe, sm_coe, sm_coe, mul_assoc]

include hA

theorem fold_pool (n : ℕ) (g : _root_.Fin 4) (d : _root_.Fin 1024) :
    ph (∑ q : _root_.Fin 128, u A n g q * wo' A g q d) = ph (∑ k : _root_.Fin 128, pool A n g k * A.wo ⟨512 + (128 * g.val + k.val), by omega⟩ d) := by
  choose a ha using u_fin hA n g
  choose s hs using hA.ps
  choose w hw using fun k : _root_.Fin 128 => hA.wo ⟨128 * g.val + k.val, by omega⟩
  have h1 : ∀ q k : _root_.Fin 128, ph ((A.pw g q k * A.ps ⟨128 * g.val + k.val, by omega⟩) * A.wo ⟨512 + (128 * g.val + k.val), by omega⟩ d)
      = sm (w k d * s ⟨128 * g.val + k.val, by omega⟩) (ph (A.pw g q k)) := fun q k => by
    rw [hs, hw, mul_comm, ph_mul, mul_comm (A.pw g q k), ph_mul, sm_sm]
  have h2 : ∀ k : _root_.Fin 128, ph (pool A n g k * A.wo ⟨512 + (128 * g.val + k.val), by omega⟩ d)
      = ∑ q : _root_.Fin 128, sm (a q * (w k d * s ⟨128 * g.val + k.val, by omega⟩)) (ph (A.pw g q k)) := fun k => by
    unfold pool
    rw [hs, hw, mul_comm, ph_mul, mul_comm (∑ q : _root_.Fin 128, A.pw g q k * u A n g q), ph_mul, sm_sm, ph_sum, sm_sum]
    exact Finset.sum_congr rfl fun q _ => by rw [ha, mul_comm (A.pw g q k), ph_mul, sm_sm, mul_comm (a q)]
  rw [ph_sum, ph_sum, Finset.sum_congr rfl fun k _ => h2 k, Finset.sum_comm]
  refine Finset.sum_congr rfl fun q _ => ?_
  rw [ha, ph_mul]
  unfold wo'
  rw [ph_sum, sm_sum]
  exact Finset.sum_congr rfl fun k _ => by rw [h1, sm_sm]

omit hA in
/-- Rows that differ in the signs of infinities alone end as one row. -/
theorem tail_eq (A : Args) (X Y : _root_.Fin 1024 → EReal) (h : ∀ d, ph (X d) = ph (Y d)) (d : _root_.Fin 1024) :
    nrm (ffn A X) A.g3 d = nrm (ffn A Y) A.g3 d := by
  have hz : ∀ (Z : _root_.Fin 1024 → EReal) (k : _root_.Fin 1024), ¬IsR (Z k) → nrm (ffn A Z) A.g3 d = 0 := fun Z k hk => by
    have hh : ∀ f, hid A Z f = 0 := fun f => by
      unfold hid
      rw [Finset.sum_eq_zero fun e _ => by rw [nrm_inf Z A.g2 k hk e, zero_mul], max_self]
    refine nrm_inf _ _ k ?_ d
    unfold ffn
    rwa [Finset.sum_eq_zero fun f _ => by rw [hh f, zero_mul, zero_mul], add_zero]
  by_cases hX : ∀ k, IsR (X k)
  · have : X = Y := funext fun k => (ph_eq (h k)).resolve_right fun hn => hn.1 (hX k)
    rw [this]
  · obtain ⟨k, hk⟩ := not_forall.mp hX
    have hy : ¬IsR (Y k) := by
      rcases ph_eq (h k) with e | e
      · rwa [← e]
      · exact e.2
    rw [hz X k hk, hz Y k hy]

end Cert.Sp

end
-- ==== Proof.KMix.lean ====
module

public import proofs.«01_k».proof.Proof.Spec
public import proofs.«01_k».proof.Proof.SpFin
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## One block of 256 rows through both mixers, read at an index

`R` is the block's first row. A history in front of a block is the rows before it, zero before the first. -/

section cols

variable (A : Sp.Args)

/-- The input projection with its columns in the order the kernel keeps them: what is pooled, the two factors of what is convolved, the
convolution's gate. -/
def projK (n : ℕ) (e : Fin 2048) : EReal :=
  if h : e.val < 512 then Sp.proj A n ⟨1536 + e.val, by omega⟩
  else if h : e.val < 1024 then Sp.proj A n ⟨1024 + (e.val - 512), by omega⟩
  else if h : e.val < 1536 then Sp.proj A n ⟨e.val - 1024, by omega⟩
  else Sp.proj A n ⟨512 + (e.val - 1536), by omega⟩

theorem projK_v (n : ℕ) (c : Fin 512) (h : c.val < 2048) : projK A n ⟨c.val, h⟩ = Sp.v A c n := by
  unfold projK Sp.v; rw [dif_pos c.isLt]
theorem projK_C (n : ℕ) (c : Fin 512) (h : 512 + c.val < 2048) : projK A n ⟨512 + c.val, h⟩ = Sp.proj A n ⟨1024 + c.val, by omega⟩ := by
  unfold projK; rw [dif_neg (by simp), dif_pos (by simp; omega)]; congr 1; apply Fin.ext; simp
theorem projK_h (n : ℕ) (c : Fin 512) (h : 1024 + c.val < 2048) : projK A n ⟨1024 + c.val, h⟩ = Sp.proj A n ⟨c.val, by omega⟩ := by
  unfold projK; rw [dif_neg (by simp; omega), dif_neg (by simp), dif_pos (by simp; omega)]; congr 1; apply Fin.ext; simp
theorem projK_B (n : ℕ) (c : Fin 512) (h : 1536 + c.val < 2048) : projK A n ⟨1536 + c.val, h⟩ = Sp.proj A n ⟨512 + c.val, by omega⟩ := by
  unfold projK; rw [dif_neg (by simp; omega), dif_neg (by simp; omega), dif_neg (by simp)]; congr 1; apply Fin.ext; simp

end cols

theorem lag_back (f : ℕ → EReal) (m n a c : ℕ) (h : m + c = n + a) (hc : c ≤ a) : Sp.lag f m a = Sp.lag f n c := by
  unfold Sp.lag
  by_cases h : c ≤ n
  · rw [if_pos h, if_pos (by omega)]; congr 1; omega
  · rw [if_neg h, if_neg (by omega)]
theorem lag_self (f : ℕ → EReal) (n k m : ℕ) (h : n = m + k) : f m = Sp.lag f n k := by
  unfold Sp.lag
  rw [if_pos (by omega)]; congr 1; omega
theorem wsum_2 (f : ℕ → EReal) (n : ℕ) : Sp.wsum f 2 n = Sp.lag f n 0 + Sp.lag f n 1 := by
  simp [Sp.wsum, Finset.sum_range_succ]
theorem wsum_4 (f : ℕ → EReal) (n : ℕ) : Sp.wsum f 4 n = (Sp.lag f n 0 + Sp.lag f n 1) + (Sp.lag f n 2 + Sp.lag f n 3) := by
  simp [Sp.wsum, Finset.sum_range_succ, add_assoc]
theorem wsum_8 (f : ℕ → EReal) (n : ℕ) : Sp.wsum f 8 n = ((Sp.lag f n 0 + Sp.lag f n 1) + (Sp.lag f n 2 + Sp.lag f n 3)) + ((Sp.lag f n 4 + Sp.lag f n 5) + (Sp.lag f n 6 + Sp.lag f n 7)) := by
  simp [Sp.wsum, Finset.sum_range_succ, add_assoc]
theorem wsum_16 (f : ℕ → EReal) (n : ℕ) : Sp.wsum f 16 n = (((Sp.lag f n 0 + Sp.lag f n 1) + (Sp.lag f n 2 + Sp.lag f n 3)) + ((Sp.lag f n 4 + Sp.lag f n 5) + (Sp.lag f n 6 + Sp.lag f n 7)))
    + (((Sp.lag f n 8 + Sp.lag f n 9) + (Sp.lag f n 10 + Sp.lag f n 11)) + ((Sp.lag f n 12 + Sp.lag f n 13) + (Sp.lag f n 14 + Sp.lag f n 15))) := by
  simp [Sp.wsum, Finset.sum_range_succ, add_assoc]

/-- A sum over 1024 columns, the second half by groups of 128. -/
theorem sum1024 (f : Fin 1024 → EReal) : ∑ e, f e = ∑ c : Fin 512, f ⟨c.val, by omega⟩ + ∑ g : Fin 4, ∑ q : Fin 128, f ⟨512 + (128 * g.val + q.val), by omega⟩ := by
  rw [Fin.sum_univ_add (a := 512) (b := 512) (f := fun e : Fin (512 + 512) => f e)]
  refine congrArg₂ (· + ·) rfl ?_
  rw [← Fintype.sum_prod_type' (f := fun (g : Fin 4) (q : Fin 128) => f ⟨512 + (128 * g.val + q.val), by omega⟩)]
  refine (Fintype.sum_equiv (finProdFinEquiv (m := 4) (n := 128)) _ _ fun p => ?_).symm
  congr 1; apply Fin.ext; show 512 + (128 * p.1.val + p.2.val) = 512 + (p.2.val + 128 * p.1.val); omega

/-- The output projection with the pooling maps and gains folded into its second half. -/
structure WmOk (A : Sp.Args) (wm : S1024x1024.Idx → EReal) : Prop where
  wo : ∀ (e : Fin 512) (d : Fin 1024), wm (ix2 ⟨e.val, by omega⟩ d) = A.wo ⟨e.val, by omega⟩ d
  wp : ∀ (g : Fin 4) (q : Fin 128) (d : Fin 1024), wm (ix2 ⟨512 + (128 * g.val + q.val), by omega⟩ d) = Sp.wo' A g q d

section mixers

variable {A : Sp.Args} {R : ℕ}
variable {P : S256x2048.Idx → EReal} (hP : ∀ (i : Fin 256) (e : Fin 2048), P (ix2 i e) = projK A (R + i.val) e)

include hP in
theorem pay10_at (i : Fin 256) (c : Fin 512) : (k0_pay10 (F := Ideal) P : S256x512.Idx → EReal) (ix2 i c) = Sp.v A c (R + i.val) := by
  unfold k0_pay10
  pointwise []
  exact (hP _ _).trans (projK_v A _ c _)
include hP in
theorem pay11_at (i : Fin 256) (c : Fin 512) : (k0_pay11 (F := Ideal) P : S256x512.Idx → EReal) (ix2 i c) = Sp.proj A (R + i.val) ⟨512 + c.val, by omega⟩ := by
  unfold k0_pay11
  pointwise []
  exact (hP _ _).trans (projK_B A _ c _)
include hP in
theorem pay12_at (i : Fin 256) (c : Fin 512) : (k0_pay12 (F := Ideal) P : S256x512.Idx → EReal) (ix2 i c) = Sp.z A c (R + i.val) := by
  unfold k0_pay12
  pointwise []
  exact congrArg₂ (· * ·) ((hP _ _).trans (projK_C A _ c _)) ((hP _ _).trans (projK_h A _ c _))

variable {h8 : S8x512.Idx → EReal} (hh8 : ∀ (j : Fin 8) (c : Fin 512), h8 (ix2 j c) = Sp.lag (Sp.z A c) (R + j.val) 8)
variable {h16 : S16x512.Idx → EReal} (hh16 : ∀ (j : Fin 16) (c : Fin 512), h16 (ix2 j c) = Sp.lag (Sp.v A c) (R + j.val) 16)

include hP hh8 in
theorem pay13_at (i : Fin 264) (c : Fin 512) : (k0_pay13 (F := Ideal) h8 P : S264x512.Idx → EReal) (ix2 i c) = Sp.lag (Sp.z A c) (R + i.val) 8 := by
  unfold k0_pay13
  pointwise []
  split
  · exact hh8 _ _
  · rename_i h
    refine (pay12_at hP _ c).trans ?_
    exact lag_self _ _ _ _ (by show R + i.val = R + (i.val - 8) + 8; omega)
include hh16 in
theorem pay17_at {V : S256x512.Idx → EReal} (hV : ∀ (i : Fin 256) (c : Fin 512), V (ix2 i c) = Sp.v A c (R + i.val)) (i : Fin 272) (c : Fin 512) :
    (k0_pay17 (F := Ideal) h16 V : S272x512.Idx → EReal) (ix2 i c) = Sp.lag (Sp.v A c) (R + i.val) 16 := by
  unfold k0_pay17
  pointwise []
  split
  · exact hh16 _ _
  · rename_i h
    refine (hV _ c).trans ?_
    exact lag_self _ _ _ _ (by show R + i.val = R + (i.val - 16) + 16; omega)

variable {w0 w1 w2 : S1x512.Idx → EReal} (hw0 : ∀ c, w0 (ix2 0 c) = A.cw 0 c) (hw1 : ∀ c, w1 (ix2 0 c) = A.cw 1 c) (hw2 : ∀ c, w2 (ix2 0 c) = A.cw 2 c)

include hP hh8 hw0 hw1 hw2 in
theorem pay16_at (i : Fin 256) (c : Fin 512) :
    (k0_pay16 (F := Ideal) (k0_pay11 (F := Ideal) P) (k0_pay12 (F := Ideal) P) (k0_pay13 (F := Ideal) h8 P) (k0_pay14 w0) (k0_pay15 w1) w2 : S256x512.Idx → EReal) (ix2 i c)
      = Sp.conv A (R + i.val) c := by
  unfold k0_pay16 k0_pay14 k0_pay15 Sp.conv
  pointwise []
  simp only [pay11_at hP, pay12_at hP, pay13_at hP hh8, hw0, hw1, hw2]
  refine congrArg₂ (· * ·) rfl ?_
  rw [lag_back _ _ (R + i.val) 8 2 (by omega) (by omega), lag_back _ _ (R + i.val) 8 1 (by omega) (by omega)]
  ac_rfl

variable {V : S256x512.Idx → EReal} (hV : ∀ (i : Fin 256) (c : Fin 512), V (ix2 i c) = Sp.v A c (R + i.val))
variable {off : BitVec 32} (ho : off.toNat = R) (hR : R < 2 ^ 20)

include ho hR in
theorem pay18_at (i : Fin 256) : (k0_pay18 (F := Ideal) off : S256x1.Idx → EReal) (ix2 i 0) = (((R + i.val : ℕ) : ℝ) : EReal) + 1 := by
  unfold k0_pay18
  pointwise []
  have h : (off + BitVec.ofNat 32 i.val + 1#32).toInt = ((R + i.val + 1 : ℕ) : ℤ) := by
    have h1 : (off + BitVec.ofNat 32 i.val + 1#32).toNat = R + i.val + 1 := by
      simp only [BitVec.toNat_add, BitVec.toNat_ofNat, ho]; omega
    rw [BitVec.toInt_eq_toNat_of_lt (by omega), h1]
  show (((off + BitVec.ofNat 32 i.val + 1#32).toInt : ℝ) : EReal) = _
  rw [h]; push_cast; rfl

include hV hh16 ho hR in
theorem pay19_at (i : Fin 256) (k : Fin 128) :
    (k0_pay19 (F := Ideal) h16 off V : S256x128.Idx → EReal) (ix2 i k) = Sp.u A (R + i.val) 0 k := by
  unfold k0_pay19 Sp.u
  pointwise []
  simp only [pay17_at hh16 hV, hV, pay18_at ho hR]
  refine congrArg₂ (· - ·) (congrArg₂ Ideal.div (Eq.trans ?_ (wsum_2 _ _).symm) rfl) ?_
  · refine congrArg₂ (· + ·) ?_ ?_
    all_goals exact (lag_back _ _ _ _ _ (by omega) (by omega)).trans (congrArg (fun e => Sp.lag (Sp.v A e) _ _) (Fin.ext (by simp)))
  · exact congrArg (fun e => Sp.v A e _) (Fin.ext (by simp))

include hV hh16 ho hR in
theorem pay20_at (i : Fin 256) (k : Fin 128) :
    (k0_pay20 (F := Ideal) h16 off V : S256x128.Idx → EReal) (ix2 i k) = Sp.u A (R + i.val) 1 k := by
  unfold k0_pay20 Sp.u
  pointwise []
  simp only [pay17_at hh16 hV, hV, pay18_at ho hR]
  refine congrArg₂ (· - ·) (congrArg₂ Ideal.div (Eq.trans ?_ (wsum_4 _ _).symm) rfl) ?_
  · refine congrArg₂ (· + ·) (congrArg₂ (· + ·) ?_ ?_) (congrArg₂ (· + ·) ?_ ?_)
    all_goals exact (lag_back _ _ _ _ _ (by omega) (by omega)).trans (congrArg (fun e => Sp.lag (Sp.v A e) _ _) (Fin.ext (by simp)))
  · exact congrArg (fun e => Sp.v A e _) (Fin.ext (by simp))

/-- A stream and itself some rows later. -/
def dbl (s : BitVec 32) (X : S272x128.Idx → EReal) : S272x128.Idx → EReal := addf (F := Ideal) (φ := .f32) X (dynamicRotate 0 s none X rotates_S272x128_d0)

theorem dbl1_at (f : ℕ → EReal) (X : S272x128.Idx → EReal) (k : Fin 128)
    (hX : ∀ i : Fin 272, 1 ≤ i.val + 1 → X (ix2 i k) = ∑ j ∈ Finset.range 1, Sp.lag f (R + i.val) (16 + j)) (i : Fin 272) (hi : 2 ≤ i.val + 1) :
    dbl 1#32 X (ix2 i k) = ∑ j ∈ Finset.range 2, Sp.lag f (R + i.val) (16 + j) := by
  unfold dbl
  pointwise []
  refine Eq.trans (congrArg₂ (· + ·) (hX _ (by omega)) (hX _ (by show 1 ≤ (i.val + 272 - 1) % 272 + 1; omega))) ?_
  refine Eq.trans (congrArg₂ (· + ·) rfl (Finset.sum_congr rfl fun j _ => ?_)) (Finset.sum_range_add (fun j => Sp.lag f (R + i.val) (16 + j)) 1 1).symm
  show Sp.lag f (R + (i.val + 272 - 1) % 272) (16 + j) = Sp.lag f (R + i.val) (16 + (1 + j))
  unfold Sp.lag
  by_cases h : 16 + (1 + j) ≤ R + i.val
  · rw [if_pos h, if_pos (by omega)]; congr 1; omega
  · rw [if_neg h, if_neg (by omega)]
theorem dbl2_at (f : ℕ → EReal) (X : S272x128.Idx → EReal) (k : Fin 128)
    (hX : ∀ i : Fin 272, 2 ≤ i.val + 1 → X (ix2 i k) = ∑ j ∈ Finset.range 2, Sp.lag f (R + i.val) (16 + j)) (i : Fin 272) (hi : 4 ≤ i.val + 1) :
    dbl 2#32 X (ix2 i k) = ∑ j ∈ Finset.range 4, Sp.lag f (R + i.val) (16 + j) := by
  unfold dbl
  pointwise []
  refine Eq.trans (congrArg₂ (· + ·) (hX _ (by omega)) (hX _ (by show 2 ≤ (i.val + 272 - 2) % 272 + 1; omega))) ?_
  refine Eq.trans (congrArg₂ (· + ·) rfl (Finset.sum_congr rfl fun j _ => ?_)) (Finset.sum_range_add (fun j => Sp.lag f (R + i.val) (16 + j)) 2 2).symm
  show Sp.lag f (R + (i.val + 272 - 2) % 272) (16 + j) = Sp.lag f (R + i.val) (16 + (2 + j))
  unfold Sp.lag
  by_cases h : 16 + (2 + j) ≤ R + i.val
  · rw [if_pos h, if_pos (by omega)]; congr 1; omega
  · rw [if_neg h, if_neg (by omega)]
theorem dbl4_at (f : ℕ → EReal) (X : S272x128.Idx → EReal) (k : Fin 128)
    (hX : ∀ i : Fin 272, 4 ≤ i.val + 1 → X (ix2 i k) = ∑ j ∈ Finset.range 4, Sp.lag f (R + i.val) (16 + j)) (i : Fin 272) (hi : 8 ≤ i.val + 1) :
    dbl 4#32 X (ix2 i k) = ∑ j ∈ Finset.range 8, Sp.lag f (R + i.val) (16 + j) := by
  unfold dbl
  pointwise []
  refine Eq.trans (congrArg₂ (· + ·) (hX _ (by omega)) (hX _ (by show 4 ≤ (i.val + 272 - 4) % 272 + 1; omega))) ?_
  refine Eq.trans (congrArg₂ (· + ·) rfl (Finset.sum_congr rfl fun j _ => ?_)) (Finset.sum_range_add (fun j => Sp.lag f (R + i.val) (16 + j)) 4 4).symm
  show Sp.lag f (R + (i.val + 272 - 4) % 272) (16 + j) = Sp.lag f (R + i.val) (16 + (4 + j))
  unfold Sp.lag
  by_cases h : 16 + (4 + j) ≤ R + i.val
  · rw [if_pos h, if_pos (by omega)]; congr 1; omega
  · rw [if_neg h, if_neg (by omega)]
theorem dbl8_at (f : ℕ → EReal) (X : S272x128.Idx → EReal) (k : Fin 128)
    (hX : ∀ i : Fin 272, 8 ≤ i.val + 1 → X (ix2 i k) = ∑ j ∈ Finset.range 8, Sp.lag f (R + i.val) (16 + j)) (i : Fin 272) (hi : 16 ≤ i.val + 1) :
    dbl 8#32 X (ix2 i k) = ∑ j ∈ Finset.range 16, Sp.lag f (R + i.val) (16 + j) := by
  unfold dbl
  pointwise []
  refine Eq.trans (congrArg₂ (· + ·) (hX _ (by omega)) (hX _ (by show 8 ≤ (i.val + 272 - 8) % 272 + 1; omega))) ?_
  refine Eq.trans (congrArg₂ (· + ·) rfl (Finset.sum_congr rfl fun j _ => ?_)) (Finset.sum_range_add (fun j => Sp.lag f (R + i.val) (16 + j)) 8 8).symm
  show Sp.lag f (R + (i.val + 272 - 8) % 272) (16 + j) = Sp.lag f (R + i.val) (16 + (8 + j))
  unfold Sp.lag
  by_cases h : 16 + (8 + j) ≤ R + i.val
  · rw [if_pos h, if_pos (by omega)]; congr 1; omega
  · rw [if_neg h, if_neg (by omega)]

/-- The third and the fourth group's means less the rows themselves. -/
def grp2 (h16 : S16x512.Idx → EReal) (off : BitVec 32) (V : S256x512.Idx → EReal) : S256x128.Idx → EReal :=
  subf (F := Ideal) (φ := .f32) (divf (F := Ideal) (φ := .f32) (extractStridedSlice S256x128 ![16, 0] (dbl 4#32 (dbl 2#32 (dbl 1#32 (extractStridedSlice S272x128 ![0, 256] (k0_pay17 (F := Ideal) h16 V) slices_S272x512_o0_256_S272x128)))) slices_S272x128_o16_0_S256x128) (broadcastTo S256x128 (minimumf (k0_pay18 (F := Ideal) off) (broadcast S256x1 (Scalar.ofBits (F := Ideal) .f32 0x41000000#32))) broadcasts_S256x1_S256x128)) (extractStridedSlice S256x128 ![0, 256] V slices_S256x512_o0_256_S256x128)
def grp3 (h16 : S16x512.Idx → EReal) (off : BitVec 32) (V : S256x512.Idx → EReal) : S256x128.Idx → EReal :=
  subf (F := Ideal) (φ := .f32) (divf (F := Ideal) (φ := .f32) (extractStridedSlice S256x128 ![16, 0] (dbl 8#32 (dbl 4#32 (dbl 2#32 (dbl 1#32 (extractStridedSlice S272x128 ![0, 384] (k0_pay17 (F := Ideal) h16 V) slices_S272x512_o0_384_S272x128))))) slices_S272x128_o16_0_S256x128) (broadcastTo S256x128 (minimumf (k0_pay18 (F := Ideal) off) (broadcast S256x1 (Scalar.ofBits (F := Ideal) .f32 0x41800000#32))) broadcasts_S256x1_S256x128)) (extractStridedSlice S256x128 ![0, 384] V slices_S256x512_o0_384_S256x128)

include hV hh16 ho hR in
theorem grp2_at (i : Fin 256) (k : Fin 128) : grp2 h16 off V (ix2 i k) = Sp.u A (R + i.val) 2 k := by
  unfold grp2 Sp.u
  pointwise []
  simp only [hV, pay18_at ho hR]
  refine congrArg₂ (· - ·) (congrArg₂ Ideal.div ?_ rfl) rfl
  refine Eq.trans (dbl4_at _ _ _ (dbl2_at _ _ _ (dbl1_at _ _ _ ?_)) _ (by show 8 ≤ 16 + i.val + 1; omega)) (Finset.sum_congr rfl fun j _ => lag_back (Sp.v A ⟨256 + k.val, by omega⟩) _ (R + i.val) (16 + j) j (by show R + (16 + i.val) + j = _; omega) (by omega))
  intro i' _
  pointwise []
  refine (pay17_at hh16 hV _ _).trans ?_
  simp

include hV hh16 ho hR in
theorem grp3_at (i : Fin 256) (k : Fin 128) : grp3 h16 off V (ix2 i k) = Sp.u A (R + i.val) 3 k := by
  unfold grp3 Sp.u
  pointwise []
  simp only [hV, pay18_at ho hR]
  refine congrArg₂ (· - ·) (congrArg₂ Ideal.div ?_ rfl) rfl
  refine Eq.trans (dbl8_at _ _ _ (dbl4_at _ _ _ (dbl2_at _ _ _ (dbl1_at _ _ _ ?_))) _ (by show 16 ≤ 16 + i.val + 1; omega)) (Finset.sum_congr rfl fun j _ => lag_back (Sp.v A ⟨384 + k.val, by omega⟩) _ (R + i.val) (16 + j) j (by show R + (16 + i.val) + j = _; omega) (by omega))
  intro i' _
  pointwise []
  refine (pay17_at hh16 hV _ _).trans ?_
  simp

/-- The block after the mixers, from what the convolution gives. -/
def mixC (x : S256x1024.Idx → EReal) (V cv : S256x512.Idx → EReal) (h16 : S16x512.Idx → EReal) (off : BitVec 32)
    (wm : S1024x1024.Idx → EReal) : S256x1024.Idx → EReal :=
  addf (F := Ideal) (φ := .f32) x (matmul (F := Ideal) (φ₁ := .bf16) (φ₂ := .bf16) dot_S256x1024_S1024x1024_S256x1024_1_0_0_1_n_n none (truncf (F := Ideal) (φ := .f32) .bf16 (concatenate S256x1024 1 [⟨S256x512, cv⟩, ⟨S256x128, (k0_pay19 (F := Ideal) h16 off V)⟩, ⟨S256x128, (k0_pay20 (F := Ideal) h16 off V)⟩, ⟨S256x128, (grp2 h16 off V)⟩, ⟨S256x128, (grp3 h16 off V)⟩] concatenates_S256x512_S256x128_S256x128_S256x128_S256x128_S256x1024_d1) bitsLt_bf16_f32) wm (constant (F := Ideal) S256x1024 .f32 0x00000000#32))

/-- The block after the mixers. -/
def mixB (x : S256x1024.Idx → EReal) (P : S256x2048.Idx → EReal) (h8 : S8x512.Idx → EReal) (h16 : S16x512.Idx → EReal) (off : BitVec 32)
    (w0 w1 w2 : S1x512.Idx → EReal) (wm : S1024x1024.Idx → EReal) : S256x1024.Idx → EReal :=
  k0_pay24 (F := Ideal) x (k0_pay10 (F := Ideal) P)
    (k0_pay16 (F := Ideal) (k0_pay11 (F := Ideal) P) (k0_pay12 (F := Ideal) P) (k0_pay13 (F := Ideal) h8 P) (k0_pay14 w0) (k0_pay15 w1) w2)
    (k0_pay17 (F := Ideal) h16 (k0_pay10 (F := Ideal) P)) (k0_pay18 (F := Ideal) off) (k0_pay19 (F := Ideal) h16 off (k0_pay10 (F := Ideal) P))
    (k0_pay20 (F := Ideal) h16 off (k0_pay10 (F := Ideal) P)) (k0_pay21 (F := Ideal) h16 (k0_pay10 (F := Ideal) P)) (k0_pay22 (F := Ideal) h16 (k0_pay10 (F := Ideal) P)) wm

theorem mixB_eq (x : S256x1024.Idx → EReal) (P : S256x2048.Idx → EReal) (h8 : S8x512.Idx → EReal) (h16 : S16x512.Idx → EReal) (off : BitVec 32)
    (w0 w1 w2 : S1x512.Idx → EReal) (wm : S1024x1024.Idx → EReal) : mixB x P h8 h16 off w0 w1 w2 wm = mixC x (k0_pay10 (F := Ideal) P) (k0_pay16 (F := Ideal) (k0_pay11 (F := Ideal) P) (k0_pay12 (F := Ideal) P) (k0_pay13 (F := Ideal) h8 P) (k0_pay14 w0) (k0_pay15 w1) w2) h16 off wm := rfl

variable {x : S256x1024.Idx → EReal} (hx : ∀ (i : Fin 256) (d : Fin 1024), x (ix2 i d) = A.x (R + i.val) d)
variable {wm : S1024x1024.Idx → EReal} (hwm : WmOk A wm)

variable {cv : S256x512.Idx → EReal} (hcv : ∀ (i : Fin 256) (c : Fin 512), cv (ix2 i c) = Sp.conv A (R + i.val) c)

include hx hcv hV hh16 ho hR hwm in
theorem mixC_at (i : Fin 256) (d : Fin 1024) : mixC x V cv h16 off wm (ix2 i d) = Sp.x1' A (R + i.val) d := by
  unfold mixC Sp.x1'
  pointwise []
  simp only [grp3_at hh16 hV ho hR, grp2_at hh16 hV ho hR, pay19_at hh16 hV ho hR, pay20_at hh16 hV ho hR, hcv, hx]
  refine congrArg₂ (· + ·) rfl ?_
  rw [sum1024]
  refine congrArg₂ (· + ·) (Finset.sum_congr rfl fun c _ => congrArg₂ (· * ·) ?_ (hwm.wo c d)) (Finset.sum_congr rfl fun g _ => ?_)
  · exact dif_pos c.isLt
  · refine Finset.sum_congr rfl fun q _ => congrArg₂ (· * ·) (?_ : _ = Sp.u A (R + i.val) g q) (hwm.wp g q d)
    fin_cases g
    · refine ((dif_neg (by simp)).trans ((dif_pos (by simp <;> omega)).trans ?_))
      congr 1; apply Fin.ext; simp <;> omega
    · refine ((dif_neg (by simp)).trans ((dif_neg (by simp <;> omega)).trans ((dif_pos (by simp <;> omega)).trans ?_)))
      congr 1; apply Fin.ext; simp <;> omega
    · refine ((dif_neg (by simp)).trans ((dif_neg (by simp <;> omega)).trans ((dif_neg (by simp <;> omega)).trans ((dif_pos (by simp <;> omega)).trans ?_))))
      congr 1; apply Fin.ext; simp <;> omega
    · refine ((dif_neg (by simp)).trans ((dif_neg (by simp <;> omega)).trans ((dif_neg (by simp <;> omega)).trans ((dif_neg (by simp <;> omega)).trans (?_)))))
      congr 1; apply Fin.ext; simp <;> omega

include hP hh8 hw0 hw1 hw2 hx hh16 ho hR hwm in
theorem mixB_at (i : Fin 256) (d : Fin 1024) : mixB x P h8 h16 off w0 w1 w2 wm (ix2 i d) = Sp.x1' A (R + i.val) d := by
  rw [mixB_eq]
  exact mixC_at hh16 (pay10_at hP) ho hR hx hwm (pay16_at hP hh8 hw0 hw1 hw2) i d

end mixers

/-- The kernel's row after the mixers is the block's, but for the signs of infinities. -/
theorem x1'_ph {A : Sp.Args} (hA : A.Fin) (n : ℕ) (d : Fin 1024) : Sp.ph (Sp.x1' A n d) = Sp.ph (Sp.x1 A n d) := by
  unfold Sp.x1' Sp.x1
  rw [sum1024 (fun e => Sp.mix A n e * A.wo e d), Sp.ph_add, Sp.ph_add, Sp.ph_add, Sp.ph_add]
  refine congrArg₂ (· + ·) rfl (congrArg₂ (· + ·) (congrArg Sp.ph (Finset.sum_congr rfl fun c _ => congrArg₂ (· * ·) ?_ rfl)) ?_)
  · unfold Sp.mix
    rw [dif_pos (show (⟨c.val, by omega⟩ : Fin 1024).val < 512 from c.isLt)]
  · rw [Sp.ph_sum, Sp.ph_sum]
    refine Finset.sum_congr rfl fun g _ => (Sp.fold_pool hA n g d).trans (congrArg Sp.ph (Finset.sum_congr rfl fun k _ => congrArg₂ (· * ·) ?_ rfl))
    refine Eq.trans ?_ (dif_neg (by simp)).symm
    congr 1 <;> apply Fin.ext <;> simp <;> omega
theorem res'_eq {A : Sp.Args} (hA : A.Fin) (n : ℕ) (d : Fin 1024) : Sp.res' A n d = Sp.res A n d :=
  Sp.tail_eq A _ _ (x1'_ph hA n) d

variable {A : Sp.Args} {R : ℕ}

/-! ## The norm and the squared-ReLU layer -/

theorem nrmT_at (x : S256x1024.Idx → EReal) (g : S1x1024.Idx → EReal) (i : Fin 256) (d : Fin 1024) :
    (k0_pay57 (F := Ideal) x g : S256x1024.Idx → EReal) (ix2 i d) = Sp.nrm (fun d => x (ix2 i d)) (fun d => g (ix2 0 d)) d := by
  unfold k0_pay57 Sp.nrm
  pointwise []

theorem proj_at (y : S256x1024.Idx → EReal) (w : S1024x2048.Idx → EReal) (i : Fin 256) (e : Fin 2048) :
    (k0_pay6 (F := Ideal) y w : S256x2048.Idx → EReal) (ix2 i e) = ∑ d : Fin 1024, y (ix2 i d) * w (ix2 d e) := by
  unfold k0_pay6
  pointwise []

/-- The squared-ReLU layer on a block `x`, `y` its norm, by four groups of columns. -/
def mlp (x y : S256x1024.Idx → EReal) (a0 b0 a1 b1 a2 b2 a3 b3 : S1024x1024.Idx → EReal) : S256x1024.Idx → EReal :=
  k0_pay64 (F := Ideal) (k0_pay62 (F := Ideal) x y a0 b0 a1 b1 a2 b2) (k0_pay63 (F := Ideal) y a3 b3)

theorem sum4096 (f : Fin 4096 → EReal) : ∑ e, f e = ((∑ c : Fin 1024, f ⟨c.val, by omega⟩ + ∑ c : Fin 1024, f ⟨1024 + c.val, by omega⟩)
    + ∑ c : Fin 1024, f ⟨2048 + c.val, by omega⟩) + ∑ c : Fin 1024, f ⟨3072 + c.val, by omega⟩ := by
  rw [Fin.sum_univ_add (a := 3072) (b := 1024) (f := fun e : Fin (3072 + 1024) => f e)]
  refine congrArg₂ (· + ·) ?_ rfl
  rw [Fin.sum_univ_add (a := 2048) (b := 1024) (f := fun e : Fin (2048 + 1024) => f (Fin.castAdd 1024 e))]
  refine congrArg₂ (· + ·) ?_ rfl
  rw [Fin.sum_univ_add (a := 1024) (b := 1024) (f := fun e : Fin (1024 + 1024) => f (Fin.castAdd 1024 (Fin.castAdd 1024 e)))]
  rfl

theorem mlp_at (X : ℕ → Fin 1024 → EReal) (x y : S256x1024.Idx → EReal) (hx : ∀ (i : Fin 256) (d : Fin 1024), x (ix2 i d) = X (R + i.val) d)
    (hy : ∀ (i : Fin 256) (d : Fin 1024), y (ix2 i d) = Sp.nrm (X (R + i.val)) A.g2 d) (a0 b0 a1 b1 a2 b2 a3 b3 : S1024x1024.Idx → EReal)
    (ha0 : ∀ d f : Fin 1024, a0 (ix2 d f) = A.f1 d ⟨f.val, by omega⟩) (hb0 : ∀ f d : Fin 1024, b0 (ix2 f d) = A.f2 ⟨f.val, by omega⟩ d)
    (ha1 : ∀ d f : Fin 1024, a1 (ix2 d f) = A.f1 d ⟨1024 + f.val, by omega⟩) (hb1 : ∀ f d : Fin 1024, b1 (ix2 f d) = A.f2 ⟨1024 + f.val, by omega⟩ d)
    (ha2 : ∀ d f : Fin 1024, a2 (ix2 d f) = A.f1 d ⟨2048 + f.val, by omega⟩) (hb2 : ∀ f d : Fin 1024, b2 (ix2 f d) = A.f2 ⟨2048 + f.val, by omega⟩ d)
    (ha3 : ∀ d f : Fin 1024, a3 (ix2 d f) = A.f1 d ⟨3072 + f.val, by omega⟩) (hb3 : ∀ f d : Fin 1024, b3 (ix2 f d) = A.f2 ⟨3072 + f.val, by omega⟩ d)
    (i : Fin 256) (d : Fin 1024) : mlp x y a0 b0 a1 b1 a2 b2 a3 b3 (ix2 i d) = Sp.ffn A (X (R + i.val)) d := by
  unfold mlp k0_pay64 k0_pay62 k0_pay63 Sp.ffn
  pointwise []
  simp only [hx, hy, ha0, hb0, ha1, hb1, ha2, hb2, ha3, hb3]
  rw [sum4096, ← add_assoc, ← add_assoc, ← add_assoc]
  rfl

/-- The last rows of a block, as the history in front of the next one. -/
theorem hist8_at {Z : S256x512.Idx → EReal} (hZ : ∀ (i : Fin 256) (c : Fin 512), Z (ix2 i c) = Sp.z A c (R + i.val)) (j : Fin 8) (c : Fin 512) :
    (k0_pay52 (F := Ideal) Z : S8x512.Idx → EReal) (ix2 j c) = Sp.lag (Sp.z A c) (R + 256 + j.val) 8 := by
  unfold k0_pay52
  pointwise []
  exact (hZ _ _).trans (lag_self _ _ _ _ (by show _ = R + (248 + j.val) + 8; omega))
theorem hist16_at {V : S256x512.Idx → EReal} (hV : ∀ (i : Fin 256) (c : Fin 512), V (ix2 i c) = Sp.v A c (R + i.val)) (j : Fin 16) (c : Fin 512) :
    (k0_pay53 (F := Ideal) V : S16x512.Idx → EReal) (ix2 j c) = Sp.lag (Sp.v A c) (R + 256 + j.val) 16 := by
  unfold k0_pay53
  pointwise []
  exact (hV _ _).trans (lag_self _ _ _ _ (by show _ = R + (240 + j.val) + 16; omega))

/-- The last rows of a block of what is convolved. -/
def hist8 (Z : S256x512.Idx → EReal) : S8x512.Idx → EReal := extractStridedSlice S8x512 ![248, 0] Z slices_S256x512_o248_0_S8x512
theorem hist8'_at {Z : S256x512.Idx → EReal} (hZ : ∀ (i : Fin 256) (c : Fin 512), Z (ix2 i c) = Sp.z A c (R + i.val)) (j : Fin 8) (c : Fin 512) :
    hist8 Z (ix2 j c) = Sp.lag (Sp.z A c) (R + 256 + j.val) 8 := by
  unfold hist8
  pointwise []
  exact (hZ _ _).trans (lag_self _ _ _ _ (by show _ = R + (248 + j.val) + 8; omega))
theorem hist16'_at {V : S256x512.Idx → EReal} (hV : ∀ (i : Fin 256) (c : Fin 512), V (ix2 i c) = Sp.v A c (R + i.val)) (j : Fin 16) (c : Fin 512) :
    (k0_pay23 (F := Ideal) V : S16x512.Idx → EReal) (ix2 j c) = Sp.lag (Sp.v A c) (R + 256 + j.val) 16 := by
  unfold k0_pay23
  pointwise []
  exact (hV _ _).trans (lag_self _ _ _ _ (by show _ = R + (240 + j.val) + 16; omega))

end Cert.KernelIdeal.Hand

end
-- ==== Proof.KStep.lean ====
module

public import proofs.«01_k».proof.Proof.KMix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## Reading a rectangle of a buffer, at an index -/

theorem rd_wM1 {c : Dev nD} (B : Bf (F := Ideal) c wM1) (h) (i : Fin 1) (j : Fin 1024) :
    (View.readAt (Elt Ideal) wM1.view (Rect.unit (s := S1x1024) ![0, 0] S1x1024.size h).toLoadRect B : S1x1024.Idx → EReal) (ix2 i j) = (B : S1x1024.Idx → EReal) (ix2 i j) := by
  refine congrArg (β := EReal) B ?_
  funext a; apply Fin.ext; fin_cases a
  · show 0 + 1 * i.val = _; simp
  · show 0 + 1 * j.val = _; simp
theorem rd_wM7 {c : Dev nD} (B : Bf (F := Ideal) c wM7) (h) (i : Fin 1) (j : Fin 1024) :
    (View.readAt (Elt Ideal) wM7.view (Rect.unit (s := S1x1024) ![0, 0] S1x1024.size h).toLoadRect B : S1x1024.Idx → EReal) (ix2 i j) = (B : S1x1024.Idx → EReal) (ix2 i j) := by
  refine congrArg (β := EReal) B ?_
  funext a; apply Fin.ext; fin_cases a
  · show 0 + 1 * i.val = _; simp
  · show 0 + 1 * j.val = _; simp
theorem rd_wM10 {c : Dev nD} (B : Bf (F := Ideal) c wM10) (h) (i : Fin 1) (j : Fin 1024) :
    (View.readAt (Elt Ideal) wM10.view (Rect.unit (s := S1x1024) ![0, 0] S1x1024.size h).toLoadRect B : S1x1024.Idx → EReal) (ix2 i j) = (B : S1x1024.Idx → EReal) (ix2 i j) := by
  refine congrArg (β := EReal) B ?_
  funext a; apply Fin.ext; fin_cases a
  · show 0 + 1 * i.val = _; simp
  · show 0 + 1 * j.val = _; simp
theorem rd_sM12 {c : Dev nD} (B : Bf (F := Ideal) c sM12) (h) (i : Fin 1024) (j : Fin 2048) :
    (View.readAt (Elt Ideal) sM12.view (Rect.unit (s := S1024x2048) ![0, 0] S1024x2048.size h).toLoadRect B : S1024x2048.Idx → EReal) (ix2 i j) = (B : S1024x2048.Idx → EReal) (ix2 i j) := by
  refine congrArg (β := EReal) B ?_
  funext a; apply Fin.ext; fin_cases a
  · show 0 + 1 * i.val = _; simp
  · show 0 + 1 * j.val = _; simp
theorem rd_sM13 {c : Dev nD} (B : Bf (F := Ideal) c sM13) (h) (i : Fin 1024) (j : Fin 1024) :
    (View.readAt (Elt Ideal) sM13.view (Rect.unit (s := S1024x1024) ![0, 0] S1024x1024.size h).toLoadRect B : S1024x1024.Idx → EReal) (ix2 i j) = (B : S1024x1024.Idx → EReal) (ix2 i j) := by
  refine congrArg (β := EReal) B ?_
  funext a; apply Fin.ext; fin_cases a
  · show 0 + 1 * i.val = _; simp
  · show 0 + 1 * j.val = _; simp
theorem rd_sM16 {c : Dev nD} (B : Bf (F := Ideal) c sM16) (h) (i : Fin 8) (j : Fin 512) :
    (View.readAt (Elt Ideal) sM16.view (Rect.unit (s := S8x512) ![0, 0] S8x512.size h).toLoadRect B : S8x512.Idx → EReal) (ix2 i j) = (B : S8x512.Idx → EReal) (ix2 i j) := by
  refine congrArg (β := EReal) B ?_
  funext a; apply Fin.ext; fin_cases a
  · show 0 + 1 * i.val = _; simp
  · show 0 + 1 * j.val = _; simp
theorem rd_sM17 {c : Dev nD} (B : Bf (F := Ideal) c sM17) (h) (i : Fin 16) (j : Fin 512) :
    (View.readAt (Elt Ideal) sM17.view (Rect.unit (s := S16x512) ![0, 0] S16x512.size h).toLoadRect B : S16x512.Idx → EReal) (ix2 i j) = (B : S16x512.Idx → EReal) (ix2 i j) := by
  refine congrArg (β := EReal) B ?_
  funext a; apply Fin.ext; fin_cases a
  · show 0 + 1 * i.val = _; simp
  · show 0 + 1 * j.val = _; simp
theorem rd_sM20 {c : Dev nD} (B : Bf (F := Ideal) c sM20) (h) (i : Fin 256) (j : Fin 1024) :
    (View.readAt (Elt Ideal) sM20.view (Rect.unit (s := S256x1024) ![0, 0] S256x1024.size h).toLoadRect B : S256x1024.Idx → EReal) (ix2 i j) = (B : S256x1024.Idx → EReal) (ix2 i j) := by
  refine congrArg (β := EReal) B ?_
  funext a; apply Fin.ext; fin_cases a
  · show 0 + 1 * i.val = _; simp
  · show 0 + 1 * j.val = _; simp
theorem rd_sM21 {c : Dev nD} (B : Bf (F := Ideal) c sM21) (h) (i : Fin 256) (j : Fin 1024) :
    (View.readAt (Elt Ideal) sM21.view (Rect.unit (s := S256x1024) ![0, 0] S256x1024.size h).toLoadRect B : S256x1024.Idx → EReal) (ix2 i j) = (B : S256x1024.Idx → EReal) (ix2 i j) := by
  refine congrArg (β := EReal) B ?_
  funext a; apply Fin.ext; fin_cases a
  · show 0 + 1 * i.val = _; simp
  · show 0 + 1 * j.val = _; simp
theorem rd_wM3_0 {c : Dev nD} (B : Bf (F := Ideal) c wM3) (h) (i : Fin 1) (j : Fin 512) :
    (View.readAt (Elt Ideal) wM3.view (Rect.unit (s := S1x1536) ![0, 0] S1x512.size h).toLoadRect B : S1x512.Idx → EReal) (ix2 i j) = (B : S1x1536.Idx → EReal) (ix2 i ⟨0 + j.val, by omega⟩) := by
  refine congrArg (β := EReal) B ?_
  funext a; apply Fin.ext; fin_cases a
  · show 0 + 1 * i.val = _; simp
  · show 0 + 1 * j.val = _; simp
theorem rd_wM3_512 {c : Dev nD} (B : Bf (F := Ideal) c wM3) (h) (i : Fin 1) (j : Fin 512) :
    (View.readAt (Elt Ideal) wM3.view (Rect.unit (s := S1x1536) ![0, 512] S1x512.size h).toLoadRect B : S1x512.Idx → EReal) (ix2 i j) = (B : S1x1536.Idx → EReal) (ix2 i ⟨512 + j.val, by omega⟩) := by
  refine congrArg (β := EReal) B ?_
  funext a; apply Fin.ext; fin_cases a
  · show 0 + 1 * i.val = _; simp
  · show 512 + 1 * j.val = _; simp
theorem rd_wM3_1024 {c : Dev nD} (B : Bf (F := Ideal) c wM3) (h) (i : Fin 1) (j : Fin 512) :
    (View.readAt (Elt Ideal) wM3.view (Rect.unit (s := S1x1536) ![0, 1024] S1x512.size h).toLoadRect B : S1x512.Idx → EReal) (ix2 i j) = (B : S1x1536.Idx → EReal) (ix2 i ⟨1024 + j.val, by omega⟩) := by
  refine congrArg (β := EReal) B ?_
  funext a; apply Fin.ext; fin_cases a
  · show 0 + 1 * i.val = _; simp
  · show 1024 + 1 * j.val = _; simp
theorem rd_sM14_0 {c : Dev nD} (B : Bf (F := Ideal) c sM14) (h) (i : Fin 1024) (j : Fin 1024) :
    (View.readAt (Elt Ideal) sM14.view (Rect.unit (s := S1024x4096) ![0, 0] S1024x1024.size h).toLoadRect B : S1024x1024.Idx → EReal) (ix2 i j) = (B : S1024x4096.Idx → EReal) (ix2 i ⟨0 + j.val, by omega⟩) := by
  refine congrArg (β := EReal) B ?_
  funext a; apply Fin.ext; fin_cases a
  · show 0 + 1 * i.val = _; simp
  · show 0 + 1 * j.val = _; simp
theorem rd_sM14_1024 {c : Dev nD} (B : Bf (F := Ideal) c sM14) (h) (i : Fin 1024) (j : Fin 1024) :
    (View.readAt (Elt Ideal) sM14.view (Rect.unit (s := S1024x4096) ![0, 1024] S1024x1024.size h).toLoadRect B : S1024x1024.Idx → EReal) (ix2 i j) = (B : S1024x4096.Idx → EReal) (ix2 i ⟨1024 + j.val, by omega⟩) := by
  refine congrArg (β := EReal) B ?_
  funext a; apply Fin.ext; fin_cases a
  · show 0 + 1 * i.val = _; simp
  · show 1024 + 1 * j.val = _; simp
theorem rd_sM14_2048 {c : Dev nD} (B : Bf (F := Ideal) c sM14) (h) (i : Fin 1024) (j : Fin 1024) :
    (View.readAt (Elt Ideal) sM14.view (Rect.unit (s := S1024x4096) ![0, 2048] S1024x1024.size h).toLoadRect B : S1024x1024.Idx → EReal) (ix2 i j) = (B : S1024x4096.Idx → EReal) (ix2 i ⟨2048 + j.val, by omega⟩) := by
  refine congrArg (β := EReal) B ?_
  funext a; apply Fin.ext; fin_cases a
  · show 0 + 1 * i.val = _; simp
  · show 2048 + 1 * j.val = _; simp
theorem rd_sM14_3072 {c : Dev nD} (B : Bf (F := Ideal) c sM14) (h) (i : Fin 1024) (j : Fin 1024) :
    (View.readAt (Elt Ideal) sM14.view (Rect.unit (s := S1024x4096) ![0, 3072] S1024x1024.size h).toLoadRect B : S1024x1024.Idx → EReal) (ix2 i j) = (B : S1024x4096.Idx → EReal) (ix2 i ⟨3072 + j.val, by omega⟩) := by
  refine congrArg (β := EReal) B ?_
  funext a; apply Fin.ext; fin_cases a
  · show 0 + 1 * i.val = _; simp
  · show 3072 + 1 * j.val = _; simp
theorem rd_sM15_0 {c : Dev nD} (B : Bf (F := Ideal) c sM15) (h) (i : Fin 1024) (j : Fin 1024) :
    (View.readAt (Elt Ideal) sM15.view (Rect.unit (s := S4096x1024) ![0, 0] S1024x1024.size h).toLoadRect B : S1024x1024.Idx → EReal) (ix2 i j) = (B : S4096x1024.Idx → EReal) (ix2 ⟨0 + i.val, by omega⟩ j) := by
  refine congrArg (β := EReal) B ?_
  funext a; apply Fin.ext; fin_cases a
  · show 0 + 1 * i.val = _; simp
  · show 0 + 1 * j.val = _; simp
theorem rd_sM15_1024 {c : Dev nD} (B : Bf (F := Ideal) c sM15) (h) (i : Fin 1024) (j : Fin 1024) :
    (View.readAt (Elt Ideal) sM15.view (Rect.unit (s := S4096x1024) ![1024, 0] S1024x1024.size h).toLoadRect B : S1024x1024.Idx → EReal) (ix2 i j) = (B : S4096x1024.Idx → EReal) (ix2 ⟨1024 + i.val, by omega⟩ j) := by
  refine congrArg (β := EReal) B ?_
  funext a; apply Fin.ext; fin_cases a
  · show 1024 + 1 * i.val = _; simp
  · show 0 + 1 * j.val = _; simp
theorem rd_sM15_2048 {c : Dev nD} (B : Bf (F := Ideal) c sM15) (h) (i : Fin 1024) (j : Fin 1024) :
    (View.readAt (Elt Ideal) sM15.view (Rect.unit (s := S4096x1024) ![2048, 0] S1024x1024.size h).toLoadRect B : S1024x1024.Idx → EReal) (ix2 i j) = (B : S4096x1024.Idx → EReal) (ix2 ⟨2048 + i.val, by omega⟩ j) := by
  refine congrArg (β := EReal) B ?_
  funext a; apply Fin.ext; fin_cases a
  · show 2048 + 1 * i.val = _; simp
  · show 0 + 1 * j.val = _; simp
theorem rd_sM15_3072 {c : Dev nD} (B : Bf (F := Ideal) c sM15) (h) (i : Fin 1024) (j : Fin 1024) :
    (View.readAt (Elt Ideal) sM15.view (Rect.unit (s := S4096x1024) ![3072, 0] S1024x1024.size h).toLoadRect B : S1024x1024.Idx → EReal) (ix2 i j) = (B : S4096x1024.Idx → EReal) (ix2 ⟨3072 + i.val, by omega⟩ j) := by
  refine congrArg (β := EReal) B ?_
  funext a; apply Fin.ext; fin_cases a
  · show 3072 + 1 * i.val = _; simp
  · show 0 + 1 * j.val = _; simp

/-! ## One trip of the loop, read at an index -/

/-- The weights hold what they should. -/
structure WtOk (A : Sp.Args) {c : Dev nD} (W : Wt (F := Ideal) c) : Prop where
  w1 : ∀ d : Fin 1024, (W.w1 : S1x1024.Idx → EReal) (ix2 0 d) = A.g1 d
  w3_0 : ∀ (e : Fin 512), (W.w3 : S1x1536.Idx → EReal) (ix2 0 ⟨0 + e.val, by omega⟩) = A.cw 0 e
  w3_1 : ∀ (e : Fin 512), (W.w3 : S1x1536.Idx → EReal) (ix2 0 ⟨512 + e.val, by omega⟩) = A.cw 1 e
  w3_2 : ∀ (e : Fin 512), (W.w3 : S1x1536.Idx → EReal) (ix2 0 ⟨1024 + e.val, by omega⟩) = A.cw 2 e
  w7 : ∀ d : Fin 1024, (W.w7 : S1x1024.Idx → EReal) (ix2 0 d) = A.g2 d
  w10 : ∀ d : Fin 1024, (W.w10 : S1x1024.Idx → EReal) (ix2 0 d) = A.g3 d
  m12 : ∀ (n : ℕ) (e : Fin 2048), ∑ d : Fin 1024, Sp.nrm (A.x n) A.g1 d * (W.m12 : S1024x2048.Idx → EReal) (ix2 d e) = projK A n e
  m13 : WmOk A (W.m13 : S1024x1024.Idx → EReal)
  m14 : ∀ (d : Fin 1024) (f : Fin 4096), (W.m14 : S1024x4096.Idx → EReal) (ix2 d f) = A.f1 d f
  m15 : ∀ (f : Fin 4096) (d : Fin 1024), (W.m15 : S4096x1024.Idx → EReal) (ix2 f d) = A.f2 f d

/-- What is carried holds what it should: the finished block begins at row `R`, the next at row `R + 256`. -/
structure StOk (A : Sp.Args) (R : ℕ) {c : Dev nD} (S : St (F := Ideal) c) : Prop where
  s16 : ∀ (j : Fin 8) (e : Fin 512), (S.s16 : S8x512.Idx → EReal) (ix2 j e) = Sp.lag (Sp.z A e) (R + 256 + j.val) 8
  s17 : ∀ (j : Fin 16) (e : Fin 512), (S.s17 : S16x512.Idx → EReal) (ix2 j e) = Sp.lag (Sp.v A e) (R + 256 + j.val) 16
  s20 : ∀ (i : Fin 256) (d : Fin 1024), (S.s20 : S256x1024.Idx → EReal) (ix2 i d) = Sp.x2' A (R + i.val) d
  s21 : R + 512 ≤ 16384 → ∀ (i : Fin 256) (d : Fin 1024), (S.s21 : S256x1024.Idx → EReal) (ix2 i d) = Sp.nrm (A.x (R + 256 + i.val)) A.g1 d

variable {A : Sp.Args} {c : Dev nD} {W : Wt (F := Ideal) c} (hW : WtOk A W) {S : St (F := Ideal) c} {R : ℕ} (hS : StOk A R S)
  (k : Fin k0_t1_loop.trips) (hk : R = 768 * k.val) (xa xb xc : S1x256x1024.Idx → EReal)
  (hxa : ∀ (i : Fin 256) (d : Fin 1024), xa (ix3 0 i d) = A.x (R + 256 + i.val) d)
  (hxb : ∀ (i : Fin 256) (d : Fin 1024), xb (ix3 0 i d) = A.x (R + 512 + i.val) d)
  (hxc : ∀ (i : Fin 256) (d : Fin 1024), xc (ix3 0 i d) = A.x (R + 768 + i.val) d)

include hW in
theorem W_proj (n : ℕ) (h) (e : Fin 2048) (y : Fin 1024 → EReal) (hy : ∀ d, y d = Sp.nrm (A.x n) A.g1 d) :
    ∑ d : Fin 1024, y d * (View.readAt (Elt Ideal) sM12.view (Rect.unit (s := S1024x2048) ![0, 0] S1024x2048.size h).toLoadRect W.m12 : S1024x2048.Idx → EReal) (ix2 d e) = projK A n e := by
  refine Eq.trans (Finset.sum_congr rfl fun d _ => congrArg₂ (· * ·) (hy d) (rd_sM12 W.m12 h d e)) (hW.m12 n e)

theorem off_at : ∀ k : Fin k0_t1_loop.trips, (Scalar.addi 256#32 (Scalar.muli (Scalar.subi (Scf.iv 1#32 1#32 k.val) 1#32) 768#32)).toNat = 256 + 768 * k.val := by
  rw [trips_eq]
  decide +kernel

include hW hS in
theorem d5_at (hR : R + 512 ≤ 16384) (i : Fin 256) (e : Fin 2048) : (d_5 W S k xa xb xc : S256x2048.Idx → EReal) (ix2 i e) = projK A (R + 256 + i.val) e := by
  unfold d_5
  rw [proj_at]
  refine W_proj hW _ _ e _ fun d => ?_
  unfold d_3
  exact (rd_sM21 _ _ i d).trans (hS.s21 hR i d)
include hW hxb in
theorem d6_at (i : Fin 256) (e : Fin 2048) : (d_6 W S k xa xb xc : S256x2048.Idx → EReal) (ix2 i e) = projK A (R + 512 + i.val) e := by
  unfold d_6 k0_pay7 d_v262
  pointwise []
  refine W_proj hW _ _ e _ fun d => ?_
  simp only [hxb]
  exact congrArg₂ (· * ·) rfl ((rd_wM1 W.w1 _ 0 d).trans (hW.w1 d))
include hW hxc in
theorem d7_at (i : Fin 256) (e : Fin 2048) : (d_7 W S k xa xb xc : S256x2048.Idx → EReal) (ix2 i e) = projK A (R + 768 + i.val) e := by
  unfold d_7 k0_pay8 k0_pay5
  pointwise []
  refine W_proj hW _ _ e _ fun d => ?_
  simp only [hxc]
  exact congrArg₂ (· * ·) rfl ((rd_wM1 W.w1 _ 0 d).trans (hW.w1 d))

theorem off0 : (d_v333 W S k xa xb xc).toNat = 256 + 768 * k.val :=
  (off_at k ▸ (congrArg BitVec.toNat (BitVec.add_zero _) : _) : _)
theorem off1 : (d_v425 W S k xa xb xc).toNat = 512 + 768 * k.val := by
  have h := off_at k
  have hk : k.val < 21 := by exact lt_of_lt_of_eq k.isLt trips_eq
  show (_ + 256#32 : BitVec 32).toNat = _
  rw [BitVec.toNat_add]
  refine Eq.trans (congrArg (fun n => (n + 256) % 2 ^ 32) h) ?_
  omega
theorem off2 : (d_v517 W S k xa xb xc).toNat = 768 + 768 * k.val := by
  have h := off_at k
  have hk : k.val < 21 := by exact lt_of_lt_of_eq k.isLt trips_eq
  show (_ + 512#32 : BitVec 32).toNat = _
  rw [BitVec.toNat_add]
  refine Eq.trans (congrArg (fun n => (n + 512) % 2 ^ 32) h) ?_
  omega

theorem d22_eq : d_22 W S k xa xb xc = mixB (d_v259 W S k xa xb xc) (d_5 W S k xa xb xc) (d_1 W S k xa xb xc) (d_2 W S k xa xb xc) (d_v333 W S k xa xb xc) (View.readAt (Elt Ideal) wM3.view (Rect.unit (s := S1x1536) ![0, 0] S1x512.size (by decide)).toLoadRect W.w3) (View.readAt (Elt Ideal) wM3.view (Rect.unit (s := S1x1536) ![0, 512] S1x512.size (by decide)).toLoadRect W.w3) (View.readAt (Elt Ideal) wM3.view (Rect.unit (s := S1x1536) ![0, 1024] S1x512.size (by decide)).toLoadRect W.w3) (View.readAt (Elt Ideal) sM13.view (Rect.unit (s := S1024x1024) ![0, 0] S1024x1024.size (by decide)).toLoadRect W.m13) := rfl
theorem d36_eq : d_36 W S k xa xb xc = mixB (d_v262 W S k xa xb xc) (d_6 W S k xa xb xc) (hist8 (k0_pay12 (F := Ideal) (d_5 W S k xa xb xc))) (k0_pay23 (F := Ideal) (k0_pay10 (F := Ideal) (d_5 W S k xa xb xc))) (d_v425 W S k xa xb xc) (View.readAt (Elt Ideal) wM3.view (Rect.unit (s := S1x1536) ![0, 0] S1x512.size (by decide)).toLoadRect W.w3) (View.readAt (Elt Ideal) wM3.view (Rect.unit (s := S1x1536) ![0, 512] S1x512.size (by decide)).toLoadRect W.w3) (View.readAt (Elt Ideal) wM3.view (Rect.unit (s := S1x1536) ![0, 1024] S1x512.size (by decide)).toLoadRect W.w3) (View.readAt (Elt Ideal) sM13.view (Rect.unit (s := S1024x1024) ![0, 0] S1024x1024.size (by decide)).toLoadRect W.m13) := rfl
theorem d49_eq : d_49 W S k xa xb xc = mixB (d_4 W S k xa xb xc) (d_7 W S k xa xb xc) (hist8 (k0_pay12 (F := Ideal) (d_6 W S k xa xb xc))) (k0_pay23 (F := Ideal) (k0_pay10 (F := Ideal) (d_6 W S k xa xb xc))) (d_v517 W S k xa xb xc) (View.readAt (Elt Ideal) wM3.view (Rect.unit (s := S1x1536) ![0, 0] S1x512.size (by decide)).toLoadRect W.w3) (View.readAt (Elt Ideal) wM3.view (Rect.unit (s := S1x1536) ![0, 512] S1x512.size (by decide)).toLoadRect W.w3) (View.readAt (Elt Ideal) wM3.view (Rect.unit (s := S1x1536) ![0, 1024] S1x512.size (by decide)).toLoadRect W.w3) (View.readAt (Elt Ideal) sM13.view (Rect.unit (s := S1024x1024) ![0, 0] S1024x1024.size (by decide)).toLoadRect W.m13) := rfl

include hW hS hk hxa in
theorem d22_at (hR : R + 512 ≤ 16384) (i : Fin 256) (d : Fin 1024) : (d_22 W S k xa xb xc : S256x1024.Idx → EReal) (ix2 i d) = Sp.x1' A (R + 256 + i.val) d := by
  rw [d22_eq]
  exact mixB_at (A := A) (R := R + 256) (d5_at hW hS k xa xb xc hR) (fun j e => (rd_sM16 S.s16 _ j e).trans (hS.s16 j e)) (fun j e => (rd_sM17 S.s17 _ j e).trans (hS.s17 j e)) (fun e => (rd_wM3_0 W.w3 _ 0 e).trans (hW.w3_0 e)) (fun e => (rd_wM3_512 W.w3 _ 0 e).trans (hW.w3_1 e)) (fun e => (rd_wM3_1024 W.w3 _ 0 e).trans (hW.w3_2 e))
    ((off0 (W := W) (S := S) k xa xb xc).trans (by omega)) (by omega) (fun i d => by unfold d_v259; pointwise []; exact hxa i d) ⟨fun e d => (rd_sM13 W.m13 _ _ d).trans (hW.m13.wo e d), fun g q d => (rd_sM13 W.m13 _ _ d).trans (hW.m13.wp g q d)⟩  i d

include hW hS hk hxa hxb in
theorem d36_at (hR : R + 512 ≤ 16384) (i : Fin 256) (d : Fin 1024) : (d_36 W S k xa xb xc : S256x1024.Idx → EReal) (ix2 i d) = Sp.x1' A (R + 512 + i.val) d := by
  rw [d36_eq]
  exact mixB_at (A := A) (R := R + 512) (d6_at hW k xa xb xc hxb) (fun j e => hist8'_at (pay12_at (d5_at hW hS k xa xb xc hR)) j e) (fun j e => hist16'_at (pay10_at (d5_at hW hS k xa xb xc hR)) j e) (fun e => (rd_wM3_0 W.w3 _ 0 e).trans (hW.w3_0 e)) (fun e => (rd_wM3_512 W.w3 _ 0 e).trans (hW.w3_1 e)) (fun e => (rd_wM3_1024 W.w3 _ 0 e).trans (hW.w3_2 e))
    ((off1 (W := W) (S := S) k xa xb xc).trans (by omega)) (by omega) (fun i d => by unfold d_v262; pointwise []; exact hxb i d) ⟨fun e d => (rd_sM13 W.m13 _ _ d).trans (hW.m13.wo e d), fun g q d => (rd_sM13 W.m13 _ _ d).trans (hW.m13.wp g q d)⟩  i d

include hW hS hk hxa hxb hxc in
theorem d49_at (hR : R + 512 ≤ 16384) (i : Fin 256) (d : Fin 1024) : (d_49 W S k xa xb xc : S256x1024.Idx → EReal) (ix2 i d) = Sp.x1' A (R + 768 + i.val) d := by
  rw [d49_eq]
  exact mixB_at (A := A) (R := R + 768) (d7_at hW k xa xb xc hxc) (fun j e => hist8'_at (pay12_at (d6_at hW k xa xb xc hxb)) j e) (fun j e => hist16'_at (pay10_at (d6_at hW k xa xb xc hxb)) j e) (fun e => (rd_wM3_0 W.w3 _ 0 e).trans (hW.w3_0 e)) (fun e => (rd_wM3_512 W.w3 _ 0 e).trans (hW.w3_1 e)) (fun e => (rd_wM3_1024 W.w3 _ 0 e).trans (hW.w3_2 e))
    ((off2 (W := W) (S := S) k xa xb xc).trans (by omega)) (by omega) (fun i d => by unfold d_4 k0_pay5; pointwise []; exact hxc i d) ⟨fun e d => (rd_sM13 W.m13 _ _ d).trans (hW.m13.wo e d), fun g q d => (rd_sM13 W.m13 _ _ d).trans (hW.m13.wp g q d)⟩  i d

theorem d52_eq : d_52 W S k xa xb xc = k0_pay57 (F := Ideal) (d_22 W S k xa xb xc) (View.readAt (Elt Ideal) wM7.view (Rect.unit (s := S1x1024) ![0, 0] S1x1024.size (by decide)).toLoadRect W.w7) := rfl
theorem d56_eq : d_56 W S k xa xb xc = mlp (d_22 W S k xa xb xc) (d_52 W S k xa xb xc) (View.readAt (Elt Ideal) sM14.view (Rect.unit (s := S1024x4096) ![0, 0] S1024x1024.size (by decide)).toLoadRect W.m14) (View.readAt (Elt Ideal) sM15.view (Rect.unit (s := S4096x1024) ![0, 0] S1024x1024.size (by decide)).toLoadRect W.m15) (View.readAt (Elt Ideal) sM14.view (Rect.unit (s := S1024x4096) ![0, 1024] S1024x1024.size (by decide)).toLoadRect W.m14) (View.readAt (Elt Ideal) sM15.view (Rect.unit (s := S4096x1024) ![1024, 0] S1024x1024.size (by decide)).toLoadRect W.m15) (View.readAt (Elt Ideal) sM14.view (Rect.unit (s := S1024x4096) ![0, 2048] S1024x1024.size (by decide)).toLoadRect W.m14) (View.readAt (Elt Ideal) sM15.view (Rect.unit (s := S4096x1024) ![2048, 0] S1024x1024.size (by decide)).toLoadRect W.m15) (View.readAt (Elt Ideal) sM14.view (Rect.unit (s := S1024x4096) ![0, 3072] S1024x1024.size (by decide)).toLoadRect W.m14) (View.readAt (Elt Ideal) sM15.view (Rect.unit (s := S4096x1024) ![3072, 0] S1024x1024.size (by decide)).toLoadRect W.m15) := rfl
theorem d53_eq : d_53 W S k xa xb xc = k0_pay57 (F := Ideal) (d_36 W S k xa xb xc) (View.readAt (Elt Ideal) wM7.view (Rect.unit (s := S1x1024) ![0, 0] S1x1024.size (by decide)).toLoadRect W.w7) := rfl
theorem d60_eq : d_60 W S k xa xb xc = mlp (d_36 W S k xa xb xc) (d_53 W S k xa xb xc) (View.readAt (Elt Ideal) sM14.view (Rect.unit (s := S1024x4096) ![0, 0] S1024x1024.size (by decide)).toLoadRect W.m14) (View.readAt (Elt Ideal) sM15.view (Rect.unit (s := S4096x1024) ![0, 0] S1024x1024.size (by decide)).toLoadRect W.m15) (View.readAt (Elt Ideal) sM14.view (Rect.unit (s := S1024x4096) ![0, 1024] S1024x1024.size (by decide)).toLoadRect W.m14) (View.readAt (Elt Ideal) sM15.view (Rect.unit (s := S4096x1024) ![1024, 0] S1024x1024.size (by decide)).toLoadRect W.m15) (View.readAt (Elt Ideal) sM14.view (Rect.unit (s := S1024x4096) ![0, 2048] S1024x1024.size (by decide)).toLoadRect W.m14) (View.readAt (Elt Ideal) sM15.view (Rect.unit (s := S4096x1024) ![2048, 0] S1024x1024.size (by decide)).toLoadRect W.m15) (View.readAt (Elt Ideal) sM14.view (Rect.unit (s := S1024x4096) ![0, 3072] S1024x1024.size (by decide)).toLoadRect W.m14) (View.readAt (Elt Ideal) sM15.view (Rect.unit (s := S4096x1024) ![3072, 0] S1024x1024.size (by decide)).toLoadRect W.m15) := rfl
theorem d54_eq : d_54 W S k xa xb xc = k0_pay57 (F := Ideal) (d_49 W S k xa xb xc) (View.readAt (Elt Ideal) wM7.view (Rect.unit (s := S1x1024) ![0, 0] S1x1024.size (by decide)).toLoadRect W.w7) := rfl
theorem d63_eq : d_63 W S k xa xb xc = mlp (d_49 W S k xa xb xc) (d_54 W S k xa xb xc) (View.readAt (Elt Ideal) sM14.view (Rect.unit (s := S1024x4096) ![0, 0] S1024x1024.size (by decide)).toLoadRect W.m14) (View.readAt (Elt Ideal) sM15.view (Rect.unit (s := S4096x1024) ![0, 0] S1024x1024.size (by decide)).toLoadRect W.m15) (View.readAt (Elt Ideal) sM14.view (Rect.unit (s := S1024x4096) ![0, 1024] S1024x1024.size (by decide)).toLoadRect W.m14) (View.readAt (Elt Ideal) sM15.view (Rect.unit (s := S4096x1024) ![1024, 0] S1024x1024.size (by decide)).toLoadRect W.m15) (View.readAt (Elt Ideal) sM14.view (Rect.unit (s := S1024x4096) ![0, 2048] S1024x1024.size (by decide)).toLoadRect W.m14) (View.readAt (Elt Ideal) sM15.view (Rect.unit (s := S4096x1024) ![2048, 0] S1024x1024.size (by decide)).toLoadRect W.m15) (View.readAt (Elt Ideal) sM14.view (Rect.unit (s := S1024x4096) ![0, 3072] S1024x1024.size (by decide)).toLoadRect W.m14) (View.readAt (Elt Ideal) sM15.view (Rect.unit (s := S4096x1024) ![3072, 0] S1024x1024.size (by decide)).toLoadRect W.m15) := rfl
include hW hS hk hxa in
theorem d56_at (hR : R + 512 ≤ 16384) (i : Fin 256) (d : Fin 1024) : (d_56 W S k xa xb xc : S256x1024.Idx → EReal) (ix2 i d) = Sp.x2' A (R + 256 + i.val) d := by
  rw [d56_eq]
  have hx := d22_at hW hS k hk xa xb xc hxa hR
  refine mlp_at (A := A) (R := R + 256) (Sp.x1' A) _ _ hx (fun i d => ?_) _ _ _ _ _ _ _ _ (fun d f => (rd_sM14_0 W.m14 _ d f).trans ((hW.m14 d _).trans (congrArg (A.f1 d) (Fin.ext (Nat.zero_add _))))) (fun f d => (rd_sM15_0 W.m15 _ f d).trans ((hW.m15 _ d).trans (congrArg (fun e => A.f2 e d) (Fin.ext (Nat.zero_add _))))) (fun d f => (rd_sM14_1024 W.m14 _ d f).trans (hW.m14 d _)) (fun f d => (rd_sM15_1024 W.m15 _ f d).trans (hW.m15 _ d)) (fun d f => (rd_sM14_2048 W.m14 _ d f).trans (hW.m14 d _)) (fun f d => (rd_sM15_2048 W.m15 _ f d).trans (hW.m15 _ d)) (fun d f => (rd_sM14_3072 W.m14 _ d f).trans (hW.m14 d _)) (fun f d => (rd_sM15_3072 W.m15 _ f d).trans (hW.m15 _ d)) i d
  rw [d52_eq, nrmT_at]
  refine congrFun (congrArg₂ Sp.nrm (funext fun d => hx i d) (funext fun d => (rd_wM7 W.w7 _ 0 d).trans (hW.w7 d))) d

include hW hS hk hxa hxb in
theorem d60_at (hR : R + 512 ≤ 16384) (i : Fin 256) (d : Fin 1024) : (d_60 W S k xa xb xc : S256x1024.Idx → EReal) (ix2 i d) = Sp.x2' A (R + 512 + i.val) d := by
  rw [d60_eq]
  have hx := d36_at hW hS k hk xa xb xc hxa hxb hR
  refine mlp_at (A := A) (R := R + 512) (Sp.x1' A) _ _ hx (fun i d => ?_) _ _ _ _ _ _ _ _ (fun d f => (rd_sM14_0 W.m14 _ d f).trans ((hW.m14 d _).trans (congrArg (A.f1 d) (Fin.ext (Nat.zero_add _))))) (fun f d => (rd_sM15_0 W.m15 _ f d).trans ((hW.m15 _ d).trans (congrArg (fun e => A.f2 e d) (Fin.ext (Nat.zero_add _))))) (fun d f => (rd_sM14_1024 W.m14 _ d f).trans (hW.m14 d _)) (fun f d => (rd_sM15_1024 W.m15 _ f d).trans (hW.m15 _ d)) (fun d f => (rd_sM14_2048 W.m14 _ d f).trans (hW.m14 d _)) (fun f d => (rd_sM15_2048 W.m15 _ f d).trans (hW.m15 _ d)) (fun d f => (rd_sM14_3072 W.m14 _ d f).trans (hW.m14 d _)) (fun f d => (rd_sM15_3072 W.m15 _ f d).trans (hW.m15 _ d)) i d
  rw [d53_eq, nrmT_at]
  refine congrFun (congrArg₂ Sp.nrm (funext fun d => hx i d) (funext fun d => (rd_wM7 W.w7 _ 0 d).trans (hW.w7 d))) d

include hW hS hk hxa hxb hxc in
theorem d63_at (hR : R + 512 ≤ 16384) (i : Fin 256) (d : Fin 1024) : (d_63 W S k xa xb xc : S256x1024.Idx → EReal) (ix2 i d) = Sp.x2' A (R + 768 + i.val) d := by
  rw [d63_eq]
  have hx := d49_at hW hS k hk xa xb xc hxa hxb hxc hR
  refine mlp_at (A := A) (R := R + 768) (Sp.x1' A) _ _ hx (fun i d => ?_) _ _ _ _ _ _ _ _ (fun d f => (rd_sM14_0 W.m14 _ d f).trans ((hW.m14 d _).trans (congrArg (A.f1 d) (Fin.ext (Nat.zero_add _))))) (fun f d => (rd_sM15_0 W.m15 _ f d).trans ((hW.m15 _ d).trans (congrArg (fun e => A.f2 e d) (Fin.ext (Nat.zero_add _))))) (fun d f => (rd_sM14_1024 W.m14 _ d f).trans (hW.m14 d _)) (fun f d => (rd_sM15_1024 W.m15 _ f d).trans (hW.m15 _ d)) (fun d f => (rd_sM14_2048 W.m14 _ d f).trans (hW.m14 d _)) (fun f d => (rd_sM15_2048 W.m15 _ f d).trans (hW.m15 _ d)) (fun d f => (rd_sM14_3072 W.m14 _ d f).trans (hW.m14 d _)) (fun f d => (rd_sM15_3072 W.m15 _ f d).trans (hW.m15 _ d)) i d
  rw [d54_eq, nrmT_at]
  refine congrFun (congrArg₂ Sp.nrm (funext fun d => hx i d) (funext fun d => (rd_wM7 W.w7 _ 0 d).trans (hW.w7 d))) d

/-! ## What a trip writes and carries -/

theorem pay1_at (x : S256x1024.Idx → EReal) (g : S1x1024.Idx → EReal) (i : Fin 256) (d : Fin 1024) :
    (k0_pay1 (F := Ideal) x g : S256x1024.Idx → EReal) (ix2 i d) = Sp.nrm (fun d => x (ix2 i d)) (fun d => g (ix2 0 d)) d := by
  unfold k0_pay1 Sp.nrm
  pointwise []
theorem pay1c_at (x : S256x1024.Idx → EReal) (g : S1x1024.Idx → EReal) (i : Fin 256) (d : Fin 1024) :
    (shapeCast S1x256x1024 (k0_pay1 (F := Ideal) x g) shapeCasts_S256x1024_S1x256x1024 : S1x256x1024.Idx → EReal) (ix3 0 i d) = Sp.nrm (fun d => x (ix2 i d)) (fun d => g (ix2 0 d)) d := by
  unfold k0_pay1 Sp.nrm
  pointwise []
theorem pay68_at (x : S256x1024.Idx → EReal) (g : S1x1024.Idx → EReal) (i : Fin 256) (d : Fin 1024) :
    (k0_pay68 (F := Ideal) x g : S1x256x1024.Idx → EReal) (ix3 0 i d) = Sp.nrm (fun d => x (ix2 i d)) (fun d => g (ix2 0 d)) d := by
  unfold k0_pay68 Sp.nrm
  pointwise []
theorem pay69_at (x : S256x1024.Idx → EReal) (g : S1x1024.Idx → EReal) (i : Fin 256) (d : Fin 1024) :
    (k0_pay69 (F := Ideal) x g : S1x256x1024.Idx → EReal) (ix3 0 i d) = Sp.nrm (fun d => x (ix2 i d)) (fun d => g (ix2 0 d)) d := by
  unfold k0_pay69 Sp.nrm
  pointwise []
theorem pay9_at (x : S1x256x1024.Idx → EReal) (g : S1x1024.Idx → EReal) (i : Fin 256) (d : Fin 1024) :
    (k0_pay9 (F := Ideal) x g : S256x1024.Idx → EReal) (ix2 i d) = Sp.nrm (fun d => x (ix3 0 i d)) (fun d => g (ix2 0 d)) d := by
  unfold k0_pay9 Sp.nrm
  pointwise []

variable (px : S768x1024.Idx → EReal) (hpx : ∀ (j : Fin 768) (d : Fin 1024), px (ix2 j d) = A.x (R + 256 + j.val) d)
  (pf : S256x1024.Idx → EReal) (hpf : R + 768 + 512 ≤ 16384 → ∀ (i : Fin 256) (d : Fin 1024), pf (ix2 i d) = A.x (R + 768 + 256 + i.val) d)

include hpx in
theorem ldx_at (o : ℕ) (ho : o ≤ 512) (i : Fin 256) (d : Fin 1024) : (ldx (F := Ideal) px o ho : S1x256x1024.Idx → EReal) (ix3 0 i d) = A.x (R + 256 + o + i.val) d := by
  refine (hpx ⟨o + i.val, by omega⟩ d).trans ?_
  rw [← Nat.add_assoc]

include hW hS hk hpx hpf in
theorem stepS_ok (hR : R + 512 ≤ 16384) : StOk A (R + 768) (stepS (F := Ideal) W S k px pf) where
  s16 j e := hist8_at (A := A) (R := R + 768) (pay12_at (d7_at hW (S := S) k (ldx (F := Ideal) px 0 (by omega)) (ldx (F := Ideal) px 256 (by omega)) _ (ldx_at px hpx 512 (by omega)))) j e
  s17 j e := hist16_at (A := A) (R := R + 768) (pay10_at (d7_at hW (S := S) k (ldx (F := Ideal) px 0 (by omega)) (ldx (F := Ideal) px 256 (by omega)) _ (ldx_at px hpx 512 (by omega)))) j e
  s20 i d := by
    refine Eq.trans ?_ (d63_at hW hS k hk _ _ _ (ldx_at px hpx 0 (by omega)) (ldx_at px hpx 256 (by omega)) (ldx_at px hpx 512 (by omega)) hR i d)
    unfold stepS k0_pay70
    dsimp only
    pointwise []
  s21 h i d := by
    refine (pay9_at _ _ i d).trans ?_
    exact congrFun (congrArg₂ Sp.nrm (funext fun d => hpf h i d) (funext fun d => (rd_wM1 W.w1 _ 0 d).trans (hW.w1 d))) d

include hW hS hk hpx in
theorem outB_at (hR : R + 512 ≤ 16384) (j : Fin 768) (d : Fin 1024) : (outB (F := Ideal) W S k px : S768x1024.Idx → EReal) (ix2 j d) = Sp.res' A (R + j.val) d := by
  have hg : ∀ (h) (d : Fin 1024), (View.readAt (Elt Ideal) wM10.view (Rect.unit (s := S1x1024) ![0, 0] S1x1024.size h).toLoadRect W.w10 : S1x1024.Idx → EReal) (ix2 0 d) = A.g3 d :=
    fun h d => (rd_wM10 W.w10 _ 0 d).trans (hW.w10 d)
  have ha := ldx_at px hpx 0 (by omega)
  have hb := ldx_at px hpx 256 (by omega)
  have hc := ldx_at px hpx 512 (by omega)
  unfold outB stack3 Sp.res'
  by_cases h1 : j.val < 256
  · rw [dif_pos (show ((ix2 j d : S768x1024.Idx) 0).val < 256 from h1)]
    refine (pay1c_at _ _ ⟨j.val, h1⟩ d).trans ?_
    exact congrFun (congrArg₂ Sp.nrm (funext fun d => (rd_sM20 S.s20 _ _ d).trans (hS.s20 ⟨j.val, h1⟩ d)) (funext fun d => hg _ d)) d
  rw [dif_neg (show ¬ ((ix2 j d : S768x1024.Idx) 0).val < 256 from h1)]
  by_cases h2 : j.val < 512
  · rw [dif_pos (show ((ix2 j d : S768x1024.Idx) 0).val < 512 from h2)]
    refine (pay68_at _ _ ⟨j.val - 256, by omega⟩ d).trans ?_
    refine congrFun (congrArg₂ Sp.nrm (funext fun d => (d56_at hW hS k hk _ _ _ ha hR ⟨j.val - 256, by omega⟩ d).trans ?_) (funext fun d => hg _ d)) d
    congr 1; show R + 256 + (j.val - 256) = _; omega
  · rw [dif_neg (show ¬ ((ix2 j d : S768x1024.Idx) 0).val < 512 from h2)]
    refine (pay69_at _ _ ⟨j.val - 512, by omega⟩ d).trans ?_
    refine congrFun (congrArg₂ Sp.nrm (funext fun d => (d60_at hW hS k hk _ _ _ ha hb hR ⟨j.val - 512, by omega⟩ d).trans ?_) (funext fun d => hg _ d)) d
    congr 1; show R + 512 + (j.val - 512) = _; omega

end Cert.KernelIdeal.Hand

end
-- ==== Proof.KPro.lean ====
module

public import proofs.«01_k».proof.Proof.KStep
public import proofs.«01_k».proof.Proof.Pro
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The weights as the prologue leaves them, entry by entry -/

theorem piece2 {n m a b : ℕ} (G : Shape.Idx ⟨2, ![n, m]⟩ → EReal) (o p : ℕ) (h) (w : Shape.Idx ⟨2, ![a, b]⟩ → EReal)
    (ho : o + a ≤ n) (hp : p + b ≤ m)
    (hw : ∀ (i : Fin a) (j : Fin b), w (ix2 i j) = G (ix2 ⟨o + i.val, by omega⟩ ⟨p + j.val, by omega⟩))
    (x : Shape.Idx ⟨2, ![a, b]⟩) : w x = G ((Rect.unit (s := ⟨2, ![n, m]⟩) ![o, p] ![a, b] h).emb x) := by
  have hx : x = ix2 (x 0) (x 1) := by funext t; fin_cases t <;> rfl
  refine (congrArg w hx).trans ((hw (x 0) (x 1)).trans (congrArg G ?_))
  funext t; apply Fin.ext; fin_cases t
  · show o + (x 0).val = o + 1 * (x 0).val; omega
  · show p + (x 1).val = p + 1 * (x 1).val; omega

theorem blk_at {n m : ℕ} {β : Type} (v : Shape.Idx ⟨2, ![n, m]⟩ → β) (r q : ℕ) (hr hq) (z : Fin 1) (i : Fin 256) (j : Fin 1024) :
    blk v r q hr hq (ix3 z i j) = v (ix2 ⟨r + i.val, by omega⟩ ⟨q + j.val, by omega⟩) := rfl

/-- The column of the input projection that the kernel keeps at column `e`. -/
def perm (e : ℕ) : ℕ := if e < 512 then 1536 + e else if e < 1024 then 512 + e else e - 1024
theorem perm_lt {e : ℕ} (h : e < 2048) : perm e < 2048 := by unfold perm; split_ifs <;> omega
def G12 (h2 : S1024x2048.Idx → EReal) (y : S1024x2048.Idx) : EReal := h2 (ix2 (y 0) ⟨perm (y 1).val, perm_lt (y 1).isLt⟩)

theorem p12_lo (h2 : S1024x2048.Idx → EReal) (o p q s : ℕ) (ho : o + 256 ≤ 1024) (hp : p + 512 ≤ 2048) (hq : q + 1024 ≤ 2048) (hs : s + 512 ≤ 1024)
    (hpm : ∀ j : ℕ, j < 512 → q + (s + j) = perm (p + j)) (i : Fin 256) (j : Fin 512) :
    blk (n := 1024) (m := 2048) h2 o q (by omega) hq (ix3 0 i ⟨s + j.val, by omega⟩) = G12 h2 (ix2 ⟨o + i.val, by omega⟩ ⟨p + j.val, by omega⟩) :=
  congrArg h2 (congrArg (ix2 _) (Fin.ext (hpm j.val j.isLt)))

theorem pay76_at (x : S1x256x1024.Idx → EReal) (i : Fin 256) (j : Fin 512) : (k0_pay76 (F := Ideal) x : S256x512.Idx → EReal) (ix2 i j) = x (ix3 0 i ⟨0 + j.val, by omega⟩) := by
  unfold k0_pay76 k0_pay75; pointwise []
theorem pay77_at (x : S1x256x1024.Idx → EReal) (i : Fin 256) (j : Fin 512) : (k0_pay77 (F := Ideal) x : S256x512.Idx → EReal) (ix2 i j) = x (ix3 0 i ⟨512 + j.val, by omega⟩) := by
  unfold k0_pay77 k0_pay75; pointwise []
theorem pay79_at (x : S1x256x1024.Idx → EReal) (i : Fin 256) (j : Fin 512) : (k0_pay79 (F := Ideal) x : S256x512.Idx → EReal) (ix2 i j) = x (ix3 0 i ⟨0 + j.val, by omega⟩) := by
  unfold k0_pay79 k0_pay78; pointwise []
theorem pay80_at (x : S1x256x1024.Idx → EReal) (i : Fin 256) (j : Fin 512) : (k0_pay80 (F := Ideal) x : S256x512.Idx → EReal) (ix2 i j) = x (ix3 0 i ⟨512 + j.val, by omega⟩) := by
  unfold k0_pay80 k0_pay78; pointwise []
theorem pay82_at (x : S1x256x1024.Idx → EReal) (i : Fin 256) (j : Fin 512) : (k0_pay82 (F := Ideal) x : S256x512.Idx → EReal) (ix2 i j) = x (ix3 0 i ⟨0 + j.val, by omega⟩) := by
  unfold k0_pay82 k0_pay81; pointwise []
theorem pay83_at (x : S1x256x1024.Idx → EReal) (i : Fin 256) (j : Fin 512) : (k0_pay83 (F := Ideal) x : S256x512.Idx → EReal) (ix2 i j) = x (ix3 0 i ⟨512 + j.val, by omega⟩) := by
  unfold k0_pay83 k0_pay81; pointwise []
theorem pay86_at (x : S1x256x1024.Idx → EReal) (i : Fin 256) (j : Fin 512) : (k0_pay86 (F := Ideal) x : S256x512.Idx → EReal) (ix2 i j) = x (ix3 0 i ⟨0 + j.val, by omega⟩) := by
  unfold k0_pay86 k0_pay85; pointwise []
theorem pay87_at (x : S1x256x1024.Idx → EReal) (i : Fin 256) (j : Fin 512) : (k0_pay87 (F := Ideal) x : S256x512.Idx → EReal) (ix2 i j) = x (ix3 0 i ⟨512 + j.val, by omega⟩) := by
  unfold k0_pay87 k0_pay85; pointwise []
theorem pay89_at (x : S1x256x1024.Idx → EReal) (i : Fin 256) (j : Fin 512) : (k0_pay89 (F := Ideal) x : S256x512.Idx → EReal) (ix2 i j) = x (ix3 0 i ⟨0 + j.val, by omega⟩) := by
  unfold k0_pay89 k0_pay88; pointwise []
theorem pay90_at (x : S1x256x1024.Idx → EReal) (i : Fin 256) (j : Fin 512) : (k0_pay90 (F := Ideal) x : S256x512.Idx → EReal) (ix2 i j) = x (ix3 0 i ⟨512 + j.val, by omega⟩) := by
  unfold k0_pay90 k0_pay88; pointwise []
theorem pay92_at (x : S1x256x1024.Idx → EReal) (i : Fin 256) (j : Fin 512) : (k0_pay92 (F := Ideal) x : S256x512.Idx → EReal) (ix2 i j) = x (ix3 0 i ⟨0 + j.val, by omega⟩) := by
  unfold k0_pay92 k0_pay91; pointwise []
theorem pay93_at (x : S1x256x1024.Idx → EReal) (i : Fin 256) (j : Fin 512) : (k0_pay93 (F := Ideal) x : S256x512.Idx → EReal) (ix2 i j) = x (ix3 0 i ⟨512 + j.val, by omega⟩) := by
  unfold k0_pay93 k0_pay91; pointwise []
theorem pay95_at (x : S1x256x1024.Idx → EReal) (i : Fin 256) (j : Fin 512) : (k0_pay95 (F := Ideal) x : S256x512.Idx → EReal) (ix2 i j) = x (ix3 0 i ⟨0 + j.val, by omega⟩) := by
  unfold k0_pay95 k0_pay94; pointwise []
theorem pay96_at (x : S1x256x1024.Idx → EReal) (i : Fin 256) (j : Fin 512) : (k0_pay96 (F := Ideal) x : S256x512.Idx → EReal) (ix2 i j) = x (ix3 0 i ⟨512 + j.val, by omega⟩) := by
  unfold k0_pay96 k0_pay94; pointwise []
theorem pay98_at (x : S1x256x1024.Idx → EReal) (i : Fin 256) (j : Fin 512) : (k0_pay98 (F := Ideal) x : S256x512.Idx → EReal) (ix2 i j) = x (ix3 0 i ⟨0 + j.val, by omega⟩) := by
  unfold k0_pay98 k0_pay97; pointwise []
theorem pay99_at (x : S1x256x1024.Idx → EReal) (i : Fin 256) (j : Fin 512) : (k0_pay99 (F := Ideal) x : S256x512.Idx → EReal) (ix2 i j) = x (ix3 0 i ⟨512 + j.val, by omega⟩) := by
  unfold k0_pay99 k0_pay97; pointwise []
theorem pay84_at (x : S256x512.Idx → EReal) (i : Fin 256) (j : Fin 512) : (k0_pay84 (F := Ideal) x : S256x512.Idx → EReal) (ix2 i j) = x (ix2 i j) := by
  unfold k0_pay84; pointwise []
variable {c : Dev nD}

theorem m12_pieces (I : In (F := Ideal) c) : View.PiecesOf (Val := Elt Ideal) (s := S1024x2048) (e := .bf16) (G12 I.h2) (p_HsM12_16 I) := by
  unfold p_HsM12_16
  refine ⟨?_, ?_, ?_, ?_, ?_, ?_, ?_, ?_, ?_, ?_, ?_, ?_, ?_, ?_, ?_, ?_, trivial⟩
  · exact piece2 (G12 I.h2) 768 0 inb_S1024x2048_S256x512_768_0 (k0_pay99 (blk (n := 1024) (m := 2048) I.h2 768 1024 (by decide) (by decide))) (by omega) (by omega) (fun i j => (pay99_at _ i j).trans (p12_lo I.h2 768 0 1024 512 (by omega) (by omega) (by omega) (by omega) (by intro j hj; unfold perm; split_ifs <;> omega) i j))
  · exact piece2 (G12 I.h2) 768 512 inb_S1024x2048_S256x512_768_512 (k0_pay98 (blk (n := 1024) (m := 2048) I.h2 768 1024 (by decide) (by decide))) (by omega) (by omega) (fun i j => (pay98_at _ i j).trans (p12_lo I.h2 768 512 1024 0 (by omega) (by omega) (by omega) (by omega) (by intro j hj; unfold perm; split_ifs <;> omega) i j))
  · exact piece2 (G12 I.h2) 512 0 inb_S1024x2048_S256x512_512_0 (p_r_3 I) (by omega) (by omega) (fun i j => (pay96_at _ i j).trans (p12_lo I.h2 512 0 1024 512 (by omega) (by omega) (by omega) (by omega) (by intro j hj; unfold perm; split_ifs <;> omega) i j))
  · exact piece2 (G12 I.h2) 512 512 inb_S1024x2048_S256x512_512_512 (k0_pay95 (blk (n := 1024) (m := 2048) I.h2 512 1024 (by decide) (by decide))) (by omega) (by omega) (fun i j => (pay95_at _ i j).trans (p12_lo I.h2 512 512 1024 0 (by omega) (by omega) (by omega) (by omega) (by intro j hj; unfold perm; split_ifs <;> omega) i j))
  · exact piece2 (G12 I.h2) 256 0 inb_S1024x2048_S256x512_256_0 (k0_pay93 (blk (n := 1024) (m := 2048) I.h2 256 1024 (by decide) (by decide))) (by omega) (by omega) (fun i j => (pay93_at _ i j).trans (p12_lo I.h2 256 0 1024 512 (by omega) (by omega) (by omega) (by omega) (by intro j hj; unfold perm; split_ifs <;> omega) i j))
  · exact piece2 (G12 I.h2) 256 512 inb_S1024x2048_S256x512_256_512 (k0_pay92 (blk (n := 1024) (m := 2048) I.h2 256 1024 (by decide) (by decide))) (by omega) (by omega) (fun i j => (pay92_at _ i j).trans (p12_lo I.h2 256 512 1024 0 (by omega) (by omega) (by omega) (by omega) (by intro j hj; unfold perm; split_ifs <;> omega) i j))
  · exact piece2 (G12 I.h2) 0 0 inb_S1024x2048_S256x512_0_0 (k0_pay90 (blk (n := 1024) (m := 2048) I.h2 0 1024 (by decide) (by decide))) (by omega) (by omega) (fun i j => (pay90_at _ i j).trans (p12_lo I.h2 0 0 1024 512 (by omega) (by omega) (by omega) (by omega) (by intro j hj; unfold perm; split_ifs <;> omega) i j))
  · exact piece2 (G12 I.h2) 0 512 inb_S1024x2048_S256x512_0_512 (k0_pay89 (blk (n := 1024) (m := 2048) I.h2 0 1024 (by decide) (by decide))) (by omega) (by omega) (fun i j => (pay89_at _ i j).trans (p12_lo I.h2 0 512 1024 0 (by omega) (by omega) (by omega) (by omega) (by intro j hj; unfold perm; split_ifs <;> omega) i j))
  · exact piece2 (G12 I.h2) 768 1536 inb_S1024x2048_S256x512_768_1536 (k0_pay87 (blk (n := 1024) (m := 2048) I.h2 768 0 (by decide) (by decide))) (by omega) (by omega) (fun i j => (pay87_at _ i j).trans (p12_lo I.h2 768 1536 0 512 (by omega) (by omega) (by omega) (by omega) (by intro j hj; unfold perm; split_ifs <;> omega) i j))
  · exact piece2 (G12 I.h2) 768 1024 inb_S1024x2048_S256x512_768_1024 (k0_pay86 (blk (n := 1024) (m := 2048) I.h2 768 0 (by decide) (by decide))) (by omega) (by omega) (fun i j => (pay86_at _ i j).trans (p12_lo I.h2 768 1024 0 0 (by omega) (by omega) (by omega) (by omega) (by intro j hj; unfold perm; split_ifs <;> omega) i j))
  · exact piece2 (G12 I.h2) 512 1536 inb_S1024x2048_S256x512_512_1536 (k0_pay84 (p_r_2 I)) (by omega) (by omega) (fun i j => (pay84_at _ i j).trans ((pay83_at _ i j).trans (p12_lo I.h2 512 1536 0 512 (by omega) (by omega) (by omega) (by omega) (by intro j hj; unfold perm; split_ifs <;> omega) i j)))
  · exact piece2 (G12 I.h2) 512 1024 inb_S1024x2048_S256x512_512_1024 (k0_pay82 (blk (n := 1024) (m := 2048) I.h2 512 0 (by decide) (by decide))) (by omega) (by omega) (fun i j => (pay82_at _ i j).trans (p12_lo I.h2 512 1024 0 0 (by omega) (by omega) (by omega) (by omega) (by intro j hj; unfold perm; split_ifs <;> omega) i j))
  · exact piece2 (G12 I.h2) 256 1536 inb_S1024x2048_S256x512_256_1536 (k0_pay80 (blk (n := 1024) (m := 2048) I.h2 256 0 (by decide) (by decide))) (by omega) (by omega) (fun i j => (pay80_at _ i j).trans (p12_lo I.h2 256 1536 0 512 (by omega) (by omega) (by omega) (by omega) (by intro j hj; unfold perm; split_ifs <;> omega) i j))
  · exact piece2 (G12 I.h2) 256 1024 inb_S1024x2048_S256x512_256_1024 (k0_pay79 (blk (n := 1024) (m := 2048) I.h2 256 0 (by decide) (by decide))) (by omega) (by omega) (fun i j => (pay79_at _ i j).trans (p12_lo I.h2 256 1024 0 0 (by omega) (by omega) (by omega) (by omega) (by intro j hj; unfold perm; split_ifs <;> omega) i j))
  · exact piece2 (G12 I.h2) 0 1536 inb_S1024x2048_S256x512_0_1536 (k0_pay77 (blk (n := 1024) (m := 2048) I.h2 0 0 (by decide) (by decide))) (by omega) (by omega) (fun i j => (pay77_at _ i j).trans (p12_lo I.h2 0 1536 0 512 (by omega) (by omega) (by omega) (by omega) (by intro j hj; unfold perm; split_ifs <;> omega) i j))
  · exact piece2 (G12 I.h2) 0 1024 inb_S1024x2048_S256x512_0_1024 (k0_pay76 (blk (n := 1024) (m := 2048) I.h2 0 0 (by decide) (by decide))) (by omega) (by omega) (fun i j => (pay76_at _ i j).trans (p12_lo I.h2 0 1024 0 0 (by omega) (by omega) (by omega) (by omega) (by intro j hj; unfold perm; split_ifs <;> omega) i j))

theorem pay125_at (x : S1x256x1024.Idx → EReal) (i : Fin 256) (j : Fin 1024) : (k0_pay125 (F := Ideal) x : S256x1024.Idx → EReal) (ix2 i j) = x (ix3 0 i j) := by
  unfold k0_pay125; pointwise []
theorem pay126_at (x : S1x256x1024.Idx → EReal) (i : Fin 256) (j : Fin 1024) : (k0_pay126 (F := Ideal) x : S256x1024.Idx → EReal) (ix2 i j) = x (ix3 0 i j) := by
  unfold k0_pay126; pointwise []
theorem pay127_at (x : S1x256x1024.Idx → EReal) (i : Fin 256) (j : Fin 1024) : (k0_pay127 (F := Ideal) x : S256x1024.Idx → EReal) (ix2 i j) = x (ix3 0 i j) := by
  unfold k0_pay127; pointwise []
theorem pay128_at (x : S1x256x1024.Idx → EReal) (i : Fin 256) (j : Fin 1024) : (k0_pay128 (F := Ideal) x : S256x1024.Idx → EReal) (ix2 i j) = x (ix3 0 i j) := by
  unfold k0_pay128; pointwise []
theorem pay129_at (x : S256x1024.Idx → EReal) (i : Fin 256) (j : Fin 1024) : (k0_pay129 (F := Ideal) x : S256x1024.Idx → EReal) (ix2 i j) = x (ix2 i j) := by
  unfold k0_pay129; pointwise []
theorem pay131_at (x : S1x256x1024.Idx → EReal) (i : Fin 256) (j : Fin 1024) : (k0_pay131 (F := Ideal) x : S256x1024.Idx → EReal) (ix2 i j) = x (ix3 0 i j) := by
  unfold k0_pay131; pointwise []
theorem pay132_at (x : S1x256x1024.Idx → EReal) (i : Fin 256) (j : Fin 1024) : (k0_pay132 (F := Ideal) x : S256x1024.Idx → EReal) (ix2 i j) = x (ix3 0 i j) := by
  unfold k0_pay132; pointwise []
theorem pay133_at (x : S1x256x1024.Idx → EReal) (i : Fin 256) (j : Fin 1024) : (k0_pay133 (F := Ideal) x : S256x1024.Idx → EReal) (ix2 i j) = x (ix3 0 i j) := by
  unfold k0_pay133; pointwise []
theorem pay134_at (x : S256x1024.Idx → EReal) (i : Fin 256) (j : Fin 1024) : (k0_pay134 (F := Ideal) x : S256x1024.Idx → EReal) (ix2 i j) = x (ix2 i j) := by
  unfold k0_pay134; pointwise []
theorem pay135_at (x : S1x256x1024.Idx → EReal) (i : Fin 256) (j : Fin 1024) : (k0_pay135 (F := Ideal) x : S256x1024.Idx → EReal) (ix2 i j) = x (ix3 0 i j) := by
  unfold k0_pay135; pointwise []
theorem pay137_at (x : S1x256x1024.Idx → EReal) (i : Fin 256) (j : Fin 1024) : (k0_pay137 (F := Ideal) x : S256x1024.Idx → EReal) (ix2 i j) = x (ix3 0 i j) := by
  unfold k0_pay137; pointwise []
theorem pay138_at (x : S1x256x1024.Idx → EReal) (i : Fin 256) (j : Fin 1024) : (k0_pay138 (F := Ideal) x : S256x1024.Idx → EReal) (ix2 i j) = x (ix3 0 i j) := by
  unfold k0_pay138; pointwise []
theorem pay139_at (x : S1x256x1024.Idx → EReal) (i : Fin 256) (j : Fin 1024) : (k0_pay139 (F := Ideal) x : S256x1024.Idx → EReal) (ix2 i j) = x (ix3 0 i j) := by
  unfold k0_pay139; pointwise []
theorem pay140_at (x : S1x256x1024.Idx → EReal) (i : Fin 256) (j : Fin 1024) : (k0_pay140 (F := Ideal) x : S256x1024.Idx → EReal) (ix2 i j) = x (ix3 0 i j) := by
  unfold k0_pay140; pointwise []
theorem pay142_at (x : S1x256x1024.Idx → EReal) (i : Fin 256) (j : Fin 1024) : (k0_pay142 (F := Ideal) x : S256x1024.Idx → EReal) (ix2 i j) = x (ix3 0 i j) := by
  unfold k0_pay142; pointwise []
theorem pay143_at (x : S1x256x1024.Idx → EReal) (i : Fin 256) (j : Fin 1024) : (k0_pay143 (F := Ideal) x : S256x1024.Idx → EReal) (ix2 i j) = x (ix3 0 i j) := by
  unfold k0_pay143; pointwise []
theorem pay144_at (x : S1x256x1024.Idx → EReal) (i : Fin 256) (j : Fin 1024) : (k0_pay144 (F := Ideal) x : S256x1024.Idx → EReal) (ix2 i j) = x (ix3 0 i j) := by
  unfold k0_pay144; pointwise []
theorem pay145_at (x : S1x256x1024.Idx → EReal) (i : Fin 256) (j : Fin 1024) : (k0_pay145 (F := Ideal) x : S256x1024.Idx → EReal) (ix2 i j) = x (ix3 0 i j) := by
  unfold k0_pay145; pointwise []
theorem pay147_at (x : S1x256x1024.Idx → EReal) (i : Fin 256) (j : Fin 1024) : (k0_pay147 (F := Ideal) x : S256x1024.Idx → EReal) (ix2 i j) = x (ix3 0 i j) := by
  unfold k0_pay147; pointwise []
theorem pay148_at (x : S1x256x1024.Idx → EReal) (i : Fin 256) (j : Fin 1024) : (k0_pay148 (F := Ideal) x : S256x1024.Idx → EReal) (ix2 i j) = x (ix3 0 i j) := by
  unfold k0_pay148; pointwise []
theorem pay149_at (x : S1x256x1024.Idx → EReal) (i : Fin 256) (j : Fin 1024) : (k0_pay149 (F := Ideal) x : S256x1024.Idx → EReal) (ix2 i j) = x (ix3 0 i j) := by
  unfold k0_pay149; pointwise []
theorem pay150_at (x : S1x256x1024.Idx → EReal) (i : Fin 256) (j : Fin 1024) : (k0_pay150 (F := Ideal) x : S256x1024.Idx → EReal) (ix2 i j) = x (ix3 0 i j) := by
  unfold k0_pay150; pointwise []
theorem pay152_at (x : S1x256x1024.Idx → EReal) (i : Fin 256) (j : Fin 1024) : (k0_pay152 (F := Ideal) x : S256x1024.Idx → EReal) (ix2 i j) = x (ix3 0 i j) := by
  unfold k0_pay152; pointwise []
theorem pay153_at (x : S1x256x1024.Idx → EReal) (i : Fin 256) (j : Fin 1024) : (k0_pay153 (F := Ideal) x : S256x1024.Idx → EReal) (ix2 i j) = x (ix3 0 i j) := by
  unfold k0_pay153; pointwise []
theorem pay154_at (x : S1x256x1024.Idx → EReal) (i : Fin 256) (j : Fin 1024) : (k0_pay154 (F := Ideal) x : S256x1024.Idx → EReal) (ix2 i j) = x (ix3 0 i j) := by
  unfold k0_pay154; pointwise []
theorem pay155_at (x : S1x256x1024.Idx → EReal) (i : Fin 256) (j : Fin 1024) : (k0_pay155 (F := Ideal) x : S256x1024.Idx → EReal) (ix2 i j) = x (ix3 0 i j) := by
  unfold k0_pay155; pointwise []
theorem pay157_at (x : S1x256x1024.Idx → EReal) (i : Fin 256) (j : Fin 1024) : (k0_pay157 (F := Ideal) x : S256x1024.Idx → EReal) (ix2 i j) = x (ix3 0 i j) := by
  unfold k0_pay157; pointwise []
theorem pay158_at (x : S1x256x1024.Idx → EReal) (i : Fin 256) (j : Fin 1024) : (k0_pay158 (F := Ideal) x : S256x1024.Idx → EReal) (ix2 i j) = x (ix3 0 i j) := by
  unfold k0_pay158; pointwise []
theorem pay159_at (x : S1x256x1024.Idx → EReal) (i : Fin 256) (j : Fin 1024) : (k0_pay159 (F := Ideal) x : S256x1024.Idx → EReal) (ix2 i j) = x (ix3 0 i j) := by
  unfold k0_pay159; pointwise []
theorem pay160_at (x : S1x256x1024.Idx → EReal) (i : Fin 256) (j : Fin 1024) : (k0_pay160 (F := Ideal) x : S256x1024.Idx → EReal) (ix2 i j) = x (ix3 0 i j) := by
  unfold k0_pay160; pointwise []
theorem pay161_at (x : S256x1024.Idx → EReal) (i : Fin 256) (j : Fin 1024) : (k0_pay161 (F := Ideal) x : S256x1024.Idx → EReal) (ix2 i j) = x (ix2 i j) := by
  unfold k0_pay161; pointwise []
theorem pay163_at (x : S1x256x1024.Idx → EReal) (i : Fin 256) (j : Fin 1024) : (k0_pay163 (F := Ideal) x : S256x1024.Idx → EReal) (ix2 i j) = x (ix3 0 i j) := by
  unfold k0_pay163; pointwise []
theorem pay164_at (x : S1x256x1024.Idx → EReal) (i : Fin 256) (j : Fin 1024) : (k0_pay164 (F := Ideal) x : S256x1024.Idx → EReal) (ix2 i j) = x (ix3 0 i j) := by
  unfold k0_pay164; pointwise []
theorem pay165_at (x : S256x1024.Idx → EReal) (i : Fin 256) (j : Fin 1024) : (k0_pay165 (F := Ideal) x : S256x1024.Idx → EReal) (ix2 i j) = x (ix2 i j) := by
  unfold k0_pay165; pointwise []
theorem pay166_at (x : S1x256x1024.Idx → EReal) (i : Fin 256) (j : Fin 1024) : (k0_pay166 (F := Ideal) x : S256x1024.Idx → EReal) (ix2 i j) = x (ix3 0 i j) := by
  unfold k0_pay166; pointwise []
theorem pay167_at (x : S1x256x1024.Idx → EReal) (i : Fin 256) (j : Fin 1024) : (k0_pay167 (F := Ideal) x : S256x1024.Idx → EReal) (ix2 i j) = x (ix3 0 i j) := by
  unfold k0_pay167; pointwise []
theorem p_HsM14_4_of (I : In (F := Ideal) c) : View.PiecesOf (Val := Elt Ideal) (s := S1024x4096) (e := .bf16) I.h8 (p_HsM14_4 I) := by
  unfold p_HsM14_4
  refine ⟨?_, ?_, ?_, ?_, trivial⟩
  · exact piece2 (I.h8) 768 0 inb_S1024x4096_S256x1024_768_0 (k0_pay129 (p_r_22 I)) (by omega) (by omega) (fun i j => ((pay129_at _ i j).trans (pay128_at _ i j)).trans rfl)
  · exact piece2 (I.h8) 512 0 inb_S1024x4096_S256x1024_512_0 (k0_pay127 (blk (n := 1024) (m := 4096) I.h8 512 0 (by decide) (by decide))) (by omega) (by omega) (fun i j => (pay127_at _ i j).trans rfl)
  · exact piece2 (I.h8) 256 0 inb_S1024x4096_S256x1024_256_0 (k0_pay126 (blk (n := 1024) (m := 4096) I.h8 256 0 (by decide) (by decide))) (by omega) (by omega) (fun i j => (pay126_at _ i j).trans rfl)
  · exact piece2 (I.h8) 0 0 inb_S1024x4096_S256x1024_0_0 (k0_pay125 (blk (n := 1024) (m := 4096) I.h8 0 0 (by decide) (by decide))) (by omega) (by omega) (fun i j => (pay125_at _ i j).trans rfl)
theorem p_HsM14_8_of (I : In (F := Ideal) c) : View.PiecesOf (Val := Elt Ideal) (s := S1024x4096) (e := .bf16) I.h8 (p_HsM14_8 I) := by
  unfold p_HsM14_8
  refine ⟨?_, ?_, ?_, ?_, p_HsM14_4_of I⟩
  · exact piece2 (I.h8) 768 1024 inb_S1024x4096_S256x1024_768_1024 (k0_pay140 (p_v764_r0 I)) (by omega) (by omega) (fun i j => (pay140_at _ i j).trans rfl)
  · exact piece2 (I.h8) 512 1024 inb_S1024x4096_S256x1024_512_1024 (k0_pay139 (p_v748_r0 I)) (by omega) (by omega) (fun i j => (pay139_at _ i j).trans rfl)
  · exact piece2 (I.h8) 256 1024 inb_S1024x4096_S256x1024_256_1024 (k0_pay138 (p_v732_r0 I)) (by omega) (by omega) (fun i j => (pay138_at _ i j).trans rfl)
  · exact piece2 (I.h8) 0 1024 inb_S1024x4096_S256x1024_0_1024 (k0_pay137 (p_v716_r0 I)) (by omega) (by omega) (fun i j => (pay137_at _ i j).trans rfl)
theorem p_HsM14_12_of (I : In (F := Ideal) c) : View.PiecesOf (Val := Elt Ideal) (s := S1024x4096) (e := .bf16) I.h8 (p_HsM14_12 I) := by
  unfold p_HsM14_12
  refine ⟨?_, ?_, ?_, ?_, p_HsM14_8_of I⟩
  · exact piece2 (I.h8) 768 2048 inb_S1024x4096_S256x1024_768_2048 (k0_pay150 (p_v886_r0 I)) (by omega) (by omega) (fun i j => (pay150_at _ i j).trans rfl)
  · exact piece2 (I.h8) 512 2048 inb_S1024x4096_S256x1024_512_2048 (k0_pay149 (p_v875_r0 I)) (by omega) (by omega) (fun i j => (pay149_at _ i j).trans rfl)
  · exact piece2 (I.h8) 256 2048 inb_S1024x4096_S256x1024_256_2048 (k0_pay148 (p_v864_r0 I)) (by omega) (by omega) (fun i j => (pay148_at _ i j).trans rfl)
  · exact piece2 (I.h8) 0 2048 inb_S1024x4096_S256x1024_0_2048 (k0_pay147 (p_v853_r0 I)) (by omega) (by omega) (fun i j => (pay147_at _ i j).trans rfl)
theorem p_HsM14_16_of (I : In (F := Ideal) c) : View.PiecesOf (Val := Elt Ideal) (s := S1024x4096) (e := .bf16) I.h8 (p_HsM14_16 I) := by
  unfold p_HsM14_16
  refine ⟨?_, ?_, ?_, ?_, p_HsM14_12_of I⟩
  · exact piece2 (I.h8) 768 3072 inb_S1024x4096_S256x1024_768_3072 (k0_pay161 (p_r_30 I)) (by omega) (by omega) (fun i j => ((pay161_at _ i j).trans (pay160_at _ i j)).trans rfl)
  · exact piece2 (I.h8) 512 3072 inb_S1024x4096_S256x1024_512_3072 (k0_pay159 (p_v972_r0 I)) (by omega) (by omega) (fun i j => (pay159_at _ i j).trans rfl)
  · exact piece2 (I.h8) 256 3072 inb_S1024x4096_S256x1024_256_3072 (k0_pay158 (p_v961_r0 I)) (by omega) (by omega) (fun i j => (pay158_at _ i j).trans rfl)
  · exact piece2 (I.h8) 0 3072 inb_S1024x4096_S256x1024_0_3072 (k0_pay157 (p_v950_r0 I)) (by omega) (by omega) (fun i j => (pay157_at _ i j).trans rfl)
theorem p_HsM15_4_of (I : In (F := Ideal) c) : View.PiecesOf (Val := Elt Ideal) (s := S4096x1024) (e := .bf16) I.h9 (p_HsM15_4 I) := by
  unfold p_HsM15_4
  refine ⟨?_, ?_, ?_, ?_, trivial⟩
  · exact piece2 (I.h9) 768 0 inb_S4096x1024_S256x1024_768_0 (k0_pay135 (p_v697_r0 I)) (by omega) (by omega) (fun i j => (pay135_at _ i j).trans rfl)
  · exact piece2 (I.h9) 512 0 inb_S4096x1024_S256x1024_512_0 (k0_pay134 (p_r_24 I)) (by omega) (by omega) (fun i j => ((pay134_at _ i j).trans (pay133_at _ i j)).trans rfl)
  · exact piece2 (I.h9) 256 0 inb_S4096x1024_S256x1024_256_0 (k0_pay132 (p_v665_r0 I)) (by omega) (by omega) (fun i j => (pay132_at _ i j).trans rfl)
  · exact piece2 (I.h9) 0 0 inb_S4096x1024_S256x1024_0_0 (k0_pay131 (p_v649_r0 I)) (by omega) (by omega) (fun i j => (pay131_at _ i j).trans rfl)
theorem p_HsM15_8_of (I : In (F := Ideal) c) : View.PiecesOf (Val := Elt Ideal) (s := S4096x1024) (e := .bf16) I.h9 (p_HsM15_8 I) := by
  unfold p_HsM15_8
  refine ⟨?_, ?_, ?_, ?_, p_HsM15_4_of I⟩
  · exact piece2 (I.h9) 1792 0 inb_S4096x1024_S256x1024_1792_0 (k0_pay145 (p_v834_r0 I)) (by omega) (by omega) (fun i j => (pay145_at _ i j).trans rfl)
  · exact piece2 (I.h9) 1536 0 inb_S4096x1024_S256x1024_1536_0 (k0_pay144 (p_v I)) (by omega) (by omega) (fun i j => (pay144_at _ i j).trans rfl)
  · exact piece2 (I.h9) 1280 0 inb_S4096x1024_S256x1024_1280_0 (k0_pay143 (p_v802_r0 I)) (by omega) (by omega) (fun i j => (pay143_at _ i j).trans rfl)
  · exact piece2 (I.h9) 1024 0 inb_S4096x1024_S256x1024_1024_0 (k0_pay142 (p_v786_r0 I)) (by omega) (by omega) (fun i j => (pay142_at _ i j).trans rfl)
theorem p_HsM15_12_of (I : In (F := Ideal) c) : View.PiecesOf (Val := Elt Ideal) (s := S4096x1024) (e := .bf16) I.h9 (p_HsM15_12 I) := by
  unfold p_HsM15_12
  refine ⟨?_, ?_, ?_, ?_, p_HsM15_8_of I⟩
  · exact piece2 (I.h9) 2816 0 inb_S4096x1024_S256x1024_2816_0 (k0_pay155 (p_v936_r0 I)) (by omega) (by omega) (fun i j => (pay155_at _ i j).trans rfl)
  · exact piece2 (I.h9) 2560 0 inb_S4096x1024_S256x1024_2560_0 (k0_pay154 (p_v925_r0 I)) (by omega) (by omega) (fun i j => (pay154_at _ i j).trans rfl)
  · exact piece2 (I.h9) 2304 0 inb_S4096x1024_S256x1024_2304_0 (k0_pay153 (p_v914_r0 I)) (by omega) (by omega) (fun i j => (pay153_at _ i j).trans rfl)
  · exact piece2 (I.h9) 2048 0 inb_S4096x1024_S256x1024_2048_0 (k0_pay152 (p_v903_r0 I)) (by omega) (by omega) (fun i j => (pay152_at _ i j).trans rfl)
theorem p_HsM15_16_of (I : In (F := Ideal) c) : View.PiecesOf (Val := Elt Ideal) (s := S4096x1024) (e := .bf16) I.h9 (p_HsM15_16 I) := by
  unfold p_HsM15_16
  refine ⟨?_, ?_, ?_, ?_, p_HsM15_12_of I⟩
  · exact piece2 (I.h9) 3840 0 inb_S4096x1024_S256x1024_3840_0 (k0_pay167 (p_v1033_r0 I)) (by omega) (by omega) (fun i j => (pay167_at _ i j).trans rfl)
  · exact piece2 (I.h9) 3584 0 inb_S4096x1024_S256x1024_3584_0 (k0_pay166 (p_v1022_r0 I)) (by omega) (by omega) (fun i j => (pay166_at _ i j).trans rfl)
  · exact piece2 (I.h9) 3328 0 inb_S4096x1024_S256x1024_3328_0 (k0_pay165 (p_r_32 I)) (by omega) (by omega) (fun i j => ((pay165_at _ i j).trans (pay164_at _ i j)).trans rfl)
  · exact piece2 (I.h9) 3072 0 inb_S4096x1024_S256x1024_3072_0 (k0_pay163 (p_v1000_r0 I)) (by omega) (by omega) (fun i j => (pay163_at _ i j).trans rfl)

/-- A list of pieces, each a block of one array, has that array's entry wherever one of them lies. -/
theorem canon_at {S : Shape} {e : EltTy} (G : S.Idx → Elt Ideal e) (L : List (View.Piece (Elt Ideal) S e)) (h : View.PiecesOf G L) (y : S.Idx)
    (hc : ∃ p ∈ L, y ∈ p.1.set) : View.canon L y = G y := View.canon_append_of_pieces G [] L h.mem y hc |> (by simpa using ·)

theorem cov_of {n m a b : ℕ} {e : EltTy} {L : List (View.Piece (Elt Ideal) ⟨2, ![n, m]⟩ e)} {o p : ℕ} {h} {w : Shape.Idx ⟨2, ![a, b]⟩ → Elt Ideal e}
    (hm : (⟨Rect.unit (s := ⟨2, ![n, m]⟩) ![o, p] ![a, b] h, w⟩ : View.Piece (Elt Ideal) ⟨2, ![n, m]⟩ e) ∈ L) (x : Fin n) (y : Fin m)
    (hx : o ≤ x.val ∧ x.val < o + a) (hy : p ≤ y.val ∧ y.val < p + b) : ∃ p ∈ L, (ix2 x y : Shape.Idx ⟨2, ![n, m]⟩) ∈ p.1.set :=
  ⟨_, hm, (LoadRect.mem_set _).mpr fun t => by
    fin_cases t
    · exact ⟨x.val - o, by show _ < a; omega, by show x.val = o + 1 * (x.val - o); omega⟩
    · exact ⟨y.val - p, by show _ < b; omega, by show y.val = p + 1 * (y.val - p); omega⟩⟩

theorem canonIdx_at {n m a b : ℕ} {e : EltTy} (G : Shape.Idx ⟨2, ![n, m]⟩ → Elt Ideal e)
    (L : List (View.Piece (Elt Ideal) ⟨2, ![n, m]⟩ e)) (hL : View.PiecesOf G L) (o p : ℕ) (h) (i : Fin a) (j : Fin b) (x : Fin n) (y : Fin m)
    (hx : x.val = o + i.val) (hy : y.val = p + j.val) (hc : ∃ p ∈ L, (ix2 x y : Shape.Idx ⟨2, ![n, m]⟩) ∈ p.1.set) :
    View.canon L ((Rect.unit (s := ⟨2, ![n, m]⟩) ![o, p] ![a, b] h).toLoadRect.idx (ix2 i j)) = G (ix2 x y) := by
  refine Eq.trans (congrArg (View.canon L) ?_) (canon_at G L hL (ix2 x y) hc)
  funext t; apply Fin.ext; fin_cases t
  · show o + 1 * i.val = x.val; omega
  · show p + 1 * j.val = y.val; omega

theorem p_v633_r0_at (I : In (F := Ideal) c) (d f : Fin 1024) : (p_v633_r0 I : S1024x1024.Idx → EReal) (ix2 d f) = (I.h8 : S1024x4096.Idx → EReal) (ix2 ⟨d.val, by omega⟩ ⟨0 + f.val, by omega⟩) := by
  unfold p_v633_r0
  rw [View.readCov_eq_canon']
  refine canonIdx_at (n := 1024) (m := 4096) (a := 1024) (b := 1024) (e := .bf16) I.h8 (p_HsM14_4 I) (p_HsM14_4_of I) 0 0 _ d f ⟨d.val, by omega⟩ ⟨0 + f.val, by omega⟩ (by simp) (by simp) ?_
  by_cases h0 : d.val < 256
  · exact cov_of (List.Mem.tail _ (List.Mem.tail _ (List.Mem.tail _ (List.Mem.head _)))) _ _ (by constructor <;> simp <;> omega) (by constructor <;> simp <;> omega)
  by_cases h1 : d.val < 512
  · exact cov_of (List.Mem.tail _ (List.Mem.tail _ (List.Mem.head _))) _ _ (by constructor <;> simp <;> omega) (by constructor <;> simp <;> omega)
  by_cases h2 : d.val < 768
  · exact cov_of (List.Mem.tail _ (List.Mem.head _)) _ _ (by constructor <;> simp <;> omega) (by constructor <;> simp <;> omega)
  · exact cov_of (List.Mem.head _) _ _ (by constructor <;> simp <;> omega) (by constructor <;> simp <;> omega)
theorem p_v770_r0_at (I : In (F := Ideal) c) (d f : Fin 1024) : (p_v770_r0 I : S1024x1024.Idx → EReal) (ix2 d f) = (I.h8 : S1024x4096.Idx → EReal) (ix2 ⟨d.val, by omega⟩ ⟨1024 + f.val, by omega⟩) := by
  unfold p_v770_r0
  rw [View.readCov_eq_canon']
  refine canonIdx_at (n := 1024) (m := 4096) (a := 1024) (b := 1024) (e := .bf16) I.h8 (p_HsM14_8 I) (p_HsM14_8_of I) 0 1024 _ d f ⟨d.val, by omega⟩ ⟨1024 + f.val, by omega⟩ (by simp) (by simp) ?_
  by_cases h0 : d.val < 256
  · exact cov_of (List.Mem.tail _ (List.Mem.tail _ (List.Mem.tail _ (List.Mem.head _)))) _ _ (by constructor <;> simp <;> omega) (by constructor <;> simp <;> omega)
  by_cases h1 : d.val < 512
  · exact cov_of (List.Mem.tail _ (List.Mem.tail _ (List.Mem.head _))) _ _ (by constructor <;> simp <;> omega) (by constructor <;> simp <;> omega)
  by_cases h2 : d.val < 768
  · exact cov_of (List.Mem.tail _ (List.Mem.head _)) _ _ (by constructor <;> simp <;> omega) (by constructor <;> simp <;> omega)
  · exact cov_of (List.Mem.head _) _ _ (by constructor <;> simp <;> omega) (by constructor <;> simp <;> omega)
theorem p_v892_r0_at (I : In (F := Ideal) c) (d f : Fin 1024) : (p_v892_r0 I : S1024x1024.Idx → EReal) (ix2 d f) = (I.h8 : S1024x4096.Idx → EReal) (ix2 ⟨d.val, by omega⟩ ⟨2048 + f.val, by omega⟩) := by
  unfold p_v892_r0
  rw [View.readCov_eq_canon']
  refine canonIdx_at (n := 1024) (m := 4096) (a := 1024) (b := 1024) (e := .bf16) I.h8 (p_HsM14_12 I) (p_HsM14_12_of I) 0 2048 _ d f ⟨d.val, by omega⟩ ⟨2048 + f.val, by omega⟩ (by simp) (by simp) ?_
  by_cases h0 : d.val < 256
  · exact cov_of (List.Mem.tail _ (List.Mem.tail _ (List.Mem.tail _ (List.Mem.head _)))) _ _ (by constructor <;> simp <;> omega) (by constructor <;> simp <;> omega)
  by_cases h1 : d.val < 512
  · exact cov_of (List.Mem.tail _ (List.Mem.tail _ (List.Mem.head _))) _ _ (by constructor <;> simp <;> omega) (by constructor <;> simp <;> omega)
  by_cases h2 : d.val < 768
  · exact cov_of (List.Mem.tail _ (List.Mem.head _)) _ _ (by constructor <;> simp <;> omega) (by constructor <;> simp <;> omega)
  · exact cov_of (List.Mem.head _) _ _ (by constructor <;> simp <;> omega) (by constructor <;> simp <;> omega)
theorem p_v989_r0_at (I : In (F := Ideal) c) (d f : Fin 1024) : (p_v989_r0 I : S1024x1024.Idx → EReal) (ix2 d f) = (I.h8 : S1024x4096.Idx → EReal) (ix2 ⟨d.val, by omega⟩ ⟨3072 + f.val, by omega⟩) := by
  unfold p_v989_r0
  rw [View.readCov_eq_canon']
  refine canonIdx_at (n := 1024) (m := 4096) (a := 1024) (b := 1024) (e := .bf16) I.h8 (p_HsM14_16 I) (p_HsM14_16_of I) 0 3072 _ d f ⟨d.val, by omega⟩ ⟨3072 + f.val, by omega⟩ (by simp) (by simp) ?_
  by_cases h0 : d.val < 256
  · exact cov_of (List.Mem.tail _ (List.Mem.tail _ (List.Mem.tail _ (List.Mem.head _)))) _ _ (by constructor <;> simp <;> omega) (by constructor <;> simp <;> omega)
  by_cases h1 : d.val < 512
  · exact cov_of (List.Mem.tail _ (List.Mem.tail _ (List.Mem.head _))) _ _ (by constructor <;> simp <;> omega) (by constructor <;> simp <;> omega)
  by_cases h2 : d.val < 768
  · exact cov_of (List.Mem.tail _ (List.Mem.head _)) _ _ (by constructor <;> simp <;> omega) (by constructor <;> simp <;> omega)
  · exact cov_of (List.Mem.head _) _ _ (by constructor <;> simp <;> omega) (by constructor <;> simp <;> omega)
theorem p_v703_r0_at (I : In (F := Ideal) c) (d f : Fin 1024) : (p_v703_r0 I : S1024x1024.Idx → EReal) (ix2 d f) = (I.h9 : S4096x1024.Idx → EReal) (ix2 ⟨0 + d.val, by omega⟩ ⟨f.val, by omega⟩) := by
  unfold p_v703_r0
  rw [View.readCov_eq_canon']
  refine canonIdx_at (n := 4096) (m := 1024) (a := 1024) (b := 1024) (e := .bf16) I.h9 (p_HsM15_4 I) (p_HsM15_4_of I) 0 0 _ d f ⟨0 + d.val, by omega⟩ ⟨f.val, by omega⟩ (by simp) (by simp) ?_
  by_cases h0 : d.val < 256
  · exact cov_of (List.Mem.tail _ (List.Mem.tail _ (List.Mem.tail _ (List.Mem.head _)))) _ _ (by constructor <;> simp <;> omega) (by constructor <;> simp <;> omega)
  by_cases h1 : d.val < 512
  · exact cov_of (List.Mem.tail _ (List.Mem.tail _ (List.Mem.head _))) _ _ (by constructor <;> simp <;> omega) (by constructor <;> simp <;> omega)
  by_cases h2 : d.val < 768
  · exact cov_of (List.Mem.tail _ (List.Mem.head _)) _ _ (by constructor <;> simp <;> omega) (by constructor <;> simp <;> omega)
  · exact cov_of (List.Mem.head _) _ _ (by constructor <;> simp <;> omega) (by constructor <;> simp <;> omega)
theorem p_v840_r0_at (I : In (F := Ideal) c) (d f : Fin 1024) : (p_v840_r0 I : S1024x1024.Idx → EReal) (ix2 d f) = (I.h9 : S4096x1024.Idx → EReal) (ix2 ⟨1024 + d.val, by omega⟩ ⟨f.val, by omega⟩) := by
  unfold p_v840_r0
  rw [View.readCov_eq_canon']
  refine canonIdx_at (n := 4096) (m := 1024) (a := 1024) (b := 1024) (e := .bf16) I.h9 (p_HsM15_8 I) (p_HsM15_8_of I) 1024 0 _ d f ⟨1024 + d.val, by omega⟩ ⟨f.val, by omega⟩ (by simp) (by simp) ?_
  by_cases h0 : d.val < 256
  · exact cov_of (List.Mem.tail _ (List.Mem.tail _ (List.Mem.tail _ (List.Mem.head _)))) _ _ (by constructor <;> simp <;> omega) (by constructor <;> simp <;> omega)
  by_cases h1 : d.val < 512
  · exact cov_of (List.Mem.tail _ (List.Mem.tail _ (List.Mem.head _))) _ _ (by constructor <;> simp <;> omega) (by constructor <;> simp <;> omega)
  by_cases h2 : d.val < 768
  · exact cov_of (List.Mem.tail _ (List.Mem.head _)) _ _ (by constructor <;> simp <;> omega) (by constructor <;> simp <;> omega)
  · exact cov_of (List.Mem.head _) _ _ (by constructor <;> simp <;> omega) (by constructor <;> simp <;> omega)
theorem p_v942_r0_at (I : In (F := Ideal) c) (d f : Fin 1024) : (p_v942_r0 I : S1024x1024.Idx → EReal) (ix2 d f) = (I.h9 : S4096x1024.Idx → EReal) (ix2 ⟨2048 + d.val, by omega⟩ ⟨f.val, by omega⟩) := by
  unfold p_v942_r0
  rw [View.readCov_eq_canon']
  refine canonIdx_at (n := 4096) (m := 1024) (a := 1024) (b := 1024) (e := .bf16) I.h9 (p_HsM15_12 I) (p_HsM15_12_of I) 2048 0 _ d f ⟨2048 + d.val, by omega⟩ ⟨f.val, by omega⟩ (by simp) (by simp) ?_
  by_cases h0 : d.val < 256
  · exact cov_of (List.Mem.tail _ (List.Mem.tail _ (List.Mem.tail _ (List.Mem.head _)))) _ _ (by constructor <;> simp <;> omega) (by constructor <;> simp <;> omega)
  by_cases h1 : d.val < 512
  · exact cov_of (List.Mem.tail _ (List.Mem.tail _ (List.Mem.head _))) _ _ (by constructor <;> simp <;> omega) (by constructor <;> simp <;> omega)
  by_cases h2 : d.val < 768
  · exact cov_of (List.Mem.tail _ (List.Mem.head _)) _ _ (by constructor <;> simp <;> omega) (by constructor <;> simp <;> omega)
  · exact cov_of (List.Mem.head _) _ _ (by constructor <;> simp <;> omega) (by constructor <;> simp <;> omega)
theorem p_v1039_r0_at (I : In (F := Ideal) c) (d f : Fin 1024) : (p_v1039_r0 I : S1024x1024.Idx → EReal) (ix2 d f) = (I.h9 : S4096x1024.Idx → EReal) (ix2 ⟨3072 + d.val, by omega⟩ ⟨f.val, by omega⟩) := by
  unfold p_v1039_r0
  rw [View.readCov_eq_canon']
  refine canonIdx_at (n := 4096) (m := 1024) (a := 1024) (b := 1024) (e := .bf16) I.h9 (p_HsM15_16 I) (p_HsM15_16_of I) 3072 0 _ d f ⟨3072 + d.val, by omega⟩ ⟨f.val, by omega⟩ (by simp) (by simp) ?_
  by_cases h0 : d.val < 256
  · exact cov_of (List.Mem.tail _ (List.Mem.tail _ (List.Mem.tail _ (List.Mem.head _)))) _ _ (by constructor <;> simp <;> omega) (by constructor <;> simp <;> omega)
  by_cases h1 : d.val < 512
  · exact cov_of (List.Mem.tail _ (List.Mem.tail _ (List.Mem.head _))) _ _ (by constructor <;> simp <;> omega) (by constructor <;> simp <;> omega)
  by_cases h2 : d.val < 768
  · exact cov_of (List.Mem.tail _ (List.Mem.head _)) _ _ (by constructor <;> simp <;> omega) (by constructor <;> simp <;> omega)
  · exact cov_of (List.Mem.head _) _ _ (by constructor <;> simp <;> omega) (by constructor <;> simp <;> omega)

theorem cov12 (I : In (F := Ideal) c) : ∀ y : S1024x2048.Idx, ∃ p ∈ p_HsM12_16 I, y ∈ p.1.set := View.cover_of_tiledL _ ![256, 512] rfl
theorem cov14 (I : In (F := Ideal) c) : ∀ y : S1024x4096.Idx, ∃ p ∈ p_HsM14_16 I, y ∈ p.1.set := View.cover_of_tiledL _ ![256, 1024] rfl
theorem cov15 (I : In (F := Ideal) c) : ∀ y : S4096x1024.Idx, ∃ p ∈ p_HsM15_16 I, y ∈ p.1.set := View.cover_of_tiledL _ ![256, 1024] rfl
theorem cov13 (I : In (F := Ideal) c) : ∀ y : S1024x1024.Idx, ∃ p ∈ p_HsM13_4 I, y ∈ p.1.set := View.cover_of_tiledL _ ![256, 1024] rfl

theorem pay104_at (h : S1x256x1024.Idx → EReal) (w0 w1 : S1x128x128.Idx → EReal) (s0 s1 : S1x128.Idx → EReal) (i : Fin 256) (d : Fin 1024) : (k0_pay105 (F := Ideal) (k0_pay104 (F := Ideal) h w0 s0 w1 s1) : S256x1024.Idx → EReal) (ix2 i d)
    = if hi : i.val < 128 then ∑ k : Fin 128, w0 (ix3 0 ⟨i.val, hi⟩ k) * s0 (ix2 0 k) * h (ix3 0 ⟨0 + k.val, by omega⟩ d) else ∑ k : Fin 128, w1 (ix3 0 ⟨i.val - 128, by omega⟩ k) * s1 (ix2 0 k) * h (ix3 0 ⟨128 + k.val, by omega⟩ d) := by
  unfold k0_pay105 k0_pay104
  simp only [Nat.zero_add]
  pointwise []

theorem pay110_at (h : S1x256x1024.Idx → EReal) (w0 w1 : S1x128x128.Idx → EReal) (s0 s1 : S1x128.Idx → EReal) (i : Fin 256) (d : Fin 1024) : (k0_pay110 (F := Ideal) (k0_pay106 (F := Ideal) h) (k0_pay107 (F := Ideal) h w0 s0) (k0_pay108 (F := Ideal) w1) (k0_pay109 (F := Ideal) s1) : S256x1024.Idx → EReal) (ix2 i d)
    = if hi : i.val < 128 then ∑ k : Fin 128, w0 (ix3 0 ⟨i.val, hi⟩ k) * s0 (ix2 0 k) * h (ix3 0 ⟨0 + k.val, by omega⟩ d) else ∑ k : Fin 128, w1 (ix3 0 ⟨i.val - 128, by omega⟩ k) * s1 (ix2 0 k) * h (ix3 0 ⟨128 + k.val, by omega⟩ d) := by
  unfold k0_pay110 k0_pay107 k0_pay108 k0_pay109 k0_pay106
  simp only [Nat.zero_add]
  pointwise []
theorem pay101_at (x : S1x256x1024.Idx → EReal) (i : Fin 256) (j : Fin 1024) : (k0_pay101 (F := Ideal) x : S256x1024.Idx → EReal) (ix2 i j) = x (ix3 0 i j) := by
  unfold k0_pay101; pointwise []
theorem pay103_at (x : S1x256x1024.Idx → EReal) (i : Fin 256) (j : Fin 1024) : (k0_pay103 (F := Ideal) (k0_pay102 (F := Ideal) x) : S256x1024.Idx → EReal) (ix2 i j) = x (ix3 0 i j) := by
  unfold k0_pay103 k0_pay102; pointwise []

theorem rd_wM4 (B : Bf (F := Ideal) c wM4) (g : ℕ) (h) (hg : g < 4) (q k : Fin 128) :
    (View.readAt (Elt Ideal) wM4.view (Rect.unit (s := S4x128x128) ![g, 0, 0] S1x128x128.size h).toLoadRect B : S1x128x128.Idx → EReal) (ix3 0 q k) = (B : S4x128x128.Idx → EReal) (ix3 ⟨g, hg⟩ q k) := by
  refine congrArg (β := EReal) B ?_
  funext a; apply Fin.ext; fin_cases a
  · show g + 1 * 0 = _; simp
  · show 0 + 1 * q.val = _; simp
  · show 0 + 1 * k.val = _; simp
theorem rd_wM5 (B : Bf (F := Ideal) c wM5) (o : ℕ) (h) (ho : o + 128 ≤ 512) (k : Fin 128) :
    (View.readAt (Elt Ideal) wM5.view (Rect.unit (s := S1x512) ![0, o] S1x128.size h).toLoadRect B : S1x128.Idx → EReal) (ix2 0 k) = (B : S1x512.Idx → EReal) (ix2 0 ⟨o + k.val, by omega⟩) := by
  refine congrArg (β := EReal) B ?_
  funext a; apply Fin.ext; fin_cases a
  · show 0 + 1 * 0 = _; simp
  · show o + 1 * k.val = _; simp

/-- The kernel's operands hold the block's arguments. -/
structure InOk (A : Sp.Args) (I : In (F := Ideal) c) : Prop where
  x : ∀ (r : Fin 16384) (d : Fin 1024), (I.x : S16384x1024.Idx → EReal) (ix2 r d) = A.x r.val d
  w1 : ∀ d : Fin 1024, (I.w1 : S1x1024.Idx → EReal) (ix2 0 d) = A.g1 d
  w3_0 : ∀ (e : Fin 512), (I.w3 : S1x1536.Idx → EReal) (ix2 0 ⟨0 + e.val, by omega⟩) = A.cw 0 e
  w3_1 : ∀ (e : Fin 512), (I.w3 : S1x1536.Idx → EReal) (ix2 0 ⟨512 + e.val, by omega⟩) = A.cw 1 e
  w3_2 : ∀ (e : Fin 512), (I.w3 : S1x1536.Idx → EReal) (ix2 0 ⟨1024 + e.val, by omega⟩) = A.cw 2 e
  w4 : ∀ (g : Fin 4) (q k : Fin 128), (I.w4 : S4x128x128.Idx → EReal) (ix3 g q k) = A.pw g q k
  w5 : ∀ (k : Fin 512), (I.w5 : S1x512.Idx → EReal) (ix2 0 k) = A.ps k
  w7 : ∀ d : Fin 1024, (I.w7 : S1x1024.Idx → EReal) (ix2 0 d) = A.g2 d
  w10 : ∀ d : Fin 1024, (I.w10 : S1x1024.Idx → EReal) (ix2 0 d) = A.g3 d
  h2 : ∀ (d : Fin 1024) (e : Fin 2048), (I.h2 : S1024x2048.Idx → EReal) (ix2 d e) = A.win d e
  h6 : ∀ (e d : Fin 1024), (I.h6 : S1024x1024.Idx → EReal) (ix2 e d) = A.wo e d
  h8 : ∀ (d : Fin 1024) (f : Fin 4096), (I.h8 : S1024x4096.Idx → EReal) (ix2 d f) = A.f1 d f
  h9 : ∀ (f : Fin 4096) (d : Fin 1024), (I.h9 : S4096x1024.Idx → EReal) (ix2 f d) = A.f2 f d

variable {A : Sp.Args} {I : In (F := Ideal) c} (hI : InOk A I)

/-- The projection out of the mixers, with the pooled channels' map and scale folded in. -/
def G13 (A : Sp.Args) (y : S1024x1024.Idx) : EReal :=
  if (y 0).val < 512 then A.wo (y 0) (y 1) else Sp.wo' A ⟨((y 0).val - 512) / 128, by have h : (y 0).val < 1024 := (y 0).isLt; omega⟩ ⟨((y 0).val - 512) % 128, by omega⟩ (y 1)

theorem G13_lo (x y : Fin 1024) (h : x.val < 512) : G13 A (ix2 x y) = A.wo x y := by unfold G13; exact if_pos h
theorem G13_hi (x y : Fin 1024) (g : Fin 4) (q : Fin 128) (h : x.val = 512 + (128 * g.val + q.val)) : G13 A (ix2 x y) = Sp.wo' A g q y := by
  unfold G13
  refine (if_neg (by show ¬ x.val < 512; omega)).trans ?_
  have e1 : (x.val - 512) / 128 = g.val := by omega
  have e2 : (x.val - 512) % 128 = q.val := by omega
  exact congrArg₂ (fun a b => Sp.wo' A a b y) (Fin.ext e1) (Fin.ext e2)

include hI in
theorem fold_at (g : ℕ) (hg : g < 4) (r : ℕ) (hr : r + 256 ≤ 1024) (o s : ℕ) (ho : o + 128 ≤ 512) (he : o = 128 * g) (hs : s + 128 ≤ 256) (hrs : r + s = 512 + o) (h4 h5) (q : Fin 128) (d : Fin 1024) :
    ∑ k : Fin 128, (View.readAt (Elt Ideal) wM4.view (Rect.unit (s := S4x128x128) ![g, 0, 0] S1x128x128.size h4).toLoadRect I.w4 : S1x128x128.Idx → EReal) (ix3 0 q k)
      * (View.readAt (Elt Ideal) wM5.view (Rect.unit (s := S1x512) ![0, o] S1x128.size h5).toLoadRect I.w5 : S1x128.Idx → EReal) (ix2 0 k)
      * blk (n := 1024) (m := 1024) I.h6 r 0 hr (by omega) (ix3 0 ⟨s + k.val, by omega⟩ d) = Sp.wo' A ⟨g, hg⟩ q d := by
  unfold Sp.wo'
  refine Finset.sum_congr rfl fun k _ => congrArg₂ (· * ·) (congrArg₂ (· * ·) ?_ ?_) ?_
  · exact (rd_wM4 I.w4 g h4 hg q k).trans (hI.w4 _ _ _)
  · refine (rd_wM5 I.w5 o h5 ho k).trans ((hI.w5 _).trans (congrArg A.ps (Fin.ext ?_)))
    show o + k.val = 128 * g + k.val; omega
  · rw [blk_at]
    refine (hI.h6 _ _).trans (congrArg₂ A.wo (Fin.ext ?_) (Fin.ext ?_))
    · show r + (s + k.val) = 512 + (128 * g + k.val); omega
    · show 0 + d.val = d.val; omega

set_option maxHeartbeats 2000000 in
include hI in
theorem m13_pieces : View.PiecesOf (Val := Elt Ideal) (s := S1024x1024) (e := .bf16) (G13 A) (p_HsM13_4 I) := by
  unfold p_HsM13_4
  refine ⟨?_, ?_, ?_, ?_, trivial⟩
  · refine piece2 (G13 A) 768 0 inb_S1024x1024_S256x1024_768_0 (k0_pay110 (F := Ideal) (p_r_7 I) (p_r_8 I) (p_r_9 I) (p_r_10 I)) (by omega) (by omega) (fun i j => ?_)
    refine (pay110_at _ _ _ _ _ i j).trans ?_
    by_cases hi : i.val < 128
    · rw [dif_pos hi, G13_hi _ _ ⟨2, by omega⟩ ⟨i.val, hi⟩ (by show 768 + i.val = 512 + (128 * 2 + i.val); omega)]
      exact (fold_at hI 2 (by omega) 768 (by omega) 256 0 (by omega) rfl (by omega) (by omega) inb_S4x128x128_S1x128x128_2_0_0 inb_S1x512_S1x128_0_256 ⟨i.val, hi⟩ j).trans (congrArg (Sp.wo' A _ _) (Fin.ext (Nat.zero_add _).symm))
    · rw [dif_neg hi, G13_hi _ _ ⟨3, by omega⟩ ⟨i.val - 128, by omega⟩ (by show 768 + i.val = 512 + (128 * 3 + (i.val - 128)); omega)]
      exact (fold_at hI 3 (by omega) 768 (by omega) 384 128 (by omega) rfl (by omega) (by omega) inb_S4x128x128_S1x128x128_3_0_0 inb_S1x512_S1x128_0_384 ⟨i.val - 128, by omega⟩ j).trans (congrArg (Sp.wo' A _ _) (Fin.ext (Nat.zero_add _).symm))
  · refine piece2 (G13 A) 512 0 inb_S1024x1024_S256x1024_512_0 (k0_pay105 (F := Ideal) (p_r_6 I)) (by omega) (by omega) (fun i j => ?_)
    refine (pay104_at _ _ _ _ _ i j).trans ?_
    by_cases hi : i.val < 128
    · rw [dif_pos hi, G13_hi _ _ ⟨0, by omega⟩ ⟨i.val, hi⟩ (by show 512 + i.val = 512 + (128 * 0 + i.val); omega)]
      exact (fold_at hI 0 (by omega) 512 (by omega) 0 0 (by omega) rfl (by omega) (by omega) inb_S4x128x128_S1x128x128_0_0_0 inb_S1x512_S1x128_0_0 ⟨i.val, hi⟩ j).trans (congrArg (Sp.wo' A _ _) (Fin.ext (Nat.zero_add _).symm))
    · rw [dif_neg hi, G13_hi _ _ ⟨1, by omega⟩ ⟨i.val - 128, by omega⟩ (by show 512 + i.val = 512 + (128 * 1 + (i.val - 128)); omega)]
      exact (fold_at hI 1 (by omega) 512 (by omega) 128 128 (by omega) rfl (by omega) (by omega) inb_S4x128x128_S1x128x128_1_0_0 inb_S1x512_S1x128_0_128 ⟨i.val - 128, by omega⟩ j).trans (congrArg (Sp.wo' A _ _) (Fin.ext (Nat.zero_add _).symm))
  · refine piece2 (G13 A) 256 0 inb_S1024x1024_S256x1024_256_0 (k0_pay103 (F := Ideal) (p_r_5 I)) (by omega) (by omega) (fun i j => ?_)
    exact (pay103_at _ i j).trans ((hI.h6 _ _).trans (G13_lo _ _ (by show 256 + i.val < 512; omega)).symm)
  · refine piece2 (G13 A) 0 0 inb_S1024x1024_S256x1024_0_0 (k0_pay101 (F := Ideal) (blk (n := 1024) (m := 1024) I.h6 0 0 (by decide) (by decide))) (by omega) (by omega) (fun i j => ?_)
    exact (pay101_at _ i j).trans ((hI.h6 _ _).trans (G13_lo _ _ (by show 0 + i.val < 512; omega)).symm)

/-- The input projection through the kernel's order of columns. -/
theorem G12_proj (I : In (F := Ideal) c) (hI : InOk A I) (n : ℕ) (e : Fin 2048) : ∑ d : Fin 1024, Sp.nrm (A.x n) A.g1 d * G12 I.h2 (ix2 d e) = projK A n e := by
  have h : ∀ p : Fin 2048, perm e.val = p.val → ∑ d : Fin 1024, Sp.nrm (A.x n) A.g1 d * G12 I.h2 (ix2 d e) = Sp.proj A n p := fun p hp => by
    unfold Sp.proj
    refine Finset.sum_congr rfl fun d _ => congrArg₂ (· * ·) rfl ?_
    exact (hI.h2 d _).trans (congrArg (A.win d) (Fin.ext hp))
  unfold projK
  split_ifs with h1 h2 h3
  · exact h _ (by simp [perm, h1])
  · exact h _ (by simp only [perm, h1, h2, if_true, if_false]; omega)
  · exact h _ (by simp only [perm, h1, h2, if_false])
  · exact h _ (by simp only [perm, h1, h2, if_false]; omega)

theorem WmOk_of {wm : S1024x1024.Idx → EReal} (h : ∀ y, wm y = G13 A y) : WmOk A wm :=
  ⟨fun e d => (h _).trans (G13_lo _ _ e.isLt), fun g q d => (h _).trans (G13_hi _ _ g q rfl)⟩

include hI in
theorem p_v357_at (y : S1024x2048.Idx) : (p_v357_r0 I : S1024x2048.Idx → EReal) y = G12 I.h2 y := by
  unfold p_v357_r0
  rw [View.readCov_eq_canon']
  refine Eq.trans (congrArg (View.canon (p_HsM12_16 I)) ?_) (canon_at (e := .bf16) (G12 I.h2) _ (m12_pieces I) y (cov12 I y))
  funext t; apply Fin.ext; fin_cases t
  · show 0 + 1 * (y 0).val = (y 0).val; omega
  · show 0 + 1 * (y 1).val = (y 1).val; omega
include hI in
theorem p_v545_at (y : S1024x1024.Idx) : (p_v545_r0 I : S1024x1024.Idx → EReal) y = G13 A y := by
  unfold p_v545_r0
  rw [View.readCov_eq_canon']
  refine Eq.trans (congrArg (View.canon (p_HsM13_4 I)) ?_) (canon_at (e := .bf16) (G13 A) _ (m13_pieces hI) y (cov13 I y))
  funext t; apply Fin.ext; fin_cases t
  · show 0 + 1 * (y 0).val = (y 0).val; omega
  · show 0 + 1 * (y 1).val = (y 1).val; omega

theorem rdw12 (B : Bf (F := Ideal) c sM12) (y : S1024x2048.Idx) : (B : S1024x2048.Idx → EReal) y = View.read (Elt Ideal) sM12.view B y := rfl
theorem rdw13 (B : Bf (F := Ideal) c sM13) (y : S1024x1024.Idx) : (B : S1024x1024.Idx → EReal) y = View.read (Elt Ideal) sM13.view B y := rfl
theorem rdw14 (B : Bf (F := Ideal) c sM14) (y : S1024x4096.Idx) : (B : S1024x4096.Idx → EReal) y = View.read (Elt Ideal) sM14.view B y := rfl
theorem rdw15 (B : Bf (F := Ideal) c sM15) (y : S4096x1024.Idx) : (B : S4096x1024.Idx → EReal) y = View.read (Elt Ideal) sM15.view B y := rfl

theorem wr12 (y : S1024x2048.Idx) : (sM12.view.writes (Elt Ideal) sM12.view.junk (p_HsM12_16 I) : S1024x2048.Idx → EReal) y = G12 I.h2 y := by
  refine (rdw12 (c := c) (sM12.view.writes (Elt Ideal) sM12.view.junk (p_HsM12_16 I)) y).trans ?_
  exact (congrFun (View.read_writes_junk_eq_canon sM12.view (p_HsM12_16 I)) y).trans (canon_at (e := .bf16) (G12 I.h2) _ (m12_pieces I) y (cov12 I y))
theorem wr14 (y : S1024x4096.Idx) : (sM14.view.writes (Elt Ideal) sM14.view.junk (p_HsM14_16 I) : S1024x4096.Idx → EReal) y = I.h8 y := by
  refine (rdw14 (c := c) (sM14.view.writes (Elt Ideal) sM14.view.junk (p_HsM14_16 I)) y).trans ?_
  exact (congrFun (View.read_writes_junk_eq_canon sM14.view (p_HsM14_16 I)) y).trans (canon_at (e := .bf16) I.h8 _ (p_HsM14_16_of I) y (cov14 I y))
theorem wr15 (y : S4096x1024.Idx) : (sM15.view.writes (Elt Ideal) sM15.view.junk (p_HsM15_16 I) : S4096x1024.Idx → EReal) y = I.h9 y := by
  refine (rdw15 (c := c) (sM15.view.writes (Elt Ideal) sM15.view.junk (p_HsM15_16 I)) y).trans ?_
  exact (congrFun (View.read_writes_junk_eq_canon sM15.view (p_HsM15_16 I)) y).trans (canon_at (e := .bf16) I.h9 _ (p_HsM15_16_of I) y (cov15 I y))
include hI in
theorem wr13 (y : S1024x1024.Idx) : (sM13.view.writes (Elt Ideal) sM13.view.junk (p_HsM13_4 I) : S1024x1024.Idx → EReal) y = G13 A y := by
  refine (rdw13 (c := c) (sM13.view.writes (Elt Ideal) sM13.view.junk (p_HsM13_4 I)) y).trans ?_
  exact (congrFun (View.read_writes_junk_eq_canon sM13.view (p_HsM13_4 I)) y).trans (canon_at (e := .bf16) (G13 A) _ (m13_pieces hI) y (cov13 I y))

theorem W_ok' (W : Wt (F := Ideal) c) (h1 : W.w1 = I.w1) (h3 : W.w3 = I.w3) (h7 : W.w7 = I.w7) (h10 : W.w10 = I.w10)
    (h12 : ∀ y, (W.m12 : S1024x2048.Idx → EReal) y = G12 I.h2 y) (h13 : ∀ y, (W.m13 : S1024x1024.Idx → EReal) y = G13 A y)
    (h14 : ∀ y, (W.m14 : S1024x4096.Idx → EReal) y = I.h8 y) (h15 : ∀ y, (W.m15 : S4096x1024.Idx → EReal) y = I.h9 y) (hI : InOk A I) : WtOk A W where
  w1 := by rw [h1]; exact hI.w1
  w3_0 := by rw [h3]; exact hI.w3_0
  w3_1 := by rw [h3]; exact hI.w3_1
  w3_2 := by rw [h3]; exact hI.w3_2
  w7 := by rw [h7]; exact hI.w7
  w10 := by rw [h10]; exact hI.w10
  m12 n e := Eq.trans (Finset.sum_congr rfl fun d _ => congrArg₂ (· * ·) rfl (h12 (ix2 d e))) (G12_proj I hI n e)
  m13 := WmOk_of h13
  m14 d f := (h14 (ix2 d f)).trans (hI.h8 d f)
  m15 f d := (h15 (ix2 f d)).trans (hI.h9 f d)

theorem p_W_m12 : (p_W I).m12 = sM12.view.writes (Elt Ideal) sM12.view.junk (p_HsM12_16 I) := by unfold p_W; dsimp only
theorem p_W_m13 : (p_W I).m13 = sM13.view.writes (Elt Ideal) sM13.view.junk (p_HsM13_4 I) := by unfold p_W; dsimp only
theorem p_W_m14 : (p_W I).m14 = sM14.view.writes (Elt Ideal) sM14.view.junk (p_HsM14_16 I) := by unfold p_W; dsimp only
theorem p_W_m15 : (p_W I).m15 = sM15.view.writes (Elt Ideal) sM15.view.junk (p_HsM15_16 I) := by unfold p_W; dsimp only

theorem W_ok'' (hI : InOk A I) (W : Wt (F := Ideal) c) (h1 : W.w1 = I.w1) (h3 : W.w3 = I.w3) (h7 : W.w7 = I.w7) (h10 : W.w10 = I.w10)
    (h12 : W.m12 = sM12.view.writes (Elt Ideal) sM12.view.junk (p_HsM12_16 I)) (h13 : W.m13 = sM13.view.writes (Elt Ideal) sM13.view.junk (p_HsM13_4 I))
    (h14 : W.m14 = sM14.view.writes (Elt Ideal) sM14.view.junk (p_HsM14_16 I)) (h15 : W.m15 = sM15.view.writes (Elt Ideal) sM15.view.junk (p_HsM15_16 I)) : WtOk A W :=
  W_ok' W h1 h3 h7 h10 (fun y => (congrFun h12 y).trans (wr12 y)) (fun y => (congrFun h13 y).trans (wr13 hI y)) (fun y => (congrFun h14 y).trans (wr14 y)) (fun y => (congrFun h15 y).trans (wr15 y)) hI

/-- The loop finds the weights it should. -/
theorem W_ok (hI : InOk A I) : WtOk A (p_W I) := W_ok'' hI (p_W I) rfl rfl rfl rfl p_W_m12 p_W_m13 p_W_m14 p_W_m15

end Cert.KernelIdeal.Hand

end
-- ==== Proof.KFst.lean ====
module

public import proofs.«01_k».proof.Proof.KPro

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The first block, entry by entry -/

variable {c : Dev nD} {A : Sp.Args} {I : In (F := Ideal) c} (hI : InOk A I)

theorem pay71_at (i : Fin 8) (j : Fin 512) : (k0_pay71 (F := Ideal) : S8x512.Idx → EReal) (ix2 i j) = 0 := by
  unfold k0_pay71; pointwise []
theorem pay72_at (i : Fin 16) (j : Fin 512) : (k0_pay72 (F := Ideal) : S16x512.Idx → EReal) (ix2 i j) = 0 := by
  unfold k0_pay72; pointwise []
theorem pay73_at (x : S1x256x1024.Idx → EReal) (i : Fin 256) (j : Fin 1024) : (k0_pay73 (F := Ideal) x : S256x1024.Idx → EReal) (ix2 i j) = x (ix3 0 i j) := by
  unfold k0_pay73; pointwise []
theorem pay74_at (x : S1x256x1024.Idx → EReal) (g : S1x1024.Idx → EReal) (i : Fin 256) (d : Fin 1024) :
    (k0_pay74 (F := Ideal) x g : S256x1024.Idx → EReal) (ix2 i d) = Sp.nrm (fun d => x (ix3 0 i d)) (fun d => g (ix2 0 d)) d := by
  unfold k0_pay74 k0_pay73 Sp.nrm
  pointwise []
theorem pay170_at (x : S1x256x1024.Idx → EReal) (g : S1x1024.Idx → EReal) (i : Fin 256) (d : Fin 1024) :
    (k0_pay170 (F := Ideal) x g : S256x1024.Idx → EReal) (ix2 i d) = Sp.nrm (fun d => x (ix3 0 i d)) (fun d => g (ix2 0 d)) d := by
  unfold k0_pay170 Sp.nrm
  pointwise []
theorem pay100_at (y : S256x1024.Idx → EReal) (w : S1024x2048.Idx → EReal) (i : Fin 256) (e : Fin 2048) :
    (k0_pay100 (F := Ideal) y w : S256x2048.Idx → EReal) (ix2 i e) = ∑ d : Fin 1024, y (ix2 i d) * w (ix2 d e) := by
  unfold k0_pay100
  pointwise []
theorem pay169_at (x : S256x1024.Idx → EReal) (i : Fin 256) (j : Fin 1024) : (k0_pay169 (F := Ideal) x : S256x1024.Idx → EReal) (ix2 i j) = x (ix2 i j) := by
  unfold k0_pay169; pointwise []

include hI in
theorem blkx_at (r : ℕ) (hr h) (i : Fin 256) (d : Fin 1024) : (blk (n := 16384) (m := 1024) I.x r 0 hr h : S1x256x1024.Idx → EReal) (ix3 0 i d) = A.x (r + i.val) d := by
  rw [blk_at]
  exact (hI.x _ _).trans (congrArg (A.x (r + i.val)) (Fin.ext (Nat.zero_add _)))
include hI in
theorem p_r_at (i : Fin 256) (d : Fin 1024) : (p_r I : S256x1024.Idx → EReal) (ix2 i d) = A.x (0 + i.val) d := by
  unfold p_r
  exact (pay73_at _ i d).trans (blkx_at hI 0 _ _ i d)
include hI in
theorem p_r_1_at (i : Fin 256) (d : Fin 1024) : (p_r_1 I : S256x1024.Idx → EReal) (ix2 i d) = Sp.nrm (A.x (0 + i.val)) A.g1 d := by
  unfold p_r_1
  refine (pay74_at _ _ i d).trans (congrFun (congrArg₂ Sp.nrm (funext fun d => blkx_at hI 0 _ _ i d) (funext fun d => (rd_wM1 I.w1 _ 0 d).trans (hI.w1 d))) d)
include hI in
theorem p_r_4_at (i : Fin 256) (e : Fin 2048) : (p_r_4 I : S256x2048.Idx → EReal) (ix2 i e) = projK A (0 + i.val) e := by
  unfold p_r_4
  exact (pay100_at _ _ i e).trans ((Finset.sum_congr rfl fun d _ => congrArg₂ (· * ·) (p_r_1_at hI i d) (p_v357_at hI (ix2 d e))).trans (G12_proj I hI _ e))

theorem p_r_20_eq : p_r_20 I = mixB (p_r I) (p_r_4 I) (k0_pay71 (F := Ideal)) (k0_pay72 (F := Ideal)) 0#32
    (View.readAt (Elt Ideal) wM3.view (Rect.unit (s := S1x1536) ![0, 0] S1x512.size inb_S1x1536_S1x512_0_0).toLoadRect I.w3) (View.readAt (Elt Ideal) wM3.view (Rect.unit (s := S1x1536) ![0, 512] S1x512.size inb_S1x1536_S1x512_0_512).toLoadRect I.w3) (View.readAt (Elt Ideal) wM3.view (Rect.unit (s := S1x1536) ![0, 1024] S1x512.size inb_S1x1536_S1x512_0_1024).toLoadRect I.w3)
    (p_v545_r0 I) := rfl
theorem p_r_21_eq : p_r_21 I = k0_pay57 (F := Ideal) (p_r_20 I) (View.readAt (Elt Ideal) wM7.view (Rect.unit (s := S1x1024) ![0, 0] S1x1024.size inb_S1x1024_S1x1024_0_0).toLoadRect I.w7) := rfl
theorem p_r_33_eq : p_r_33 I = mlp (p_r_20 I) (p_r_21 I) (p_v633_r0 I) (p_v703_r0 I) (p_v770_r0 I) (p_v840_r0 I) (p_v892_r0 I) (p_v942_r0 I) (p_v989_r0 I) (p_v1039_r0 I) := rfl

theorem lag_zero (f : ℕ → EReal) (n k : ℕ) (h : n < k) : Sp.lag f n k = 0 := if_neg (by omega)

include hI in
theorem p_r_20_at (i : Fin 256) (d : Fin 1024) : (p_r_20 I : S256x1024.Idx → EReal) (ix2 i d) = Sp.x1' A (0 + i.val) d := by
  rw [p_r_20_eq]
  exact mixB_at (A := A) (R := 0) (p_r_4_at hI) (fun j e => (pay71_at j e).trans (lag_zero _ _ _ (by omega)).symm) (fun j e => (pay72_at j e).trans (lag_zero _ _ _ (by omega)).symm)
    (fun e => (rd_wM3_0 I.w3 _ 0 e).trans (hI.w3_0 e)) (fun e => (rd_wM3_512 I.w3 _ 0 e).trans (hI.w3_1 e)) (fun e => (rd_wM3_1024 I.w3 _ 0 e).trans (hI.w3_2 e))
    (by decide) (by decide) (p_r_at hI) (WmOk_of (p_v545_at hI))  i d

include hI in
theorem p_r_33_at (i : Fin 256) (d : Fin 1024) : (p_r_33 I : S256x1024.Idx → EReal) (ix2 i d) = Sp.x2' A (0 + i.val) d := by
  rw [p_r_33_eq]
  have hx := p_r_20_at hI
  refine mlp_at (A := A) (R := 0) (Sp.x1' A) _ _ hx (fun i d => ?_) _ _ _ _ _ _ _ _ (fun d f => (p_v633_r0_at I d f).trans ((hI.h8 d _).trans (congrArg (A.f1 d) (Fin.ext (Nat.zero_add _)))))
    (fun f d => (p_v703_r0_at I f d).trans ((hI.h9 _ d).trans (congrArg (fun e => A.f2 e d) (Fin.ext (Nat.zero_add _)))))
    (fun d f => (p_v770_r0_at I d f).trans (hI.h8 d _)) (fun f d => (p_v840_r0_at I f d).trans (hI.h9 _ d)) (fun d f => (p_v892_r0_at I d f).trans (hI.h8 d _)) (fun f d => (p_v942_r0_at I f d).trans (hI.h9 _ d))
    (fun d f => (p_v989_r0_at I d f).trans (hI.h8 d _)) (fun f d => (p_v1039_r0_at I f d).trans (hI.h9 _ d)) i d
  rw [p_r_21_eq, nrmT_at]
  exact congrFun (congrArg₂ Sp.nrm (funext fun d => hx i d) (funext fun d => (rd_wM7 I.w7 _ 0 d).trans (hI.w7 d))) d

theorem p_r_12_eq : p_r_12 I = k0_pay12 (F := Ideal) (p_r_4 I) := rfl
theorem p_r_11_eq : p_r_11 I = k0_pay10 (F := Ideal) (p_r_4 I) := rfl
theorem pay122_at (X : S256x512.Idx → EReal) (j : Fin 8) (e : Fin 512) : (k0_pay122 (F := Ideal) X : S8x512.Idx → EReal) (ix2 j e) = X (ix2 ⟨248 + j.val, by omega⟩ e) := by
  unfold k0_pay122; pointwise []
theorem pay123_at (X : S256x512.Idx → EReal) (j : Fin 16) (e : Fin 512) : (k0_pay123 (F := Ideal) X : S16x512.Idx → EReal) (ix2 j e) = X (ix2 ⟨240 + j.val, by omega⟩ e) := by
  unfold k0_pay123; pointwise []
include hI in
theorem p_r_12_at (i : Fin 256) (e : Fin 512) : (p_r_12 I : S256x512.Idx → EReal) (ix2 i e) = Sp.z A e (0 + i.val) := by
  rw [p_r_12_eq]; exact pay12_at (p_r_4_at hI) i e
include hI in
theorem p_r_11_at (i : Fin 256) (e : Fin 512) : (p_r_11 I : S256x512.Idx → EReal) (ix2 i e) = Sp.v A e (0 + i.val) := by
  rw [p_r_11_eq]; exact pay10_at (p_r_4_at hI) i e

theorem S0_ok' (hI : InOk A I) (S : St (F := Ideal) c) (h16 : S.s16 = k0_pay122 (F := Ideal) (p_r_12 I)) (h17 : S.s17 = k0_pay123 (F := Ideal) (p_r_11 I))
    (h20 : S.s20 = k0_pay169 (F := Ideal) (p_r_33 I)) (h21 : S.s21 = k0_pay170 (F := Ideal) (blk (n := 16384) (m := 1024) I.x 256 0 (by decide) (by decide)) (View.readAt (Elt Ideal) wM1.view (Rect.unit (s := S1x1024) ![0, 0] S1x1024.size inb_S1x1024_S1x1024_0_0).toLoadRect I.w1)) :
    StOk A 0 S where
  s16 j e := by
    rw [h16]
    exact (pay122_at _ j e).trans ((p_r_12_at hI _ e).trans (lag_self _ _ _ _ (by show 0 + 256 + j.val = 0 + (248 + j.val) + 8; omega)))
  s17 j e := by
    rw [h17]
    exact (pay123_at _ j e).trans ((p_r_11_at hI _ e).trans (lag_self _ _ _ _ (by show 0 + 256 + j.val = 0 + (240 + j.val) + 16; omega)))
  s20 i d := by
    rw [h20]
    exact (pay169_at _ i d).trans (p_r_33_at hI  i d)
  s21 _ i d := by
    rw [h21]
    refine (pay170_at _ _ i d).trans (congrFun (congrArg₂ Sp.nrm (funext fun d => ?_) (funext fun d => (rd_wM1 I.w1 _ 0 d).trans (hI.w1 d))) d)
    exact (blkx_at hI 256 _ _ i d).trans (congrArg (fun n => A.x n d) (by omega))

theorem p_S0_16 : (p_S0 I).s16 = k0_pay122 (F := Ideal) (p_r_12 I) := by unfold p_S0; dsimp only
theorem p_S0_17 : (p_S0 I).s17 = k0_pay123 (F := Ideal) (p_r_11 I) := by unfold p_S0; dsimp only
theorem p_S0_20 : (p_S0 I).s20 = k0_pay169 (F := Ideal) (p_r_33 I) := by unfold p_S0; dsimp only
theorem p_S0_21 : (p_S0 I).s21 = k0_pay170 (F := Ideal) (blk (n := 16384) (m := 1024) I.x 256 0 (by decide) (by decide)) (View.readAt (Elt Ideal) wM1.view (Rect.unit (s := S1x1024) ![0, 0] S1x1024.size inb_S1x1024_S1x1024_0_0).toLoadRect I.w1) := by unfold p_S0; dsimp only
/-- The first trip finds carried what it should. -/
theorem S0_ok (hI : InOk A I) : StOk A 0 (p_S0 I) := S0_ok' hI  (p_S0 I) p_S0_16 p_S0_17 p_S0_20 p_S0_21

end Cert.KernelIdeal.Hand

end
-- ==== Proof.KOut.lean ====
module

public import proofs.«01_k».proof.Proof.KFst
public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The whole result, entry by entry -/

section out

variable {c : Dev nD} {A : Sp.Args} (x : Bf (F := Ideal) c hM0) (hx : ∀ (r : Fin 16384) (d : Fin 1024), (x : S16384x1024.Idx → EReal) (ix2 r d) = A.x r.val d)

theorem xr_emb (r : ℕ) (h) (j : Fin 768) (d : Fin 1024) : (xr r h).view.emb (ix2 j d : S768x1024.Idx) = (ix2 ⟨256 + 768 * r + j.val, by have : 256 + 768 * r + 768 ≤ 16384 := h 0; omega⟩ d : S16384x1024.Idx) := by
  funext q; apply Fin.ext; fin_cases q
  · show 256 + 768 * r + 1 * j.val = _; rw [Nat.one_mul]; rfl
  · show 0 + 1 * d.val = d.val; omega
theorem fr_emb (r : ℕ) (h) (j : Fin 256) (d : Fin 1024) : (fr r h).view.emb (ix2 j d : S256x1024.Idx) = (ix2 ⟨256 + 768 * r + j.val, by have : 256 + 768 * r + 256 ≤ 16384 := h 0; omega⟩ d : S16384x1024.Idx) := by
  funext q; apply Fin.ext; fin_cases q
  · show 256 + 768 * r + 1 * j.val = _; rw [Nat.one_mul]; rfl
  · show 0 + 1 * d.val = d.val; omega

include hx in
theorem tileX_at (n : ℕ) (hn : n ≤ 20) (j : Fin 768) (d : Fin 1024) : (tileX (F := Ideal) x n : S768x1024.Idx → EReal) (ix2 j d) = A.x (768 * n + 256 + j.val) d := by
  refine Eq.trans (congrArg (β := EReal) x (xr_emb (min n 20) (xr_inb _ (Nat.min_le_right _ _)) j d)) ((hx _ d).trans (congrArg (fun k => A.x k d) ?_))
  show 256 + 768 * min n 20 + j.val = 768 * n + 256 + j.val
  omega
include hx in
theorem tileF_at (n : ℕ) (hn : n ≤ 20) (j : Fin 256) (d : Fin 1024) : (tileF (F := Ideal) x n : S256x1024.Idx → EReal) (ix2 j d) = A.x (768 * n + 256 + j.val) d := by
  refine Eq.trans (congrArg (β := EReal) x (fr_emb (min n 20) (fr_inb _ (Nat.min_le_right _ _)) j d)) ((hx _ d).trans (congrArg (fun k => A.x k d) ?_))
  show 256 + 768 * min n 20 + j.val = 768 * n + 256 + j.val
  omega

variable {W : Wt (F := Ideal) c} (hW : WtOk A W) {S0 : St (F := Ideal) c} (hS : StOk A 0 S0)

include hx hW hS in
theorem Sn_ok : ∀ n : ℕ, n ≤ 21 → StOk A (768 * n) (Sn (F := Ideal) W x S0 n)
  | 0, _ => hS
  | n + 1, h => by
    have ih := Sn_ok n (by omega)
    have := stepS_ok  hW ih (kF n) (by show 768 * n = 768 * min n 20; omega) (tileX (F := Ideal) x n) (tileX_at x hx n (by omega)) (tileF (F := Ideal) x (n + 1))
      (fun hR i d => (tileF_at x hx (n + 1) (by omega) i d).trans (congrArg (fun k => A.x k d) (by omega))) (by omega)
    exact this

include hx hW hS in
theorem outN_at (n : ℕ) (hn : n ≤ 20) (j : Fin 768) (d : Fin 1024) : (outN (F := Ideal) W x S0 n : S768x1024.Idx → EReal) (ix2 j d) = Sp.res' A (768 * n + j.val) d :=
  outB_at  hW (Sn_ok x hx hW hS n (by omega)) (kF n) (by show 768 * n = 768 * min n 20; omega) (tileX (F := Ideal) x n) (tileX_at x hx n hn) (by omega) j d

theorem pay171_at (x : S256x1024.Idx → EReal) (g : S1x1024.Idx → EReal) (i : Fin 256) (d : Fin 1024) :
    (k0_pay171 (F := Ideal) x g : S1x256x1024.Idx → EReal) (ix3 0 i d) = Sp.nrm (fun d => x (ix2 i d)) (fun d => g (ix2 0 d)) d := by
  unfold k0_pay171 Sp.nrm
  pointwise []

include hx hW hS in
/-- The kernel's result is the block's. -/
theorem Gout_at (r : Fin 16384) (d : Fin 1024) : (Gout (F := Ideal) W x S0 : S16384x1024.Idx → EReal) (ix2 r d) = Sp.res' A r.val d := by
  unfold Gout
  by_cases h : r.val < 16128
  · refine (dif_pos h).trans ?_
    refine (outN_at x hx hW hS (r.val / 768) (by omega) ⟨r.val % 768, Nat.mod_lt _ (by omega)⟩ d).trans (congrArg (fun k => Sp.res' A k d) ?_)
    show 768 * (r.val / 768) + r.val % 768 = r.val; omega
  · refine (dif_neg h).trans ?_
    refine (pay171_at _ _ ⟨r.val - 16128, by omega⟩ d).trans ?_
    unfold Sp.res'
    refine congrFun (congrArg₂ Sp.nrm (funext fun d => ?_) (funext fun d => (rd_wM10 W.w10 _ 0 d).trans (hW.w10 d))) d
    refine (rd_sM20 _ _ ⟨r.val - 16128, by omega⟩ d).trans (((Sn_ok x hx hW hS 21 (by omega)).s20 _ d).trans (congrArg (fun k => Sp.x2' A k d) ?_))
    show 768 * 21 + (r.val - 16128) = r.val; omega

end out

end Cert.KernelIdeal.Hand

end
-- ==== Proof.KVal.lean ====
module

public import proofs.«01_k».proof.Proof.KOut
public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-! ## The arrays the region finds: the arguments with their unit axis dropped -/

theorem V_v0 : V (F := Ideal) m c main_v0 = (shapeCast S16384x1024 (m ((c : Thread nD τ).loc main_arg0)) shapeCasts_S1x16384x1024_S16384x1024) := by
  show StableHlo.after (List.flatten [hostOps0 (F := Ideal)]) (fun b => m (c, b)) (Proc.devRef .tc main_v0) = _
  simp only [hostOps0, List.flatten_cons, List.flatten_nil, List.append_nil]
  after_results_simp
  rfl
theorem V_v2 : V (F := Ideal) m c main_v2 = (shapeCast S1024x2048 (m ((c : Thread nD τ).loc main_arg2)) shapeCasts_S1x1024x2048_S1024x2048) := by
  show StableHlo.after (List.flatten [hostOps0 (F := Ideal)]) (fun b => m (c, b)) (Proc.devRef .tc main_v2) = _
  simp only [hostOps0, List.flatten_cons, List.flatten_nil, List.append_nil]
  after_results_simp
  rfl
theorem V_v4 : V (F := Ideal) m c main_v4 = (shapeCast S4x128x128 (m ((c : Thread nD τ).loc main_arg4)) shapeCasts_S1x4x128x128_S4x128x128) := by
  show StableHlo.after (List.flatten [hostOps0 (F := Ideal)]) (fun b => m (c, b)) (Proc.devRef .tc main_v4) = _
  simp only [hostOps0, List.flatten_cons, List.flatten_nil, List.append_nil]
  after_results_simp
  rfl
theorem V_v6 : V (F := Ideal) m c main_v6 = (shapeCast S1024x1024 (m ((c : Thread nD τ).loc main_arg6)) shapeCasts_S1x1024x1024_S1024x1024) := by
  show StableHlo.after (List.flatten [hostOps0 (F := Ideal)]) (fun b => m (c, b)) (Proc.devRef .tc main_v6) = _
  simp only [hostOps0, List.flatten_cons, List.flatten_nil, List.append_nil]
  after_results_simp
  rfl
theorem V_v8 : V (F := Ideal) m c main_v8 = (shapeCast S1024x4096 (m ((c : Thread nD τ).loc main_arg8)) shapeCasts_S1x1024x4096_S1024x4096) := by
  show StableHlo.after (List.flatten [hostOps0 (F := Ideal)]) (fun b => m (c, b)) (Proc.devRef .tc main_v8) = _
  simp only [hostOps0, List.flatten_cons, List.flatten_nil, List.append_nil]
  after_results_simp
  rfl
theorem V_v9 : V (F := Ideal) m c main_v9 = (shapeCast S4096x1024 (m ((c : Thread nD τ).loc main_arg9)) shapeCasts_S1x4096x1024_S4096x1024) := by
  show StableHlo.after (List.flatten [hostOps0 (F := Ideal)]) (fun b => m (c, b)) (Proc.devRef .tc main_v9) = _
  simp only [hostOps0, List.flatten_cons, List.flatten_nil, List.append_nil]
  after_results_simp
  rfl
theorem V_v10 : V (F := Ideal) m c main_v10 = shapeCast S1x1024 (shapeCast S1024 (m ((c : Thread nD τ).loc main_arg1)) shapeCasts_S1x1024_S1024) shapeCasts_S1024_S1x1024 := by
  show StableHlo.after (List.flatten [hostOps0 (F := Ideal)]) (fun b => m (c, b)) (Proc.devRef .tc main_v10) = _
  simp only [hostOps0, List.flatten_cons, List.flatten_nil, List.append_nil]
  after_results_simp
  rfl
theorem V_v11 : V (F := Ideal) m c main_v11 = shapeCast S1x1536 (shapeCast S3x512 (m ((c : Thread nD τ).loc main_arg3)) shapeCasts_S1x3x512_S3x512) shapeCasts_S3x512_S1x1536 := by
  show StableHlo.after (List.flatten [hostOps0 (F := Ideal)]) (fun b => m (c, b)) (Proc.devRef .tc main_v11) = _
  simp only [hostOps0, List.flatten_cons, List.flatten_nil, List.append_nil]
  after_results_simp
  rfl
theorem V_v12 : V (F := Ideal) m c main_v12 = shapeCast S1x512 (shapeCast S512 (m ((c : Thread nD τ).loc main_arg5)) shapeCasts_S1x512_S512) shapeCasts_S512_S1x512 := by
  show StableHlo.after (List.flatten [hostOps0 (F := Ideal)]) (fun b => m (c, b)) (Proc.devRef .tc main_v12) = _
  simp only [hostOps0, List.flatten_cons, List.flatten_nil, List.append_nil]
  after_results_simp
  rfl
theorem V_v13 : V (F := Ideal) m c main_v13 = shapeCast S1x1024 (shapeCast S1024 (m ((c : Thread nD τ).loc main_arg7)) shapeCasts_S1x1024_S1024) shapeCasts_S1024_S1x1024 := by
  show StableHlo.after (List.flatten [hostOps0 (F := Ideal)]) (fun b => m (c, b)) (Proc.devRef .tc main_v13) = _
  simp only [hostOps0, List.flatten_cons, List.flatten_nil, List.append_nil]
  after_results_simp
  rfl
theorem V_v14 : V (F := Ideal) m c main_v14 = (shapeCast S1x1024 (m ((c : Thread nD τ).loc main_arg10)) shapeCasts_S1024_S1x1024) := by
  show StableHlo.after (List.flatten [hostOps0 (F := Ideal)]) (fun b => m (c, b)) (Proc.devRef .tc main_v14) = _
  simp only [hostOps0, List.flatten_cons, List.flatten_nil, List.append_nil]
  after_results_simp
  rfl

/-! ## The staged blocks: each window's block is its whole array -/

theorem iblk0_at (d : Fin 1024) : (iblk (F := Ideal) m c 0 t0_0 : S1x1024.Idx → EReal) (ix2 0 d) = (V (F := Ideal) m c main_v10 : S1x1024.Idx → EReal) (ix2 0 d) := by
  unfold iblk
  rw [View.read_apply]
  refine congrArg (V (F := Ideal) m c main_v10) ?_
  funext t; apply Fin.ext; fin_cases t
  · rfl
  · show 0 * 1024 + 1 * d.val = d.val; omega
theorem iblk1_at (d : Fin 1536) : (iblk (F := Ideal) m c 1 t0_0 : S1x1536.Idx → EReal) (ix2 0 d) = (V (F := Ideal) m c main_v11 : S1x1536.Idx → EReal) (ix2 0 d) := by
  unfold iblk
  rw [View.read_apply]
  refine congrArg (V (F := Ideal) m c main_v11) ?_
  funext t; apply Fin.ext; fin_cases t
  · rfl
  · show 0 * 1536 + 1 * d.val = d.val; omega
theorem iblk3_at (d : Fin 512) : (iblk (F := Ideal) m c 3 t0_0 : S1x512.Idx → EReal) (ix2 0 d) = (V (F := Ideal) m c main_v12 : S1x512.Idx → EReal) (ix2 0 d) := by
  unfold iblk
  rw [View.read_apply]
  refine congrArg (V (F := Ideal) m c main_v12) ?_
  funext t; apply Fin.ext; fin_cases t
  · rfl
  · show 0 * 512 + 1 * d.val = d.val; omega
theorem iblk4_at (d : Fin 1024) : (iblk (F := Ideal) m c 4 t0_0 : S1x1024.Idx → EReal) (ix2 0 d) = (V (F := Ideal) m c main_v13 : S1x1024.Idx → EReal) (ix2 0 d) := by
  unfold iblk
  rw [View.read_apply]
  refine congrArg (V (F := Ideal) m c main_v13) ?_
  funext t; apply Fin.ext; fin_cases t
  · rfl
  · show 0 * 1024 + 1 * d.val = d.val; omega
theorem iblk5_at (d : Fin 1024) : (iblk (F := Ideal) m c 5 t0_0 : S1x1024.Idx → EReal) (ix2 0 d) = (V (F := Ideal) m c main_v14 : S1x1024.Idx → EReal) (ix2 0 d) := by
  unfold iblk
  rw [View.read_apply]
  refine congrArg (V (F := Ideal) m c main_v14) ?_
  funext t; apply Fin.ext; fin_cases t
  · rfl
  · show 0 * 1024 + 1 * d.val = d.val; omega
theorem iblk2_at (g : Fin 4) (p q : Fin 128) : (iblk (F := Ideal) m c 2 t0_0 : S4x128x128.Idx → EReal) (ix3 g p q) = (V (F := Ideal) m c main_v4 : S4x128x128.Idx → EReal) (ix3 g p q) := by
  unfold iblk
  rw [View.read_apply]
  refine congrArg (V (F := Ideal) m c main_v4) ?_
  funext t; apply Fin.ext; fin_cases t
  · show 0 * 4 + 1 * g.val = g.val; omega
  · show 0 * 128 + 1 * p.val = p.val; omega
  · show 0 * 128 + 1 * q.val = q.val; omega

/-! ## What the kernel is run on, in the mathematics' own arguments -/

/-- The kernel's arguments as the mathematics names them. -/
structure ArgOk (A : Sp.Args) : Prop where
  x : ∀ (r : Fin 16384) (d : Fin 1024), (m ((c : Thread nD τ).loc main_arg0) : S1x16384x1024.Idx → EReal) (ix3 0 r d) = A.x r.val d
  g1 : ∀ d : Fin 1024, (m ((c : Thread nD τ).loc main_arg1) : S1x1024.Idx → EReal) (ix2 0 d) = A.g1 d
  win : ∀ (d : Fin 1024) (e : Fin 2048), (m ((c : Thread nD τ).loc main_arg2) : S1x1024x2048.Idx → EReal) (ix3 0 d e) = A.win d e
  cw : ∀ (k : Fin 3) (e : Fin 512), (m ((c : Thread nD τ).loc main_arg3) : S1x3x512.Idx → EReal) (ix3 0 k e) = A.cw k e
  pw : ∀ (g : Fin 4) (p q : Fin 128), (m ((c : Thread nD τ).loc main_arg4) : S1x4x128x128.Idx → EReal) (ix4 0 g p q) = A.pw g p q
  ps : ∀ k : Fin 512, (m ((c : Thread nD τ).loc main_arg5) : S1x512.Idx → EReal) (ix2 0 k) = A.ps k
  wo : ∀ (e d : Fin 1024), (m ((c : Thread nD τ).loc main_arg6) : S1x1024x1024.Idx → EReal) (ix3 0 e d) = A.wo e d
  g2 : ∀ d : Fin 1024, (m ((c : Thread nD τ).loc main_arg7) : S1x1024.Idx → EReal) (ix2 0 d) = A.g2 d
  f1 : ∀ (d : Fin 1024) (f : Fin 4096), (m ((c : Thread nD τ).loc main_arg8) : S1x1024x4096.Idx → EReal) (ix3 0 d f) = A.f1 d f
  f2 : ∀ (f : Fin 4096) (d : Fin 1024), (m ((c : Thread nD τ).loc main_arg9) : S1x4096x1024.Idx → EReal) (ix3 0 f d) = A.f2 f d
  g3 : ∀ d : Fin 1024, (m ((c : Thread nD τ).loc main_arg10) : S1024.Idx → EReal) (ix1 d) = A.g3 d

/-! The arguments' unit axis dropped, entry by entry. -/

theorem cast_x (X : S1x16384x1024.Idx → EReal) (r : Fin 16384) (d : Fin 1024) : ((shapeCast S16384x1024 X shapeCasts_S1x16384x1024_S16384x1024) : S16384x1024.Idx → EReal) (ix2 r d) = X (ix3 0 r d) := by
  pointwise []
theorem cast_win (X : S1x1024x2048.Idx → EReal) (r : Fin 1024) (d : Fin 2048) : ((shapeCast S1024x2048 X shapeCasts_S1x1024x2048_S1024x2048) : S1024x2048.Idx → EReal) (ix2 r d) = X (ix3 0 r d) := by
  pointwise []
theorem cast_pw (X : S1x4x128x128.Idx → EReal) (g : Fin 4) (p q : Fin 128) : ((shapeCast S4x128x128 X shapeCasts_S1x4x128x128_S4x128x128) : S4x128x128.Idx → EReal) (ix3 g p q) = X (ix4 0 g p q) := by
  pointwise []
theorem cast_wo (X : S1x1024x1024.Idx → EReal) (r : Fin 1024) (d : Fin 1024) : ((shapeCast S1024x1024 X shapeCasts_S1x1024x1024_S1024x1024) : S1024x1024.Idx → EReal) (ix2 r d) = X (ix3 0 r d) := by
  pointwise []
theorem cast_f1 (X : S1x1024x4096.Idx → EReal) (r : Fin 1024) (d : Fin 4096) : ((shapeCast S1024x4096 X shapeCasts_S1x1024x4096_S1024x4096) : S1024x4096.Idx → EReal) (ix2 r d) = X (ix3 0 r d) := by
  pointwise []
theorem cast_f2 (X : S1x4096x1024.Idx → EReal) (r : Fin 4096) (d : Fin 1024) : ((shapeCast S4096x1024 X shapeCasts_S1x4096x1024_S4096x1024) : S4096x1024.Idx → EReal) (ix2 r d) = X (ix3 0 r d) := by
  pointwise []
theorem cast_g (X : S1x1024.Idx → EReal) (d : Fin 1024) : ((shapeCast S1x1024 (shapeCast S1024 X shapeCasts_S1x1024_S1024) shapeCasts_S1024_S1x1024) : S1x1024.Idx → EReal) (ix2 0 d) = X (ix2 0 d) := by
  pointwise []
theorem cast_ps (X : S1x512.Idx → EReal) (d : Fin 512) : ((shapeCast S1x512 (shapeCast S512 X shapeCasts_S1x512_S512) shapeCasts_S512_S1x512) : S1x512.Idx → EReal) (ix2 0 d) = X (ix2 0 d) := by
  pointwise []
theorem cast_g3 (X : S1024.Idx → EReal) (d : Fin 1024) : ((shapeCast S1x1024 X shapeCasts_S1024_S1x1024) : S1x1024.Idx → EReal) (ix2 0 d) = X (ix1 d) := by
  pointwise []
theorem cast_cw0 (X : S1x3x512.Idx → EReal) (e : Fin 512) : ((shapeCast S1x1536 (shapeCast S3x512 X shapeCasts_S1x3x512_S3x512) shapeCasts_S3x512_S1x1536) : S1x1536.Idx → EReal) (ix2 0 ⟨0 + e.val, by omega⟩) = X (ix3 0 0 e) := by
  pointwise []
  have h1 : (0 + e.val) / 512 = 0 := by omega
  have h2 : (0 + e.val) % 512 = e.val := by omega
  refine congrArg X ?_
  funext t; apply Fin.ext; fin_cases t
  · rfl
  · first | exact h1 | (show e.val / 512 = 0; omega)
  · first | rfl | exact h2 | (show e.val % 512 = e.val; omega)
theorem cast_cw1 (X : S1x3x512.Idx → EReal) (e : Fin 512) : ((shapeCast S1x1536 (shapeCast S3x512 X shapeCasts_S1x3x512_S3x512) shapeCasts_S3x512_S1x1536) : S1x1536.Idx → EReal) (ix2 0 ⟨512 + e.val, by omega⟩) = X (ix3 0 1 e) := by
  pointwise []
  have h1 : (512 + e.val) / 512 = 1 := by omega
  have h2 : (512 + e.val) % 512 = e.val := by omega
  refine congrArg X ?_
  funext t; apply Fin.ext; fin_cases t
  · rfl
  · first | exact h1 | (show e.val / 512 = 0; omega)
  · first | rfl | exact h2 | (show e.val % 512 = e.val; omega)
theorem cast_cw2 (X : S1x3x512.Idx → EReal) (e : Fin 512) : ((shapeCast S1x1536 (shapeCast S3x512 X shapeCasts_S1x3x512_S3x512) shapeCasts_S3x512_S1x1536) : S1x1536.Idx → EReal) (ix2 0 ⟨1024 + e.val, by omega⟩) = X (ix3 0 2 e) := by
  pointwise []
  have h1 : (1024 + e.val) / 512 = 2 := by omega
  have h2 : (1024 + e.val) % 512 = e.val := by omega
  refine congrArg X ?_
  funext t; apply Fin.ext; fin_cases t
  · rfl
  · first | exact h1 | (show e.val / 512 = 0; omega)
  · first | rfl | exact h2 | (show e.val % 512 = e.val; omega)
theorem cast_out (X : S16384x1024.Idx → EReal) (r : Fin 16384) (d : Fin 1024) : ((shapeCast S1x16384x1024 X shapeCasts_S16384x1024_S1x16384x1024) : S1x16384x1024.Idx → EReal) (ix3 0 r d) = X (ix2 r d) := by
  pointwise []

variable {m} {c}

theorem Iv_x {A : Sp.Args} (h : ArgOk m c A) (r : Fin 16384) (d : Fin 1024) : (V (F := Ideal) m c main_v0 : S16384x1024.Idx → EReal) (ix2 r d) = A.x r.val d :=
  (congrFun (V_v0 m c) (ix2 r d)).trans ((cast_x _ r d).trans (h.x r d))
theorem Iv_w1 {A : Sp.Args} (h : ArgOk m c A) (d : Fin 1024) : (iblk (F := Ideal) m c 0 t0_0 : S1x1024.Idx → EReal) (ix2 0 d) = A.g1 d :=
  (iblk0_at m c d).trans ((congrFun (V_v10 m c) (ix2 0 d)).trans ((cast_g _ d).trans (h.g1 d)))
theorem Iv_w3_0 {A : Sp.Args} (h : ArgOk m c A) (e : Fin 512) : (iblk (F := Ideal) m c 1 t0_0 : S1x1536.Idx → EReal) (ix2 0 ⟨0 + e.val, by omega⟩) = A.cw 0 e :=
  (iblk1_at m c _).trans ((congrFun (V_v11 m c) _).trans ((cast_cw0 _ e).trans (h.cw 0 e)))
theorem Iv_w3_1 {A : Sp.Args} (h : ArgOk m c A) (e : Fin 512) : (iblk (F := Ideal) m c 1 t0_0 : S1x1536.Idx → EReal) (ix2 0 ⟨512 + e.val, by omega⟩) = A.cw 1 e :=
  (iblk1_at m c _).trans ((congrFun (V_v11 m c) _).trans ((cast_cw1 _ e).trans (h.cw 1 e)))
theorem Iv_w3_2 {A : Sp.Args} (h : ArgOk m c A) (e : Fin 512) : (iblk (F := Ideal) m c 1 t0_0 : S1x1536.Idx → EReal) (ix2 0 ⟨1024 + e.val, by omega⟩) = A.cw 2 e :=
  (iblk1_at m c _).trans ((congrFun (V_v11 m c) _).trans ((cast_cw2 _ e).trans (h.cw 2 e)))
theorem Iv_w4 {A : Sp.Args} (h : ArgOk m c A) (g : Fin 4) (p q : Fin 128) : (iblk (F := Ideal) m c 2 t0_0 : S4x128x128.Idx → EReal) (ix3 g p q) = A.pw g p q :=
  (iblk2_at m c g p q).trans ((congrFun (V_v4 m c) _).trans ((cast_pw _ g p q).trans (h.pw g p q)))
theorem Iv_w5 {A : Sp.Args} (h : ArgOk m c A) (d : Fin 512) : (iblk (F := Ideal) m c 3 t0_0 : S1x512.Idx → EReal) (ix2 0 d) = A.ps d :=
  (iblk3_at m c d).trans ((congrFun (V_v12 m c) (ix2 0 d)).trans ((cast_ps _ d).trans (h.ps d)))
theorem Iv_w7 {A : Sp.Args} (h : ArgOk m c A) (d : Fin 1024) : (iblk (F := Ideal) m c 4 t0_0 : S1x1024.Idx → EReal) (ix2 0 d) = A.g2 d :=
  (iblk4_at m c d).trans ((congrFun (V_v13 m c) (ix2 0 d)).trans ((cast_g _ d).trans (h.g2 d)))
theorem Iv_w10 {A : Sp.Args} (h : ArgOk m c A) (d : Fin 1024) : (iblk (F := Ideal) m c 5 t0_0 : S1x1024.Idx → EReal) (ix2 0 d) = A.g3 d :=
  (iblk5_at m c d).trans ((congrFun (V_v14 m c) (ix2 0 d)).trans ((cast_g3 _ d).trans (h.g3 d)))
theorem Iv_h2 {A : Sp.Args} (h : ArgOk m c A) (p : Fin 1024) (q : Fin 2048) : (V (F := Ideal) m c main_v2 : S1024x2048.Idx → EReal) (ix2 p q) = A.win p q :=
  (congrFun (V_v2 m c) (ix2 p q)).trans ((cast_win _ p q).trans (h.win p q))
theorem Iv_h6 {A : Sp.Args} (h : ArgOk m c A) (p : Fin 1024) (q : Fin 1024) : (V (F := Ideal) m c main_v6 : S1024x1024.Idx → EReal) (ix2 p q) = A.wo p q :=
  (congrFun (V_v6 m c) (ix2 p q)).trans ((cast_wo _ p q).trans (h.wo p q))
theorem Iv_h8 {A : Sp.Args} (h : ArgOk m c A) (p : Fin 1024) (q : Fin 4096) : (V (F := Ideal) m c main_v8 : S1024x4096.Idx → EReal) (ix2 p q) = A.f1 p q :=
  (congrFun (V_v8 m c) (ix2 p q)).trans ((cast_f1 _ p q).trans (h.f1 p q))
theorem Iv_h9 {A : Sp.Args} (h : ArgOk m c A) (p : Fin 4096) (q : Fin 1024) : (V (F := Ideal) m c main_v9 : S4096x1024.Idx → EReal) (ix2 p q) = A.f2 p q :=
  (congrFun (V_v9 m c) (ix2 p q)).trans ((cast_f2 _ p q).trans (h.f2 p q))

theorem Iv_eq_x : (Iv (F := Ideal) m c).x = V (F := Ideal) m c main_v0 := by unfold Iv; dsimp only
theorem Iv_eq_w1 : (Iv (F := Ideal) m c).w1 = iblk (F := Ideal) m c 0 t0_0 := by unfold Iv; dsimp only
theorem Iv_eq_w3 : (Iv (F := Ideal) m c).w3 = iblk (F := Ideal) m c 1 t0_0 := by unfold Iv; dsimp only
theorem Iv_eq_w4 : (Iv (F := Ideal) m c).w4 = iblk (F := Ideal) m c 2 t0_0 := by unfold Iv; dsimp only
theorem Iv_eq_w5 : (Iv (F := Ideal) m c).w5 = iblk (F := Ideal) m c 3 t0_0 := by unfold Iv; dsimp only
theorem Iv_eq_w7 : (Iv (F := Ideal) m c).w7 = iblk (F := Ideal) m c 4 t0_0 := by unfold Iv; dsimp only
theorem Iv_eq_w10 : (Iv (F := Ideal) m c).w10 = iblk (F := Ideal) m c 5 t0_0 := by unfold Iv; dsimp only
theorem Iv_eq_h2 : (Iv (F := Ideal) m c).h2 = V (F := Ideal) m c main_v2 := by unfold Iv; dsimp only
theorem Iv_eq_h6 : (Iv (F := Ideal) m c).h6 = V (F := Ideal) m c main_v6 := by unfold Iv; dsimp only
theorem Iv_eq_h8 : (Iv (F := Ideal) m c).h8 = V (F := Ideal) m c main_v8 := by unfold Iv; dsimp only
theorem Iv_eq_h9 : (Iv (F := Ideal) m c).h9 = V (F := Ideal) m c main_v9 := by unfold Iv; dsimp only

theorem Iv_ok {A : Sp.Args} (h : ArgOk m c A) : InOk A (Iv (F := Ideal) m c) where
  x r d := (congrFun Iv_eq_x _).trans (Iv_x h r d)
  w1 d := (congrFun Iv_eq_w1 _).trans (Iv_w1 h d)
  w3_0 d := (congrFun Iv_eq_w3 _).trans (Iv_w3_0 h d)
  w3_1 d := (congrFun Iv_eq_w3 _).trans (Iv_w3_1 h d)
  w3_2 d := (congrFun Iv_eq_w3 _).trans (Iv_w3_2 h d)
  w4 g p q := (congrFun Iv_eq_w4 _).trans (Iv_w4 h g p q)
  w5 d := (congrFun Iv_eq_w5 _).trans (Iv_w5 h d)
  w7 d := (congrFun Iv_eq_w7 _).trans (Iv_w7 h d)
  w10 d := (congrFun Iv_eq_w10 _).trans (Iv_w10 h d)
  h2 p q := (congrFun Iv_eq_h2 _).trans (Iv_h2 h p q)
  h6 p q := (congrFun Iv_eq_h6 _).trans (Iv_h6 h p q)
  h8 p q := (congrFun Iv_eq_h8 _).trans (Iv_h8 h p q)
  h9 p q := (congrFun Iv_eq_h9 _).trans (Iv_h9 h p q)

/-! ## The result -/

theorem Rv_eq : Rv (F := Ideal) m c = shapeCast S1x16384x1024 (Gout (F := Ideal) (p_W (Iv m c)) (Iv m c).x (p_S0 (Iv m c)) : S16384x1024.Idx → EReal) shapeCasts_S16384x1024_S1x16384x1024 := by
  unfold Rv
  simp only [hostOps1]
  after_results_simp
  rw [Pipeline.withArrays_of_ne spec0 c _ _ main_v15 (by exact (by decide : ∀ w, Pipeline.arrRef spec0 w ≠ main_v15)),
    Pipeline.withR_of_mem _ R0 c _ main_v15 (by unfold R0; exact Finset.mem_singleton_self _), Gv_v15]
  rfl

/-- The program's result, entry by entry, is the mathematics'. -/
theorem Rv_at {A : Sp.Args} (h : ArgOk m c A) (hA : A.Fin) (r : Fin 16384) (d : Fin 1024) :
    (Rv (F := Ideal) m c : S1x16384x1024.Idx → EReal) (ix3 0 r d) = Sp.res A r.val d :=
  (congrFun Rv_eq (ix3 0 r d)).trans ((cast_out _ r d).trans
    ((Gout_at (Iv m c).x (Iv_ok h).x (W_ok (Iv_ok h)) (S0_ok (Iv_ok h)) r d).trans (res'_eq hA r.val d)))

end Cert.KernelIdeal.Hand
-- ==== Proof.RV.lean ====
module

public import proofs.«01_k».proof.Proof.Gen.ReferenceIdeal.Run
public import proofs.«01_k».proof.Proof.SpFin

@[expose] public section

set_option maxRecDepth 16384

noncomputable section

namespace Cert.ReferenceIdeal.RV

open Cert.ReferenceIdeal Cert.ReferenceIdeal.Gen Cert.ReferenceIdeal.Value
open Idealize.ShloMosaic Idealize.ShloMosaic.TcCoe
open Idealize.ShloMosaic.StableHlo

variable (V0 : Valuation τ sig (Elt Ideal))

abbrev A0 : S1x16384x1024.Idx → EReal := V0 (Proc.devRef .tc main_arg0)
abbrev A1 : S1x1024.Idx → EReal := V0 (Proc.devRef .tc main_arg1)
abbrev A2 : S1x1024x2048.Idx → EReal := V0 (Proc.devRef .tc main_arg2)
abbrev A3 : S1x3x512.Idx → EReal := V0 (Proc.devRef .tc main_arg3)
abbrev A4 : S1x4x128x128.Idx → EReal := V0 (Proc.devRef .tc main_arg4)
abbrev A5 : S1x512.Idx → EReal := V0 (Proc.devRef .tc main_arg5)
abbrev A6 : S1x1024x1024.Idx → EReal := V0 (Proc.devRef .tc main_arg6)
abbrev A7 : S1x1024.Idx → EReal := V0 (Proc.devRef .tc main_arg7)
abbrev A8 : S1x1024x4096.Idx → EReal := V0 (Proc.devRef .tc main_arg8)
abbrev A9 : S1x4096x1024.Idx → EReal := V0 (Proc.devRef .tc main_arg9)
abbrev A10 : S1024.Idx → EReal := V0 (Proc.devRef .tc main_arg10)

/-- The arguments by rows and columns. -/
def args : Sp.Args where
  x n d := if h : n < 16384 then A0 V0 (ix3 0 ⟨n, h⟩ d) else 0
  g1 d := A1 V0 (ix2 0 d)
  win d e := A2 V0 (ix3 0 d e)
  cw k c := A3 V0 (ix3 0 k c)
  pw g p q := A4 V0 (ix4 0 g p q)
  ps c := A5 V0 (ix2 0 c)
  wo e d := A6 V0 (ix3 0 e d)
  g2 d := A7 V0 (ix2 0 d)
  f1 d f := A8 V0 (ix3 0 d f)
  f2 f d := A9 V0 (ix3 0 f d)
  g3 d := A10 V0 (ix1 d)

theorem x_at (r : Fin 16384) (d : Fin 1024) : (args V0).x r.val d = A0 V0 (ix3 0 r d) := dif_pos r.isLt

theorem v15_at (r : Fin 16384) (e : Fin 2048) : (res_main_v15 V0 : S1x16384x2048.Idx → EReal) (ix3 0 r e) = Sp.proj (args V0) r.val e := by
  unfold res_main_v15 Sp.proj Sp.nrm
  simp only [x_at]
  pointwise []
  rfl

theorem v19_at (r : Fin 16384) (c : Fin 512) : (res_main_v19 V0 : S1x16384x512.Idx → EReal) (ix3 0 r c) = Sp.v (args V0) c r.val := by
  unfold res_main_v19 Sp.v
  pointwise []
  exact v15_at V0 _ _

theorem v47_at (r : Fin 16384) : (res_main_v47 V0 : S16384.Idx → EReal) (ix1 r) = ((r.val:ℝ) : EReal) := by
  unfold res_main_v47
  pointwise []
  have h : (BitVec.ofNat 32 r.val).toInt = (r.val : ℤ) := by
    have hr := r.isLt
    rw [BitVec.toInt_eq_toNat_of_lt (by rw [BitVec.toNat_ofNat]; omega), BitVec.toNat_ofNat]; omega
  show (((BitVec.ofNat 32 r.val).toInt : ℝ) : EReal) = _
  rw [h]
  norm_cast

theorem sit0 : (FloatOps.sitofp (F := Ideal) .f32 (0#32) : EReal) = 0 := by
  show ((((0#32 : BitVec 32).toInt : ℤ) : ℝ) : EReal) = 0
  simp

theorem v22_at (r : Fin 16386) (c : Fin 512) : (res_main_v22 V0 : S1x16386x512.Idx → EReal) (ix3 0 r c) = Sp.lag (Sp.z (args V0) c) r.val 2 := by
  unfold res_main_v22 Sp.lag Sp.z
  pointwise []
  split
  · next h => rw [if_pos h.1, v15_at, v15_at]
  · next h => rw [if_neg (by omega)]; exact sit0

theorem v20_at (k : Fin 3) (c : Fin 512) : (res_main_v20 V0 : S3x512.Idx → EReal) (ix2 k c) = (args V0).cw k c := by
  unfold res_main_v20
  pointwise []
  rfl

/-! ### The running sums -/

theorem numelW : (⟨3, ![1, 16384, 1]⟩ : Shape).numel = 16384 := by decide +kernel

theorem symmW (n : Fin (⟨3, ![1, 16384, 1]⟩ : Shape).numel) :
    (⟨3, ![1, 16384, 1]⟩ : Shape).rowMajor.symm n = ix3 0 (n.cast numelW) 0 :=
  ((⟨3, ![1, 16384, 1]⟩ : Shape).rowMajor.symm_apply_eq).2 (Fin.ext (by
    rw [Shape.rowMajor_val_three]
    show n.val = (0 * 16384 + n.val) * 1 + 0
    omega))

theorem foldl_sum (N : ℕ) (g : Fin N → EReal) (a : EReal) : (List.finRange N).foldl (fun r n => r + g n) a = a + ∑ n : Fin N, g n := by
  rw [← List.sum_ofFn, List.ofFn_eq_map]
  generalize List.finRange N = L
  induction L generalizing a with
  | nil => simp
  | cons b L ih => rw [List.foldl_cons, ih, List.map_cons, List.sum_cons, add_assoc]

theorem sum_tail (f : ℕ → EReal) (r : ℕ) (M : ℕ) (hr : r ≤ M) :
    ∑ n : Fin (M + 1), (if M ≤ r + n.val then f (r + n.val - M) else 0) = ∑ j ∈ Finset.range (r + 1), f j := by
  rw [Fin.sum_univ_eq_sum_range (fun n => if M ≤ r + n then f (r + n - M) else 0) (M + 1)]
  obtain ⟨q, rfl⟩ : ∃ q, M = q + r := ⟨M - r, by omega⟩
  rw [show q + r + 1 = q + (r + 1) by omega, Finset.sum_range_add]
  rw [Finset.sum_eq_zero (fun n hn => if_neg (by have := Finset.mem_range.mp hn; omega)), zero_add]
  refine Finset.sum_congr rfl fun j hj => ?_
  rw [if_pos (by omega)]
  congr 1; omega

theorem cumsum_at (x : S1x16384x512.Idx → EReal) (f : ℕ → EReal) (c : Fin 512) (hx : ∀ r : Fin 16384, x (ix3 0 r c) = f r.val) (r : Fin 16384) :
    Host.reduceWindow (α := EReal) (fun a b => a + b) ![1, 16384, 1] ![1, 1, 1] ![0, 16383, 0] ![0, 0, 0] x
      (fun _ : (⟨0, ![]⟩ : Shape).Idx => (0 : EReal)) reduceWindows_S1x16384x512_S1x16384x512_w1s1p0_0_w16384s1p16383_0_w1s1p0_0 (by decide) (ix3 0 r c)
      = ∑ j ∈ Finset.range (r.val + 1), f j := by
  have hr := r.isLt
  unfold Host.reduceWindow
  refine (foldl_sum _ _ _).trans ?_
  rw [zero_add, ← sum_tail _ r.val 16383 (by omega)]
  refine Fintype.sum_equiv (finCongr numelW) _ _ fun n => ?_
  have hn : n.val < 16384 := (n.cast numelW).isLt
  have hw : ((⟨3, ![1, 16384, 1]⟩ : Shape).rowMajor.symm n) = ix3 0 (n.cast numelW) 0 := symmW n
  dsimp only
  split
  · next hin =>
    have h1 := hin 1
    change 16383 ≤ r.val * 1 + ((⟨3, ![1, 16384, 1]⟩ : Shape).rowMajor.symm n 1).val ∧ r.val * 1 + ((⟨3, ![1, 16384, 1]⟩ : Shape).rowMajor.symm n 1).val - 16383 < 16384 at h1
    rw [hw] at h1
    change 16383 ≤ r.val * 1 + n.val ∧ r.val * 1 + n.val - 16383 < 16384 at h1
    refine Eq.trans ?_ (if_pos (show 16383 ≤ r.val + n.val by omega)).symm
    refine Eq.trans (congrArg x ?_) (hx ⟨r.val + n.val - 16383, by omega⟩)
    funext a
    apply Fin.ext
    match a with
    | ⟨0, _⟩ =>
      show 0 * 1 + ((⟨3, ![1, 16384, 1]⟩ : Shape).rowMajor.symm n 0).val - 0 = 0
      rw [hw]; rfl
    | ⟨1, _⟩ =>
      show r.val * 1 + ((⟨3, ![1, 16384, 1]⟩ : Shape).rowMajor.symm n 1).val - 16383 = r.val + n.val - 16383
      rw [hw]; show r.val * 1 + n.val - 16383 = _; omega
    | ⟨2, _⟩ =>
      show c.val * 1 + ((⟨3, ![1, 16384, 1]⟩ : Shape).rowMajor.symm n 2).val - 0 = c.val
      rw [hw]; show c.val * 1 + 0 - 0 = _; omega
  · next hin =>
    refine (if_neg fun (hle : 16383 ≤ r.val + n.val) => hin fun a => by
      have hc := c.isLt
      match a with
      | ⟨0, _⟩ =>
        show 0 ≤ 0 * 1 + ((⟨3, ![1, 16384, 1]⟩ : Shape).rowMajor.symm n 0).val ∧ 0 * 1 + ((⟨3, ![1, 16384, 1]⟩ : Shape).rowMajor.symm n 0).val - 0 < 1
        rw [hw]; show 0 ≤ 0 * 1 + 0 ∧ 0 * 1 + 0 - 0 < 1; omega
      | ⟨1, _⟩ =>
        show 16383 ≤ r.val * 1 + ((⟨3, ![1, 16384, 1]⟩ : Shape).rowMajor.symm n 1).val ∧ r.val * 1 + ((⟨3, ![1, 16384, 1]⟩ : Shape).rowMajor.symm n 1).val - 16383 < 16384
        rw [hw]; show 16383 ≤ r.val * 1 + n.val ∧ r.val * 1 + n.val - 16383 < 16384; omega
      | ⟨2, _⟩ =>
        show 0 ≤ c.val * 1 + ((⟨3, ![1, 16384, 1]⟩ : Shape).rowMajor.symm n 2).val ∧ c.val * 1 + ((⟨3, ![1, 16384, 1]⟩ : Shape).rowMajor.symm n 2).val - 0 < 512
        rw [hw]; show 0 ≤ c.val * 1 + 0 ∧ c.val * 1 + 0 - 0 < 512; omega).symm

theorem v46_at (r : Fin 16384) (c : Fin 512) : (res_main_v46 V0 : S1x16384x512.Idx → EReal) (ix3 0 r c)
    = ∑ j ∈ Finset.range (r.val + 1), Sp.v (args V0) c j := by
  rw [← cumsum_at (res_main_v19 V0) (Sp.v (args V0) c) c (fun r => v19_at V0 r c) r]
  unfold res_main_v46
  simp only [Host.reduceWindowAdd, Ideal.hostReduceWindowAdd_def, Ideal.hostReduceWindowAdd]
  pointwise []

theorem v48_at (r : Fin 16384) (k : Fin 128) : (res_main_v48 V0 : S1x16384x128.Idx → EReal) (ix3 0 r k)
    = ∑ j ∈ Finset.range (r.val + 1), Sp.v (args V0) ⟨128 * 0 + k.val, by omega⟩ j := by
  unfold res_main_v48
  pointwise []
  exact v46_at V0 r _
theorem shift2 (X : S1x16384x128.Idx → EReal) : extractStridedSlice S1x16384x128 ![0, 0, 0] (pad S1x16386x128 ![0, 2, 0] ![0, 0, 0] ![0, 0, 0] X (sitofp (F := Ideal) .f32 (constantI S_ 32 0#32) : S_.Idx → EReal) pads_S1x16384x128_S1x16386x128_000_200_000 h_S_) slices_S1x16386x128_S1x16384x128_0_0_0
    = (fun i => if h : 2 ≤ (i 1).val then X (ix3 0 ⟨(i 1).val - 2, by have h : (i 1).val < 16384 := (i 1).isLt; omega⟩ (i 2)) else (0 : EReal)) := by
  funext i
  obtain ⟨a, b, d, rfl⟩ : ∃ (a : Fin 1) (b : Fin 16384) (d : Fin 128), i = ix3 a b d := ⟨_, _, _, eq_ix3 i⟩
  pointwise []
  refine dite_congr (by simp; omega) (fun h => ?_) fun h => sit0
  rfl
theorem v61_at (r : Fin 16384) (k : Fin 128) : (res_main_v61 V0 : S1x16384x128.Idx → EReal) (ix3 0 r k)
    = ∑ j ∈ Finset.range (r.val + 1), Sp.v (args V0) ⟨128 * 1 + k.val, by omega⟩ j := by
  unfold res_main_v61
  pointwise []
  exact v46_at V0 r _
theorem shift4 (X : S1x16384x128.Idx → EReal) : extractStridedSlice S1x16384x128 ![0, 0, 0] (pad S1x16388x128 ![0, 4, 0] ![0, 0, 0] ![0, 0, 0] X (sitofp (F := Ideal) .f32 (constantI S_ 32 0#32) : S_.Idx → EReal) pads_S1x16384x128_S1x16388x128_000_400_000 h_S_) slices_S1x16388x128_S1x16384x128_0_0_0
    = (fun i => if h : 4 ≤ (i 1).val then X (ix3 0 ⟨(i 1).val - 4, by have h : (i 1).val < 16384 := (i 1).isLt; omega⟩ (i 2)) else (0 : EReal)) := by
  funext i
  obtain ⟨a, b, d, rfl⟩ : ∃ (a : Fin 1) (b : Fin 16384) (d : Fin 128), i = ix3 a b d := ⟨_, _, _, eq_ix3 i⟩
  pointwise []
  refine dite_congr (by simp; omega) (fun h => ?_) fun h => sit0
  rfl
theorem v74_at (r : Fin 16384) (k : Fin 128) : (res_main_v74 V0 : S1x16384x128.Idx → EReal) (ix3 0 r k)
    = ∑ j ∈ Finset.range (r.val + 1), Sp.v (args V0) ⟨128 * 2 + k.val, by omega⟩ j := by
  unfold res_main_v74
  pointwise []
  exact v46_at V0 r _
theorem shift8 (X : S1x16384x128.Idx → EReal) : extractStridedSlice S1x16384x128 ![0, 0, 0] (pad S1x16392x128 ![0, 8, 0] ![0, 0, 0] ![0, 0, 0] X (sitofp (F := Ideal) .f32 (constantI S_ 32 0#32) : S_.Idx → EReal) pads_S1x16384x128_S1x16392x128_000_800_000 h_S_) slices_S1x16392x128_S1x16384x128_0_0_0
    = (fun i => if h : 8 ≤ (i 1).val then X (ix3 0 ⟨(i 1).val - 8, by have h : (i 1).val < 16384 := (i 1).isLt; omega⟩ (i 2)) else (0 : EReal)) := by
  funext i
  obtain ⟨a, b, d, rfl⟩ : ∃ (a : Fin 1) (b : Fin 16384) (d : Fin 128), i = ix3 a b d := ⟨_, _, _, eq_ix3 i⟩
  pointwise []
  refine dite_congr (by simp; omega) (fun h => ?_) fun h => sit0
  rfl
theorem v87_at (r : Fin 16384) (k : Fin 128) : (res_main_v87 V0 : S1x16384x128.Idx → EReal) (ix3 0 r k)
    = ∑ j ∈ Finset.range (r.val + 1), Sp.v (args V0) ⟨128 * 3 + k.val, by omega⟩ j := by
  unfold res_main_v87
  pointwise []
  exact v46_at V0 r _
theorem shift16 (X : S1x16384x128.Idx → EReal) : extractStridedSlice S1x16384x128 ![0, 0, 0] (pad S1x16400x128 ![0, 16, 0] ![0, 0, 0] ![0, 0, 0] X (sitofp (F := Ideal) .f32 (constantI S_ 32 0#32) : S_.Idx → EReal) pads_S1x16384x128_S1x16400x128_000_1600_000 h_S_) slices_S1x16400x128_S1x16384x128_0_0_0
    = (fun i => if h : 16 ≤ (i 1).val then X (ix3 0 ⟨(i 1).val - 16, by have h : (i 1).val < 16384 := (i 1).isLt; omega⟩ (i 2)) else (0 : EReal)) := by
  funext i
  obtain ⟨a, b, d, rfl⟩ : ∃ (a : Fin 1) (b : Fin 16384) (d : Fin 128), i = ix3 a b d := ⟨_, _, _, eq_ix3 i⟩
  pointwise []
  refine dite_congr (by simp; omega) (fun h => ?_) fun h => sit0
  rfl
theorem dif_at (hA : (args V0).Fin) (X : S1x16384x128.Idx → EReal) (c : Fin 512) (k : Fin 128) (w : ℕ)
    (hX : ∀ r : Fin 16384, X (ix3 0 r k) = ∑ j ∈ Finset.range (r.val + 1), Sp.v (args V0) c j) (r : Fin 16384) :
    X (ix3 0 r k) - (if h : w ≤ r.val then X (ix3 0 ⟨r.val - w, by omega⟩ k) else (0 : EReal)) = Sp.wsum (Sp.v (args V0) c) w r.val := by
  rw [← Sp.cs_sub _ (Sp.v_fin hA _), hX]
  congr 1
  split
  · rw [hX]
  · rfl

theorem v110_at (hA : (args V0).Fin) (r : Fin 16384) (g : Fin 4) (k : Fin 128) :
    (res_main_v110 V0 : S1x16384x512.Idx → EReal) (ix3 0 r ⟨128 * g.val + k.val, by omega⟩) = Sp.pool (args V0) r.val g k := by
  have e2 := shift2 (res_main_v48 V0)
  have e4 := shift4 (res_main_v61 V0)
  have e8 := shift8 (res_main_v74 V0)
  have e16 := shift16 (res_main_v87 V0)
  unfold res_main_v110 Sp.pool Sp.u
  rw [e2, e4, e8, e16]
  pointwise []
  fin_cases g
  · refine congrArg₂ (· * ·) (Finset.sum_congr rfl fun q _ => congrArg₂ (· * ·) rfl ?_) rfl
    refine (dif_pos (by simp)).trans ?_
    refine congrArg₂ (· - ·) (congrArg₂ Ideal.div (dif_at V0 hA _ ⟨128 * 0 + q.val, by omega⟩ q 2 (fun r => v48_at V0 r q) r) (congrArg₂ min (congrArg₂ (· + ·) (v47_at V0 r) rfl) ?_)) ?_
    · simp [Sp.wc, Ideal.ofBits, Ideal.ieee, -EReal.coe_mul]
    · refine (v19_at V0 r _).trans (congrArg (fun e => Sp.v (args V0) e r.val) (Fin.ext ?_))
      simp
  · refine congrArg₂ (· * ·) (Finset.sum_congr rfl fun q _ => congrArg₂ (· * ·) rfl ?_) rfl
    refine (dif_neg (by simp)).trans ((dif_pos (by simp)).trans ?_)
    refine congrArg₂ (· - ·) (congrArg₂ Ideal.div (dif_at V0 hA _ ⟨128 * 1 + q.val, by omega⟩ q 4 (fun r => v61_at V0 r q) r) (congrArg₂ min (congrArg₂ (· + ·) (v47_at V0 r) rfl) ?_)) ?_
    · simp [Sp.wc, Ideal.ofBits, Ideal.ieee, -EReal.coe_mul]
    · exact v19_at V0 r _
  · refine congrArg₂ (· * ·) (Finset.sum_congr rfl fun q _ => congrArg₂ (· * ·) rfl ?_) rfl
    refine (dif_neg (by simp)).trans ((dif_neg (by simp)).trans ((dif_pos (by simp)).trans ?_))
    refine congrArg₂ (· - ·) (congrArg₂ Ideal.div (dif_at V0 hA _ ⟨128 * 2 + q.val, by omega⟩ q 8 (fun r => v74_at V0 r q) r) (congrArg₂ min (congrArg₂ (· + ·) (v47_at V0 r) rfl) ?_)) ?_
    · simp [Sp.wc, Ideal.ofBits, Ideal.ieee, -EReal.coe_mul]
    · exact v19_at V0 r _
  · refine congrArg₂ (· * ·) (Finset.sum_congr rfl fun q _ => congrArg₂ (· * ·) rfl ?_) rfl
    refine (dif_neg (by simp)).trans ((dif_neg (by simp)).trans ((dif_neg (by simp)).trans ?_))
    refine congrArg₂ (· - ·) (congrArg₂ Ideal.div (dif_at V0 hA _ ⟨128 * 3 + q.val, by omega⟩ q 16 (fun r => v87_at V0 r q) r) (congrArg₂ min (congrArg₂ (· + ·) (v47_at V0 r) rfl) ?_)) ?_
    · simp [Sp.wc, Ideal.ofBits, Ideal.ieee, -EReal.coe_mul]
    · exact v19_at V0 r _

theorem lag_add (f : ℕ → EReal) (n a b c : ℕ) (h : a = b + c) : Sp.lag f n c = Sp.lag f (b + n) a := by
  unfold Sp.lag
  subst h
  by_cases h : c ≤ n
  · rw [if_pos h, if_pos (by omega)]; congr 1; omega
  · rw [if_neg h, if_neg (by omega)]
theorem v114_at (hA : (args V0).Fin) (r : Fin 16384) (d : Fin 1024) : (res_main_v114 V0 : S1x16384x1024.Idx → EReal) (ix3 0 r d) = Sp.x1 (args V0) r.val d := by
  unfold res_main_v114 Sp.x1
  pointwise [v15_at]
  refine congrArg₂ (· + ·) (x_at V0 r d).symm ?_
  rw [Fin.sum_univ_add (a := 512) (b := 512) (f := fun e : Fin (512 + 512) => Sp.mix (args V0) r.val e * (args V0).wo e d)]
  refine congrArg₂ (· + ·) (Finset.sum_congr rfl fun x _ => congrArg₂ (· * ·) ?_ rfl) (Finset.sum_congr rfl fun x _ => congrArg₂ (· * ·) ?_ ?_)
  · refine Eq.trans ?_ (dif_pos x.isLt).symm
    unfold Sp.conv
    simp only [v20_at, v22_at]
    refine congrArg₂ (· * ·) rfl (congrArg₂ (· + ·) (congrArg₂ (· + ·) rfl (congrArg₂ (· * ·) rfl ?_)) (congrArg₂ (· * ·) rfl ?_))
    · refine (lag_add _ r.val 2 1 1 rfl).symm.trans ?_
      rfl
    · exact (lag_add _ r.val 2 2 0 rfl).symm
  · refine Eq.trans ?_ (dif_neg (by simp)).symm
    have := v110_at V0 hA r ⟨x.val / 128, by omega⟩ ⟨x.val % 128, by omega⟩
    refine Eq.trans (congrArg (fun e => (res_main_v110 V0 : S1x16384x512.Idx → EReal) (ix3 0 r e)) (Fin.ext ?_)) (this.trans ?_)
    · show x.val = 128 * (x.val / 128) + x.val % 128; omega
    · congr 1 <;> apply Fin.ext <;> simp
  · rfl
theorem v131_at (hA : (args V0).Fin) (r : Fin 16384) (f : Fin 4096) : (res_main_v131 V0 : S1x16384x4096.Idx → EReal) (ix3 0 r f) = Sp.hid (args V0) (Sp.x1 (args V0) r.val) f := by
  unfold res_main_v131 Sp.hid Sp.nrm; pointwise []; simp only [v114_at V0 hA]; rfl
theorem v135_at (hA : (args V0).Fin) (r : Fin 16384) (d : Fin 1024) : (res_main_v135 V0 : S1x16384x1024.Idx → EReal) (ix3 0 r d) = Sp.x2 (args V0) r.val d := by
  unfold res_main_v135 Sp.x2 Sp.ffn; pointwise []; simp only [v114_at V0 hA, v131_at V0 hA]; rfl

/-- The result array, entry by entry. -/
theorem res_at (hA : (args V0).Fin) (r : Fin 16384) (d : Fin 1024) :
    (mulf (mulf (res_main_v135 V0) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf (res_main_v135 V0) (res_main_v135 V0)) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (V0 (Proc.devRef .tc main_arg10)))) : S1x16384x1024.Idx → EReal) (ix3 0 r d) = Sp.res (args V0) r.val d := by
  unfold Sp.res Sp.nrm
  pointwise []
  simp only [v135_at V0 hA]
  rfl

end Cert.ReferenceIdeal.RV

end
-- ==== Proof.PreFin.lean ====
module

public import proofs.«01_k».proof.Pre_finite_weights
public import Idealize.ShloMosaic.Adequacy
public import Idealize.ShloMosaic.Init
public import proofs.«01_k».proof.Proof.SpFin

@[expose] public section

set_option maxRecDepth 16384

noncomputable section

namespace Cert.PreFin

open Idealize.ShloMosaic Cert.Pre_finite_weights Cert.Sp

/-! ## The precondition read: every entry of the weights it names is a real number -/

theorem foldl_andi {ι : Type} (l : List ι) (f : ι → BitVec 1) (b : BitVec 1) (h : l.foldl (fun r n => IntOp.andi r (f n)) b = 1#1) :
    b = 1#1 ∧ ∀ n ∈ l, f n = 1#1 := by
  induction l generalizing b with
  | nil => exact ⟨h, fun _ hn => absurd hn (List.not_mem_nil)⟩
  | cons a l ih =>
    obtain ⟨h1, h2⟩ := ih _ h
    have h3 : b = 1#1 ∧ f a = 1#1 := by
      have : ∀ p q : BitVec 1, IntOp.andi p q = 1#1 → p = 1#1 ∧ q = 1#1 := by decide
      exact this _ _ h1
    exact ⟨h3.1, fun n hn => by rcases List.mem_cons.mp hn with rfl | hn; exacts [h3.2, h2 n hn]⟩

theorem inf_eq : (Ideal.ofBits .f32 0x7F800000#32 : EReal) = ⊤ := by
  simp [Ideal.ofBits, Ideal.ieee]

theorem isR_of_lt {x : EReal} (h : max x (-x) < ⊤) : IsR x := by
  have h1 : x ≠ ⊤ := fun e => by subst e; simp at h
  have h2 : x ≠ ⊥ := fun e => by subst e; simp at h
  exact ⟨x.toReal, (EReal.coe_toReal h1 h2).symm⟩

theorem all_fin {s : Shape} {axes : List (Fin s.rank)} (x : s.Idx → EReal) (hb : S_.BroadcastsInDim s (![] : Fin 0 → Fin s.rank)) (hr : s.ReducesTo axes S_)
    (hu : 0 < S_.numel) (j : S_.Idx)
    (h : Host.reduce IntOp.andi (cmpf (F := Ideal) (φ := .f32) .olt (Host.absf (F := Ideal) (φ := .f32) x) (broadcastInDim s ![] hb (constant (F := Ideal) S_ .f32 0x7F800000#32))) (constantI S_ 1 1#1) hr hu j = 1#1)
    (i : s.Idx) : IsR (x i) := by
  have h1 := (foldl_andi _ _ _ h).2 (s.rowMajor i) (List.mem_filter.mpr ⟨List.mem_finRange _, by
    simp only [decide_eq_true_eq]; funext a; exact a.elim0⟩)
  simp only [Equiv.symm_apply_apply] at h1
  have h2 : BitVec.ofBool (decide (max (x i) (-(x i)) < (Ideal.ofBits .f32 0x7F800000#32 : EReal))) = 1#1 := h1
  rw [inf_eq] at h2
  refine isR_of_lt ?_
  by_contra hn
  rw [decide_eq_false hn] at h2
  exact absurd h2 (by decide)

/-- What the precondition gives. -/
structure FinArgs (a1 : S1x1024.Idx → EReal) (a2 : S1x1024x2048.Idx → EReal)
    (a5 : S1x512.Idx → EReal) (a6 : S1x1024x1024.Idx → EReal) : Prop where
  g1 : ∀ i, IsR (a1 i)
  win : ∀ (d : Fin 1024) (e : Fin 512), IsR (a2 (ix3 0 d ⟨1536 + e.val, by omega⟩))
  ps : ∀ i, IsR (a5 i)
  wo : ∀ (e : Fin 512) (d : Fin 1024), IsR (a6 (ix3 0 ⟨512 + e.val, by omega⟩ d))

theorem slice_win (X : S1x1024x2048.Idx → EReal) (h) (d : Fin 1024) (e : Fin 512) :
    (extractStridedSlice S1x1024x512 ![0, 0, 1536] X h : S1x1024x512.Idx → EReal) (ix3 0 d e) = X (ix3 0 d ⟨1536 + e.val, by omega⟩) := by
  pointwise []
theorem slice_wo (X : S1x1024x1024.Idx → EReal) (h) (e : Fin 512) (d : Fin 1024) :
    (extractStridedSlice S1x512x1024 ![0, 512, 0] X h : S1x512x1024.Idx → EReal) (ix3 0 e d) = X (ix3 0 ⟨512 + e.val, by omega⟩ d) := by
  pointwise []

theorem andi_one {p q : BitVec 1} (h : IntOp.andi p q = 1#1) : p = 1#1 ∧ q = 1#1 := by
  revert p q; decide

theorem of_pre [Facts] (a0 : S1x16384x1024.Idx → EReal) (a1 : S1x1024.Idx → EReal) (a2 : S1x1024x2048.Idx → EReal) (a3 : S1x3x512.Idx → EReal)
    (a4 : S1x4x128x128.Idx → EReal) (a5 : S1x512.Idx → EReal) (a6 : S1x1024x1024.Idx → EReal) (a7 : S1x1024.Idx → EReal) (a8 : S1x1024x4096.Idx → EReal)
    (a9 : S1x4096x1024.Idx → EReal) (a10 : S1024.Idx → EReal) (h : fn (F := Ideal) a0 a1 a2 a3 a4 a5 a6 a7 a8 a9 a10 = fun _ => 1#1) :
    FinArgs a1 a2 a5 a6 := by
  have h0 := congrFun h (fun a => a.elim0)
  unfold fn fn_part1 at h0
  dsimp only at h0
  obtain ⟨h0, h6⟩ := andi_one h0
  obtain ⟨h0, h5⟩ := andi_one h0
  obtain ⟨h1, h2⟩ := andi_one h0
  exact ⟨all_fin _ _ _ _ _ h1, fun d e => slice_win a2 _ d e ▸ all_fin _ _ _ _ _ h2 (ix3 0 d e), all_fin _ _ _ _ _ h5,
    fun e d => slice_wo a6 _ e d ▸ all_fin _ _ _ _ _ h6 (ix3 0 e d)⟩

end Cert.PreFin
-- ==== Proof.lean ====
/- What this certificate claims, put together: the run of the kernel, proved once for any reading of the floats
   (proofs.«01_k».proof.Proof.Run), gives the frame of the kernel at its own words and at the extended reals; there its
   result (proofs.«01_k».proof.Proof.KVal) and the reference's (proofs.«01_k».proof.Proof.RV) are both `Cert.Sp.res`. -/
module

public import proofs.«01_k».proof.Defs
public import proofs.«01_k».proof.Proof.Gen.Kernel
public import proofs.«01_k».proof.Proof.Gen.KernelIdeal
public import proofs.«01_k».proof.Proof.Gen.Pre_finite_weights
public import proofs.«01_k».proof.Proof.Run
public import proofs.«01_k».proof.Proof.KVal
public import proofs.«01_k».proof.Proof.RV
public import proofs.«01_k».proof.Proof.PreFin
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.SL.Sem

set_option smartUnfolding false in
/-- The kernel's frame, at its own words: it is the ideal program's text, run with words for floats. -/
theorem frame_kernel : Cert.quiescent_Kernel := fun m ρ _ =>
  (θ_run Cert.KernelIdeal.defs _ _).mono (fun _ h => ⟨fun c => (h.1 c).2, h.2⟩)
    (Cert.KernelIdeal.Hand.run_main (F := Bits) m ρ)

/-- The ideal kernel's frame. -/
theorem frame_kernelIdeal : Cert.quiescent_KernelIdeal := fun m ρ _ =>
  (θ_run Cert.KernelIdeal.defs _ _).mono (fun _ h => ⟨fun c => (h.1 c).2, h.2⟩)
    (Cert.KernelIdeal.Hand.run_main (F := Ideal) m ρ)

/-- The reference's frame: a list of host operations, none of which writes an argument. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-! ## The value -/

section Value

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)

/-- The two programs' arguments agree on device `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-- The reference's arguments, as its run finds them. -/
abbrev A (c : Dev Cert.KernelIdeal.nD) : Cert.Sp.Args := Cert.ReferenceIdeal.RV.args (StableHlo.launchContents m' c)

variable {m m'}

theorem argOk {c : Dev Cert.KernelIdeal.nD} (h : Agree m m' c) : Cert.KernelIdeal.Hand.ArgOk m c (A m' c) := by
  obtain ⟨h0, h1, h2, h3, h4, h5, h6, h7, h8, h9, h10⟩ := h
  exact ⟨fun r d => (congrFun h0.symm (ix3 0 r d)).trans (Cert.ReferenceIdeal.RV.x_at (StableHlo.launchContents m' c) r d).symm, fun d => congrFun h1.symm _, fun d e => congrFun h2.symm _,
    fun k e => congrFun h3.symm _, fun g p q => congrFun h4.symm _, fun k => congrFun h5.symm _, fun e d => congrFun h6.symm _,
    fun d => congrFun h7.symm _, fun d f => congrFun h8.symm _, fun f d => congrFun h9.symm _, fun d => congrFun h10.symm _⟩

theorem argFin {c : Dev Cert.KernelIdeal.nD} (h : Agree m m' c) (hp : Cert.Pre_KernelIdeal_finite_weights m) : (A m' c).Fin := by
  have hf := Cert.PreFin.of_pre _ _ _ _ _ _ _ _ _ _ _ (hp c)
  have ok := argOk h
  exact ⟨fun d => (ok.g1 d) ▸ hf.g1 _, fun d e => (ok.win d _) ▸ hf.win d e,
    fun k => (ok.ps k) ▸ hf.ps _, fun e d => (ok.wo _ d) ▸ hf.wo e d⟩

/-- The kernel's result is the reference's. -/
theorem value_eq {c : Dev Cert.KernelIdeal.nD} (h : Agree m m' c) (hA : (A m' c).Fin) (w : Cert.ReferenceIdeal.S1x16384x1024.Idx → EReal)
    (hw : ∀ (r : Fin 16384) (d : Fin 1024), w (ix3 0 r d) = Cert.Sp.res (A m' c) r.val d) :
    w = Cert.KernelIdeal.Hand.Rv (F := Ideal) m c := by
  funext i
  have hi : i = ix3 0 (i 1) (i 2) := by
    funext t; fin_cases t
    · exact Subsingleton.elim (α := Fin 1) _ _
    · rfl
    · rfl
  rw [hi]
  exact (hw (i 1) (i 2)).trans (Cert.KernelIdeal.Hand.Rv_at (argOk h) hA (i 1) (i 2)).symm

end Value

theorem value : Cert.algebraic_KernelIdeal_ReferenceIdeal_pre_finite_weights := fun m ρ m' ρ' hp hagree =>
  ⟨fun c => Cert.KernelIdeal.Hand.Rv (F := Ideal) m c,
    (θ_run Cert.KernelIdeal.defs _ _).mono (fun _ h c => h.1 c) (Cert.KernelIdeal.Hand.run_main (F := Ideal) m ρ),
    (θ_run Cert.ReferenceIdeal.defs _ _).mono (fun _ h c => ⟨(h c).1.trans (value_eq (hagree c) (argFin (hagree c) hp) _
      (Cert.ReferenceIdeal.RV.res_at _ (argFin (hagree c) hp))), (h c).2⟩) (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_weights.Gen.facts,
    frame_kernel, frame_kernelIdeal, fun m ρ _ => frame_kernelIdeal m ρ trivial, frame_referenceIdeal,
    fun m ρ _ => frame_referenceIdeal m ρ trivial, trivial, value⟩

end Cert.Proof

end
